-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_regular [hPre_regular : Cert.Pre_regular.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_regular.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_regular [hPre_regular : Cert.Pre_regular.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_regular.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Kernel10Ideal_pre_regular [hKernel10Ideal : Cert.Kernel10Ideal.Facts] [hPre_regular : Cert.Pre_regular.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_regular m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Reference10Ideal_pre_regular [hReference10Ideal : Cert.Reference10Ideal.Facts] [hPre_regular : Cert.Pre_regular.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_regular m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_regular [hKernel10Ideal : Cert.Kernel10Ideal.Facts] [hReference10Ideal : Cert.Reference10Ideal.Facts] [hPre_regular : Cert.Pre_regular.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_regular m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)) (v3 : (c : Dev Cert.Kernel10Ideal.nD) → Buf (Elt Ideal) ((c.tc : Thread Cert.Kernel10Ideal.nD Cert.Kernel10Ideal.τ).loc Cert.Kernel10Ideal.main_v9_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_v9_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v54) = v0 c
          ∧ r.2.mem ((c.tc : Thread Cert.Reference10Ideal.nD Cert.Reference10Ideal.τ).loc Cert.Reference10Ideal.main_v55) = v1 c
          ∧ r.2.mem ((c.tc : Thread Cert.Reference10Ideal.nD Cert.Reference10Ideal.τ).loc Cert.Reference10Ideal.main_v56) = v2 c
          ∧ r.2.mem ((c.tc : Thread Cert.Reference10Ideal.nD Cert.Reference10Ideal.τ).loc Cert.Reference10Ideal.main_v53_9) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hPre_regular : Cert.Pre_regular.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_regular (hKernel10Ideal := hKernel10Ideal) (hPre_regular := hPre_regular)
    ∧ quiescent_Reference10Ideal (hReference10Ideal := hReference10Ideal)
    ∧ quiescent_Reference10Ideal_pre_regular (hReference10Ideal := hReference10Ideal) (hPre_regular := hPre_regular)
    ∧ quiescent_Kernel11 (hKernel11 := hKernel11)
    ∧ quiescent_Kernel11Ideal (hKernel11Ideal := hKernel11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_regular (hKernel10Ideal := hKernel10Ideal) (hReference10Ideal := hReference10Ideal) (hPre_regular := hPre_regular)
    ∧ preserves_Kernel11_Kernel11Ideal
-- ==== Pre_regular.lean ====
abbrev S16384x8192 : Shape := ⟨2, ![16384, 8192]⟩
abbrev S8x1536 : Shape := ⟨2, ![8, 1536]⟩
abbrev S1x1536 : Shape := ⟨2, ![1, 1536]⟩
abbrev S2x8x128 : Shape := ⟨3, ![2, 8, 128]⟩
abbrev S1x1024 : Shape := ⟨2, ![1, 1024]⟩
abbrev S2x128x512 : Shape := ⟨3, ![2, 128, 512]⟩
abbrev S8x128x128 : Shape := ⟨3, ![8, 128, 128]⟩
abbrev S16384x16 : Shape := ⟨2, ![16384, 16]⟩
abbrev S_ : Shape := ⟨0, ![]⟩
abbrev S1x1x16 : Shape := ⟨3, ![1, 1, 16]⟩
abbrev S16 : Shape := ⟨1, ![16]⟩

class Facts : Prop where
  slices_S16384x8192_S16384x16_0_1536 : S16384x8192.Slices ![0, 1536] S16384x16
  bcast_S_S16384x16 : S_.BroadcastsInDim S16384x16 (![] : Fin 0 → Fin S16384x16.rank)
  reducesTo_S16384x16_S_d0_1 : S16384x16.ReducesTo [0, 1] S_
  h_S_ : 0 < S_.numel
  slices_S2x8x128_S1x1x16_0_0_0 : S2x8x128.Slices ![0, 0, 0] S1x1x16
  shapeCasts_S1x1x16_S16 : S1x1x16.ShapeCasts S16
  bcast_S_S16 : S_.BroadcastsInDim S16 (![] : Fin 0 → Fin S16.rank)
  reducesTo_S16_S_d0 : S16.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v15 : IVec S1x1024 1) (main_c_5 : IVec S_ 1) : IVec S_ 1 :=
  let main_v16 : IVec S_ 1 := (fun x v => Host.reduce IntOp.andi x v reducesTo_S1x1024_S_d0_1 h_S_) main_v15 main_c_5
  let main_v17 : IVec S_ 1 := andi main_v13 main_v16
  main_v17

def fn {F : FTy → Type} [FloatOps F] (main_arg0 : FVec F S16384x8192 .f32) (main_arg1 : FVec F S8x1536 .f32) (main_arg2 : FVec F S1x1536 .f32) (main_arg3 : FVec F S2x8x128 .f32) (main_arg4 : FVec F S1x1024 .f32) (main_arg5 : FVec F S1x1024 .f32) (main_arg6 : FVec F S2x128x512 .f32) (main_arg7 : FVec F S8x128x128 .f32) : IVec S_ 1 :=
  let main_v0 : FVec F S16384x16 .f32 := (extractStridedSlice S16384x16 ![0, 1536] · slices_S16384x8192_S16384x16_0_1536) main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S1x1x16 .f32 := (extractStridedSlice S1x1x16 ![0, 0, 0] · slices_S2x8x128_S1x1x16_0_0_0) main_arg3
  let main_v5 : FVec F S16 .f32 := shapeCast S16 main_v4 shapeCasts_S1x1x16_S16
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v3 main_v8
  let main_cst_2 : FVec F S_ .f32 := constant S_ .f32 0x00000000#32
  let main_v10 : FVec F S1x1024 .f32 := broadcastInDim S1x1024 ![] bcast_S_S1x1024 main_cst_2
  let main_v11 : IVec S1x1024 1 := cmpf .ogt main_arg5 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v9 main_v12
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_arg5 main_v14
  let main_c_5 : IVec S_ 1 := constantI S_ 1 1#1
  fn_part1 (F := F) main_v13 main_v15 main_c_5
-- ==== Kernel.lean ====
abbrev S4x1024x2048 : Shape := ⟨3, ![4, 1024, 2048]⟩
abbrev S4x2048x1024 : Shape := ⟨3, ![4, 2048, 1024]⟩
abbrev S4x2048x2048 : Shape := ⟨3, ![4, 2048, 2048]⟩
abbrev S4x8x1024 : Shape := ⟨3, ![4, 8, 1024]⟩
abbrev S1x256x2048 : Shape := ⟨3, ![1, 256, 2048]⟩
abbrev S1x2048x1024 : Shape := ⟨3, ![1, 2048, 1024]⟩
abbrev S1x1024x2048 : Shape := ⟨3, ![1, 1024, 2048]⟩
abbrev S1x2048x2048 : Shape := ⟨3, ![1, 2048, 2048]⟩
abbrev S1x8x1024 : Shape := ⟨3, ![1, 8, 1024]⟩
abbrev S256x1024 : Shape := ⟨2, ![256, 1024]⟩
abbrev S1x1024 : Shape := ⟨2, ![1, 1024]⟩
abbrev S1x1x1024 : Shape := ⟨3, ![1, 1, 1024]⟩
abbrev S256x2048 : Shape := ⟨2, ![256, 2048]⟩
abbrev S2048x1024 : Shape := ⟨2, ![2048, 1024]⟩
abbrev S1x1x512 : Shape := ⟨3, ![1, 1, 512]⟩
abbrev S1x512 : Shape := ⟨2, ![1, 512]⟩
abbrev S1024x2048 : Shape := ⟨2, ![1024, 2048]⟩
abbrev S2048x2048 : Shape := ⟨2, ![2048, 2048]⟩
abbrev S8x1024 : Shape := ⟨2, ![8, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4x1024x2048, .f32⟩
  | .hbm, ⟨1, _⟩ => ⟨S4x2048x1024, .bf16⟩
  | .hbm, ⟨2, _⟩ => ⟨S4x1024x2048, .bf16⟩
  | .hbm, ⟨3, _⟩ => ⟨S4x2048x2048, .bf16⟩
  | .hbm, ⟨4, _⟩ => ⟨S4x8x1024, .f32⟩
  | .hbm, ⟨5, _⟩ => ⟨S4x8x1024, .f32⟩
  | .hbm, ⟨6, _⟩ => ⟨S4x1024x2048, .f32⟩
  | .hbm, ⟨7, _⟩ => ⟨S4x8x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x256x2048, .f32⟩
  | .local _ .vmem, ⟨13, _⟩ => ⟨S1x256x2048, .f32⟩
  | .local _ .vmem, ⟨14, _⟩ => ⟨S1x8x1024, .f32⟩
  | .local _ .vmem, ⟨15, _⟩ => ⟨S1x8x1024, .f32⟩
  | .local _ .vmem, ⟨16, _⟩ => ⟨S256x1024, .f32⟩
  | .local _ .vmem, ⟨17, _⟩ => ⟨S1x1024, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_13 : BitVec 32 := 0#32
  let c256_i32 : BitVec 32 := 256#32
  let v16 : BitVec 32 := Scalar.addi c0_i32_13 c256_i32
  let c1_i32 : BitVec 32 := 1#32
  ⟨c0_i32_13, v16, c1_i32⟩
def k0_off1 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let v34 : Index := Scalar.indexCast arg12
  let c0_33 : Index := 0#32
  ![v34.toNat, 0]
def k0_off2 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let v52 : Index := Scalar.indexCast arg12
  let c0_38 : Index := 0#32
  ![v52.toNat, 0]
def k0_off3 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let v56 : Index := Scalar.indexCast arg12
  let c512_39 : Index := 512#32
  ![v56.toNat, 512]
def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_28 : BitVec 32 := 0#32
  let v31 : BitVec 1 := Scalar.cmpi .ne v30 c0_i32_28
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4x1024x2048 : Shape := ⟨3, ![4, 1024, 2048]⟩
abbrev S4x2048x1024 : Shape := ⟨3, ![4, 2048, 1024]⟩
abbrev S4x2048x2048 : Shape := ⟨3, ![4, 2048, 2048]⟩
abbrev S4x8x1024 : Shape := ⟨3, ![4, 8, 1024]⟩
abbrev S4x1024x1024 : Shape := ⟨3, ![4, 1024, 1024]⟩
abbrev S1024x4x1024 : Shape := ⟨3, ![1024, 4, 1024]⟩
abbrev S4x1x512 : Shape := ⟨3, ![4, 1, 512]⟩
abbrev S4x512 : Shape := ⟨2, ![4, 512]⟩
abbrev S_ : Shape := ⟨0, ![]⟩
abbrev S1x4x1024 : Shape := ⟨3, ![1, 4, 1024]⟩
abbrev S4x1024 : Shape := ⟨2, ![4, 1024]⟩
abbrev S4x1x1024 : Shape := ⟨3, ![4, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x2048x1024, .bf16⟩
  | .hbm, ⟨2, _⟩ => ⟨S4x1024x2048, .bf16⟩
  | .hbm, ⟨3, _⟩ => ⟨S4x2048x2048, .bf16⟩
  | .hbm, ⟨4, _⟩ => ⟨S4x8x1024, .f32⟩
  | .hbm, ⟨5, _⟩ => ⟨S4x8x1024, .f32⟩
  | .hbm, ⟨6, _⟩ => ⟨S4x2048x1024, .f32⟩
  | .hbm, ⟨7, _⟩ => ⟨S4x1024x1024, .f32⟩
  | .hbm, ⟨8, _⟩ => ⟨S1024x4x1024, .f32⟩
  | .hbm, ⟨9, _⟩ => ⟨S4x1x512, .f32⟩
  | .hbm, ⟨10, _⟩ => ⟨S4x512, .f32⟩
  | .hbm, ⟨11, _⟩ => ⟨S4x1x512, .f32⟩
  | .hbm, ⟨12, _⟩ => ⟨S4x512, .f32⟩
  | .hbm, ⟨13, _⟩ => ⟨S4x1x512, .f32⟩
  | .hbm, ⟨14, _⟩ => ⟨S4x512, .f32⟩
  | .hbm, ⟨15, _⟩ => ⟨S4x1x512, .f32⟩
  | .hbm, ⟨16, _⟩ => ⟨S4x512, .f32⟩
  | .hbm, ⟨17, _⟩ => ⟨S_, .f32⟩
  | .hbm, ⟨18, _⟩ => ⟨S1024x4x1024, .f32⟩
  | .hbm, ⟨19, _⟩ => ⟨S_, .i32⟩
  | .hbm, ⟨20, _⟩ => ⟨S1024x4x1024, .f32⟩
  | .hbm, ⟨21, _⟩ => ⟨S4x512, .f32⟩
  | .hbm, ⟨22, _⟩ => ⟨S4x512, .f32⟩
  | .hbm, ⟨23, _⟩ => ⟨S_, .i32⟩
  | .hbm, ⟨24, _⟩ => ⟨S4x512, .f32⟩
  | .hbm, ⟨25, _⟩ => ⟨S4x512, .f32⟩
  | .hbm, ⟨26, _⟩ => ⟨S1024x4x1024, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1x4x1024, .f32⟩
  | .hbm, ⟨32, _⟩ => ⟨S4x1024, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S4x512, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S4x512, .f32⟩
  | .hbm, ⟨41, _⟩ => ⟨S4x512, .f32⟩
  | .hbm, ⟨42, _⟩ => ⟨S4x512, .f32⟩
  | .hbm, ⟨43, _⟩ => ⟨S4x1024, .f32⟩
  | .hbm, ⟨44, _⟩ => ⟨S1x4x1024, .f32⟩
  | .hbm, ⟨45, _⟩ => ⟨S_, .i32⟩
  | .hbm, ⟨46, _⟩ => ⟨S_, .i32⟩
  | .hbm, ⟨47, _⟩ => ⟨S1024x4x1024, .f32⟩
  | .hbm, ⟨48, _⟩ => ⟨S_, .i32⟩
  | .hbm, ⟨49, _⟩ => ⟨S_, .i32⟩
  | .hbm, ⟨50, _⟩ => ⟨S4x1024x2048, .f32⟩
  | .hbm, ⟨51, _⟩ => ⟨S4x1024x2048, .f32⟩
  | .hbm, ⟨52, _⟩ => ⟨S4x2048x2048, .f32⟩
  | .hbm, ⟨53, _⟩ => ⟨S4x1024x2048, .f32⟩
  | .hbm, ⟨54, _⟩ => ⟨S4x1024x2048, .f32⟩
  | .hbm, ⟨55, _⟩ => ⟨S4x1024, .f32⟩
  | .hbm, ⟨56, _⟩ => ⟨S4x1x1024, .f32⟩
  | .hbm, ⟨57, _⟩ => ⟨S4x8x1024, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_while0c_c_6 : Ref sig .tc := ⟨.hbm, 27, rfl⟩
abbrev main_while0c_v21 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v21 : Ref sig .tc := ⟨.hbm, 32, rfl⟩
abbrev main_while0b_v22 : Ref sig .tc := ⟨.hbm, 33, rfl⟩
abbrev main_while0b_v23 : Ref sig .tc := ⟨.hbm, 34, rfl⟩
abbrev main_while0b_v24 : Ref sig .tc := ⟨.hbm, 35, rfl⟩
abbrev main_while0b_v25 : Ref sig .tc := ⟨.hbm, 36, rfl⟩
abbrev main_while0b_v26 : Ref sig .tc := ⟨.hbm, 37, rfl⟩
abbrev main_while0b_v27 : Ref sig .tc := ⟨.hbm, 38, rfl⟩
abbrev main_while0b_v28 : Ref sig .tc := ⟨.hbm, 39, rfl⟩
abbrev main_while0b_v29 : Ref sig .tc := ⟨.hbm, 40, rfl⟩
abbrev main_while0b_v30 : Ref sig .tc := ⟨.hbm, 41, rfl⟩
abbrev main_while0b_v31 : Ref sig .tc := ⟨.hbm, 42, rfl⟩
abbrev main_while0b_v32 : Ref sig .tc := ⟨.hbm, 43, rfl⟩
abbrev main_while0b_call1_v0 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_v33 : Ref sig .tc := ⟨.hbm, 47, rfl⟩
abbrev main_while0b_c_6 : Ref sig .tc := ⟨.hbm, 48, rfl⟩
abbrev main_while0b_v34 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩

abbrev nD : Nat := 1
abbrev τ : Topo := Topo.v7x

variable {F : FTy → Type} [FloatOps F]

abbrev main_while0_count : Scf.Loop 32 := ⟨0#32, 1024#32, 1#32⟩
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S1 : Shape := ⟨1, ![1]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S1x1024 : Shape := ⟨2, ![1, 1024]⟩
abbrev S512x1408 : Shape := ⟨2, ![512, 1408]⟩

abbrev nBuf : Space → Nat
  | .hbm => 30
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S_, .f32⟩
  | .hbm, ⟨13, _⟩ => ⟨S8x1024, .f32⟩
  | .hbm, ⟨14, _⟩ => ⟨S_, .i32⟩
  | .hbm, ⟨15, _⟩ => ⟨S1, .i32⟩
  | .hbm, ⟨16, _⟩ => ⟨S8x1024, .f32⟩
  | .hbm, ⟨17, _⟩ => ⟨S_, .i32⟩
  | .hbm, ⟨18, _⟩ => ⟨S1, .i32⟩
  | .hbm, ⟨19, _⟩ => ⟨S8x1024, .f32⟩
  | .hbm, ⟨20, _⟩ => ⟨S_, .i32⟩
  | .hbm, ⟨21, _⟩ => ⟨S1, .i32⟩
  | .hbm, ⟨22, _⟩ => ⟨S8x1024, .f32⟩
  | .hbm, ⟨23, _⟩ => ⟨S_, .i32⟩
  | .hbm, ⟨24, _⟩ => ⟨S1, .i32⟩
  | .hbm, ⟨25, _⟩ => ⟨S8x1024, .f32⟩
  | .hbm, ⟨26, _⟩ => ⟨S_, .i32⟩
  | .hbm, ⟨27, _⟩ => ⟨S1, .i32⟩
  | .hbm, ⟨28, _⟩ => ⟨S8x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x1024 : Shape := ⟨2, ![8, 1024]⟩
abbrev S1 : Shape := ⟨1, ![1]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S1x1024 : Shape := ⟨2, ![1, 1024]⟩
abbrev S512x1408 : Shape := ⟨2, ![512, 1408]⟩

abbrev nBuf : Space → Nat
  | .hbm => 26
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S_, .f32⟩
  | .hbm, ⟨12, _⟩ => ⟨S8x1024, .f32⟩
  | .hbm, ⟨13, _⟩ => ⟨S_, .i32⟩
  | .hbm, ⟨14, _⟩ => ⟨S1, .i32⟩
  | .hbm, ⟨15, _⟩ => ⟨S8x1024, .f32⟩
  | .hbm, ⟨16, _⟩ => ⟨S_, .i32⟩
  | .hbm, ⟨17, _⟩ => ⟨S1, .i32⟩
  | .hbm, ⟨18, _⟩ => ⟨S8x1024, .f32⟩
  | .hbm, ⟨19, _⟩ => ⟨S_, .i32⟩
  | .hbm, ⟨20, _⟩ => ⟨S1, .i32⟩
  | .hbm, ⟨21, _⟩ => ⟨S8x1024, .f32⟩
  | .hbm, ⟨22, _⟩ => ⟨S_, .i32⟩
  | .hbm, ⟨23, _⟩ => ⟨S1, .i32⟩
  | .hbm, ⟨24, _⟩ => ⟨S8x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x8192 : Shape := ⟨2, ![1024, 8192]⟩
abbrev S_ : Shape := ⟨0, ![]⟩
abbrev S8x1024 : Shape := ⟨2, ![8, 1024]⟩
abbrev S1 : Shape := ⟨1, ![1]⟩
abbrev S16384x8192 : Shape := ⟨2, ![16384, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 18
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x8192, .f32⟩
  | .hbm, ⟨5, _⟩ => ⟨S_, .f32⟩
  | .hbm, ⟨6, _⟩ => ⟨S8x1024, .f32⟩
  | .hbm, ⟨7, _⟩ => ⟨S_, .i32⟩
  | .hbm, ⟨8, _⟩ => ⟨S1, .i32⟩
  | .hbm, ⟨9, _⟩ => ⟨S8x1024, .f32⟩
  | .hbm, ⟨10, _⟩ => ⟨S_, .i32⟩
  | .hbm, ⟨11, _⟩ => ⟨S1, .i32⟩
  | .hbm, ⟨12, _⟩ => ⟨S8x1024, .f32⟩
  | .hbm, ⟨13, _⟩ => ⟨S_, .i32⟩
  | .hbm, ⟨14, _⟩ => ⟨S1, .i32⟩
  | .hbm, ⟨15, _⟩ => ⟨S8x1024, .f32⟩
  | .hbm, ⟨16, _⟩ => ⟨S1024x8192, .bf16⟩
  | .hbm, ⟨17, _⟩ => ⟨S16384x8192, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x1024 : Shape := ⟨2, ![16384, 1024]⟩
abbrev S1024 : Shape := ⟨1, ![1024]⟩
abbrev S1024x8192 : Shape := ⟨2, ![1024, 8192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8192 : Shape := ⟨2, ![16384, 8192]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x8192, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S16384x1024 : Shape := ⟨2, ![16384, 1024]⟩
abbrev S16384x8192 : Shape := ⟨2, ![16384, 8192]⟩
abbrev S2048x1024 : Shape := ⟨2, ![2048, 1024]⟩
abbrev S1024 : Shape := ⟨1, ![1024]⟩
abbrev S128 : Shape := ⟨1, ![128]⟩
abbrev S1x128 : Shape := ⟨2, ![1, 128]⟩
abbrev S8x128 : Shape := ⟨2, ![8, 128]⟩
abbrev S_ : Shape := ⟨0, ![]⟩
abbrev S8x1024 : Shape := ⟨2, ![8, 1024]⟩
abbrev S1 : Shape := ⟨1, ![1]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024 : Shape := ⟨2, ![1, 1024]⟩
abbrev S512x128 : Shape := ⟨2, ![512, 128]⟩
abbrev S1024x1024 : Shape := ⟨2, ![1024, 1024]⟩

abbrev nBuf : Space → Nat
  | .hbm => 26
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x8192, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S2048x1024, .f32⟩
  | .hbm, ⟨7, _⟩ => ⟨S1024, .f32⟩
  | .hbm, ⟨8, _⟩ => ⟨S128, .f32⟩
  | .hbm, ⟨9, _⟩ => ⟨S1024, .f32⟩
  | .hbm, ⟨10, _⟩ => ⟨S2048x1024, .bf16⟩
  | .hbm, ⟨11, _⟩ => ⟨S1x128, .f32⟩
  | .hbm, ⟨12, _⟩ => ⟨S8x128, .f32⟩
  | .hbm, ⟨13, _⟩ => ⟨S1024, .f32⟩
  | .hbm, ⟨14, _⟩ => ⟨S_, .f32⟩
  | .hbm, ⟨15, _⟩ => ⟨S8x1024, .f32⟩
  | .hbm, ⟨16, _⟩ => ⟨S_, .i32⟩
  | .hbm, ⟨17, _⟩ => ⟨S1, .i32⟩
  | .hbm, ⟨18, _⟩ => ⟨S8x1024, .f32⟩
  | .hbm, ⟨19, _⟩ => ⟨S_, .i32⟩
  | .hbm, ⟨20, _⟩ => ⟨S1, .i32⟩
  | .hbm, ⟨21, _⟩ => ⟨S8x1024, .f32⟩
  | .hbm, ⟨22, _⟩ => ⟨S_, .i32⟩
  | .hbm, ⟨23, _⟩ => ⟨S1, .i32⟩
  | .hbm, ⟨24, _⟩ => ⟨S8x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S2048x1024, .bf16⟩
  | .local _ .vmem, ⟨15, _⟩ => ⟨S8x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S16384x8192 : Shape := ⟨2, ![16384, 8192]⟩
abbrev S2048x1024 : Shape := ⟨2, ![2048, 1024]⟩
abbrev S1024 : Shape := ⟨1, ![1024]⟩
abbrev S128 : Shape := ⟨1, ![128]⟩
abbrev S16384x2x512 : Shape := ⟨3, ![16384, 2, 512]⟩
abbrev S_ : Shape := ⟨0, ![]⟩
abbrev S16384x2 : Shape := ⟨2, ![16384, 2]⟩
abbrev S16384x2x1 : Shape := ⟨3, ![16384, 2, 1]⟩
abbrev S2x512 : Shape := ⟨2, ![2, 512]⟩
abbrev S1x2x512 : Shape := ⟨3, ![1, 2, 512]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x2048 : Shape := ⟨2, ![16384, 2048]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x8192, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S2048x1024, .f32⟩
  | .hbm, ⟨7, _⟩ => ⟨S1024, .f32⟩
  | .hbm, ⟨8, _⟩ => ⟨S128, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x2x512, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2x512, .f32⟩
  | .hbm, ⟨24, _⟩ => ⟨S16384x2x512, .f32⟩
  | .hbm, ⟨25, _⟩ => ⟨S16384x2x512, .f32⟩
  | .hbm, ⟨26, _⟩ => ⟨S_, .f32⟩
  | .hbm, ⟨27, _⟩ => ⟨S16384x2, .f32⟩
  | .hbm, ⟨28, _⟩ => ⟨S16384x2x1, .f32⟩
  | .hbm, ⟨29, _⟩ => ⟨S_, .f32⟩
  | .hbm, ⟨30, _⟩ => ⟨S16384x2x1, .f32⟩
  | .hbm, ⟨31, _⟩ => ⟨S16384x2x1, .f32⟩
  | .hbm, ⟨32, _⟩ => ⟨S_, .f32⟩
  | .hbm, ⟨33, _⟩ => ⟨S16384x2x1, .f32⟩
  | .hbm, ⟨34, _⟩ => ⟨S16384x2x1, .f32⟩
  | .hbm, ⟨35, _⟩ => ⟨S16384x2x1, .f32⟩
  | .hbm, ⟨36, _⟩ => ⟨S16384x2x512, .f32⟩
  | .hbm, ⟨37, _⟩ => ⟨S16384x2x512, .f32⟩
  | .hbm, ⟨38, _⟩ => ⟨S2x512, .f32⟩
  | .hbm, ⟨39, _⟩ => ⟨S1x2x512, .f32⟩
  | .hbm, ⟨40, _⟩ => ⟨S16384x2x512, .f32⟩
  | .hbm, ⟨41, _⟩ => ⟨S16384x2x512, .f32⟩
  | .hbm, ⟨42, _⟩ => ⟨S16384x1024, .f32⟩
  | .hbm, ⟨43, _⟩ => ⟨S16384x1024, .f32⟩
  | .hbm, ⟨44, _⟩ => ⟨S16384x8x128, .f32⟩
  | .hbm, ⟨45, _⟩ => ⟨S16384x8x128, .f32⟩
  | .hbm, ⟨46, _⟩ => ⟨S_, .f32⟩
  | .hbm, ⟨47, _⟩ => ⟨S16384x8, .f32⟩
  | .hbm, ⟨48, _⟩ => ⟨S16384x8x1, .f32⟩
  | .hbm, ⟨49, _⟩ => ⟨S_, .f32⟩
  | .hbm, ⟨50, _⟩ => ⟨S16384x8x1, .f32⟩
  | .hbm, ⟨51, _⟩ => ⟨S16384x8x1, .f32⟩
  | .hbm, ⟨52, _⟩ => ⟨S_, .f32⟩
  | .hbm, ⟨53, _⟩ => ⟨S16384x8x1, .f32⟩
  | .hbm, ⟨54, _⟩ => ⟨S16384x8x1, .f32⟩
  | .hbm, ⟨55, _⟩ => ⟨S16384x8x1, .f32⟩
  | .hbm, ⟨56, _⟩ => ⟨S16384x8x128, .f32⟩
  | .hbm, ⟨57, _⟩ => ⟨S16384x8x128, .f32⟩
  | .hbm, ⟨58, _⟩ => ⟨S1x1x128, .f32⟩
  | .hbm, ⟨59, _⟩ => ⟨S16384x8x128, .f32⟩
  | .hbm, ⟨60, _⟩ => ⟨S16384x8x128, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x2048, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x512 : Shape := ⟨2, ![1024, 512]⟩
abbrev S_ : Shape := ⟨0, ![]⟩
abbrev S8x1024 : Shape := ⟨2, ![8, 1024]⟩
abbrev S1 : Shape := ⟨1, ![1]⟩
abbrev S256x65536 : Shape := ⟨2, ![256, 65536]⟩
abbrev S4x16384x128 : Shape := ⟨3, ![4, 16384, 128]⟩
abbrev S256x1024 : Shape := ⟨2, ![256, 1024]⟩
abbrev S4x256x128 : Shape := ⟨3, ![4, 256, 128]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 19
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x512, .f32⟩
  | .hbm, ⟨5, _⟩ => ⟨S1024x512, .bf16⟩
  | .hbm, ⟨6, _⟩ => ⟨S_, .f32⟩
  | .hbm, ⟨7, _⟩ => ⟨S8x1024, .f32⟩
  | .hbm, ⟨8, _⟩ => ⟨S_, .i32⟩
  | .hbm, ⟨9, _⟩ => ⟨S1, .i32⟩
  | .hbm, ⟨10, _⟩ => ⟨S8x1024, .f32⟩
  | .hbm, ⟨11, _⟩ => ⟨S_, .i32⟩
  | .hbm, ⟨12, _⟩ => ⟨S1, .i32⟩
  | .hbm, ⟨13, _⟩ => ⟨S8x1024, .f32⟩
  | .hbm, ⟨14, _⟩ => ⟨S_, .i32⟩
  | .hbm, ⟨15, _⟩ => ⟨S1, .i32⟩
  | .hbm, ⟨16, _⟩ => ⟨S8x1024, .f32⟩
  | .hbm, ⟨17, _⟩ => ⟨S256x65536, .f32⟩
  | .hbm, ⟨18, _⟩ => ⟨S4x16384x128, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1024x512, .bf16⟩
  | .local _ .vmem, ⟨4, _⟩ => ⟨S4x256x128, .f32⟩
  | .local _ .vmem, ⟨5, _⟩ => ⟨S4x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x1024 : Shape := ⟨2, ![16384, 1024]⟩
abbrev S1024 : Shape := ⟨1, ![1024]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x512 : Shape := ⟨2, ![16384, 512]⟩
abbrev S256x64x512 : Shape := ⟨3, ![256, 64, 512]⟩
abbrev S64x256x512 : Shape := ⟨3, ![64, 256, 512]⟩
abbrev S16384x4x128 : Shape := ⟨3, ![16384, 4, 128]⟩
abbrev S4x16384x128 : Shape := ⟨3, ![4, 16384, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x512, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x512, .f32⟩
  | .hbm, ⟨31, _⟩ => ⟨S256x64x512, .f32⟩
  | .hbm, ⟨32, _⟩ => ⟨S64x256x512, .f32⟩
  | .hbm, ⟨33, _⟩ => ⟨S16384x512, .f32⟩
  | .hbm, ⟨34, _⟩ => ⟨S16384x4x128, .f32⟩
  | .hbm, ⟨35, _⟩ => ⟨S4x16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel7.lean ====
abbrev S16384x1024 : Shape := ⟨2, ![16384, 1024]⟩
abbrev S4x16384x128 : Shape := ⟨3, ![4, 16384, 128]⟩
abbrev S512x1024 : Shape := ⟨2, ![512, 1024]⟩
abbrev S1024 : Shape := ⟨1, ![1024]⟩
abbrev S512 : Shape := ⟨1, ![512]⟩
abbrev S_ : Shape := ⟨0, ![]⟩
abbrev S8x1024 : Shape := ⟨2, ![8, 1024]⟩
abbrev S1 : Shape := ⟨1, ![1]⟩
abbrev S4x1x128 : Shape := ⟨3, ![4, 1, 128]⟩
abbrev S256x65536 : Shape := ⟨2, ![256, 65536]⟩
abbrev S256x1024 : Shape := ⟨2, ![256, 1024]⟩
abbrev S4x256x128 : Shape := ⟨3, ![4, 256, 128]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩
abbrev S256x512 : Shape := ⟨2, ![256, 512]⟩
abbrev S1x1024 : Shape := ⟨2, ![1, 1024]⟩

abbrev nBuf : Space → Nat
  | .hbm => 18
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .f32⟩
  | .hbm, ⟨2, _⟩ => ⟨S4x16384x128, .f32⟩
  | .hbm, ⟨3, _⟩ => ⟨S4x16384x128, .f32⟩
  | .hbm, ⟨4, _⟩ => ⟨S512x1024, .f32⟩
  | .hbm, ⟨5, _⟩ => ⟨S512x1024, .f32⟩
  | .hbm, ⟨6, _⟩ => ⟨S1024, .f32⟩
  | .hbm, ⟨7, _⟩ => ⟨S512, .f32⟩
  | .hbm, ⟨8, _⟩ => ⟨S512x1024, .bf16⟩
  | .hbm, ⟨9, _⟩ => ⟨S512x1024, .bf16⟩
  | .hbm, ⟨10, _⟩ => ⟨S_, .f32⟩
  | .hbm, ⟨11, _⟩ => ⟨S8x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S4x1x128, .f32⟩
  | .hbm, ⟨16, _⟩ => ⟨S256x65536, .f32⟩
  | .hbm, ⟨17, _⟩ => ⟨S256x65536, .f32⟩
  | .local _ .vmem, ⟨0, _⟩ => ⟨S256x1024, .f32⟩
  | .local _ .vmem, ⟨1, _⟩ => ⟨S256x1024, .f32⟩
  | .local _ .vmem, ⟨2, _⟩ => ⟨S4x256x128, .f32⟩
  | .local _ .vmem, ⟨3, _⟩ => ⟨S4x256x128, .f32⟩
  | .local _ .vmem, ⟨4, _⟩ => ⟨S4x256x128, .f32⟩
  | .local _ .vmem, ⟨5, _⟩ => ⟨S4x256x128, .f32⟩
  | .local _ .vmem, ⟨6, _⟩ => ⟨S4x256x128, .f32⟩
  | .local _ .vmem, ⟨7, _⟩ => ⟨S4x256x128, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | .local _ .vmem, ⟨11, _⟩ => ⟨S4x1x128, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S16384x1024 : Shape := ⟨2, ![16384, 1024]⟩
abbrev S4x16384x128 : Shape := ⟨3, ![4, 16384, 128]⟩
abbrev S512x1024 : Shape := ⟨2, ![512, 1024]⟩
abbrev S1024 : Shape := ⟨1, ![1024]⟩
abbrev S512 : Shape := ⟨1, ![512]⟩
abbrev S16384x4x128 : Shape := ⟨3, ![16384, 4, 128]⟩
abbrev S16384x512 : Shape := ⟨2, ![16384, 512]⟩
abbrev S1x512 : Shape := ⟨2, ![1, 512]⟩
abbrev S64x256x512 : Shape := ⟨3, ![64, 256, 512]⟩
abbrev S256x64x512 : Shape := ⟨3, ![256, 64, 512]⟩
abbrev S_ : Shape := ⟨0, ![]⟩
abbrev S1x1024 : Shape := ⟨2, ![1, 1024]⟩
abbrev S256x65536 : Shape := ⟨2, ![256, 65536]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .f32⟩
  | .hbm, ⟨2, _⟩ => ⟨S4x16384x128, .f32⟩
  | .hbm, ⟨3, _⟩ => ⟨S4x16384x128, .f32⟩
  | .hbm, ⟨4, _⟩ => ⟨S512x1024, .f32⟩
  | .hbm, ⟨5, _⟩ => ⟨S512x1024, .f32⟩
  | .hbm, ⟨6, _⟩ => ⟨S1024, .f32⟩
  | .hbm, ⟨7, _⟩ => ⟨S512, .f32⟩
  | .hbm, ⟨8, _⟩ => ⟨S16384x4x128, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S16384x4x128, .f32⟩
  | .hbm, ⟨14, _⟩ => ⟨S16384x512, .f32⟩
  | .hbm, ⟨15, _⟩ => ⟨S16384x512, .f32⟩
  | .hbm, ⟨16, _⟩ => ⟨S16384x4x128, .f32⟩
  | .hbm, ⟨17, _⟩ => ⟨S16384x512, .f32⟩
  | .hbm, ⟨18, _⟩ => ⟨S16384x512, .f32⟩
  | .hbm, ⟨19, _⟩ => ⟨S64x256x512, .f32⟩
  | .hbm, ⟨20, _⟩ => ⟨S256x64x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S256x65536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel8.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x6144, .f32⟩
  | .hbm, ⟨30, _⟩ => ⟨S1024x6144, .f32⟩
  | .hbm, ⟨31, _⟩ => ⟨S8x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S8x6144, .f32⟩
  | .hbm, ⟨36, _⟩ => ⟨S8x6144, .f32⟩
  | .hbm, ⟨37, _⟩ => ⟨S1x8x6144, .f32⟩
  | .hbm, ⟨38, _⟩ => ⟨S1x8x6144, .f32⟩
  | .hbm, ⟨39, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel9.lean ====
abbrev S4x1024x2048 : Shape := ⟨3, ![4, 1024, 2048]⟩
abbrev S4x2048x1024 : Shape := ⟨3, ![4, 2048, 1024]⟩
abbrev S4x2048x2048 : Shape := ⟨3, ![4, 2048, 2048]⟩
abbrev S4x8x1024 : Shape := ⟨3, ![4, 8, 1024]⟩
abbrev S1x256x2048 : Shape := ⟨3, ![1, 256, 2048]⟩
abbrev S1x2048x1024 : Shape := ⟨3, ![1, 2048, 1024]⟩
abbrev S1x1024x2048 : Shape := ⟨3, ![1, 1024, 2048]⟩
abbrev S1x2048x2048 : Shape := ⟨3, ![1, 2048, 2048]⟩
abbrev S1x8x1024 : Shape := ⟨3, ![1, 8, 1024]⟩
abbrev S256x1024 : Shape := ⟨2, ![256, 1024]⟩
abbrev S1x1024 : Shape := ⟨2, ![1, 1024]⟩
abbrev S1x1x1024 : Shape := ⟨3, ![1, 1, 1024]⟩
abbrev S256x2048 : Shape := ⟨2, ![256, 2048]⟩
abbrev S2048x1024 : Shape := ⟨2, ![2048, 1024]⟩
abbrev S1x1x512 : Shape := ⟨3, ![1, 1, 512]⟩
abbrev S1x512 : Shape := ⟨2, ![1, 512]⟩
abbrev S1024x2048 : Shape := ⟨2, ![1024, 2048]⟩
abbrev S2048x2048 : Shape := ⟨2, ![2048, 2048]⟩
abbrev S8x1024 : Shape := ⟨2, ![8, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4x1024x2048, .f32⟩
  | .hbm, ⟨1, _⟩ => ⟨S4x2048x1024, .bf16⟩
  | .hbm, ⟨2, _⟩ => ⟨S4x1024x2048, .bf16⟩
  | .hbm, ⟨3, _⟩ => ⟨S4x2048x2048, .bf16⟩
  | .hbm, ⟨4, _⟩ => ⟨S4x8x1024, .f32⟩
  | .hbm, ⟨5, _⟩ => ⟨S4x8x1024, .f32⟩
  | .hbm, ⟨6, _⟩ => ⟨S4x1024x2048, .f32⟩
  | .hbm, ⟨7, _⟩ => ⟨S4x8x1024, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x256x2048, .f32⟩
  | .local _ .vmem, ⟨13, _⟩ => ⟨S1x256x2048, .f32⟩
  | .local _ .vmem, ⟨14, _⟩ => ⟨S1x8x1024, .f32⟩
  | .local _ .vmem, ⟨15, _⟩ => ⟨S1x8x1024, .f32⟩
  | .local _ .vmem, ⟨16, _⟩ => ⟨S256x1024, .f32⟩
  | .local _ .vmem, ⟨17, _⟩ => ⟨S1x1024, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_13 : BitVec 32 := 0#32
  let c256_i32 : BitVec 32 := 256#32
  let v16 : BitVec 32 := Scalar.addi c0_i32_13 c256_i32
  let c1_i32 : BitVec 32 := 1#32
  ⟨c0_i32_13, v16, c1_i32⟩
def k0_off1 (k0_t1 : Fin k0_t1_loop.trips) : Fin 2 → Nat :=
  let c255_i32 : BitVec 32 := 255#32
  let c0_i32_13 : BitVec 32 := 0#32
  let c1_i32 : BitVec 32 := 1#32
  let arg12 : BitVec 32 := Scf.iv c0_i32_13 c1_i32 k0_t1
  let v32 : BitVec 32 := Scalar.subi c255_i32 arg12
  let v35 : Index := Scalar.indexCast v32
  let c0_33 : Index := 0#32
  ![v35.toNat, 0]
def k0_off2 (k0_t1 : Fin k0_t1_loop.trips) : Fin 2 → Nat :=
  let c255_i32 : BitVec 32 := 255#32
  let c0_i32_13 : BitVec 32 := 0#32
  let c1_i32 : BitVec 32 := 1#32
  let arg12 : BitVec 32 := Scf.iv c0_i32_13 c1_i32 k0_t1
  let v32 : BitVec 32 := Scalar.subi c255_i32 arg12
  let v53 : Index := Scalar.indexCast v32
  let c0_38 : Index := 0#32
  ![v53.toNat, 0]
def k0_off3 (k0_t1 : Fin k0_t1_loop.trips) : Fin 2 → Nat :=
  let c255_i32 : BitVec 32 := 255#32
  let c0_i32_13 : BitVec 32 := 0#32
  let c1_i32 : BitVec 32 := 1#32
  let arg12 : BitVec 32 := Scf.iv c0_i32_13 c1_i32 k0_t1
  let v32 : BitVec 32 := Scalar.subi c255_i32 arg12
  let v57 : Index := Scalar.indexCast v32
  let c512_39 : Index := 512#32
  ![v57.toNat, 512]
def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_28 : BitVec 32 := 0#32
  let v31 : BitVec 1 := Scalar.cmpi .ne v30 c0_i32_28
  v31

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S4x1024x2048 : Shape := ⟨3, ![4, 1024, 2048]⟩
abbrev S4x2048x1024 : Shape := ⟨3, ![4, 2048, 1024]⟩
abbrev S4x2048x2048 : Shape := ⟨3, ![4, 2048, 2048]⟩
abbrev S4x8x1024 : Shape := ⟨3, ![4, 8, 1024]⟩
abbrev S4x1024x1024 : Shape := ⟨3, ![4, 1024, 1024]⟩
abbrev S1024x4x1024 : Shape := ⟨3, ![1024, 4, 1024]⟩
abbrev S4x1x512 : Shape := ⟨3, ![4, 1, 512]⟩
abbrev S4x512 : Shape := ⟨2, ![4, 512]⟩
abbrev S_ : Shape := ⟨0, ![]⟩
abbrev S1x4x1024 : Shape := ⟨3, ![1, 4, 1024]⟩
abbrev S4x1024 : Shape := ⟨2, ![4, 1024]⟩
abbrev S4x1x1024 : Shape := ⟨3, ![4, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x2048x1024, .bf16⟩
  | .hbm, ⟨2, _⟩ => ⟨S4x1024x2048, .bf16⟩
  | .hbm, ⟨3, _⟩ => ⟨S4x2048x2048, .bf16⟩
  | .hbm, ⟨4, _⟩ => ⟨S4x8x1024, .f32⟩
  | .hbm, ⟨5, _⟩ => ⟨S4x8x1024, .f32⟩
  | .hbm, ⟨6, _⟩ => ⟨S4x2048x1024, .f32⟩
  | .hbm, ⟨7, _⟩ => ⟨S4x1024x1024, .f32⟩
  | .hbm, ⟨8, _⟩ => ⟨S1024x4x1024, .f32⟩
  | .hbm, ⟨9, _⟩ => ⟨S4x1x512, .f32⟩
  | .hbm, ⟨10, _⟩ => ⟨S4x512, .f32⟩
  | .hbm, ⟨11, _⟩ => ⟨S4x1x512, .f32⟩
  | .hbm, ⟨12, _⟩ => ⟨S4x512, .f32⟩
  | .hbm, ⟨13, _⟩ => ⟨S4x1x512, .f32⟩
  | .hbm, ⟨14, _⟩ => ⟨S4x512, .f32⟩
  | .hbm, ⟨15, _⟩ => ⟨S4x1x512, .f32⟩
  | .hbm, ⟨16, _⟩ => ⟨S4x512, .f32⟩
  | .hbm, ⟨17, _⟩ => ⟨S_, .f32⟩
  | .hbm, ⟨18, _⟩ => ⟨S1024x4x1024, .f32⟩
  | .hbm, ⟨19, _⟩ => ⟨S_, .i32⟩
  | .hbm, ⟨20, _⟩ => ⟨S1024x4x1024, .f32⟩
  | .hbm, ⟨21, _⟩ => ⟨S4x512, .f32⟩
  | .hbm, ⟨22, _⟩ => ⟨S4x512, .f32⟩
  | .hbm, ⟨23, _⟩ => ⟨S_, .i32⟩
  | .hbm, ⟨24, _⟩ => ⟨S4x512, .f32⟩
  | .hbm, ⟨25, _⟩ => ⟨S4x512, .f32⟩
  | .hbm, ⟨26, _⟩ => ⟨S1024x4x1024, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x4x1024, .f32⟩
  | .hbm, ⟨36, _⟩ => ⟨S4x1024, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S4x512, .f32⟩
  | .hbm, ⟨41, _⟩ => ⟨S4x512, .f32⟩
  | .hbm, ⟨42, _⟩ => ⟨S4x512, .f32⟩
  | .hbm, ⟨43, _⟩ => ⟨S4x512, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x1024, .f32⟩
  | .hbm, ⟨48, _⟩ => ⟨S1x4x1024, .f32⟩
  | .hbm, ⟨49, _⟩ => ⟨S_, .i32⟩
  | .hbm, ⟨50, _⟩ => ⟨S_, .i32⟩
  | .hbm, ⟨51, _⟩ => ⟨S1024x4x1024, .f32⟩
  | .hbm, ⟨52, _⟩ => ⟨S_, .i32⟩
  | .hbm, ⟨53, _⟩ => ⟨S_, .i32⟩
  | .hbm, ⟨54, _⟩ => ⟨S4x1024x2048, .f32⟩
  | .hbm, ⟨55, _⟩ => ⟨S4x1024x2048, .f32⟩
  | .hbm, ⟨56, _⟩ => ⟨S4x2048x2048, .f32⟩
  | .hbm, ⟨57, _⟩ => ⟨S4x1024x2048, .f32⟩
  | .hbm, ⟨58, _⟩ => ⟨S4x1024x2048, .f32⟩
  | .hbm, ⟨59, _⟩ => ⟨S4x1024, .f32⟩
  | .hbm, ⟨60, _⟩ => ⟨S4x1x1024, .f32⟩
  | .hbm, ⟨61, _⟩ => ⟨S4x8x1024, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_while0c_c_6 : Ref sig .tc := ⟨.hbm, 27, rfl⟩
abbrev main_while0c_v21 : Ref sig .tc := ⟨.hbm, 28, rfl⟩
abbrev main_while0b_c_6 : Ref sig .tc := ⟨.hbm, 29, rfl⟩
abbrev main_while0b_v21 : Ref sig .tc := ⟨.hbm, 30, rfl⟩
abbrev main_while0b_c_7 : Ref sig .tc := ⟨.hbm, 31, rfl⟩
abbrev main_while0b_v22 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v23 : Ref sig .tc := ⟨.hbm, 36, rfl⟩
abbrev main_while0b_v24 : Ref sig .tc := ⟨.hbm, 37, rfl⟩
abbrev main_while0b_v25 : Ref sig .tc := ⟨.hbm, 38, rfl⟩
abbrev main_while0b_v26 : Ref sig .tc := ⟨.hbm, 39, rfl⟩
abbrev main_while0b_v27 : Ref sig .tc := ⟨.hbm, 40, rfl⟩
abbrev main_while0b_v28 : Ref sig .tc := ⟨.hbm, 41, rfl⟩
abbrev main_while0b_v29 : Ref sig .tc := ⟨.hbm, 42, rfl⟩
abbrev main_while0b_v30 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_v34 : Ref sig .tc := ⟨.hbm, 47, rfl⟩
abbrev main_while0b_call1_v0 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_v35 : Ref sig .tc := ⟨.hbm, 51, rfl⟩
abbrev main_while0b_c_8 : Ref sig .tc := ⟨.hbm, 52, rfl⟩
abbrev main_while0b_v36 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩

abbrev nD : Nat := 1
abbrev τ : Topo := Topo.v7x

variable {F : FTy → Type} [FloatOps F]

abbrev main_while0_count : Scf.Loop 32 := ⟨0#32, 1024#32, 1#32⟩
-- ==== Kernel10.lean ====
abbrev S16384x8192 : Shape := ⟨2, ![16384, 8192]⟩
abbrev S8x1536 : Shape := ⟨2, ![8, 1536]⟩
abbrev S1x1536 : Shape := ⟨2, ![1, 1536]⟩
abbrev S2x8x128 : Shape := ⟨3, ![2, 8, 128]⟩
abbrev S1x1024 : Shape := ⟨2, ![1, 1024]⟩
abbrev S2x128x512 : Shape := ⟨3, ![2, 128, 512]⟩
abbrev S8x128x128 : Shape := ⟨3, ![8, 128, 128]⟩
abbrev S1024 : Shape := ⟨1, ![1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S16384x1024 : Shape := ⟨2, ![16384, 1024]⟩
abbrev S64x1536 : Shape := ⟨2, ![64, 1536]⟩
abbrev S64x128 : Shape := ⟨2, ![64, 128]⟩
abbrev S64x1024 : Shape := ⟨2, ![64, 1024]⟩
abbrev S1x8x128 : Shape := ⟨3, ![1, 8, 128]⟩
abbrev S64x64 : Shape := ⟨2, ![64, 64]⟩
abbrev S80x1536 : Shape := ⟨2, ![80, 1536]⟩
abbrev S1x1x128 : Shape := ⟨3, ![1, 1, 128]⟩
abbrev S1x128 : Shape := ⟨2, ![1, 128]⟩
abbrev S128x64 : Shape := ⟨2, ![128, 64]⟩
abbrev S8x128 : Shape := ⟨2, ![8, 128]⟩
abbrev S200x128 : Shape := ⟨2, ![200, 128]⟩
abbrev S200x1024 : Shape := ⟨2, ![200, 1024]⟩
abbrev S1x128x512 : Shape := ⟨3, ![1, 128, 512]⟩
abbrev S128x512 : Shape := ⟨2, ![128, 512]⟩
abbrev S64x512 : Shape := ⟨2, ![64, 512]⟩
abbrev S64x1 : Shape := ⟨2, ![64, 1]⟩
abbrev S1x64 : Shape := ⟨2, ![1, 64]⟩
abbrev S1x512 : Shape := ⟨2, ![1, 512]⟩
abbrev S1x128x128 : Shape := ⟨3, ![1, 128, 128]⟩
abbrev S128x128 : Shape := ⟨2, ![128, 128]⟩

abbrev nBuf : Space → Nat
  | .hbm => 38
  | .vmem => 28
  | .smem => 0
  | _ => 0

abbrev bufTy : (tb : Table) → Fin (tcTables nBuf tb) → BufTy
  | .hbm, ⟨0, _⟩ => ⟨S16384x8192, .f32⟩
  | .hbm, ⟨1, _⟩ => ⟨S8x1536, .f32⟩
  | .hbm, ⟨2, _⟩ => ⟨S1x1536, .f32⟩
  | .hbm, ⟨3, _⟩ => ⟨S2x8x128, .f32⟩
  | .hbm, ⟨4, _⟩ => ⟨S1x1024, .f32⟩
  | .hbm, ⟨5, _⟩ => ⟨S1x1024, .f32⟩
  | .hbm, ⟨6, _⟩ => ⟨S2x128x512, .f32⟩
  | .hbm, ⟨7, _⟩ => ⟨S8x128x128, .f32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S128, .i32⟩
  | .hbm, ⟨28, _⟩ => ⟨S128x1, .i32⟩
  | .hbm, ⟨29, _⟩ => ⟨S1x1024, .i32⟩
  | .hbm, ⟨30, _⟩ => ⟨S128x1024, .i32⟩
  | .hbm, ⟨31, _⟩ => ⟨S128x1024, .i32⟩
  | .hbm, ⟨32, _⟩ => ⟨S128x1024, .i1⟩
  | .hbm, ⟨33, _⟩ => ⟨S128x1024, .bf16⟩
  | .hbm, ⟨34, _⟩ => ⟨S16384x1024, .f32⟩
  | .hbm, ⟨35, _⟩ => ⟨S16384x1024, .f32⟩
  | .hbm, ⟨36, _⟩ => ⟨S2x128x512, .f32⟩
  | .hbm, ⟨37, _⟩ => ⟨S8x128x128, .f32⟩
  | .local _ .vmem, ⟨0, _⟩ => ⟨S64x1536, .f32⟩
  | .local _ .vmem, ⟨1, _⟩ => ⟨S64x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S64x128, .f32⟩
  | .local _ .vmem, ⟨7, _⟩ => ⟨S64x128, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S8x1536, .f32⟩
  | .local _ .vmem, ⟨15, _⟩ => ⟨S1x1536, .f32⟩
  | .local _ .vmem, ⟨16, _⟩ => ⟨S1x8x128, .f32⟩
  | .local _ .vmem, ⟨17, _⟩ => ⟨S1x1024, .f32⟩
  | .local _ .vmem, ⟨18, _⟩ => ⟨S1x1024, .f32⟩
  | .local _ .vmem, ⟨19, _⟩ => ⟨S128x1024, .bf16⟩
  | .local _ .vmem, ⟨20, _⟩ => ⟨S2x128x512, .f32⟩
  | .local _ .vmem, ⟨21, _⟩ => ⟨S8x128x128, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S2x128x512, .f32⟩
  | .local _ .vmem, ⟨27, _⟩ => ⟨S8x128x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9_0 : Ref sig .tc := ⟨.hbm, 34, rfl⟩
abbrev main_v9_1 : Ref sig .tc := ⟨.hbm, 35, rfl⟩
abbrev main_v9_2 : Ref sig .tc := ⟨.hbm, 36, rfl⟩
abbrev main_v9_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2x128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference10Ideal.lean ====
abbrev S16384x8192 : Shape := ⟨2, ![16384, 8192]⟩
abbrev S8x1536 : Shape := ⟨2, ![8, 1536]⟩
abbrev S1x1536 : Shape := ⟨2, ![1, 1536]⟩
abbrev S2x8x128 : Shape := ⟨3, ![2, 8, 128]⟩
abbrev S1x1024 : Shape := ⟨2, ![1, 1024]⟩
abbrev S2x128x512 : Shape := ⟨3, ![2, 128, 512]⟩
abbrev S8x128x128 : Shape := ⟨3, ![8, 128, 128]⟩
abbrev S16384x1536 : Shape := ⟨2, ![16384, 1536]⟩
abbrev S_ : Shape := ⟨0, ![]⟩
abbrev S16388x1536 : Shape := ⟨2, ![16388, 1536]⟩
abbrev S1536 : Shape := ⟨1, ![1536]⟩
abbrev S1x1x16 : Shape := ⟨3, ![1, 1, 16]⟩
abbrev S16 : Shape := ⟨1, ![16]⟩
abbrev S64x64 : Shape := ⟨2, ![64, 64]⟩
abbrev S2x128x8x64 : Shape := ⟨4, ![2, 128, 8, 64]⟩
abbrev S256x64x1536 : Shape := ⟨3, ![256, 64, 1536]⟩
abbrev S256x64x8192 : Shape := ⟨3, ![256, 64, 8192]⟩
abbrev S256x64x1024 : Shape := ⟨3, ![256, 64, 1024]⟩
abbrev S1x64x1536 : Shape := ⟨3, ![1, 64, 1536]⟩
abbrev S64x1536 : Shape := ⟨2, ![64, 1536]⟩
abbrev S1x64x8192 : Shape := ⟨3, ![1, 64, 8192]⟩
abbrev S64x8192 : Shape := ⟨2, ![64, 8192]⟩
abbrev S64x1024 : Shape := ⟨2, ![64, 1024]⟩
abbrev S64x2x8x64 : Shape := ⟨4, ![64, 2, 8, 64]⟩
abbrev S64x256 : Shape := ⟨2, ![64, 256]⟩
abbrev S64x2x128 : Shape := ⟨3, ![64, 2, 128]⟩
abbrev S64x16 : Shape := ⟨2, ![64, 16]⟩
abbrev S1x16 : Shape := ⟨2, ![1, 16]⟩
abbrev S64x64x1 : Shape := ⟨3, ![64, 64, 1]⟩
abbrev S1x64x16 : Shape := ⟨3, ![1, 64, 16]⟩
abbrev S64x64x16 : Shape := ⟨3, ![64, 64, 16]⟩
abbrev S64x2x8 : Shape := ⟨3, ![64, 2, 8]⟩
abbrev S64x2x8x1 : Shape := ⟨4, ![64, 2, 8, 1]⟩
abbrev S64x64x1x1 : Shape := ⟨4, ![64, 64, 1, 1]⟩
abbrev S64x1x2x8 : Shape := ⟨4, ![64, 1, 2, 8]⟩
abbrev S1x64x2x8 : Shape := ⟨4, ![1, 64, 2, 8]⟩
abbrev S64x64x2x8 : Shape := ⟨4, ![64, 64, 2, 8]⟩
abbrev S2x64x64 : Shape := ⟨3, ![2, 64, 64]⟩
abbrev S64x64x2 : Shape := ⟨3, ![64, 64, 2]⟩
abbrev S64x64x2x1 : Shape := ⟨4, ![64, 64, 2, 1]⟩
abbrev S2x8x64x64 : Shape := ⟨4, ![2, 8, 64, 64]⟩
abbrev S1x2x8 : Shape := ⟨3, ![1, 2, 8]⟩
abbrev S2x8 : Shape := ⟨2, ![2, 8]⟩
abbrev S2x1x8x1 : Shape := ⟨4, ![2, 1, 8, 1]⟩
abbrev S64x8x128 : Shape := ⟨3, ![64, 8, 128]⟩
abbrev S1x64x8x128 : Shape := ⟨4, ![1, 64, 8, 128]⟩
abbrev S64x64x8x128 : Shape := ⟨4, ![64, 64, 8, 128]⟩
abbrev S64x1x8x128 : Shape := ⟨4, ![64, 1, 8, 128]⟩
abbrev S64x64x8 : Shape := ⟨3, ![64, 64, 8]⟩
abbrev S8x128x64 : Shape := ⟨3, ![8, 128, 64]⟩
abbrev S1x8x128 : Shape := ⟨3, ![1, 8, 128]⟩
abbrev S8x128 : Shape := ⟨2, ![8, 128]⟩
abbrev S8x1x128 : Shape := ⟨3, ![8, 1, 128]⟩
abbrev S1x64x1024 : Shape := ⟨3, ![1, 64, 1024]⟩
abbrev S16384x1024 : Shape := ⟨2, ![16384, 1024]⟩

abbrev nBuf : Space → Nat
  | .hbm => 299
  | .vmem => 0
  | .smem => 0
  | _ => 0

abbrev hbmTy0_0 (i : Nat) : BufTy := match i % 128 with
  | 0 => ⟨S16384x8192, .f32⟩
  | 1 => ⟨S8x1536, .f32⟩
  | 2 => ⟨S1x1536, .f32⟩
  | 3 => ⟨S2x8x128, .f32⟩
  | 4 => ⟨S1x1024, .f32⟩
  | 5 => ⟨S1x1024, .f32⟩
  | 6 => ⟨S2x128x512, .f32⟩
  | 7 => ⟨S8x128x128, .f32⟩
  | 8 => ⟨S16384x1536, .f32⟩
  | 9 => ⟨S_, .i32⟩
  | 10 => ⟨S_, .f32⟩
  | 11 => ⟨S16388x1536, .f32⟩
  | 12 => ⟨S1x1536, .f32⟩
  | 13 => ⟨S1536, .f32⟩
  | 14 => ⟨S16384x1536, .f32⟩
  | 15 => ⟨S1x1536, .f32⟩
  | 16 => ⟨S16384x1536, .f32⟩
  | 17 => ⟨S16384x1536, .f32⟩
  | 18 => ⟨S_, .f32⟩
  | 19 => ⟨S16384x1536, .f32⟩
  | 20 => ⟨S16384x1536, .f32⟩
  | 21 => ⟨S1x1536, .f32⟩
  | 22 => ⟨S1536, .f32⟩
  | 23 => ⟨S16384x1536, .f32⟩
  | 24 => ⟨S1x1536, .f32⟩
  | 25 => ⟨S16384x1536, .f32⟩
  | 26 => ⟨S16384x1536, .f32⟩
  | 27 => ⟨S16384x1536, .f32⟩
  | 28 => ⟨S1x1536, .f32⟩
  | 29 => ⟨S1536, .f32⟩
  | 30 => ⟨S16384x1536, .f32⟩
  | 31 => ⟨S1x1536, .f32⟩
  | 32 => ⟨S16384x1536, .f32⟩
  | 33 => ⟨S16384x1536, .f32⟩
  | 34 => ⟨S16384x1536, .f32⟩
  | 35 => ⟨S1x1536, .f32⟩
  | 36 => ⟨S1536, .f32⟩
  | 37 => ⟨S16384x1536, .f32⟩
  | 38 => ⟨S1x1536, .f32⟩
  | 39 => ⟨S16384x1536, .f32⟩
  | 40 => ⟨S16384x1536, .f32⟩
  | 41 => ⟨S16384x1536, .f32⟩
  | 42 => ⟨S1x1536, .f32⟩
  | 43 => ⟨S1536, .f32⟩
  | 44 => ⟨S16384x1536, .f32⟩
  | 45 => ⟨S1x1536, .f32⟩
  | 46 => ⟨S16384x1536, .f32⟩
  | 47 => ⟨S16384x1536, .f32⟩
  | 48 => ⟨S16384x1536, .f32⟩
  | 49 => ⟨S16384x1536, .f32⟩
  | 50 => ⟨S16384x1536, .f32⟩
  | 51 => ⟨S16384x1536, .f32⟩
  | 52 => ⟨S16384x1536, .f32⟩
  | 53 => ⟨S_, .f32⟩
  | 54 => ⟨S16384x1536, .f32⟩
  | 55 => ⟨S16384x1536, .f32⟩
  | 56 => ⟨S_, .f32⟩
  | 57 => ⟨S16384x1536, .f32⟩
  | 58 => ⟨S16384x1536, .f32⟩
  | 59 => ⟨S16384x1536, .f32⟩
  | 60 => ⟨S1x1x16, .f32⟩
  | 61 => ⟨S16, .f32⟩
  | 62 => ⟨S1x1x16, .f32⟩
  | 63 => ⟨S16, .f32⟩
  | 64 => ⟨S16, .f32⟩
  | 65 => ⟨S_, .i1⟩
  | 66 => ⟨S64x64, .i1⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i1⟩
  | 73 => ⟨S_, .i1⟩
  | 74 => ⟨S64x64, .i1⟩
  | 75 => ⟨S64x64, .i1⟩
  | 76 => ⟨S2x128x8x64, .f32⟩
  | 77 => ⟨S256x64x1536, .f32⟩
  | 78 => ⟨S256x64x8192, .f32⟩
  | 79 => ⟨S_, .f32⟩
  | 80 => ⟨S256x64x1024, .f32⟩
  | 81 => ⟨S_, .f32⟩
  | 82 => ⟨S256x64x1024, .f32⟩
  | 83 => ⟨S_, .i32⟩
  | 84 => ⟨S256x64x1536, .f32⟩
  | 85 => ⟨S256x64x8192, .f32⟩
  | 86 => ⟨S16, .f32⟩
  | 87 => ⟨S16, .f32⟩
  | 88 => ⟨S64x64, .i1⟩
  | 89 => ⟨S1x1024, .f32⟩
  | 90 => ⟨S1x1024, .f32⟩
  | 91 => ⟨S_, .i32⟩
  | 92 => ⟨S2x128x8x64, .f32⟩
  | 93 => ⟨S8x128x128, .f32⟩
  | 94 => ⟨S256x64x1024, .f32⟩
  | 95 => ⟨S256x64x1024, .f32⟩
  | 96 => ⟨S_, .i32⟩
  | 97 => ⟨S_, .i1⟩
  | 98 => ⟨S_, .i32⟩
  | 99 => ⟨S_, .i32⟩
  | 100 => ⟨S1x64x1536, .f32⟩
  | 101 => ⟨S64x1536, .f32⟩
  | 102 => ⟨S_, .i32⟩
  | 103 => ⟨S_, .i32⟩
  | 104 => ⟨S1x64x8192, .f32⟩
  | 105 => ⟨S64x8192, .f32⟩
  | 106 => ⟨S64x1024, .f32⟩
  | 107 => ⟨S64x2x8x64, .f32⟩
  | 108 => ⟨S64x256, .f32⟩
  | 109 => ⟨S64x2x128, .f32⟩
  | 110 => ⟨S64x256, .f32⟩
  | 111 => ⟨S64x2x128, .f32⟩
  | 112 => ⟨S64x16, .f32⟩
  | 113 => ⟨S1x16, .f32⟩
  | 114 => ⟨S64x16, .f32⟩
  | 115 => ⟨S64x16, .f32⟩
  | 116 => ⟨S_, .f32⟩
  | 117 => ⟨S64x16, .f32⟩
  | 118 => ⟨S64x16, .f32⟩
  | 119 => ⟨S64x16, .f32⟩
  | 120 => ⟨S64x16, .f32⟩
  | 121 => ⟨S64x16, .i1⟩
  | 122 => ⟨S64x16, .f32⟩
  | 123 => ⟨S64x16, .f32⟩
  | 124 => ⟨S64x16, .f32⟩
  | 125 => ⟨S64x16, .f32⟩
  | 126 => ⟨S64x16, .f32⟩
  | 127 => ⟨S64x16, .f32⟩
  | _ => ⟨S16384x8192, .f32⟩

abbrev hbmTy0_1 (i : Nat) : BufTy := match i % 128 with
  | 0 => ⟨S64x16, .f32⟩
  | 1 => ⟨S64x16, .f32⟩
  | 2 => ⟨S64x16, .f32⟩
  | 3 => ⟨S1x16, .f32⟩
  | 4 => ⟨S64x16, .f32⟩
  | 5 => ⟨S64x16, .f32⟩
  | 6 => ⟨S64x64x1, .i1⟩
  | 7 => ⟨S1x64x16, .f32⟩
  | 8 => ⟨S_, .f32⟩
  | 9 => ⟨S_, .f32⟩
  | 10 => ⟨S64x64x16, .i1⟩
  | 11 => ⟨S64x64x16, .f32⟩
  | 12 => ⟨S64x64x16, .f32⟩
  | 13 => ⟨S64x64x16, .f32⟩
  | 14 => ⟨S_, .f32⟩
  | 15 => ⟨S64x16, .f32⟩
  | 16 => ⟨S64x2x8, .f32⟩
  | 17 => ⟨S64x2x8x1, .f32⟩
  | 18 => ⟨S64x2x8x64, .f32⟩
  | 19 => ⟨S64x2x8x64, .f32⟩
  | 20 => ⟨S64x64x1x1, .i1⟩
  | 21 => ⟨S64x1x2x8, .f32⟩
  | 22 => ⟨S1x64x2x8, .f32⟩
  | 23 => ⟨S64x64x2x8, .f32⟩
  | 24 => ⟨S64x64x2x8, .f32⟩
  | 25 => ⟨S64x64x2x8, .f32⟩
  | 26 => ⟨S_, .f32⟩
  | 27 => ⟨S_, .f32⟩
  | 28 => ⟨S64x64x2x8, .i1⟩
  | 29 => ⟨S64x64x2x8, .f32⟩
  | 30 => ⟨S64x64x2x8, .f32⟩
  | 31 => ⟨S64x64x2x8, .f32⟩
  | 32 => ⟨S2x64x64, .f32⟩
  | 33 => ⟨S64x64x2, .f32⟩
  | 34 => ⟨S64x64x2x1, .f32⟩
  | 35 => ⟨S64x64x2x8, .f32⟩
  | 36 => ⟨S64x64x2x8, .f32⟩
  | 37 => ⟨S2x8x64x64, .f32⟩
  | 38 => ⟨S64x2x8x64, .f32⟩
  | 39 => ⟨S2x8x64x64, .f32⟩
  | 40 => ⟨S64x2x8x64, .f32⟩
  | 41 => ⟨S64x2x8, .f32⟩
  | 42 => ⟨S64x2x8x1, .f32⟩
  | 43 => ⟨S64x2x8x64, .f32⟩
  | 44 => ⟨S64x2x8x64, .f32⟩
  | 45 => ⟨S64x2x8x64, .f32⟩
  | 46 => ⟨S1x2x8, .f32⟩
  | 47 => ⟨S2x8, .f32⟩
  | 48 => ⟨S1x2x8, .f32⟩
  | 49 => ⟨S64x2x8, .f32⟩
  | 50 => ⟨S64x2x8, .f32⟩
  | 51 => ⟨S64x2x8, .f32⟩
  | 52 => ⟨S1x2x8, .f32⟩
  | 53 => ⟨S2x8, .f32⟩
  | 54 => ⟨S2x8, .f32⟩
  | 55 => ⟨S2x1x8x1, .f32⟩
  | 56 => ⟨S2x128x8x64, .f32⟩
  | 57 => ⟨S2x128x8x64, .f32⟩
  | 58 => ⟨S64x2x8x1, .f32⟩
  | 59 => ⟨S64x2x8x64, .f32⟩
  | 60 => ⟨S64x2x8x64, .f32⟩
  | 61 => ⟨S2x128x8x64, .f32⟩
  | 62 => ⟨S2x128x8x64, .f32⟩
  | 63 => ⟨S64x1024, .f32⟩
  | 64 => ⟨S64x1024, .f32⟩
  | 65 => ⟨S64x1024, .f32⟩
  | 66 => ⟨S64x1024, .f32⟩
  | 67 => ⟨S64x1024, .f32⟩
  | 68 => ⟨S64x1024, .f32⟩
  | 69 => ⟨S64x1024, .f32⟩
  | 70 => ⟨S64x1024, .f32⟩
  | 71 => ⟨S_, .f32⟩
  | 72 => ⟨S64x1024, .f32⟩
  | 73 => ⟨S64x1024, .f32⟩
  | 74 => ⟨S_, .f32⟩
  | 75 => ⟨S64x1024, .f32⟩
  | 76 => ⟨S64x1024, .f32⟩
  | 77 => ⟨S64x1024, .f32⟩
  | 78 => ⟨S64x8x128, .f32⟩
  | 79 => ⟨S64x1024, .f32⟩
  | 80 => ⟨S64x8x128, .f32⟩
  | 81 => ⟨S_, .f32⟩
  | 82 => ⟨S1x1024, .f32⟩
  | 83 => ⟨S1x1024, .f32⟩
  | 84 => ⟨S64x1024, .f32⟩
  | 85 => ⟨S64x1024, .f32⟩
  | 86 => ⟨S64x1024, .f32⟩
  | 87 => ⟨S_, .f32⟩
  | 88 => ⟨S64x1024, .f32⟩
  | 89 => ⟨S64x1024, .f32⟩
  | 90 => ⟨S_, .f32⟩
  | 91 => ⟨S64x1024, .f32⟩
  | 92 => ⟨S64x1024, .f32⟩
  | 93 => ⟨S64x1024, .f32⟩
  | 94 => ⟨S64x1024, .f32⟩
  | 95 => ⟨S64x1024, .f32⟩
  | 96 => ⟨S64x1024, .f32⟩
  | 97 => ⟨S64x8x128, .f32⟩
  | 98 => ⟨S64x8x128, .f32⟩
  | 99 => ⟨S64x64x1x1, .i1⟩
  | 100 => ⟨S1x64x8x128, .f32⟩
  | 101 => ⟨S_, .f32⟩
  | 102 => ⟨S_, .f32⟩
  | 103 => ⟨S64x64x8x128, .i1⟩
  | 104 => ⟨S64x64x8x128, .f32⟩
  | 105 => ⟨S64x64x8x128, .f32⟩
  | 106 => ⟨S64x64x8x128, .f32⟩
  | 107 => ⟨S_, .f32⟩
  | 108 => ⟨S64x8x128, .f32⟩
  | 109 => ⟨S64x64x1x1, .i1⟩
  | 110 => ⟨S64x1x8x128, .f32⟩
  | 111 => ⟨S1x64x8x128, .f32⟩
  | 112 => ⟨S64x64x8x128, .f32⟩
  | 113 => ⟨S64x64x8x128, .f32⟩
  | 114 => ⟨S64x64x8x128, .f32⟩
  | 115 => ⟨S_, .f32⟩
  | 116 => ⟨S_, .f32⟩
  | 117 => ⟨S64x64x8x128, .i1⟩
  | 118 => ⟨S64x64x8x128, .f32⟩
  | 119 => ⟨S64x64x8x128, .f32⟩
  | 120 => ⟨S64x64x8x128, .f32⟩
  | 121 => ⟨S64x1x8x128, .f32⟩
  | 122 => ⟨S_, .f32⟩
  | 123 => ⟨S64x8x128, .f32⟩
  | 124 => ⟨S64x8x128, .f32⟩
  | 125 => ⟨S1x64x8x128, .f32⟩
  | 126 => ⟨S64x64x8x128, .f32⟩
  | 127 => ⟨S64x64x8x128, .f32⟩
  | _ => ⟨S16384x8192, .f32⟩

abbrev hbmTy0_2 (i : Nat) : BufTy := match i % 128 with
  | 0 => ⟨S64x64x8x128, .f32⟩
  | 1 => ⟨S64x64x8x128, .f32⟩
  | 2 => ⟨S_, .f32⟩
  | 3 => ⟨S64x64x8, .f32⟩
  | 4 => ⟨S8x128x64, .f32⟩
  | 5 => ⟨S64x8x128, .f32⟩
  | 6 => ⟨S64x8x128, .f32⟩
  | 7 => ⟨S64x8x128, .f32⟩
  | 8 => ⟨S8x128x64, .f32⟩
  | 9 => ⟨S64x8x128, .f32⟩
  | 10 => ⟨S64x8x128, .f32⟩
  | 11 => ⟨S1x8x128, .f32⟩
  | 12 => ⟨S8x128, .f32⟩
  | 13 => ⟨S8x128, .f32⟩
  | 14 => ⟨S8x1x128, .f32⟩
  | 15 => ⟨S8x128x128, .f32⟩
  | 16 => ⟨S8x128x128, .f32⟩
  | 17 => ⟨S_, .f32⟩
  | 18 => ⟨S64x8x128, .f32⟩
  | 19 => ⟨S64x8x128, .f32⟩
  | 20 => ⟨S1x8x128, .f32⟩
  | 21 => ⟨S8x128, .f32⟩
  | 22 => ⟨S1x8x128, .f32⟩
  | 23 => ⟨S64x8x128, .f32⟩
  | 24 => ⟨S64x8x128, .f32⟩
  | 25 => ⟨S64x8x128, .f32⟩
  | 26 => ⟨S64x8x128, .f32⟩
  | 27 => ⟨S8x128x128, .f32⟩
  | 28 => ⟨S8x128x128, .f32⟩
  | 29 => ⟨S64x1024, .f32⟩
  | 30 => ⟨S1x64x1024, .f32⟩
  | 31 => ⟨S_, .i32⟩
  | 32 => ⟨S_, .i32⟩
  | 33 => ⟨S256x64x1024, .f32⟩
  | 34 => ⟨S1x64x1024, .f32⟩
  | 35 => ⟨S_, .i32⟩
  | 36 => ⟨S_, .i32⟩
  | 37 => ⟨S256x64x1024, .f32⟩
  | 38 => ⟨S_, .i32⟩
  | 39 => ⟨S_, .i32⟩
  | 40 => ⟨S16384x1024, .f32⟩
  | 41 => ⟨S16384x1024, .f32⟩
  | 42 => ⟨S2x128x512, .f32⟩
  | _ => ⟨S16384x8192, .f32⟩

abbrev hbmTy (i : Nat) : BufTy := match i / 128 with
  | 0 => hbmTy0_0 i
  | 1 => hbmTy0_1 i
  | 2 => hbmTy0_2 i
  | _ => ⟨S16384x8192, .f32⟩

abbrev bufTy : (tb : Table) → Fin (tcTables nBuf tb) → BufTy
  | .hbm, ⟨i, _⟩ => hbmTy i
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_0 : Ref sig .tc := ⟨.hbm, 65, rfl⟩
abbrev main_v46 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_0 : Ref sig .tc := ⟨.hbm, 73, rfl⟩
abbrev main_call2_v5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_1 : Ref sig .tc := ⟨.hbm, 79, rfl⟩
abbrev main_v51 : Ref sig .tc := ⟨.hbm, 80, rfl⟩
abbrev main_cst_2 : Ref sig .tc := ⟨.hbm, 81, rfl⟩
abbrev main_v52 : Ref sig .tc := ⟨.hbm, 82, rfl⟩
abbrev main_c_3 : Ref sig .tc := ⟨.hbm, 83, rfl⟩
abbrev main_v53_0 : Ref sig .tc := ⟨.hbm, 84, rfl⟩
abbrev main_v53_1 : Ref sig .tc := ⟨.hbm, 85, rfl⟩
abbrev main_v53_2 : Ref sig .tc := ⟨.hbm, 86, rfl⟩
abbrev main_v53_3 : Ref sig .tc := ⟨.hbm, 87, rfl⟩
abbrev main_v53_4 : Ref sig .tc := ⟨.hbm, 88, rfl⟩
abbrev main_v53_5 : Ref sig .tc := ⟨.hbm, 89, rfl⟩
abbrev main_v53_6 : Ref sig .tc := ⟨.hbm, 90, rfl⟩
abbrev main_v53_7 : Ref sig .tc := ⟨.hbm, 91, rfl⟩
abbrev main_v53_8 : Ref sig .tc := ⟨.hbm, 92, rfl⟩
abbrev main_v53_9 : Ref sig .tc := ⟨.hbm, 93, rfl⟩
abbrev main_v53_10 : Ref sig .tc := ⟨.hbm, 94, rfl⟩
abbrev main_v53_11 : Ref sig .tc := ⟨.hbm, 95, rfl⟩
abbrev main_while0c_c_15 : Ref sig .tc := ⟨.hbm, 96, rfl⟩
abbrev main_while0c_v57 : Ref sig .tc := ⟨.hbm, 97, rfl⟩
abbrev main_while0b_call3_c : Ref sig .tc := ⟨.hbm, 98, rfl⟩
abbrev main_while0b_call3_c_0 : Ref sig .tc := ⟨.hbm, 99, rfl⟩
abbrev main_while0b_call3_v0 : Ref sig .tc := ⟨.hbm, 100, rfl⟩
abbrev main_while0b_v57 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_v0 : Ref sig .tc := ⟨.hbm, 104, rfl⟩
abbrev main_while0b_v58 : Ref sig .tc := ⟨.hbm, 105, rfl⟩
abbrev main_while0b_v59 : Ref sig .tc := ⟨.hbm, 106, rfl⟩
abbrev main_while0b_v60 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_v64 : Ref sig .tc := ⟨.hbm, 111, rfl⟩
abbrev main_while0b_v65 : Ref sig .tc := ⟨.hbm, 112, rfl⟩
abbrev main_while0b_v66 : Ref sig .tc := ⟨.hbm, 113, rfl⟩
abbrev main_while0b_v67 : Ref sig .tc := ⟨.hbm, 114, rfl⟩
abbrev main_while0b_v68 : Ref sig .tc := ⟨.hbm, 115, rfl⟩
abbrev main_while0b_call5_cst : Ref sig .tc := ⟨.hbm, 116, rfl⟩
abbrev main_while0b_call5_v0 : Ref sig .tc := ⟨.hbm, 117, rfl⟩
abbrev main_while0b_call5_v1 : Ref sig .tc := ⟨.hbm, 118, rfl⟩
abbrev main_while0b_call5_v2 : Ref sig .tc := ⟨.hbm, 119, rfl⟩
abbrev main_while0b_call5_v3 : Ref sig .tc := ⟨.hbm, 120, rfl⟩
abbrev main_while0b_call5_v4 : Ref sig .tc := ⟨.hbm, 121, rfl⟩
abbrev main_while0b_call5_v5 : Ref sig .tc := ⟨.hbm, 122, rfl⟩
abbrev main_while0b_call5_v6 : Ref sig .tc := ⟨.hbm, 123, rfl⟩
abbrev main_while0b_call5_v7 : Ref sig .tc := ⟨.hbm, 124, rfl⟩
abbrev main_while0b_call5_v8 : Ref sig .tc := ⟨.hbm, 125, rfl⟩
abbrev main_while0b_call5_v9 : Ref sig .tc := ⟨.hbm, 126, rfl⟩
abbrev main_while0b_call5_v10 : Ref sig .tc := ⟨.hbm, 127, rfl⟩
abbrev main_while0b_call5_v11 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_v72 : Ref sig .tc := ⟨.hbm, 132, rfl⟩
abbrev main_while0b_v73 : Ref sig .tc := ⟨.hbm, 133, rfl⟩
abbrev main_while0b_v74 : Ref sig .tc := ⟨.hbm, 134, rfl⟩
abbrev main_while0b_v75 : Ref sig .tc := ⟨.hbm, 135, rfl⟩
abbrev main_while0b_cst_15 : Ref sig .tc := ⟨.hbm, 136, rfl⟩
abbrev main_while0b_call6_v0 : Ref sig .tc := ⟨.hbm, 137, rfl⟩
abbrev main_while0b_call6_v1 : Ref sig .tc := ⟨.hbm, 138, rfl⟩
abbrev main_while0b_call6_v2 : Ref sig .tc := ⟨.hbm, 139, rfl⟩
abbrev main_while0b_call6_v3 : Ref sig .tc := ⟨.hbm, 140, rfl⟩
abbrev main_while0b_v76 : Ref sig .tc := ⟨.hbm, 141, rfl⟩
abbrev main_while0b_cst_16 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_v82 : Ref sig .tc := ⟨.hbm, 148, rfl⟩
abbrev main_while0b_v83 : Ref sig .tc := ⟨.hbm, 149, rfl⟩
abbrev main_while0b_v84 : Ref sig .tc := ⟨.hbm, 150, rfl⟩
abbrev main_while0b_v85 : Ref sig .tc := ⟨.hbm, 151, rfl⟩
abbrev main_while0b_v86 : Ref sig .tc := ⟨.hbm, 152, rfl⟩
abbrev main_while0b_v87 : Ref sig .tc := ⟨.hbm, 153, rfl⟩
abbrev main_while0b_cst_17 : Ref sig .tc := ⟨.hbm, 154, rfl⟩
abbrev main_while0b_call7_v0 : Ref sig .tc := ⟨.hbm, 155, rfl⟩
abbrev main_while0b_call7_v1 : Ref sig .tc := ⟨.hbm, 156, rfl⟩
abbrev main_while0b_call7_v2 : Ref sig .tc := ⟨.hbm, 157, rfl⟩
abbrev main_while0b_v88 : Ref sig .tc := ⟨.hbm, 158, rfl⟩
abbrev main_while0b_v89 : Ref sig .tc := ⟨.hbm, 159, rfl⟩
abbrev main_while0b_v90 : Ref sig .tc := ⟨.hbm, 160, rfl⟩
abbrev main_while0b_v91 : Ref sig .tc := ⟨.hbm, 161, rfl⟩
abbrev main_while0b_v92 : Ref sig .tc := ⟨.hbm, 162, rfl⟩
abbrev main_while0b_v93 : Ref sig .tc := ⟨.hbm, 163, rfl⟩
abbrev main_while0b_v94 : Ref sig .tc := ⟨.hbm, 164, rfl⟩
abbrev main_while0b_v95 : Ref sig .tc := ⟨.hbm, 165, rfl⟩
abbrev main_while0b_v96 : Ref sig .tc := ⟨.hbm, 166, rfl⟩
abbrev main_while0b_v97 : Ref sig .tc := ⟨.hbm, 167, rfl⟩
abbrev main_while0b_v98 : Ref sig .tc := ⟨.hbm, 168, rfl⟩
abbrev main_while0b_v99 : Ref sig .tc := ⟨.hbm, 169, rfl⟩
abbrev main_while0b_v100 : Ref sig .tc := ⟨.hbm, 170, rfl⟩
abbrev main_while0b_v101 : Ref sig .tc := ⟨.hbm, 171, rfl⟩
abbrev main_while0b_v102 : Ref sig .tc := ⟨.hbm, 172, rfl⟩
abbrev main_while0b_v103 : Ref sig .tc := ⟨.hbm, 173, rfl⟩
abbrev main_while0b_v104 : Ref sig .tc := ⟨.hbm, 174, rfl⟩
abbrev main_while0b_v105 : Ref sig .tc := ⟨.hbm, 175, rfl⟩
abbrev main_while0b_v106 : Ref sig .tc := ⟨.hbm, 176, rfl⟩
abbrev main_while0b_v107 : Ref sig .tc := ⟨.hbm, 177, rfl⟩
abbrev main_while0b_v108 : Ref sig .tc := ⟨.hbm, 178, rfl⟩
abbrev main_while0b_v109 : Ref sig .tc := ⟨.hbm, 179, rfl⟩
abbrev main_while0b_v110 : Ref sig .tc := ⟨.hbm, 180, rfl⟩
abbrev main_while0b_v111 : Ref sig .tc := ⟨.hbm, 181, rfl⟩
abbrev main_while0b_v112 : Ref sig .tc := ⟨.hbm, 182, rfl⟩
abbrev main_while0b_v113 : Ref sig .tc := ⟨.hbm, 183, rfl⟩
abbrev main_while0b_v114 : Ref sig .tc := ⟨.hbm, 184, rfl⟩
abbrev main_while0b_v115 : Ref sig .tc := ⟨.hbm, 185, rfl⟩
abbrev main_while0b_v116 : Ref sig .tc := ⟨.hbm, 186, rfl⟩
abbrev main_while0b_v117 : Ref sig .tc := ⟨.hbm, 187, rfl⟩
abbrev main_while0b_v118 : Ref sig .tc := ⟨.hbm, 188, rfl⟩
abbrev main_while0b_v119 : Ref sig .tc := ⟨.hbm, 189, rfl⟩
abbrev main_while0b_v120 : Ref sig .tc := ⟨.hbm, 190, rfl⟩
abbrev main_while0b_v121 : Ref sig .tc := ⟨.hbm, 191, rfl⟩
abbrev main_while0b_v122 : Ref sig .tc := ⟨.hbm, 192, rfl⟩
abbrev main_while0b_v123 : Ref sig .tc := ⟨.hbm, 193, rfl⟩
abbrev main_while0b_v124 : Ref sig .tc := ⟨.hbm, 194, rfl⟩
abbrev main_while0b_v125 : Ref sig .tc := ⟨.hbm, 195, rfl⟩
abbrev main_while0b_v126 : Ref sig .tc := ⟨.hbm, 196, rfl⟩
abbrev main_while0b_call8_v0 : Ref sig .tc := ⟨.hbm, 197, rfl⟩
abbrev main_while0b_call8_v1 : Ref sig .tc := ⟨.hbm, 198, rfl⟩
abbrev main_while0b_call8_cst : Ref sig .tc := ⟨.hbm, 199, rfl⟩
abbrev main_while0b_call8_v2 : Ref sig .tc := ⟨.hbm, 200, rfl⟩
abbrev main_while0b_call8_v3 : Ref sig .tc := ⟨.hbm, 201, rfl⟩
abbrev main_while0b_call8_cst_0 : Ref sig .tc := ⟨.hbm, 202, rfl⟩
abbrev main_while0b_call8_v4 : Ref sig .tc := ⟨.hbm, 203, rfl⟩
abbrev main_while0b_call8_v5 : Ref sig .tc := ⟨.hbm, 204, rfl⟩
abbrev main_while0b_v127 : Ref sig .tc := ⟨.hbm, 205, rfl⟩
abbrev main_while0b_v128 : Ref sig .tc := ⟨.hbm, 206, rfl⟩
abbrev main_while0b_v129 : Ref sig .tc := ⟨.hbm, 207, rfl⟩
abbrev main_while0b_v130 : Ref sig .tc := ⟨.hbm, 208, rfl⟩
abbrev main_while0b_cst_18 : Ref sig .tc := ⟨.hbm, 209, rfl⟩
abbrev main_while0b_v131 : Ref sig .tc := ⟨.hbm, 210, rfl⟩
abbrev main_while0b_v132 : Ref sig .tc := ⟨.hbm, 211, rfl⟩
abbrev main_while0b_v133 : Ref sig .tc := ⟨.hbm, 212, rfl⟩
abbrev main_while0b_v134 : Ref sig .tc := ⟨.hbm, 213, rfl⟩
abbrev main_while0b_v135 : Ref sig .tc := ⟨.hbm, 214, rfl⟩
abbrev main_while0b_cst_19 : Ref sig .tc := ⟨.hbm, 215, rfl⟩
abbrev main_while0b_v136 : Ref sig .tc := ⟨.hbm, 216, rfl⟩
abbrev main_while0b_v137 : Ref sig .tc := ⟨.hbm, 217, rfl⟩
abbrev main_while0b_cst_20 : Ref sig .tc := ⟨.hbm, 218, rfl⟩
abbrev main_while0b_v138 : Ref sig .tc := ⟨.hbm, 219, rfl⟩
abbrev main_while0b_v139 : Ref sig .tc := ⟨.hbm, 220, rfl⟩
abbrev main_while0b_v140 : Ref sig .tc := ⟨.hbm, 221, rfl⟩
abbrev main_while0b_v141 : Ref sig .tc := ⟨.hbm, 222, rfl⟩
abbrev main_while0b_v142 : Ref sig .tc := ⟨.hbm, 223, rfl⟩
abbrev main_while0b_v143 : Ref sig .tc := ⟨.hbm, 224, rfl⟩
abbrev main_while0b_v144 : Ref sig .tc := ⟨.hbm, 225, rfl⟩
abbrev main_while0b_v145 : Ref sig .tc := ⟨.hbm, 226, rfl⟩
abbrev main_while0b_v146 : Ref sig .tc := ⟨.hbm, 227, rfl⟩
abbrev main_while0b_v147 : Ref sig .tc := ⟨.hbm, 228, rfl⟩
abbrev main_while0b_cst_21 : Ref sig .tc := ⟨.hbm, 229, rfl⟩
abbrev main_while0b_call9_v0 : Ref sig .tc := ⟨.hbm, 230, rfl⟩
abbrev main_while0b_call9_v1 : Ref sig .tc := ⟨.hbm, 231, rfl⟩
abbrev main_while0b_call9_v2 : Ref sig .tc := ⟨.hbm, 232, rfl⟩
abbrev main_while0b_call9_v3 : Ref sig .tc := ⟨.hbm, 233, rfl⟩
abbrev main_while0b_v148 : Ref sig .tc := ⟨.hbm, 234, rfl⟩
abbrev main_while0b_cst_22 : Ref sig .tc := ⟨.hbm, 235, rfl⟩
abbrev main_while0b_v149 : Ref sig .tc := ⟨.hbm, 236, rfl⟩
abbrev main_while0b_v150 : Ref sig .tc := ⟨.hbm, 237, rfl⟩
abbrev main_while0b_v151 : Ref sig .tc := ⟨.hbm, 238, rfl⟩
abbrev main_while0b_v152 : Ref sig .tc := ⟨.hbm, 239, rfl⟩
abbrev main_while0b_v153 : Ref sig .tc := ⟨.hbm, 240, rfl⟩
abbrev main_while0b_v154 : Ref sig .tc := ⟨.hbm, 241, rfl⟩
abbrev main_while0b_v155 : Ref sig .tc := ⟨.hbm, 242, rfl⟩
abbrev main_while0b_cst_23 : Ref sig .tc := ⟨.hbm, 243, rfl⟩
abbrev main_while0b_call10_v0 : Ref sig .tc := ⟨.hbm, 244, rfl⟩
abbrev main_while0b_call10_v1 : Ref sig .tc := ⟨.hbm, 245, rfl⟩
abbrev main_while0b_call10_v2 : Ref sig .tc := ⟨.hbm, 246, rfl⟩
abbrev main_while0b_v156 : Ref sig .tc := ⟨.hbm, 247, rfl⟩
abbrev main_while0b_v157 : Ref sig .tc := ⟨.hbm, 248, rfl⟩
abbrev main_while0b_v158 : Ref sig .tc := ⟨.hbm, 249, rfl⟩
abbrev main_while0b_cst_24 : Ref sig .tc := ⟨.hbm, 250, rfl⟩
abbrev main_while0b_v159 : Ref sig .tc := ⟨.hbm, 251, rfl⟩
abbrev main_while0b_v160 : Ref sig .tc := ⟨.hbm, 252, rfl⟩
abbrev main_while0b_v161 : Ref sig .tc := ⟨.hbm, 253, rfl⟩
abbrev main_while0b_v162 : Ref sig .tc := ⟨.hbm, 254, rfl⟩
abbrev main_while0b_v163 : Ref sig .tc := ⟨.hbm, 255, rfl⟩
abbrev main_while0b_v164 : Ref sig .tc := ⟨.hbm, 256, rfl⟩
abbrev main_while0b_v165 : Ref sig .tc := ⟨.hbm, 257, rfl⟩
abbrev main_while0b_cst_25 : Ref sig .tc := ⟨.hbm, 258, rfl⟩
abbrev main_while0b_v166 : Ref sig .tc := ⟨.hbm, 259, rfl⟩
abbrev main_while0b_v167 : Ref sig .tc := ⟨.hbm, 260, rfl⟩
abbrev main_while0b_v168 : Ref sig .tc := ⟨.hbm, 261, rfl⟩
abbrev main_while0b_v169 : Ref sig .tc := ⟨.hbm, 262, rfl⟩
abbrev main_while0b_v170 : Ref sig .tc := ⟨.hbm, 263, rfl⟩
abbrev main_while0b_v171 : Ref sig .tc := ⟨.hbm, 264, rfl⟩
abbrev main_while0b_v172 : Ref sig .tc := ⟨.hbm, 265, rfl⟩
abbrev main_while0b_v173 : Ref sig .tc := ⟨.hbm, 266, rfl⟩
abbrev main_while0b_v174 : Ref sig .tc := ⟨.hbm, 267, rfl⟩
abbrev main_while0b_v175 : Ref sig .tc := ⟨.hbm, 268, rfl⟩
abbrev main_while0b_v176 : Ref sig .tc := ⟨.hbm, 269, rfl⟩
abbrev main_while0b_v177 : Ref sig .tc := ⟨.hbm, 270, rfl⟩
abbrev main_while0b_v178 : Ref sig .tc := ⟨.hbm, 271, rfl⟩
abbrev main_while0b_v179 : Ref sig .tc := ⟨.hbm, 272, rfl⟩
abbrev main_while0b_cst_26 : Ref sig .tc := ⟨.hbm, 273, rfl⟩
abbrev main_while0b_v180 : Ref sig .tc := ⟨.hbm, 274, rfl⟩
abbrev main_while0b_v181 : Ref sig .tc := ⟨.hbm, 275, rfl⟩
abbrev main_while0b_v182 : Ref sig .tc := ⟨.hbm, 276, rfl⟩
abbrev main_while0b_v183 : Ref sig .tc := ⟨.hbm, 277, rfl⟩
abbrev main_while0b_v184 : Ref sig .tc := ⟨.hbm, 278, rfl⟩
abbrev main_while0b_v185 : Ref sig .tc := ⟨.hbm, 279, rfl⟩
abbrev main_while0b_v186 : Ref sig .tc := ⟨.hbm, 280, rfl⟩
abbrev main_while0b_v187 : Ref sig .tc := ⟨.hbm, 281, rfl⟩
abbrev main_while0b_v188 : Ref sig .tc := ⟨.hbm, 282, rfl⟩
abbrev main_while0b_v189 : Ref sig .tc := ⟨.hbm, 283, rfl⟩
abbrev main_while0b_v190 : Ref sig .tc := ⟨.hbm, 284, rfl⟩
abbrev main_while0b_v191 : Ref sig .tc := ⟨.hbm, 285, rfl⟩
abbrev main_while0b_call11_v0 : Ref sig .tc := ⟨.hbm, 286, rfl⟩
abbrev main_while0b_call11_c : Ref sig .tc := ⟨.hbm, 287, rfl⟩
abbrev main_while0b_call11_c_0 : Ref sig .tc := ⟨.hbm, 288, rfl⟩
abbrev main_while0b_v192 : Ref sig .tc := ⟨.hbm, 289, rfl⟩
abbrev main_while0b_call12_v0 : Ref sig .tc := ⟨.hbm, 290, rfl⟩
abbrev main_while0b_call12_c : Ref sig .tc := ⟨.hbm, 291, rfl⟩
abbrev main_while0b_call12_c_0 : Ref sig .tc := ⟨.hbm, 292, rfl⟩
abbrev main_while0b_v193 : Ref sig .tc := ⟨.hbm, 293, rfl⟩
abbrev main_while0b_c_27 : Ref sig .tc := ⟨.hbm, 294, rfl⟩
abbrev main_while0b_v194 : Ref sig .tc := ⟨.hbm, 295, rfl⟩
abbrev main_v54 : Ref sig .tc := ⟨.hbm, 296, rfl⟩
abbrev main_v55 : Ref sig .tc := ⟨.hbm, 297, rfl⟩
abbrev main_v56 : Ref sig .tc := ⟨.hbm, 298, rfl⟩

abbrev nD : Nat := 1
abbrev τ : Topo := Topo.v7x

variable {F : FTy → Type} [FloatOps F]

abbrev main_while0_count : Scf.Loop 32 := ⟨0#32, 256#32, 1#32⟩
-- ==== Kernel11.lean ====
abbrev S16384x8192 : Shape := ⟨2, ![16384, 8192]⟩
abbrev S8x1536 : Shape := ⟨2, ![8, 1536]⟩
abbrev S1x1536 : Shape := ⟨2, ![1, 1536]⟩
abbrev S2x8x128 : Shape := ⟨3, ![2, 8, 128]⟩
abbrev S1x1024 : Shape := ⟨2, ![1, 1024]⟩
abbrev S2x128x512 : Shape := ⟨3, ![2, 128, 512]⟩
abbrev S8x128x128 : Shape := ⟨3, ![8, 128, 128]⟩
abbrev S1024 : Shape := ⟨1, ![1024]⟩
abbrev S_ : Shape := ⟨0, ![]⟩
abbrev S128 : Shape := ⟨1, ![128]⟩
abbrev S128x1 : Shape := ⟨2, ![128, 1]⟩
abbrev S128x1024 : Shape := ⟨2, ![128, 1024]⟩
abbrev S16384x1024 : Shape := ⟨2, ![16384, 1024]⟩
abbrev S64x1536 : Shape := ⟨2, ![64, 1536]⟩
abbrev S64x128 : Shape := ⟨2, ![64, 128]⟩
abbrev S64x1024 : Shape := ⟨2, ![64, 1024]⟩
abbrev S1x8x128 : Shape := ⟨3, ![1, 8, 128]⟩
abbrev S64x64 : Shape := ⟨2, ![64, 64]⟩
abbrev S80x1536 : Shape := ⟨2, ![80, 1536]⟩
abbrev S1x1x128 : Shape := ⟨3, ![1, 1, 128]⟩
abbrev S1x128 : Shape := ⟨2, ![1, 128]⟩
abbrev S128x64 : Shape := ⟨2, ![128, 64]⟩
abbrev S8x128 : Shape := ⟨2, ![8, 128]⟩
abbrev S200x128 : Shape := ⟨2, ![200, 128]⟩
abbrev S200x1024 : Shape := ⟨2, ![200, 1024]⟩
abbrev S1x128x512 : Shape := ⟨3, ![1, 128, 512]⟩
abbrev S128x512 : Shape := ⟨2, ![128, 512]⟩
abbrev S64x512 : Shape := ⟨2, ![64, 512]⟩
abbrev S64x1 : Shape := ⟨2, ![64, 1]⟩
abbrev S1x64 : Shape := ⟨2, ![1, 64]⟩
abbrev S1x512 : Shape := ⟨2, ![1, 512]⟩
abbrev S1x128x128 : Shape := ⟨3, ![1, 128, 128]⟩
abbrev S128x128 : Shape := ⟨2, ![128, 128]⟩

abbrev nBuf : Space → Nat
  | .hbm => 38
  | .vmem => 28
  | .smem => 0
  | _ => 0

abbrev bufTy : (tb : Table) → Fin (tcTables nBuf tb) → BufTy
  | .hbm, ⟨0, _⟩ => ⟨S16384x8192, .f32⟩
  | .hbm, ⟨1, _⟩ => ⟨S8x1536, .f32⟩
  | .hbm, ⟨2, _⟩ => ⟨S1x1536, .f32⟩
  | .hbm, ⟨3, _⟩ => ⟨S2x8x128, .f32⟩
  | .hbm, ⟨4, _⟩ => ⟨S1x1024, .f32⟩
  | .hbm, ⟨5, _⟩ => ⟨S1x1024, .f32⟩
  | .hbm, ⟨6, _⟩ => ⟨S2x128x512, .f32⟩
  | .hbm, ⟨7, _⟩ => ⟨S8x128x128, .f32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S128, .i32⟩
  | .hbm, ⟨28, _⟩ => ⟨S128x1, .i32⟩
  | .hbm, ⟨29, _⟩ => ⟨S1x1024, .i32⟩
  | .hbm, ⟨30, _⟩ => ⟨S128x1024, .i32⟩
  | .hbm, ⟨31, _⟩ => ⟨S128x1024, .i32⟩
  | .hbm, ⟨32, _⟩ => ⟨S128x1024, .i1⟩
  | .hbm, ⟨33, _⟩ => ⟨S128x1024, .bf16⟩
  | .hbm, ⟨34, _⟩ => ⟨S16384x1024, .f32⟩
  | .hbm, ⟨35, _⟩ => ⟨S16384x1024, .f32⟩
  | .hbm, ⟨36, _⟩ => ⟨S2x128x512, .f32⟩
  | .hbm, ⟨37, _⟩ => ⟨S8x128x128, .f32⟩
  | .local _ .vmem, ⟨0, _⟩ => ⟨S64x1536, .f32⟩
  | .local _ .vmem, ⟨1, _⟩ => ⟨S64x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S64x128, .f32⟩
  | .local _ .vmem, ⟨7, _⟩ => ⟨S64x128, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S8x1536, .f32⟩
  | .local _ .vmem, ⟨15, _⟩ => ⟨S1x1536, .f32⟩
  | .local _ .vmem, ⟨16, _⟩ => ⟨S1x8x128, .f32⟩
  | .local _ .vmem, ⟨17, _⟩ => ⟨S1x1024, .f32⟩
  | .local _ .vmem, ⟨18, _⟩ => ⟨S1x1024, .f32⟩
  | .local _ .vmem, ⟨19, _⟩ => ⟨S128x1024, .bf16⟩
  | .local _ .vmem, ⟨20, _⟩ => ⟨S2x128x512, .f32⟩
  | .local _ .vmem, ⟨21, _⟩ => ⟨S8x128x128, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S2x128x512, .f32⟩
  | .local _ .vmem, ⟨27, _⟩ => ⟨S8x128x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9_0 : Ref sig .tc := ⟨.hbm, 34, rfl⟩
abbrev main_v9_1 : Ref sig .tc := ⟨.hbm, 35, rfl⟩
abbrev main_v9_2 : Ref sig .tc := ⟨.hbm, 36, rfl⟩
abbrev main_v9_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c255_i32 : BitVec 32 := 255#32
  let v0 : BitVec 32 := Scalar.subi c255_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c255_i32 : BitVec 32 := 255#32
  let v0 : BitVec 32 := Scalar.subi c255_i32 arg0
  let c1_i32 : BitVec 32 := 1#32
  let v1 : BitVec 32 := Scalar.addi v0 c1_i32
  let c8_i32 : BitVec 32 := 8#32
  let v2 : BitVec 32 := Scalar.muli v1 c8_i32
  let c2047_i32 : BitVec 32 := 2047#32
  let v3 : BitVec 32 := Scalar.minsi v2 c2047_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c255_i32 : BitVec 32 := 255#32
  let v0 : BitVec 32 := Scalar.subi c255_i32 arg0
  let c13_i32 : BitVec 32 := 13#32
  let c0_i32 : BitVec 32 := 0#32
  ![v0.toNat, c13_i32.toNat]

def cc0_transform_4 (i : grid0.Coords) : Fin 2 → Nat :=
  let arg0 : BitVec 32 := BitVec.ofNat 32 (i 0).val
  let c255_i32 : BitVec 32 := 255#32
  let v0 : BitVec 32 := Scalar.subi c255_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c255_i32 : BitVec 32 := 255#32
  let v0 : BitVec 32 := Scalar.subi c255_i32 arg0
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let c255_i32 : BitVec 32 := 255#32
  let v0 : BitVec 32 := Scalar.subi c255_i32 arg0
  let c7_i32 : BitVec 32 := 7#32
  let c0_i32 : BitVec 32 := 0#32
  ![v0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  ![v0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2x128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Proof.ScanBackIdealFrame.lean ====
/-
  The frame of the ideal of the backward scans of the even layer: every run ends, the arguments as they were and every counter at zero.
  Copied from the generated `Gen/Kernel11Ideal/Frame.lean`, which does not close for this launch: the last steps of `outsAt0_A`
  and `outsAt0_B` there compare two long terms until the limit is reached. Here the branch of the condition is taken by
  rewriting, and the rest is as generated.
-/
module

public import proofs.«01_k».proof.Proof.Gen.Kernel11Ideal.Frame.RunB
public import Idealize.ShloMosaic.Lib.Claim

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 15 tile its block (1 store of `S64x1024`), so they cover it. -/
theorem cover0_A_15 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1 S64x1024.size (by sl_kernel_rfl) y

/-- What case A leaves in output 15's staging buffer: its pieces read back over junk. -/
def out0_A_15 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) : Vec F S64x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1)

/-- Case A's pieces for output 16 tile its block (1 store of `S64x1024`), so they cover it. -/
theorem cover0_A_16 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1 S64x1024.size (by sl_kernel_rfl) y

/-- What case A leaves in output 16's staging buffer: its pieces read back over junk. -/
def out0_A_16 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) : Vec F S64x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1)

/-- Case A's pieces for output 17 are of SEVERAL sizes (3 stores of `S1x128x512`, `S2x128x512`): cut into blocks of `![1, 128, 512]` they tile its block, so they cover it. -/
theorem cover0_A_17 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (y : S2x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1 ![1, 128, 512] (by sl_kernel_rfl) y

/-- What case A leaves in output 17's staging buffer: its pieces read back over junk. -/
def out0_A_17 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) : Vec F S2x128x512 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1)

/-- Case A's pieces for output 18 are of SEVERAL sizes (9 stores of `S1x128x128`, `S8x128x128`): cut into blocks of `![1, 128, 128]` they tile its block, so they cover it. -/
theorem cover0_A_18 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (y : S8x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1 ![1, 128, 128] (by sl_kernel_rfl) y

/-- What case A leaves in output 18's staging buffer: its pieces read back over junk. -/
def out0_A_18 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) : Vec F S8x128x128 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1)

/-- Case B's pieces for output 15 tile its block (1 store of `S64x1024`), so they cover it. -/
theorem cover0_B_15 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).1 S64x1024.size (by sl_kernel_rfl) y

/-- What case B leaves in output 15's staging buffer: its pieces read back over junk. -/
def out0_B_15 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) : Vec F S64x1024 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).1)

/-- Case B's pieces for output 16 tile its block (1 store of `S64x1024`), so they cover it. -/
theorem cover0_B_16 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.1 S64x1024.size (by sl_kernel_rfl) y

/-- What case B leaves in output 16's staging buffer: its pieces read back over junk. -/
def out0_B_16 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) : Vec F S64x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.1)

/-- Case B's pieces for output 17 tile its block (2 stores of `S1x128x512`), so they cover it. -/
theorem cover0_B_17 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) (y : S2x128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.1 S1x128x512.size (by sl_kernel_rfl) y

/-- What case B leaves in output 17's staging buffer: its pieces read back over junk. -/
def out0_B_17 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) : Vec F S2x128x512 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.1)

/-- Case B's pieces for output 18 tile its block (8 stores of `S1x128x128`), so they cover it. -/
theorem cover0_B_18 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) (y : S8x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.2.1 S1x128x128.size (by sl_kernel_rfl) y

/-- What case B leaves in output 18's staging buffer: its pieces read back over junk. -/
def out0_B_18 (c : Dev nD) (i : grid0.Coords) (arg1 : Memref sig .tc .vmem S64x1536 .f32) (harg1 : arg1.IsWhole) (arg2 : Memref sig .tc .vmem S8x1536 .f32) (harg2 : arg2.IsWhole) (arg3 : Memref sig .tc .vmem S8x1536 .f32) (harg3 : arg3.IsWhole) (arg4 : Memref sig .tc .vmem S64x128 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1536 .f32) (harg8 : arg8.IsWhole) (arg9 : Memref sig .tc .vmem S1x1536 .f32) (harg9 : arg9.IsWhole) (arg10 : Memref sig .tc .vmem S1x8x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .bf16) (harg13 : arg13.IsWhole) (arg14 : Memref sig .tc .vmem S2x128x512 .f32) (harg14 : arg14.IsWhole) (arg15 : Memref sig .tc .vmem S8x128x128 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S2x128x512 .f32) (harg18 : arg18.IsWhole) (arg19 : Memref sig .tc .vmem S8x128x128 .f32) (harg19 : arg19.IsWhole) (hc0 : ¬cond0_0 i)
    (x0 : Vec F S64x1536 .f32) (x1 : Vec F S8x1536 .f32) (x2 : Vec F S8x1536 .f32) (x3 : Vec F S64x128 .f32) (x4 : Vec F S64x1024 .f32) (x5 : Vec F S64x1024 .f32) (x6 : Vec F S64x1024 .f32) (x7 : Vec F S8x1536 .f32) (x8 : Vec F S1x1536 .f32) (x9 : Vec F S1x8x128 .f32) (x10 : Vec F S1x1024 .f32) (x11 : Vec F S1x1024 .f32) (x12 : Vec F S128x1024 .bf16) (x13 : Vec F S2x128x512 .f32) (x14 : Vec F S8x128x128 .f32) (xo17 : Vec F S2x128x512 .f32) (xo18 : Vec F S8x128x128 .f32) : Vec F S8x128x128 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x1024 .f32 × Vec F S64x1024 .f32 × Vec F S2x128x512 .f32 × Vec F S8x128x128 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 256 = 0 then
      (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.1 (outsAt0 c n (Nat.lt_of_succ_lt hn)).2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.1 (outsAt0 c n (Nat.lt_of_succ_lt hn)).2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.1 (outsAt0 c n (Nat.lt_of_succ_lt hn)).2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 256 = 0) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n =>
    have h1 : (n + 1) % 256 = 0 := h0
    rw [outsAt0, dif_pos h1]

/-- `outsAt0` at a point of case B: that case's contents, over what the point before left. -/
theorem outsAt0_B (c : Dev nD) (t : Fin cfg0.N) (h0 : ¬t.val % 256 = 0) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n =>
    have h1 : ¬(n + 1) % 256 = 0 := h0
    rw [outsAt0, dif_neg h1]
    simp only [Nat.add_sub_cancel]

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2
    | ⟨_ + 19, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 256 = 0) (d) :
    (dats m 0 c).before 17 t d = (outsAt0 m c (t.val - 1) (Nat.lt_of_le_of_lt (Nat.sub_le _ _) t.isLt)).2.2.1 := by
  have hN : t.val < 256 := lt_of_lt_of_eq t.isLt (show cfg0.N = 256 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 256 = 0) (d) :
    (dats m 0 c).before 18 t d = (outsAt0 m c (t.val - 1) (Nat.lt_of_le_of_lt (Nat.sub_le _ _) t.isLt)).2.2.2 := by
  have hN : t.val < 256 := lt_of_lt_of_eq t.isLt (show cfg0.N = 256 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  have hN : t.val < 256 := lt_of_lt_of_eq t.isLt (show cfg0.N = 256 from N_0)
  by_cases h0 : t.val % 256 = 0
  · rw [outsAt0_A m c t h0]
    unfold out0_A_15 out0_A_16 out0_A_17 out0_A_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A c (grid0.coords t) _ _ _ _ _ _ _ _ _ _ _ _ _ _ _ _ _ _ _ _ _ _ _ _ _ _ _ _ _ _ _ _ _ _ _ _ _ _ ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_17_B m c t h0, before0_18_B m c t h0]
    unfold out0_B_15 out0_B_16 out0_B_17 out0_B_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_B c (grid0.coords t) _ _ _ _ _ _ _ _ _ _ _ _ _ _ _ _ _ _ _ _ _ _ _ _ _ _ _ _ _ _ _ _ _ _ _ _ _ _ (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexact H17
    isplitl [H18]; · iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel11Ideal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel11Ideal.Gen

end
-- ==== Proof.S5Spec.lean ====
/-
  One lane of the diagonal recurrence of the S5 layer, in plain words: a complex state, multiplied each step by the
  lane's complex multiplier and increased by what the input drives it with.
-/
module

public import Idealize.ShloMosaic.Lib.Pipeline.ValueKit

@[expose] public section

noncomputable section

namespace Cert.S5

open Idealize.ShloMosaic

/-- One step of a lane: the state `p` times the multiplier `lr + i·li`, plus the drive `dr + i·di`. -/
def step (lr li dr di : EReal) (p : EReal × EReal) : EReal × EReal :=
  (lr * p.1 - li * p.2 + dr, lr * p.2 + li * p.1 + di)

/-- The lane's state before step `n`, from the state `p`, the drive at step `k` being `dr k + i·di k`. -/
def orbit (lr li : EReal) (dr di : ℕ → EReal) (p : EReal × EReal) : ℕ → EReal × EReal
  | 0 => p
  | n + 1 => step lr li (dr n) (di n) (orbit lr li dr di p n)

theorem orbit_congr (lr li : EReal) (dr di dr' di' : ℕ → EReal) (p : EReal × EReal) :
    ∀ n, (∀ k < n, dr k = dr' k) → (∀ k < n, di k = di' k) → orbit lr li dr di p n = orbit lr li dr' di' p n
  | 0, _, _ => rfl
  | n + 1, h, h' => by
    show step _ _ _ _ _ = step _ _ _ _ _
    rw [h n n.lt_succ_self, h' n n.lt_succ_self,
      orbit_congr lr li dr di dr' di' p n (fun k hk => h k (hk.trans n.lt_succ_self)) fun k hk => h' k (hk.trans n.lt_succ_self)]

/-- Steps `a, a+1, …` taken from the state before step `a`. -/
theorem orbit_add (lr li : EReal) (dr di : ℕ → EReal) (p : EReal × EReal) (a : ℕ) :
    ∀ n, orbit lr li (fun k => dr (a + k)) (fun k => di (a + k)) (orbit lr li dr di p a) n = orbit lr li dr di p (a + n)
  | 0 => rfl
  | n + 1 => congrArg (step lr li (dr (a + n)) (di (a + n))) (orbit_add lr li dr di p a n)

/-- Lane `a`'s real half and its imaginary half among the 1024 columns. -/
abbrev re (a : Fin 512) : Fin 1024 := ⟨a.val, by omega⟩
abbrev im (a : Fin 512) : Fin 1024 := ⟨512 + a.val, by omega⟩

/-- 1024 columns made of 512 lanes: the real parts, then the imaginary parts. -/
def cols (f : Fin 512 → EReal × EReal) (q : Fin 1024) : EReal :=
  if h : q.val < 512 then (f ⟨q.val, h⟩).1 else (f ⟨q.val - 512, by omega⟩).2

theorem cols_re (f : Fin 512 → EReal × EReal) (a : Fin 512) : cols f (re a) = (f a).1 := dif_pos a.isLt
theorem cols_im (f : Fin 512 → EReal × EReal) (a : Fin 512) : cols f (im a) = (f a).2 := by
  refine (dif_neg (by simp)).trans ?_
  congr 2
  exact Fin.ext (by simp)

theorem re_or_im (q : Fin 1024) : (∃ a, q = re a) ∨ ∃ a, q = im a := by
  by_cases h : q.val < 512
  · exact Or.inl ⟨⟨q.val, h⟩, rfl⟩
  · exact Or.inr ⟨⟨q.val - 512, by omega⟩, Fin.ext (by show q.val = 512 + (q.val - 512); omega)⟩

variable (u : Fin 4 → Fin 1024 → Fin 2048 → EReal) (win : Fin 4 → Fin 2048 → Fin 1024 → EReal)
  (wout : Fin 4 → Fin 1024 → Fin 2048 → EReal) (tt : Fin 4 → Fin 2048 → Fin 2048 → EReal)
  (lam h0 : Fin 4 → Fin 1024 → EReal)

/-- What column `q` of plane `j` is driven with at position `n`. -/
def drive (j : Fin 4) (q : Fin 1024) (n : ℕ) : EReal :=
  if h : n < 1024 then ∑ k : Fin 2048, u j ⟨n, h⟩ k * win j k q else 0

/-- Lane `a` of plane `j` before position `n`. -/
def laneState (j : Fin 4) (n : ℕ) (a : Fin 512) : EReal × EReal :=
  orbit (lam j (re a)) (lam j (im a)) (drive u win j (re a)) (drive u win j (im a)) (h0 j (re a), h0 j (im a)) n

/-- The output at position `n`: the state read out, plus what the position's own tokens contribute directly. -/
def output (j : Fin 4) (n : Fin 1024) (o : Fin 2048) : EReal :=
  (∑ q : Fin 1024, cols (laneState u win lam h0 j n.val) q * wout j q o) + ∑ k : Fin 2048, u j n k * tt j k o

/-- Arrays of three axes. -/
abbrev Cube (a b c : ℕ) := (⟨3, ![a, b, c]⟩ : Shape).Idx → EReal

/-- The two results as arrays of the six arguments: the multiplier and the initial state are row 0 of their planes. -/
def outputs (u : Cube 4 1024 2048) (win : Cube 4 2048 1024) (wout : Cube 4 1024 2048) (tt : Cube 4 2048 2048) (lam h0 : Cube 4 8 1024) : Cube 4 1024 2048 :=
  fun y => output (fun j n k => u (ix3 j n k)) (fun j k q => win (ix3 j k q)) (fun j q o => wout (ix3 j q o)) (fun j k o => tt (ix3 j k o))
    (fun j q => lam (ix3 j 0 q)) (fun j q => h0 (ix3 j 0 q)) (y 0) (y 1) (y 2)

/-- The state after the last position, in each of the eight rows of its plane. -/
def finalState (u : Cube 4 1024 2048) (win : Cube 4 2048 1024) (lam h0 : Cube 4 8 1024) : Cube 4 8 1024 :=
  fun y => cols (laneState (fun j n k => u (ix3 j n k)) (fun j k q => win (ix3 j k q)) (fun j q => lam (ix3 j 0 q)) (fun j q => h0 (ix3 j 0 q)) (y 0) 1024) (y 2)

/-- The positions taken from the last to the first. -/
def turn {a b c : ℕ} (x : Cube a b c) : Cube a b c := fun y => x (ix3 (y 0) (Fin.rev (y 1)) (y 2))

/-- The outputs of the recurrence that runs from the last position to the first. Its final state is that of the turned input. -/
def outputsBack (u : Cube 4 1024 2048) (win : Cube 4 2048 1024) (wout : Cube 4 1024 2048) (tt : Cube 4 2048 2048) (lam h0 : Cube 4 8 1024) : Cube 4 1024 2048 :=
  turn (outputs (turn u) win wout tt lam h0)

end Cert.S5
end
-- ==== Proof.S5Loop.lean ====
/-
  The recurrence inside one block of 256 tokens: the loop that runs over the rows of the drive, keeps the state in one
  row of scratch and replaces each row of the drive by the state before it.
-/
module

public import proofs.«01_k».proof.Proof.Gen.KernelIdeal.Value
public import proofs.«01_k».proof.Proof.S5Spec
public import Idealize.ShloMosaic.Lib.Pipeline.ValueKit
public import Idealize.ShloMosaic.Lib.WritesUnit

@[expose] public section

set_option maxRecDepth 16384

noncomputable section

namespace Cert.KernelIdeal.S5

open Idealize.ShloMosaic Idealize.ShloMosaic.TcCoe Idealize.SL.Sem
open Idealize.ShloMosaic.Pipeline (Dat)
open Cert.KernelIdeal Cert.KernelIdeal.Gen Cert.S5

/-- The drive's scratch and the state's. -/
abbrev vD : View sig .tc .vmem S256x1024 .f32 := View.whole cc0_scratch0
abbrev vS : View sig .tc .vmem S1x1024 .f32 := View.whole cc0_scratch1

/-- What the trips before `k` write, from the contents `G` of the drive's scratch and `G'` of the state's. -/
abbrev pcs (c : Dev nD) (t : Fin cfg0.N) (l l' : Vec Ideal S1x1x512 .f32) (G : BufTy.Contents (Elt Ideal) vD.ty)
    (G' : BufTy.Contents (Elt Ideal) vS.ty) (k : ℕ) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _) l l' G G' k

/-- The rows of the drive. -/
abbrev lane (D : Vec Ideal S256x1024 .f32) (q : Fin 1024) (n : ℕ) : EReal := if h : n < 256 then D (ix2 ⟨n, h⟩ q) else 0

/-- Lane `a`'s state before trip `n`. -/
abbrev state (l l' : Vec Ideal S1x1x512 .f32) (D : Vec Ideal S256x1024 .f32) (s : Vec Ideal S1x1024 .f32) (a : Fin 512) (n : ℕ) : EReal × EReal :=
  orbit (l (ix3 0 0 a)) (l' (ix3 0 0 a)) (lane D (re a)) (lane D (im a)) (s (ix2 0 (re a)), s (ix2 0 (im a))) n

theorem off_iv : ∀ k : Fin 256, (Scalar.indexCast (Scf.iv (0#32) (1#32) k.val)).toNat = k.val := by decide +kernel

theorem pay_re (l l' : Vec Ideal S1x1x512 .f32) (p q : Vec Ideal S1x512 .f32) (d : Vec Ideal S1x1024 .f32) (a : Fin 512) :
    k0_pay8 (F := Ideal) l l' p q d (ix2 0 a) = l (ix3 0 0 a) * p (ix2 0 a) - l' (ix3 0 0 a) * q (ix2 0 a) + d (ix2 0 (re a)) := by
  pointwise [k0_pay8, k0_pay6, k0_pay7]

theorem pay_im (l l' : Vec Ideal S1x1x512 .f32) (p q : Vec Ideal S1x512 .f32) (d : Vec Ideal S1x1024 .f32) (a : Fin 512) :
    k0_pay9 (F := Ideal) l l' p q d (ix2 0 a) = l (ix3 0 0 a) * q (ix2 0 a) + l' (ix3 0 0 a) * p (ix2 0 a) + d (ix2 0 (im a)) := by
  pointwise [k0_pay9, k0_pay6, k0_pay7]

theorem pay10_apply (p : Vec Ideal S1x512 .f32) (a : Fin 512) : k0_pay10 (F := Ideal) p (ix2 0 a) = p (ix2 0 a) := by
  pointwise [k0_pay10]
theorem pay11_apply (p : Vec Ideal S1x512 .f32) (a : Fin 512) : k0_pay11 (F := Ideal) p (ix2 0 a) = p (ix2 0 a) := by
  pointwise [k0_pay11]

theorem trips_eq : k0_t1_loop.trips = 256 := by decide +kernel

theorem off1 (k : Fin k0_t1_loop.trips) : k0_off1 k = ![k.val, 0] := by
  show ![_, 0] = _
  rw [show (Scalar.indexCast (Scf.iv (0#32) (1#32) k.val)).toNat = k.val from off_iv ⟨k.val, k.isLt.trans_eq trips_eq⟩]
theorem off2 (k : Fin k0_t1_loop.trips) : k0_off2 k = ![k.val, 0] := off1 k
theorem off3 (k : Fin k0_t1_loop.trips) : k0_off3 k = ![k.val, 512] := by
  show ![_, 512] = _
  rw [show (Scalar.indexCast (Scf.iv (0#32) (1#32) k.val)).toNat = k.val from off_iv ⟨k.val, k.isLt.trans_eq trips_eq⟩]

/-- The rows a trip loads: the state's two halves and row `k` of the drive. -/
abbrev ldRe (f : BufTy.Contents (Elt Ideal) vS.ty) : Vec Ideal S1x512 .f32 :=
  View.readAt (Elt Ideal) vS (Rect.unit (s := S1x1024) ![0, 0] S1x512.size inb_S1x1024_S1x512_0_0).toLoadRect f
abbrev ldIm (f : BufTy.Contents (Elt Ideal) vS.ty) : Vec Ideal S1x512 .f32 :=
  View.readAt (Elt Ideal) vS (Rect.unit (s := S1x1024) ![0, 512] S1x512.size inb_S1x1024_S1x512_0_512).toLoadRect f
abbrev ldRow (k : Fin k0_t1_loop.trips) (f : BufTy.Contents (Elt Ideal) vD.ty) : Vec Ideal S1x1024 .f32 :=
  View.readAt (Elt Ideal) vD (Rect.unit (s := S256x1024) (k0_off1 k) S1x1024.size (k0_off1_inb k)).toLoadRect f

theorem ldRe_apply (f : BufTy.Contents (Elt Ideal) vS.ty) (b : Fin 512) :
    ldRe f (ix2 0 b) = vS.read (Elt Ideal) f (ix2 0 (re b)) := by
  show View.read _ _ _ _ = _
  refine congrArg _ (funext fun a => Fin.ext ?_)
  match a with
  | ⟨0, _⟩ => rfl
  | ⟨1, _⟩ => simp [Rect.unit]

theorem ldIm_apply (f : BufTy.Contents (Elt Ideal) vS.ty) (b : Fin 512) :
    ldIm f (ix2 0 b) = vS.read (Elt Ideal) f (ix2 0 (im b)) := by
  show View.read _ _ _ _ = _
  refine congrArg _ (funext fun a => Fin.ext ?_)
  match a with
  | ⟨0, _⟩ => rfl
  | ⟨1, _⟩ => simp [Rect.unit]

theorem ldRow_apply (k : Fin k0_t1_loop.trips) (f : BufTy.Contents (Elt Ideal) vD.ty) (b : Fin 1024) :
    ldRow k f (ix2 0 b) = vD.read (Elt Ideal) f (ix2 ⟨k.val, k.isLt.trans_eq trips_eq⟩ b) := by
  show View.read _ _ _ _ = _
  refine congrArg _ (funext fun a => Fin.ext ?_)
  match a with
  | ⟨0, _⟩ => simp [Rect.unit, off1 k]
  | ⟨1, _⟩ => simp [Rect.unit, off1 k]

variable (c : Dev nD) (t : Fin cfg0.N) (l l' : Vec Ideal S1x1x512 .f32) (G : BufTy.Contents (Elt Ideal) vD.ty)
  (G' : BufTy.Contents (Elt Ideal) vS.ty)

/-- The two scratch buffers before trip `k`, and as arrays: the state's row and the drive's rows. -/
abbrev bufS (k : ℕ) : BufTy.Contents (Elt Ideal) vS.ty := vS.writes (Elt Ideal) G' (pcs c t l l' G G' k).2
abbrev bufD (k : ℕ) : BufTy.Contents (Elt Ideal) vD.ty := vD.writes (Elt Ideal) G (pcs c t l l' G G' k).1
abbrev stateRow (k : ℕ) : Vec Ideal S1x1024 .f32 := vS.read (Elt Ideal) (bufS c t l l' G G' k)
abbrev rows (k : ℕ) : Vec Ideal S256x1024 .f32 := vD.read (Elt Ideal) (bufD c t l l' G G' k)

/-- What one trip writes over the state's row covers it, whatever was there. -/
theorem trip_payload (B : BufTy.Contents (Elt Ideal) vS.ty) (k : Fin k0_t1_loop.trips) (a : Fin 512) :
    vS.read (Elt Ideal) (vS.writes (Elt Ideal) B (pcs c t l l' G G' (k.val + 1)).2) (ix2 0 (re a))
        = k0_pay8 l l' (ldRe (bufS c t l l' G G' k.val)) (ldIm (bufS c t l l' G G' k.val)) (ldRow k (bufD c t l l' G G' k.val)) (ix2 0 a)
      ∧ vS.read (Elt Ideal) (vS.writes (Elt Ideal) B (pcs c t l l' G G' (k.val + 1)).2) (ix2 0 (im a))
        = k0_pay9 l l' (ldRe (bufS c t l l' G G' k.val)) (ldIm (bufS c t l l' G G' k.val)) (ldRow k (bufD c t l l' G G' k.val)) (ix2 0 a) := by
  unfold bufS bufD pcs
  rw [pb_k0_t1_succ]
  dsimp only [tripL_k0_t1]
  unfold trip_k0_t1
  dsimp only
  constructor
  · rw [List.cons_append, View.read_writes_cons_unit_of_not_mem _ _ _ _ _ _ rfl 1 (Or.inl (by show a.val < 512; omega)),
      List.cons_append, View.read_writes_cons_unit_of_mem _ _ _ _ _ _ (ix2 0 a) rfl (by intro b; match b with | ⟨0, _⟩ => rfl | ⟨1, _⟩ => exact (Nat.zero_add _).symm)]
  · rw [List.cons_append, View.read_writes_cons_unit_of_mem _ _ _ _ _ _ (ix2 0 a) rfl (by intro b; match b with | ⟨0, _⟩ => rfl | ⟨1, _⟩ => rfl)]

/-- What one trip leaves in the state's row. -/
theorem trip_state (k : Fin k0_t1_loop.trips) (a : Fin 512) :
    stateRow c t l l' G G' (k.val + 1) (ix2 0 (re a))
        = l (ix3 0 0 a) * stateRow c t l l' G G' k.val (ix2 0 (re a)) - l' (ix3 0 0 a) * stateRow c t l l' G G' k.val (ix2 0 (im a))
          + rows c t l l' G G' k.val (ix2 ⟨k.val, k.isLt.trans_eq trips_eq⟩ (re a))
      ∧ stateRow c t l l' G G' (k.val + 1) (ix2 0 (im a))
        = l (ix3 0 0 a) * stateRow c t l l' G G' k.val (ix2 0 (im a)) + l' (ix3 0 0 a) * stateRow c t l l' G G' k.val (ix2 0 (re a))
          + rows c t l l' G G' k.val (ix2 ⟨k.val, k.isLt.trans_eq trips_eq⟩ (im a)) := by
  have h := trip_payload c t l l' G G' G' k a
  unfold stateRow
  rw [h.1, h.2, pay_re, pay_im, ldRe_apply, ldIm_apply, ldRow_apply, ldRow_apply]
  exact ⟨rfl, rfl⟩

/-- A trip replaces row `k` of the drive by the state before it. -/
theorem trip_row (k : Fin k0_t1_loop.trips) (a : Fin 512) :
    rows c t l l' G G' (k.val + 1) (ix2 ⟨k.val, k.isLt.trans_eq trips_eq⟩ (re a)) = stateRow c t l l' G G' k.val (ix2 0 (re a))
      ∧ rows c t l l' G G' (k.val + 1) (ix2 ⟨k.val, k.isLt.trans_eq trips_eq⟩ (im a)) = stateRow c t l l' G G' k.val (ix2 0 (im a)) := by
  suffices h : rows c t l l' G G' (k.val + 1) (ix2 ⟨k.val, k.isLt.trans_eq trips_eq⟩ (re a)) = ldRe (bufS c t l l' G G' k.val) (ix2 0 a)
      ∧ rows c t l l' G G' (k.val + 1) (ix2 ⟨k.val, k.isLt.trans_eq trips_eq⟩ (im a)) = ldIm (bufS c t l l' G G' k.val) (ix2 0 a) by
    rw [h.1, h.2, ldRe_apply, ldIm_apply]
    exact ⟨rfl, rfl⟩
  unfold rows bufD pcs
  rw [pb_k0_t1_succ]
  dsimp only [tripL_k0_t1]
  unfold trip_k0_t1
  dsimp only
  constructor
  · rw [List.cons_append, View.read_writes_cons_unit_of_not_mem _ _ _ _ _ _ (off3 k) 1 (Or.inl (by show a.val < 512; omega)),
      List.cons_append, View.read_writes_cons_unit_of_mem _ _ _ _ _ _ (ix2 0 a) (off2 k) (by intro b; match b with | ⟨0, _⟩ => rfl | ⟨1, _⟩ => exact (Nat.zero_add _).symm)]
    exact pay10_apply _ a
  · rw [List.cons_append, View.read_writes_cons_unit_of_mem _ _ _ _ _ _ (ix2 0 a) (off3 k) (by intro b; match b with | ⟨0, _⟩ => rfl | ⟨1, _⟩ => rfl)]
    exact pay11_apply _ a

/-- and leaves the other rows. -/
theorem trip_other (k : Fin k0_t1_loop.trips) (r : Fin 256) (hr : r.val ≠ k.val) (q : Fin 1024) :
    rows c t l l' G G' (k.val + 1) (ix2 r q) = rows c t l l' G G' k.val (ix2 r q) := by
  have hne : r.val < k.val ∨ k.val + 1 ≤ r.val := by omega
  unfold rows bufD pcs
  rw [pb_k0_t1_succ]
  dsimp only [tripL_k0_t1]
  unfold trip_k0_t1
  dsimp only
  rw [List.cons_append, View.read_writes_cons_unit_of_not_mem _ _ _ _ _ _ (off3 k) 0 hne,
      List.cons_append, View.read_writes_cons_unit_of_not_mem _ _ _ _ _ _ (off2 k) 0 hne, List.nil_append]

/-- The loop's invariant. Before trip `k` the state's row holds every lane's state; the rows of the drive already
    passed hold the states before them, the others the drive. -/
theorem before_trip (D : Vec Ideal S256x1024 .f32) (s : Vec Ideal S1x1024 .f32) (hD : vD.read (Elt Ideal) G = D) (hs : vS.read (Elt Ideal) G' = s) :
    ∀ k : ℕ, k ≤ 256 →
      (∀ a : Fin 512, stateRow c t l l' G G' k (ix2 0 (re a)) = (state l l' D s a k).1 ∧ stateRow c t l l' G G' k (ix2 0 (im a)) = (state l l' D s a k).2)
        ∧ ∀ r : Fin 256, (r.val < k → ∀ a : Fin 512, rows c t l l' G G' k (ix2 r (re a)) = (state l l' D s a r.val).1
              ∧ rows c t l l' G G' k (ix2 r (im a)) = (state l l' D s a r.val).2)
            ∧ (k ≤ r.val → ∀ q, rows c t l l' G G' k (ix2 r q) = D (ix2 r q))
  | 0, _ => by
    subst hD hs
    exact ⟨fun a => ⟨rfl, rfl⟩, fun r => ⟨fun h => absurd h (Nat.not_lt_zero _), fun _ q => rfl⟩⟩
  | k + 1, h => by
    obtain ⟨ih, ihr⟩ := before_trip D s hD hs k (by omega)
    have hk : k < k0_t1_loop.trips := trips_eq ▸ h
    refine ⟨fun a => ?_, fun r => ⟨fun hr a => ?_, fun hr q => ?_⟩⟩
    · have e := trip_state c t l l' G G' ⟨k, hk⟩ a
      dsimp only at e
      rw [e.1, e.2, (ih a).1, (ih a).2, (ihr ⟨k, h⟩).2 le_rfl, (ihr ⟨k, h⟩).2 le_rfl]
      have d : ∀ q, D (ix2 ⟨k, h⟩ q) = lane D q k := fun q => by simp [lane, show k < 256 from h]
      rw [d, d]
      exact ⟨rfl, rfl⟩
    · by_cases hrk : r.val = k
      · have e := trip_row c t l l' G G' ⟨k, hk⟩ a
        dsimp only at e
        obtain rfl : r = ⟨k, h⟩ := Fin.ext hrk
        rw [e.1, e.2]
        exact ih a
      · have e := trip_other c t l l' G G' ⟨k, hk⟩ r hrk
        dsimp only at e
        rw [e, e]
        exact (ihr r).1 (by omega) a
    · have e := trip_other c t l l' G G' ⟨k, hk⟩ r (by show r.val ≠ k; omega) q
      dsimp only at e
      rw [e]
      exact (ihr r).2 (by omega) q

/-- After the loop: the state's row, also as the last writes alone make it, and the rows. -/
theorem after_loop (D : Vec Ideal S256x1024 .f32) (s : Vec Ideal S1x1024 .f32) (hD : vD.read (Elt Ideal) G = D) (hs : vS.read (Elt Ideal) G' = s) :
    (∀ q, stateRow c t l l' G G' 256 (ix2 0 q) = cols (fun a => state l l' D s a 256) q)
      ∧ (∀ q, View.canon (pcs c t l l' G G' 256).2 (ix2 0 q) = cols (fun a => state l l' D s a 256) q)
      ∧ ∀ r q, rows c t l l' G G' 256 (ix2 r q) = cols (fun a => state l l' D s a r.val) q := by
  obtain ⟨h, hr⟩ := before_trip c t l l' G G' D s hD hs 256 le_rfl
  have hq : ∀ q, stateRow c t l l' G G' 256 (ix2 0 q) = cols (fun a => state l l' D s a 256) q := fun q => by
    obtain ⟨a, rfl⟩ | ⟨a, rfl⟩ := re_or_im q
    · rw [cols_re]; exact (h a).1
    · rw [cols_im]; exact (h a).2
  refine ⟨hq, fun q => (Eq.trans ?_ (hq q)), fun r q => ?_⟩
  · rw [← View.read_writes_junk_eq_canon vS]
    obtain ⟨a, rfl⟩ | ⟨a, rfl⟩ := re_or_im q
    · exact (trip_payload c t l l' G G' _ ⟨255, by rw [trips_eq]; decide⟩ a).1.trans (trip_payload c t l l' G G' G' ⟨255, by rw [trips_eq]; decide⟩ a).1.symm
    · exact (trip_payload c t l l' G G' _ ⟨255, by rw [trips_eq]; decide⟩ a).2.trans (trip_payload c t l l' G G' G' ⟨255, by rw [trips_eq]; decide⟩ a).2.symm
  · obtain ⟨a, rfl⟩ | ⟨a, rfl⟩ := re_or_im q
    · rw [cols_re]; exact ((hr r).1 r.isLt a).1
    · rw [cols_im]; exact ((hr r).1 r.isLt a).2

end Cert.KernelIdeal.S5
end
-- ==== Proof.S5Value.lean ====
/-
  The S5 scan: what its two result arrays end holding. Sixteen grid points run plane by plane, four blocks of 256
  positions each; the state's row is carried from block to block and reset to the given initial state at the first one.
-/
module

public import proofs.«01_k».proof.Proof.Gen.KernelIdeal.Value
public import proofs.«01_k».proof.Proof.S5Loop
public import Idealize.ShloMosaic.Lib.Pipeline.ValueKit
public import Idealize.ShloMosaic.Lib.Pipeline.ReadBack

@[expose] public section

set_option maxRecDepth 16384

noncomputable section

namespace Cert.KernelIdeal.S5

open Idealize.ShloMosaic Idealize.ShloMosaic.TcCoe Idealize.SL.Sem
open Idealize.ShloMosaic.Pipeline (Dat)
open Cert.KernelIdeal Cert.KernelIdeal.Gen Cert.S5

variable (m : (ℓ : Loc nD τ sig) → Buf (Elt Ideal) ℓ)

/-- The windows' block indices: the plane is `t / 4`, the block of positions `t % 4`. -/
theorem idx_val : ∀ t : Fin cfg0.N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val / 4, t.val % 4, 0] ∧ win0_7.index t = ![t.val / 4, 0, 0] :=
  (by decide +kernel : ∀ t : Fin grid0.N, _)

theorem lt_N (t : Fin cfg0.N) : t.val < 16 := lt_of_lt_of_eq t.isLt (show cfg0.N = 16 from N_0)

/-- The plane of point `t`, and the position of row `r` of its block. -/
abbrev plane (t : Fin cfg0.N) : Fin 4 := ⟨t.val / 4, by have := lt_N t; omega⟩
abbrev pos (t : Fin cfg0.N) (r : Fin 256) : Fin 1024 := ⟨t.val % 4 * 256 + r.val, by omega⟩

/-- The arguments, as functions. -/
abbrev aU (c : Dev nD) (j : Fin 4) (n : Fin 1024) (k : Fin 2048) : EReal := (show FVec Ideal S4x1024x2048 .f32 from m (c.tc.loc main_arg0)) (ix3 j n k)
abbrev aIn (c : Dev nD) (j : Fin 4) (k : Fin 2048) (q : Fin 1024) : EReal := (show FVec Ideal S4x2048x1024 .bf16 from m (c.tc.loc main_arg1)) (ix3 j k q)
abbrev aOut (c : Dev nD) (j : Fin 4) (q : Fin 1024) (o : Fin 2048) : EReal := (show FVec Ideal S4x1024x2048 .bf16 from m (c.tc.loc main_arg2)) (ix3 j q o)
abbrev aT (c : Dev nD) (j : Fin 4) (k o : Fin 2048) : EReal := (show FVec Ideal S4x2048x2048 .bf16 from m (c.tc.loc main_arg3)) (ix3 j k o)
abbrev aL (c : Dev nD) (j : Fin 4) (q : Fin 1024) : EReal := (show FVec Ideal S4x8x1024 .f32 from m (c.tc.loc main_arg4)) (ix3 j 0 q)
abbrev aH (c : Dev nD) (j : Fin 4) (q : Fin 1024) : EReal := (show FVec Ideal S4x8x1024 .f32 from m (c.tc.loc main_arg5)) (ix3 j 0 q)

variable (c : Dev nD)

theorem blk_u (t : Fin cfg0.N) (r : Fin 256) (k : Fin 2048) :
    (show FVec Ideal S1x256x2048 .f32 from iblk m c 0 t) (ix3 0 r k) = aU m c (plane t) (pos t r) k := by
  blk_ext [iblk, V, idx_val t]
theorem blk_in (t : Fin cfg0.N) (k : Fin 2048) (q : Fin 1024) :
    (show FVec Ideal S1x2048x1024 .bf16 from iblk m c 1 t) (ix3 0 k q) = aIn m c (plane t) k q := by
  blk_ext [iblk, V, idx_val t]
theorem blk_out (t : Fin cfg0.N) (q : Fin 1024) (o : Fin 2048) :
    (show FVec Ideal S1x1024x2048 .bf16 from iblk m c 2 t) (ix3 0 q o) = aOut m c (plane t) q o := by
  blk_ext [iblk, V, idx_val t]
theorem blk_t (t : Fin cfg0.N) (k o : Fin 2048) :
    (show FVec Ideal S1x2048x2048 .bf16 from iblk m c 3 t) (ix3 0 k o) = aT m c (plane t) k o := by
  blk_ext [iblk, V, idx_val t]
theorem blk_l (t : Fin cfg0.N) (q : Fin 1024) :
    (show FVec Ideal S1x8x1024 .f32 from iblk m c 4 t) (ix3 0 0 q) = aL m c (plane t) q := by
  blk_ext [iblk, V, idx_val t]
theorem blk_h (t : Fin cfg0.N) (q : Fin 1024) :
    (show FVec Ideal S1x8x1024 .f32 from iblk m c 5 t) (ix3 0 0 q) = aH m c (plane t) q := by
  blk_ext [iblk, V, idx_val t]

/-- The multiplier's halves, the initial state and the drive, as a point holds them. -/
abbrev lR (t : Fin cfg0.N) : Vec Ideal S1x1x512 .f32 :=
  View.ld (iblk m c 4 t) (Rect.unit (s := S1x8x1024) ![0, 0, 0] S1x1x512.size inb_S1x8x1024_S1x1x512_0_0_0)
abbrev lI (t : Fin cfg0.N) : Vec Ideal S1x1x512 .f32 :=
  View.ld (iblk m c 4 t) (Rect.unit (s := S1x8x1024) ![0, 0, 512] S1x1x512.size inb_S1x8x1024_S1x1x512_0_0_512)
abbrev first (t : Fin cfg0.N) : Vec Ideal S1x1024 .f32 :=
  k0_pay3 (F := Ideal) (View.ld (iblk m c 5 t) (Rect.unit (s := S1x8x1024) ![0, 0, 0] S1x1x1024.size inb_S1x8x1024_S1x1x1024_0_0_0))
abbrev drv (t : Fin cfg0.N) : Vec Ideal S256x1024 .f32 := k0_pay5 (F := Ideal) (iblk m c 0 t) (iblk m c 1 t)

theorem lR_apply (t : Fin cfg0.N) (a : Fin 512) : lR m c t (ix3 0 0 a) = aL m c (plane t) (re a) := by
  rw [← blk_l]
  exact View.ld_unit_apply_of (Val := Elt Ideal) (e := .f32) (S := S1x8x1024) (iblk m c 4 t) ![0, 0, 0] S1x1x512.size inb_S1x8x1024_S1x1x512_0_0_0 (ix3 0 0 a) (ix3 0 0 (re a))
    (by intro b; match b with | ⟨0, _⟩ => rfl | ⟨1, _⟩ => rfl | ⟨2, _⟩ => exact (Nat.zero_add _).symm)
theorem lI_apply (t : Fin cfg0.N) (a : Fin 512) : lI m c t (ix3 0 0 a) = aL m c (plane t) (im a) := by
  rw [← blk_l]
  exact View.ld_unit_apply_of (Val := Elt Ideal) (e := .f32) (S := S1x8x1024) (iblk m c 4 t) ![0, 0, 512] S1x1x512.size inb_S1x8x1024_S1x1x512_0_0_512 (ix3 0 0 a) (ix3 0 0 (im a))
    (by intro b; match b with | ⟨0, _⟩ => rfl | ⟨1, _⟩ => rfl | ⟨2, _⟩ => rfl)

theorem pay3_apply (x : Vec Ideal S1x1x1024 .f32) (q : Fin 1024) : k0_pay3 (F := Ideal) x (ix2 0 q) = x (ix3 0 0 q) := by
  pointwise [k0_pay3]
theorem first_apply (t : Fin cfg0.N) (q : Fin 1024) : first m c t (ix2 0 q) = aH m c (plane t) q := by
  rw [← blk_h, first, pay3_apply]
  exact View.ld_unit_apply_of (Val := Elt Ideal) (e := .f32) (S := S1x8x1024) (iblk m c 5 t) ![0, 0, 0] S1x1x1024.size inb_S1x8x1024_S1x1x1024_0_0_0 (ix3 0 0 q) (ix3 0 0 q)
    (by intro b; match b with | ⟨0, _⟩ => rfl | ⟨1, _⟩ => rfl | ⟨2, _⟩ => exact (Nat.zero_add _).symm)

theorem pay5_apply (u : Vec Ideal S1x256x2048 .f32) (w : Vec Ideal S1x2048x1024 .bf16) (r : Fin 256) (q : Fin 1024) :
    k0_pay5 (F := Ideal) u w (ix2 r q) = ∑ k : Fin 2048, u (ix3 0 r k) * w (ix3 0 k q) := by
  pointwise [k0_pay5, k0_pay4]

theorem drv_apply (t : Fin cfg0.N) (q : Fin 1024) (r : Fin 256) :
    drv m c t (ix2 r q) = drive (aU m c) (aIn m c) (plane t) q (t.val % 4 * 256 + r.val) := by
  rw [drv, pay5_apply, drive, dif_pos (pos t r).isLt]
  exact Finset.sum_congr rfl fun k _ => congrArg₂ _ (blk_u m c t r k) (blk_in m c t k q)

/-- A point's output: the states' rows read out, plus the block's tokens through the direct matrix. -/
theorem out_apply (u : Vec Ideal S1x256x2048 .f32) (x : Vec Ideal S256x1024 .f32) (w : Vec Ideal S1x1024x2048 .bf16) (v : Vec Ideal S1x2048x2048 .bf16)
    (r : Fin 256) (o : Fin 2048) :
    k0_pay1 (F := Ideal) (k0_pay4 u) (k0_pay12 x w) (k0_pay13 v) (constant S256x2048 FTy.f32 0#32) (ix3 0 r o)
      = (∑ q : Fin 1024, x (ix2 r q) * w (ix3 0 q o)) + ∑ k : Fin 2048, u (ix3 0 r k) * v (ix3 0 k o) := by
  pointwise [k0_pay1, k0_pay4, k0_pay12, k0_pay13]

theorem pay2_apply (x : Vec Ideal S1x1024 .f32) (i : Fin 8) (q : Fin 1024) : k0_pay2 (F := Ideal) x (ix3 0 i q) = x (ix2 0 q) := by
  pointwise [k0_pay2]

/-- The states of the arguments' recurrence. -/
abbrev lanes (j : Fin 4) (n : ℕ) : Fin 512 → EReal × EReal := laneState (aU m c) (aIn m c) (aL m c) (aH m c) j n

/-- A block's states are the recurrence's at the block's positions, once it starts from the state before its first. -/
theorem state_block (t : Fin cfg0.N) (s : Vec Ideal S1x1024 .f32) (hs : ∀ q, s (ix2 0 q) = cols (lanes m c (plane t) (t.val % 4 * 256)) q)
    (a : Fin 512) (n : ℕ) (hn : n ≤ 256) :
    state (lR m c t) (lI m c t) (drv m c t) s a n = lanes m c (plane t) (t.val % 4 * 256 + n) a := by
  have hl : ∀ q, ∀ k < n, lane (drv m c t) q k = drive (aU m c) (aIn m c) (plane t) q (t.val % 4 * 256 + k) := fun q k hk => by
    have hk : k < 256 := by omega
    exact (dif_pos hk).trans (drv_apply m c t q ⟨k, hk⟩)
  unfold state lanes laneState
  rw [← orbit_add, lR_apply, lI_apply, hs, hs, cols_re, cols_im]
  exact orbit_congr _ _ _ _ _ _ _ n (hl _) (hl _)

/-- The drive's scratch when the loop starts. -/
abbrev G0 (t : Fin cfg0.N) : BufTy.Contents (Elt Ideal) vD.ty :=
  vD.writes (Elt Ideal) vD.junk [⟨Rect.unit ![0, 0] ![256, 1024] inb_S256x1024_S256x1024_0_0, drv m c t⟩]

theorem drive_stored (D : Vec Ideal S256x1024 .f32) :
    vD.read (Elt Ideal) (vD.writes (Elt Ideal) vD.junk [⟨Rect.unit ![0, 0] ![256, 1024] inb_S256x1024_S256x1024_0_0, D⟩]) = D := by
  funext y
  idx_vars y
  exact View.read_writes_cons_unit_of_mem (s := S256x1024) vD _ inb_S256x1024_S256x1024_0_0 D [] (ix2 y0 y1) (ix2 y0 y1) rfl
    (by intro b; match b with | ⟨0, _⟩ => exact (Nat.zero_add _).symm | ⟨1, _⟩ => exact (Nat.zero_add _).symm)

theorem G0_read (t : Fin cfg0.N) : vD.read (Elt Ideal) (G0 m c t) = drv m c t := drive_stored _

/-- The rows the read-out takes. -/
theorem rows_read (t : Fin cfg0.N) (G' : BufTy.Contents (Elt Ideal) vS.ty) :
    vD.readCov ((pcs c t (lR m c t) (lI m c t) (G0 m c t) G' 256).1 ++ [⟨Rect.unit ![0, 0] ![256, 1024] inb_S256x1024_S256x1024_0_0, drv m c t⟩])
        (Rect.unit ![0, 0] ![256, 1024] inb_S256x1024_S256x1024_0_0).toLoadRect
      = rows c t (lR m c t) (lI m c t) (G0 m c t) G' 256 := by
  rw [View.readCov_eq_canon', ← View.read_writes_junk_eq_canon vD, View.writes_append]
  funext y
  idx_vars y
  show rows c t (lR m c t) (lI m c t) (G0 m c t) G' 256 _ = _
  refine congrArg _ (funext fun a => Fin.ext ?_)
  match a with
  | ⟨0, _⟩ => simp [Rect.unit]
  | ⟨1, _⟩ => simp [Rect.unit]

theorem trips256 : Scf.trips (0#32) (Scalar.addi 0#32 256#32) 1#32 = 256 := trips_eq

/-- The output block, from what the loop starts with. -/
theorem block_out (t : Fin cfg0.N) (G' : BufTy.Contents (Elt Ideal) vS.ty)
    (hs : ∀ q, vS.read (Elt Ideal) G' (ix2 0 q) = cols (lanes m c (plane t) (t.val % 4 * 256)) q) (r : Fin 256) (o : Fin 2048) :
    k0_pay1 (F := Ideal) (k0_pay4 (iblk m c 0 t)) (k0_pay12 (rows c t (lR m c t) (lI m c t) (G0 m c t) G' 256) (iblk m c 2 t)) (k0_pay13 (iblk m c 3 t))
        (constant S256x2048 FTy.f32 0#32) (ix3 0 r o)
      = output (aU m c) (aIn m c) (aOut m c) (aT m c) (aL m c) (aH m c) (plane t) (pos t r) o := by
  rw [out_apply, output]
  refine congrArg₂ _ (Finset.sum_congr rfl fun q _ => ?_) (Finset.sum_congr rfl fun k _ => congrArg₂ _ (blk_u m c t r k) (blk_t m c t k o))
  rw [(after_loop c t (lR m c t) (lI m c t) (G0 m c t) G' _ _ (G0_read m c t) rfl).2.2 r q]
  refine congrArg₂ _ (congrFun (congrArg cols (funext fun a => ?_)) q) (blk_out m c t q o)
  exact state_block m c t _ hs a r.val r.isLt.le

/-- The state's row after the loop, in the two forms it is left in. -/
theorem block_state (t : Fin cfg0.N) (G' : BufTy.Contents (Elt Ideal) vS.ty)
    (hs : ∀ q, vS.read (Elt Ideal) G' (ix2 0 q) = cols (lanes m c (plane t) (t.val % 4 * 256)) q) (q : Fin 1024) :
    stateRow c t (lR m c t) (lI m c t) (G0 m c t) G' 256 (ix2 0 q) = cols (lanes m c (plane t) (t.val % 4 * 256 + 256)) q
      ∧ View.canon (pcs c t (lR m c t) (lI m c t) (G0 m c t) G' 256).2 (ix2 0 q) = cols (lanes m c (plane t) (t.val % 4 * 256 + 256)) q := by
  obtain ⟨h1, h2, -⟩ := after_loop c t (lR m c t) (lI m c t) (G0 m c t) G' _ _ (G0_read m c t) rfl
  rw [h1, h2, show (fun a => state (lR m c t) (lI m c t) (drv m c t) (vS.read (Elt Ideal) G') a 256) = lanes m c (plane t) (t.val % 4 * 256 + 256) from
    funext fun a => state_block m c t _ hs a 256 le_rfl]
  exact ⟨rfl, rfl⟩

/-- The state's scratch at the start of a plane. -/
abbrev S0 (t : Fin cfg0.N) : BufTy.Contents (Elt Ideal) vS.ty :=
  vS.writes (Elt Ideal) vS.junk [⟨Rect.unit ![0, 0] ![1, 1024] inb_S1x1024_S1x1024_0_0, first m c t⟩]

theorem S0_read (t : Fin cfg0.N) (h0 : t.val % 4 = 0) (q : Fin 1024) :
    vS.read (Elt Ideal) (S0 m c t) (ix2 0 q) = cols (lanes m c (plane t) (t.val % 4 * 256)) q := by
  refine (View.read_writes_cons_unit_of_mem _ _ _ _ _ _ (ix2 0 q) rfl (by intro b; match b with | ⟨0, _⟩ => rfl | ⟨1, _⟩ => exact (Nat.zero_add _).symm)).trans ?_
  rw [first_apply, h0, Nat.zero_mul]
  obtain ⟨a, rfl⟩ | ⟨a, rfl⟩ := re_or_im q
  · rw [cols_re]; rfl
  · rw [cols_im]; rfl

theorem carry_A (t : Fin cfg0.N) (h0 : t.val % 4 = 0) (h1 : ¬ t.val % 4 = 3) (q : Fin 1024) :
    (outsAt0 m c t.val t.isLt).2.2 (ix2 0 q) = cols (lanes m c (plane t) (t.val % 4 * 256 + 256)) q := by
  rw [outsAt0_A m c t h0 h1]
  frame_out
  rw [trips256, ← View.read_writes_junk_eq_canon vS, View.writes_append]
  exact (block_state m c t (S0 m c t) (S0_read m c t h0) q).1

theorem out_A (t : Fin cfg0.N) (h0 : t.val % 4 = 0) (h1 : ¬ t.val % 4 = 3) (r : Fin 256) (o : Fin 2048) :
    (outsAt0 m c t.val t.isLt).1 (ix3 0 r o) = output (aU m c) (aIn m c) (aOut m c) (aT m c) (aL m c) (aH m c) (plane t) (pos t r) o := by
  rw [outsAt0_A m c t h0 h1]
  frame_out
  rw [trips256]
  erw [rows_read m c t (S0 m c t)]
  exact block_out m c t (S0 m c t) (S0_read m c t h0) r o

/-- The state's scratch at a later block of a plane: what the block before left. -/
theorem unread_row (x : Vec Ideal S1x1024 .f32) (h : (Memref.whole cc0_scratch1).IsWhole) : vS.read (Elt Ideal) (h.unread x) = x :=
  read_unread_whole _ _ _

/-- What a point leaves as the carried state. -/
def Carried (t : Fin cfg0.N) : Prop :=
  ∀ q, (outsAt0 m c t.val t.isLt).2.2 (ix2 0 q) = cols (lanes m c (plane t) (t.val % 4 * 256 + 256)) q

/-- The carried state is where the next block of the plane starts. -/
theorem Carried.next (t : Fin cfg0.N) (h0 : ¬ t.val % 4 = 0) (h : Carried m c ⟨t.val - 1, by have := lt_N t; omega⟩) (q : Fin 1024) :
    (outsAt0 m c (t.val - 1) (by omega)).2.2 (ix2 0 q) = cols (lanes m c (plane t) (t.val % 4 * 256)) q := by
  have e := h q
  have e1 : plane ⟨t.val - 1, by have := lt_N t; omega⟩ = plane t := Fin.ext (by show (t.val - 1) / 4 = t.val / 4; omega)
  have e2 : (t.val - 1) % 4 * 256 + 256 = t.val % 4 * 256 := by omega
  dsimp only at e
  rw [e1, e2] at e
  exact e

theorem carry_B (t : Fin cfg0.N) (h0 : ¬ t.val % 4 = 0) (h1 : ¬ t.val % 4 = 3)
    (h : ∀ q, (outsAt0 m c (t.val - 1) (by omega)).2.2 (ix2 0 q) = cols (lanes m c (plane t) (t.val % 4 * 256)) q) : Carried m c t := fun q => by
  rw [outsAt0_B m c t h0 h1]
  frame_out
  rw [trips256]
  exact (block_state m c t _ (fun q => (congrFun (unread_row _ _) _).trans (h q)) q).2

theorem carry_C (t : Fin cfg0.N) (h0 : ¬ t.val % 4 = 0) (h1 : t.val % 4 = 3)
    (h : ∀ q, (outsAt0 m c (t.val - 1) (by omega)).2.2 (ix2 0 q) = cols (lanes m c (plane t) (t.val % 4 * 256)) q) : Carried m c t := fun q => by
  rw [outsAt0_C m c t h0 h1]
  frame_out
  rw [trips256]
  exact (block_state m c t _ (fun q => (congrFun (unread_row _ _) _).trans (h q)) q).2

theorem carried : ∀ (n : ℕ) (hn : n < cfg0.N), Carried m c ⟨n, hn⟩
  | 0, hn => carry_A m c ⟨0, hn⟩ rfl (by show ¬ 0 % 4 = 3; decide)
  | n + 1, hn => by
    by_cases h0 : (n + 1) % 4 = 0
    · exact carry_A m c ⟨n + 1, hn⟩ h0 (by show ¬ (n + 1) % 4 = 3; omega)
    · have hp := Carried.next m c ⟨n + 1, hn⟩ h0 (carried n (by omega))
      by_cases h1 : (n + 1) % 4 = 3
      · exact carry_C m c ⟨n + 1, hn⟩ h0 h1 hp
      · exact carry_B m c ⟨n + 1, hn⟩ h0 h1 hp

/-- So a later block starts from the state before its first position. -/
theorem entry (t : Fin cfg0.N) (h0 : ¬ t.val % 4 = 0) (q : Fin 1024) :
    (outsAt0 m c (t.val - 1) (by omega)).2.2 (ix2 0 q) = cols (lanes m c (plane t) (t.val % 4 * 256)) q :=
  Carried.next m c t h0 (carried m c _ _) q

/-- Every point's output block. -/
theorem out_apply_at (t : Fin cfg0.N) (r : Fin 256) (o : Fin 2048) :
    (outsAt0 m c t.val t.isLt).1 (ix3 0 r o) = output (aU m c) (aIn m c) (aOut m c) (aT m c) (aL m c) (aH m c) (plane t) (pos t r) o := by
  by_cases h0 : t.val % 4 = 0
  · exact out_A m c t h0 (by omega) r o
  · by_cases h1 : t.val % 4 = 3
    · rw [outsAt0_C m c t h0 h1]
      frame_out
      rw [trips256]
      erw [rows_read m c t]
      exact block_out m c t _ (fun q => (congrFun (unread_row _ _) _).trans (entry m c t h0 q)) r o
    · rw [outsAt0_B m c t h0 h1]
      frame_out
      rw [trips256]
      erw [rows_read m c t]
      exact block_out m c t _ (fun q => (congrFun (unread_row _ _) _).trans (entry m c t h0 q)) r o

/-- The last block of a plane puts the final state out, in all eight rows. -/
theorem last_apply (t : Fin cfg0.N) (h1 : t.val % 4 = 3) (i : Fin 8) (q : Fin 1024) :
    (outsAt0 m c t.val t.isLt).2.1 (ix3 0 i q) = cols (lanes m c (plane t) 1024) q := by
  have h0 : ¬ t.val % 4 = 0 := by omega
  rw [outsAt0_C m c t h0 h1]
  frame_out
  rw [trips256, pay2_apply]
  refine (block_state m c t _ (fun q => (congrFun (unread_row _ _) _).trans (entry m c t h0 q)) q).1.trans ?_
  rw [h1]

/-- The two result arrays. -/
theorem final_out :
    (dats m 0 c).arrAt 6 cfg0.N = outputs (m (c.tc.loc main_arg0)) (m (c.tc.loc main_arg1)) (m (c.tc.loc main_arg2))
      (m (c.tc.loc main_arg3)) (m (c.tc.loc main_arg4)) (m (c.tc.loc main_arg5)) := by
  refine (dats m 0 c).arrAt_eq_of_covers 6 _ (by decide +kernel) fun t hf y => ?_
  idx_vars y
  blk_simp
  rw [after0_6]
  obtain rfl : y0 = 0 := Subsingleton.elim _ _
  have e : (win0_6.blk t).view.emb (ix3 0 y1 y2) = (ix3 (plane t) (pos t y1) y2 : S4x1024x2048.Idx) := by
    blk_ext [idx_val t]
  rw [e]
  exact out_apply_at m c t y1 y2

theorem final_state :
    (dats m 0 c).arrAt 7 cfg0.N = finalState (m (c.tc.loc main_arg0)) (m (c.tc.loc main_arg1)) (m (c.tc.loc main_arg4)) (m (c.tc.loc main_arg5)) := by
  refine (dats m 0 c).arrAt_eq_of_covers 7 _ (by decide +kernel) fun t hf y => ?_
  idx_vars y
  blk_simp
  rw [after0_7]
  obtain rfl : y0 = 0 := Subsingleton.elim _ _
  have e : (win0_7.blk t).view.emb (ix3 0 y1 y2) = (ix3 (plane t) y1 y2 : S4x8x1024.Idx) := by
    blk_ext [idx_val t]
  rw [e]
  have h1 : t.val % 4 = 3 := (flush0_7 t).1 hf
  exact last_apply m c t h1 y1 y2

end Cert.KernelIdeal.S5
end
-- ==== Proof.S5Ref.lean ====
/-
  The S5 scan's reference: the recurrence position by position, then the read-out of the states it passed through.
-/
module

public import proofs.«01_k».proof.Proof.Gen.ReferenceIdeal.Run
public import Idealize.ShloMosaic.Lib.Tactic.CleanTypes
public import proofs.«01_k».proof.Proof.S5Spec

@[expose] public section

set_option maxRecDepth 16384

noncomputable section

namespace Cert.ReferenceIdeal.S5

open Idealize.ShloMosaic Idealize.ShloMosaic.TcCoe Idealize.SL.Sem Idealize.ShloMosaic.StableHlo
open Cert.ReferenceIdeal Cert.ReferenceIdeal.Gen Cert.ReferenceIdeal.Value Cert.S5

/-- Plane by plane, one row of a `[1024, 4, 1024]` array read at a word. -/
theorem row_read {α : Type} (x : S1024x4x1024.Idx → α) (start : Fin 3 → Int) (n : Fin 1024)
    (h : S1024x4x1024.Slices (fun _ => 0) S1x4x1024) (h0 : start 0 = n.val) (h1 : start 1 = 0) (h2 : start 2 = 0) (j : Fin 4) (q : Fin 1024) :
    Host.dynamicSlice S1x4x1024 x start h (ix3 0 j q) = x (ix3 n j q) := by
  unfold Host.dynamicSlice extractStridedSlice
  refine congrArg x (funext fun a => Fin.ext ?_)
  match a with
  | ⟨0, _⟩ =>
    show (min (max (start 0) 0) ((1024 - 1 : ℕ) : Int)).toNat + 0 = n.val
    rw [h0]; omega
  | ⟨1, _⟩ =>
    show (min (max (start 1) 0) ((4 - 4 : ℕ) : Int)).toNat + j.val = j.val
    rw [h1]; omega
  | ⟨2, _⟩ =>
    show (min (max (start 2) 0) ((1024 - 1024 : ℕ) : Int)).toNat + q.val = q.val
    rw [h2]; omega

/-- One row of it replaced at a word: the row at that word, -/
theorem row_write {α : Type} (x : S1024x4x1024.Idx → α) (u : S1x4x1024.Idx → α) (start : Fin 3 → Int) (n : Fin 1024)
    (h : S1024x4x1024.Slices (fun _ => 0) S1x4x1024) (h0 : start 0 = n.val) (h1 : start 1 = 0) (h2 : start 2 = 0) (j : Fin 4) (q : Fin 1024) :
    Host.dynamicUpdateSlice x u start h (ix3 n j q) = u (ix3 0 j q) := by
  unfold Host.dynamicUpdateSlice updateSlice
  have e0 : (min (max (start 0) 0) ((1024 - 1 : ℕ) : Int)).toNat = n.val := by rw [h0]; omega
  have e1 : (min (max (start 1) 0) ((4 - 4 : ℕ) : Int)).toNat = 0 := by rw [h1]; omega
  have e2 : (min (max (start 2) 0) ((1024 - 1024 : ℕ) : Int)).toNat = 0 := by rw [h2]; omega
  refine (dif_pos fun a => ?_).trans (congrArg u (funext fun a => Fin.ext ?_))
  · match a with
    | ⟨0, _⟩ =>
      show (min (max (start 0) 0) ((1024 - 1 : ℕ) : Int)).toNat ≤ n.val ∧ n.val < (min (max (start 0) 0) ((1024 - 1 : ℕ) : Int)).toNat + 1
      omega
    | ⟨1, _⟩ =>
      show (min (max (start 1) 0) ((4 - 4 : ℕ) : Int)).toNat ≤ j.val ∧ j.val < (min (max (start 1) 0) ((4 - 4 : ℕ) : Int)).toNat + 4
      omega
    | ⟨2, _⟩ =>
      show (min (max (start 2) 0) ((1024 - 1024 : ℕ) : Int)).toNat ≤ q.val ∧ q.val < (min (max (start 2) 0) ((1024 - 1024 : ℕ) : Int)).toNat + 1024
      omega
  · match a with
    | ⟨0, _⟩ => show n.val - (min (max (start 0) 0) ((1024 - 1 : ℕ) : Int)).toNat = 0; omega
    | ⟨1, _⟩ => show j.val - (min (max (start 1) 0) ((4 - 4 : ℕ) : Int)).toNat = j.val; omega
    | ⟨2, _⟩ => show q.val - (min (max (start 2) 0) ((1024 - 1024 : ℕ) : Int)).toNat = q.val; omega

/-- and the others as they were. -/
theorem row_keep {α : Type} (x : S1024x4x1024.Idx → α) (u : S1x4x1024.Idx → α) (start : Fin 3 → Int) (n r : Fin 1024) (hr : r ≠ n)
    (h : S1024x4x1024.Slices (fun _ => 0) S1x4x1024) (h0 : start 0 = n.val) (j : Fin 4) (q : Fin 1024) :
    Host.dynamicUpdateSlice x u start h (ix3 r j q) = x (ix3 r j q) := by
  unfold Host.dynamicUpdateSlice updateSlice
  refine dif_neg fun hall => hr (Fin.ext ?_)
  have e0 : (min (max (start 0) 0) ((1024 - 1 : ℕ) : Int)).toNat = n.val := by rw [h0]; omega
  have e : (min (max (start 0) 0) ((1024 - 1 : ℕ) : Int)).toNat ≤ r.val ∧ r.val < (min (max (start 0) 0) ((1024 - 1 : ℕ) : Int)).toNat + 1 := hall 0
  omega

variable (m : (ℓ : Loc nD τ sig) → Buf (Elt Ideal) ℓ) (c : Dev nD)

/-- The carried buffers before trip `k`. -/
abbrev Vk (k : ℕ) : Valuation τ sig (Elt Ideal) := STEP^[k] (entryContents preI m c)

theorem Vk_succ (k : ℕ) : Vk m c (k + 1) = STEP (Vk m c k) := Function.iterate_succ_apply' _ _ _

/-- The arguments, as functions. -/
abbrev aU (j : Fin 4) (n : Fin 1024) (k : Fin 2048) : EReal := (show FVec Ideal S4x1024x2048 .f32 from m (c.tc.loc main_arg0)) (ix3 j n k)
abbrev aIn (j : Fin 4) (k : Fin 2048) (q : Fin 1024) : EReal := (show FVec Ideal S4x2048x1024 .bf16 from m (c.tc.loc main_arg1)) (ix3 j k q)
abbrev aL (j : Fin 4) (q : Fin 1024) : EReal := (show FVec Ideal S4x8x1024 .f32 from m (c.tc.loc main_arg4)) (ix3 j 0 q)
abbrev aH (j : Fin 4) (q : Fin 1024) : EReal := (show FVec Ideal S4x8x1024 .f32 from m (c.tc.loc main_arg5)) (ix3 j 0 q)

/-- What the loop carries, as arrays. -/
abbrev drives (k : ℕ) : FVec Ideal S1024x4x1024 .f32 := Vk m c k (Proc.devRef .tc main_v12_0)
abbrev lamRe (k : ℕ) : FVec Ideal S4x512 .f32 := Vk m c k (Proc.devRef .tc main_v12_1)
abbrev lamIm (k : ℕ) : FVec Ideal S4x512 .f32 := Vk m c k (Proc.devRef .tc main_v12_2)
abbrev counter (k : ℕ) : IVec S_ 32 := Vk m c k (Proc.devRef .tc main_v12_3)
abbrev stRe (k : ℕ) : FVec Ideal S4x512 .f32 := Vk m c k (Proc.devRef .tc main_v12_4)
abbrev stIm (k : ℕ) : FVec Ideal S4x512 .f32 := Vk m c k (Proc.devRef .tc main_v12_5)
abbrev passed (k : ℕ) : FVec Ideal S1024x4x1024 .f32 := Vk m c k (Proc.devRef .tc main_v12_6)

theorem entry_drive (n : Fin 1024) (j : Fin 4) (q : Fin 1024) :
    drives m c 0 (ix3 n j q) = ∑ k : Fin 2048, aU m c j n k * aIn m c j k q := by
  have e : drives m c 0 = transpose S1024x4x1024 [2, 0, 1] (Host.dotGeneral dot_S4x2048x1024_S4x1024x2048_S4x1024x1024_1_2_2_1_0_0 none
      (extf FTy.f32 (show FVec Ideal S4x2048x1024 .bf16 from m (c.tc.loc main_arg1)) bitsLt_bf16_f32) (show FVec Ideal S4x1024x2048 .f32 from m (c.tc.loc main_arg0)))
      transposes_S4x1024x1024_S1024x4x1024_2_0_1 := by
    show (show FVec Ideal S1024x4x1024 .f32 from entryContents preI m c (Proc.devRef .tc main_v12_0)) = _
    simp only [entryContents, afterL_cons, afterL_nil]
    after_reads_simp
    rfl
  rw [e]
  pointwise []
  exact Finset.sum_congr rfl fun k _ => mul_comm _ _

theorem entry_lamRe (j : Fin 4) (a : Fin 512) : lamRe m c 0 (ix2 j a) = aL m c j (re a) := by
  show (show FVec Ideal S4x512 .f32 from entryContents preI m c (Proc.devRef .tc main_v12_1)) _ = _
  simp only [entryContents, afterL_cons, afterL_nil]
  after_reads_simp
  clean_types
  pointwise []
  rfl

theorem entry_lamIm (j : Fin 4) (a : Fin 512) : lamIm m c 0 (ix2 j a) = aL m c j (im a) := by
  show (show FVec Ideal S4x512 .f32 from entryContents preI m c (Proc.devRef .tc main_v12_2)) _ = _
  simp only [entryContents, afterL_cons, afterL_nil]
  after_reads_simp
  clean_types
  pointwise []
  rfl

theorem entry_stRe (j : Fin 4) (a : Fin 512) : stRe m c 0 (ix2 j a) = aH m c j (re a) := by
  show (show FVec Ideal S4x512 .f32 from entryContents preI m c (Proc.devRef .tc main_v12_4)) _ = _
  simp only [entryContents, afterL_cons, afterL_nil]
  after_reads_simp
  clean_types
  pointwise []
  rfl

theorem entry_stIm (j : Fin 4) (a : Fin 512) : stIm m c 0 (ix2 j a) = aH m c j (im a) := by
  show (show FVec Ideal S4x512 .f32 from entryContents preI m c (Proc.devRef .tc main_v12_5)) _ = _
  simp only [entryContents, afterL_cons, afterL_nil]
  after_reads_simp
  clean_types
  pointwise []
  rfl

/-- The drive and the multipliers stay, and the counter counts. -/
theorem drives_eq : ∀ k, drives m c k = drives m c 0
  | 0 => rfl
  | k + 1 => by rw [drives, Vk_succ, STEP_main_v12_0]; exact drives_eq k
theorem lamRe_eq : ∀ k, lamRe m c k = lamRe m c 0
  | 0 => rfl
  | k + 1 => by rw [lamRe, Vk_succ, STEP_main_v12_1]; exact lamRe_eq k
theorem lamIm_eq : ∀ k, lamIm m c k = lamIm m c 0
  | 0 => rfl
  | k + 1 => by rw [lamIm, Vk_succ, STEP_main_v12_2]; exact lamIm_eq k
theorem counter_eq : ∀ k, counter m c k = fun _ => BitVec.ofNat 32 k
  | 0 => ctr_entry m c
  | k + 1 => by
    rw [counter, Vk_succ, STEP_main_v12_3, step_main_v12_3]
    funext i
    show (counter m c k i : BitVec 32) + 1#32 = _
    rw [counter_eq k]
    exact (BitVec.ofNat_add ..).symm

/-- The word a trip's row is addressed by. -/
theorem start_eq (k : ℕ) (hk : k < 1024) (a : Fin 3) :
    (((![Vk m c k (Proc.devRef .tc main_v12_3), constantI S_ 32 0#32, constantI S_ 32 0#32] : Fin 3 → (⟨S_, .i32⟩ : BufTy).Contents (Elt Ideal))) a (Shape.Idx.first h_S_)).toInt
      = (![(k : Int), 0, 0] : Fin 3 → Int) a := by
  match a with
  | ⟨0, _⟩ =>
    show (counter m c k (Shape.Idx.first h_S_)).toInt = (k : Int)
    rw [counter_eq]
    show (BitVec.ofNat 32 k).toInt = (k : Int)
    rw [BitVec.toInt_eq_toNat_of_lt (by rw [BitVec.toNat_ofNat]; omega), BitVec.toNat_ofNat]
    omega
  | ⟨1, _⟩ => rfl
  | ⟨2, _⟩ => rfl

theorem cast_row (x : FVec Ideal S1x4x1024 .f32) (j : Fin 4) (q : Fin 1024) :
    shapeCast S4x1024 x shapeCasts_S1x4x1024_S4x1024 (ix2 j q) = x (ix3 0 j q) := by
  pointwise []

theorem row_of_drive (k : ℕ) (hk : k < 1024) (j : Fin 4) (q : Fin 1024) :
    (show FVec Ideal S4x1024 .f32 from res_main_while0b_v21 (Vk m c k)) (ix2 j q) = drives m c k (ix3 ⟨k, hk⟩ j q) := by
  unfold res_main_while0b_v21
  exact (cast_row _ j q).trans (row_read _ _ ⟨k, hk⟩ _ (start_eq m c k hk 0) (start_eq m c k hk 1) (start_eq m c k hk 2) j q)

/-- One trip's states. -/
theorem step_re (V : Valuation τ sig (Elt Ideal)) (j : Fin 4) (a : Fin 512) :
    (show FVec Ideal S4x512 .f32 from step_main_v12_4 V) (ix2 j a)
      = (show FVec Ideal S4x512 .f32 from V (Proc.devRef .tc main_v12_1)) (ix2 j a) * (show FVec Ideal S4x512 .f32 from V (Proc.devRef .tc main_v12_4)) (ix2 j a)
        - (show FVec Ideal S4x512 .f32 from V (Proc.devRef .tc main_v12_2)) (ix2 j a) * (show FVec Ideal S4x512 .f32 from V (Proc.devRef .tc main_v12_5)) (ix2 j a)
        + (show FVec Ideal S4x1024 .f32 from res_main_while0b_v21 V) (ix2 j (re a)) := by
  unfold step_main_v12_4
  generalize res_main_while0b_v21 V = r
  clean_types
  simp only [id_eq]
  pointwise []

theorem step_im (V : Valuation τ sig (Elt Ideal)) (j : Fin 4) (a : Fin 512) :
    (show FVec Ideal S4x512 .f32 from step_main_v12_5 V) (ix2 j a)
      = (show FVec Ideal S4x512 .f32 from V (Proc.devRef .tc main_v12_1)) (ix2 j a) * (show FVec Ideal S4x512 .f32 from V (Proc.devRef .tc main_v12_5)) (ix2 j a)
        + (show FVec Ideal S4x512 .f32 from V (Proc.devRef .tc main_v12_2)) (ix2 j a) * (show FVec Ideal S4x512 .f32 from V (Proc.devRef .tc main_v12_4)) (ix2 j a)
        + (show FVec Ideal S4x1024 .f32 from res_main_while0b_v21 V) (ix2 j (im a)) := by
  unfold step_main_v12_5
  generalize res_main_while0b_v21 V = r
  clean_types
  simp only [id_eq]
  pointwise []

/-- The states of the arguments' recurrence. -/
abbrev lanes (j : Fin 4) (n : ℕ) : Fin 512 → EReal × EReal := laneState (aU m c) (aIn m c) (aL m c) (aH m c) j n

/-- Before trip `k` the loop carries the states before position `k`. -/
theorem states_eq : ∀ k, k ≤ 1024 → ∀ (j : Fin 4) (a : Fin 512),
    stRe m c k (ix2 j a) = (lanes m c j k a).1 ∧ stIm m c k (ix2 j a) = (lanes m c j k a).2
  | 0, _, j, a => ⟨entry_stRe m c j a, entry_stIm m c j a⟩
  | k + 1, hk, j, a => by
    have ih := states_eq k (by omega) j a
    have hd : ∀ q, (show FVec Ideal S4x1024 .f32 from res_main_while0b_v21 (Vk m c k)) (ix2 j q) = drive (aU m c) (aIn m c) j q k := fun q => by
      rw [row_of_drive m c k hk, drives_eq, entry_drive, drive, dif_pos (show k < 1024 from hk)]
    have e1 := step_re (Vk m c k) j a
    have e2 := step_im (Vk m c k) j a
    rw [hd] at e1 e2
    constructor
    · rw [stRe, Vk_succ, STEP_main_v12_4]
      refine e1.trans ?_
      show lamRe m c k _ * stRe m c k _ - lamIm m c k _ * stIm m c k _ + _ = _
      rw [lamRe_eq, lamIm_eq, entry_lamRe, entry_lamIm, ih.1, ih.2]
      rfl
    · rw [stIm, Vk_succ, STEP_main_v12_5]
      refine e2.trans ?_
      show lamRe m c k _ * stIm m c k _ + lamIm m c k _ * stRe m c k _ + _ = _
      rw [lamRe_eq, lamIm_eq, entry_lamRe, entry_lamIm, ih.1, ih.2]
      rfl

/-- The row a trip puts out: the two halves of the state side by side. -/
theorem joined (x y : FVec Ideal S4x512 .f32) (f : Fin 512 → EReal × EReal) (j : Fin 4) (hx : ∀ a, x (ix2 j a) = (f a).1) (hy : ∀ a, y (ix2 j a) = (f a).2) (q : Fin 1024) :
    concatenate S4x1024 1 [⟨S4x512, x⟩, ⟨S4x512, y⟩] concatenates_S4x512_S4x512_S4x1024_d1 (ix2 j q) = cols f q := by
  have e : concatenate S4x1024 1 [⟨S4x512, x⟩, ⟨S4x512, y⟩] concatenates_S4x512_S4x512_S4x1024_d1 (ix2 j q)
      = if h : q.val < 512 then x (ix2 j ⟨q.val, h⟩) else y (ix2 j ⟨q.val - 512, by omega⟩) := by
    pointwise []
  rw [e, cols]
  by_cases h : q.val < 512
  · rw [dif_pos h, dif_pos h, hx]
  · rw [dif_neg h, dif_neg h, hy]

theorem put_row (x : FVec Ideal S4x1024 .f32) (j : Fin 4) (q : Fin 1024) :
    broadcastInDim S1x4x1024 ![1, 2] bcast_S4x1024_S1x4x1024_1_2 x (ix3 0 j q) = x (ix2 j q) := by
  pointwise []

/-- Before trip `k` the rows put out are the states before their positions. -/
theorem passed_eq : ∀ k, k ≤ 1024 → ∀ (n : Fin 1024), n.val < k → ∀ (j : Fin 4) (q : Fin 1024),
    passed m c k (ix3 n j q) = cols (lanes m c j n.val) q
  | 0, _, n, hn, _, _ => absurd hn (Nat.not_lt_zero _)
  | k + 1, hk, n, hn, j, q => by
    rw [passed, Vk_succ, STEP_main_v12_6, step_main_v12_6, id_eq]
    by_cases h : n.val = k
    · obtain rfl : n = ⟨k, hk⟩ := Fin.ext h
      refine (row_write _ _ _ ⟨k, hk⟩ _ (start_eq m c k hk 0) (start_eq m c k hk 1) (start_eq m c k hk 2) j q).trans ?_
      refine (put_row _ j q).trans (joined _ _ _ j (fun a => (states_eq m c k (by omega) j a).1) (fun a => (states_eq m c k (by omega) j a).2) q)
    · refine (row_keep _ _ _ ⟨k, hk⟩ n (fun e => h (congrArg Fin.val e)) _ (start_eq m c k hk 0) j q).trans ?_
      exact passed_eq k (by omega) n (by omega) j q

/-- The read-out's two products. -/
theorem read_out (p : FVec Ideal S1024x4x1024 .f32) (w : FVec Ideal S4x1024x2048 .bf16) (u : FVec Ideal S4x1024x2048 .f32) (v : FVec Ideal S4x2048x2048 .bf16)
    (j : Fin 4) (n : Fin 1024) (o : Fin 2048) :
    addf (Host.dotGeneral dot_S1024x4x1024_S4x1024x2048_S4x1024x2048_2_1_0_2_1_0 none p (extf .f32 w bitsLt_bf16_f32))
        (Host.dotGeneral dot_S4x1024x2048_S4x2048x2048_S4x1024x2048_2_1_1_2_0_0 none u (extf .f32 v bitsLt_bf16_f32)) (ix3 j n o)
      = (∑ q : Fin 1024, p (ix3 n j q) * w (ix3 j q o)) + ∑ k : Fin 2048, u (ix3 j n k) * v (ix3 j k o) := by
  pointwise []

/-- The state's row in each of a plane's eight. -/
theorem put_state (x : FVec Ideal S4x1024 .f32) (j : Fin 4) (i : Fin 8) (q : Fin 1024) :
    broadcastInDim S4x8x1024 ![0, 1, 2] bcast_S4x1x1024_S4x8x1024_0_1_2 (broadcastInDim S4x1x1024 ![0, 2] bcast_S4x1024_S4x1x1024_0_2 x) (ix3 j i q)
      = x (ix2 j q) := by
  pointwise []

/-- The two results. -/
theorem result_out : out_main_v17 (Vk m c 1024) = outputs (m (c.tc.loc main_arg0)) (m (c.tc.loc main_arg1)) (m (c.tc.loc main_arg2))
    (m (c.tc.loc main_arg3)) (m (c.tc.loc main_arg4)) (m (c.tc.loc main_arg5)) := by
  unfold out_main_v17
  have e2 : Vk m c 1024 (Proc.devRef .tc main_arg2) = _ := iter_main_arg2 m c 1024
  have e0 : Vk m c 1024 (Proc.devRef .tc main_arg0) = _ := iter_main_arg0 m c 1024
  have e3 : Vk m c 1024 (Proc.devRef .tc main_arg3) = _ := iter_main_arg3 m c 1024
  rw [e2, e0, e3]
  funext y
  idx_vars y
  refine (read_out _ _ _ _ y0 y1 y2).trans ?_
  have hp : ∀ q, passed m c 1024 (ix3 y1 y0 q) = cols (lanes m c y0 y1.val) q := passed_eq m c 1024 le_rfl y1 y1.isLt y0
  revert hp
  unfold passed
  generalize Vk m c 1024 (Proc.devRef .tc main_v12_6) = p
  intro hp
  unfold outputs output
  refine congrArg₂ (· + ·) (Finset.sum_congr rfl fun q _ => ?_) rfl
  rw [hp]
  rfl

theorem result_state : out_main_v20 (Vk m c 1024) = finalState (m (c.tc.loc main_arg0)) (m (c.tc.loc main_arg1)) (m (c.tc.loc main_arg4)) (m (c.tc.loc main_arg5)) := by
  unfold out_main_v20
  funext y
  idx_vars y
  refine (put_state _ y0 y1 y2).trans ?_
  exact joined _ _ _ y0 (fun a => (states_eq m c 1024 le_rfl y0 a).1) (fun a => (states_eq m c 1024 le_rfl y0 a).2) y2

end Cert.ReferenceIdeal.S5
end
-- ==== Proof.FfnSpec.lean ====
/-
  The layer's feed-forward block on ONE token, over the extended reals and free of either program: root-mean-square
  normalisation, the affine modulation, the gated hidden unit and the sum over the hidden units, each as a function
  of the token's row and the parameters. The modules about the two launches state both programs' results by these.
-/
module

public import Idealize.ShloMosaic.Lib.Pointwise

@[expose] public section

noncomputable section

namespace Cert.Ffn

open Idealize.ShloMosaic

/-- The factor that normalises a row of 1024: one over the root of its mean square, the mean shifted by 1e-6. -/
def rowScale (x : Fin 1024 → EReal) : EReal :=
  Ideal.rsqrt (Ideal.div (∑ k, x k * x k) (Ideal.ofBits .f32 0x44800000#32) + Ideal.ofBits .f32 0x358637BD#32)

/-- The row normalised, then gained, scaled and shifted. -/
def modulated (x g s b : Fin 1024 → EReal) (k : Fin 1024) : EReal :=
  x k * rowScale x * g k * (1 + s k) + b k

/-- One hidden unit: the gate column's product through SiLU, times the up column's product. -/
def unit (u wg wu : Fin 1024 → EReal) : EReal :=
  (∑ k, u k * wg k) * Ideal.logistic (∑ k, u k * wg k) * ∑ k, u k * wu k

/-- The feed-forward block of the modulated row `u` at one output lane, over all 2816 hidden units. -/
def mlp (u : Fin 1024 → EReal) (wg wu : Fin 1024 → Fin 2816 → EReal) (wd : Fin 2816 → Fin 1024 → EReal) (l : Fin 1024) : EReal :=
  ∑ f, unit u (fun k => wg k f) (fun k => wu k f) * wd f l

/-- The row after the block: the residual plus the gated block of the modulated row. -/
def blockOut (x g s b gate : Fin 1024 → EReal) (wg wu : Fin 1024 → Fin 2816 → EReal) (wd : Fin 2816 → Fin 1024 → EReal)
    (l : Fin 1024) : EReal :=
  x l + gate l * mlp (modulated x g s b) wg wu wd l

/-- The last block's row: the residual row normalised once more, times the final gain. -/
def normed (x fg : Fin 1024 → EReal) (l : Fin 1024) : EReal := x l * rowScale x * fg l

/-- An array of `a` rows and `b` lanes. -/
abbrev Mat (a b : Nat) : Type := (⟨2, ![a, b]⟩ : Shape).Idx → EReal

/-- An array of `n` lanes. -/
abbrev Lanes (n : Nat) : Type := (⟨1, ![n]⟩ : Shape).Idx → EReal

/-- Token `r` after the block, of the argument arrays: the residual stream, the four parameter rows, the weights. -/
def tokenOut (h : Mat 16384 1024) (gain shift scale gate : Lanes 1024) (wg wu : Mat 1024 2816) (wd : Mat 2816 1024)
    (r : Fin 16384) (l : Fin 1024) : EReal :=
  blockOut (fun k => h (ix2 r k)) (fun k => gain (ix1 k)) (fun k => scale (ix1 k)) (fun k => shift (ix1 k))
    (fun k => gate (ix1 k)) (fun k f => wg (ix2 k f)) (fun k f => wu (ix2 k f)) (fun f k => wd (ix2 f k)) l

/-- The array after the block. -/
def ffnOut (h : Mat 16384 1024) (gain shift scale gate : Lanes 1024) (wg wu : Mat 1024 2816) (wd : Mat 2816 1024) :
    Mat 16384 1024 := fun i => tokenOut h gain shift scale gate wg wu wd (i 0) (i 1)

/-- The array after the LAST block: normalised once more, with the final gain. -/
def finalOut (h : Mat 16384 1024) (gain shift scale gate fin : Lanes 1024) (wg wu : Mat 1024 2816) (wd : Mat 2816 1024) :
    Mat 16384 1024 := fun i => normed (tokenOut h gain shift scale gate wg wu wd (i 0)) (fun k => fin (ix1 k)) (i 1)

/-- The modulation with gain and scale multiplied together first, as the kernel has it. -/
theorem modulated_grouped (x g s b : Fin 1024 → EReal) (k : Fin 1024) :
    x k * rowScale x * (g k * (1 + s k)) + b k = modulated x g s b k := by
  unfold modulated
  rw [mul_assoc (x k * rowScale x)]

/-- The block as two halves of the hidden units, each a sum over 1408: what two grid points add up. -/
theorem mlp_halves (u : Fin 1024 → EReal) (wg wu : Fin 1024 → Fin 2816 → EReal) (wd : Fin 2816 → Fin 1024 → EReal) (l : Fin 1024) :
    (∑ f : Fin 1408, unit u (fun k => wg k ⟨f.val, by omega⟩) (fun k => wu k ⟨f.val, by omega⟩) * wd ⟨f.val, by omega⟩ l)
      + (∑ f : Fin 1408, unit u (fun k => wg k ⟨1408 + f.val, by omega⟩) (fun k => wu k ⟨1408 + f.val, by omega⟩) * wd ⟨1408 + f.val, by omega⟩ l)
      = mlp u wg wu wd l :=
  (Fin.sum_univ_two_halves 1408 1408 rfl fun f : Fin 2816 => unit u (fun k => wg k f) (fun k => wu k f) * wd f l).symm

end Cert.Ffn

end
-- ==== Proof.FfnFinalBlock.lean ====
/-
  `ffn_final`, one row block: what the body's stored values are at an index, in the feed-forward block's own terms.
-/
module

public import proofs.«01_k».proof.Proof.Gen.Kernel2Ideal.Skeleton
public import proofs.«01_k».proof.Proof.FfnSpec

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Ffn

/-- The first point's modulated rows. -/
theorem mod_apply (x : FVec Ideal S512x1024 .f32) (g s b : FVec Ideal S1x1024 .f32) (r : Fin 512) (k : Fin 1024) :
    k0_pay1 (F := Ideal) x g s b (ix2 r k)
      = modulated (fun k => x (ix2 r k)) (fun k => g (ix2 0 k)) (fun k => s (ix2 0 k)) (fun k => b (ix2 0 k)) k := by
  rw [← modulated_grouped]
  pointwise [k0_pay1, rowScale]

/-- The accumulator starts at zero. -/
theorem zero_apply (r : Fin 512) (k : Fin 1024) : k0_pay2 (F := Ideal) (ix2 r k) = 0 := by
  pointwise [k0_pay2]

/-- One point adds its 1408 hidden units' part. -/
theorem acc_apply (u : FVec Ideal S512x1024 .bf16) (wg wu : FVec Ideal S1024x1408 .bf16) (acc : FVec Ideal S512x1024 .f32)
    (wd : FVec Ideal S1408x1024 .bf16) (r : Fin 512) (l : Fin 1024) :
    k0_pay3 (F := Ideal) u wg wu acc wd (ix2 r l)
      = acc (ix2 r l) + ∑ f : Fin 1408, unit (fun k => u (ix2 r k)) (fun k => wg (ix2 k f)) (fun k => wu (ix2 k f)) * wd (ix2 f l) := by
  pointwise [k0_pay3, unit]

/-- The second point's result: residual, gate, normalisation and final gain. -/
theorem out_apply (x : FVec Ideal S512x1024 .f32) (gate : FVec Ideal S1x1024 .f32) (y : FVec Ideal S512x1024 .f32)
    (fg : FVec Ideal S1x1024 .f32) (r : Fin 512) (l : Fin 1024) :
    k0_pay4 (F := Ideal) x gate y fg (ix2 r l)
      = normed (fun k => x (ix2 r k) + gate (ix2 0 k) * y (ix2 r k)) (fun k => fg (ix2 0 k)) l := by
  pointwise [k0_pay4, normed, rowScale]

end Cert.Kernel2Ideal.Ffn

end
-- ==== Proof.RowSet.lean ====
/-
  `x.at[k].set(v)` at one row of a matrix, as the host prints it, read at an entry: row `k` holds `v`, every other
  row what it held. Both the feed-forward launches and the layer's input projection stack their parameter rows so.
-/
module

public import Idealize.ShloMosaic.Lib.Routing.OpsSet
public import Idealize.ShloMosaic.Lib.Routing.OpsPair
public import Idealize.ShloMosaic.Lib.Pointwise.IndexBridge

@[expose] public section

namespace Cert.RowSet

open Idealize.ShloMosaic Idealize.ShloMosaic.Routing

/-- A row update's lane `j` lands in row `k` (the one index word), at lane `j`. -/
theorem lands {R C : Nat} (d : ScatterDims ⟨2, ![R, C]⟩ ⟨1, ![1]⟩ ⟨1, ![C]⟩) (hi : d.insertedWindowDims = [0])
    (hs : d.scatterDimsToOperandDims = [0]) (idx : IVec ⟨1, ![1]⟩ 32) (k : Nat) (hk : ∀ i, (idx i).toInt = (k : Int))
    (j : (⟨1, ![C]⟩ : Shape).Idx) (r : Fin R) (l : Fin C) :
    d.resultIdx? j idx = some (ValueIdx.ix2 r l) ↔ k = r.val ∧ (j 0).val = l.val := by
  have mem : (0 : Fin 2) ∈ d.scatterDimsToOperandDims := hs ▸ List.mem_singleton.2 rfl
  have kept : d.sKept = [1] := by
    show (⟨2, ![R, C]⟩ : Shape).kept d.insertedWindowDims = _
    rw [hi]; rfl
  have s0 : d.start j idx 0 = k := by
    unfold ScatterDims.start
    rw [dif_pos mem]
    exact hk _
  have s1 : d.start j idx 1 = 0 := by
    unfold ScatterDims.start
    refine dif_neg fun h => ?_
    rw [hs] at h
    exact absurd (Fin.val_eq_of_eq (List.mem_singleton.1 h)) (by simp)
  have w0 : d.window j 0 = 0 := by
    unfold ScatterDims.window
    refine dif_neg fun h => ?_
    rw [kept] at h
    exact absurd (Fin.val_eq_of_eq (List.mem_singleton.1 h)) (by simp)
  have w1 : d.window j 1 = (j 0).val := by
    unfold ScatterDims.window
    rw [dif_pos (kept ▸ List.mem_singleton.2 rfl)]
    have one : ∀ a : Fin 1, (j a).val = (j 0).val := fun a => by rw [Subsingleton.elim a 0]
    exact one _
  rw [resultIdx?_ix2, s0, s1, w0, w1]
  omega

/-- The row update read at an entry. -/
theorem apply {α : Type} {R C : Nat} (d : ScatterDims ⟨2, ![R, C]⟩ ⟨1, ![1]⟩ ⟨1, ![C]⟩) (hi : d.insertedWindowDims = [0])
    (hs : d.scatterDimsToOperandDims = [0]) (x : (⟨2, ![R, C]⟩ : Shape).Idx → α) (idx : IVec ⟨1, ![1]⟩ 32)
    (v : (⟨1, ![C]⟩ : Shape).Idx → α) (k : Nat) (hk : ∀ i, (idx i).toInt = (k : Int)) (r : Fin R) (l : Fin C) :
    Host.scatter d (fun _ b => b) x idx v (ix2 r l) = if k = r.val then v (ix1 l) else x (ix2 r l) := by
  rw [ix2_eq_valueIdx]
  have put := lands d hi hs idx k hk
  split
  case isTrue h =>
    refine scatter_set_hit d x idx v _ _ (fun j hj => congrArg v ?_) (ix1 l) ((put (ix1 l) r l).2 ⟨h, rfl⟩)
    rw [eq_ix1 j]
    exact congrArg ix1 (Fin.ext ((put j r l).1 hj).2)
  case isFalse h => exact scatter_set_miss d x idx v _ fun j hj => h ((put j r l).1 hj).1

end Cert.RowSet
-- ==== Proof.FfnFinalValue.lean ====
/-
  `ffn_final`: what its result array ends holding. Two grid points make one block of 512 tokens: the first modulates
  the rows and adds the first half of the hidden units, the second adds the other half and writes the block.
-/
module

public import proofs.«01_k».proof.Proof.Gen.Kernel2Ideal.Value
public import proofs.«01_k».proof.Proof.FfnFinalBlock
public import proofs.«01_k».proof.Proof.RowSet
public import Idealize.ShloMosaic.Lib.Pipeline.ValueKit
public import Idealize.ShloMosaic.Lib.Pipeline.ReadBack

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen Cert.Ffn

variable (m : (ℓ : Loc nD τ sig) → Buf (Elt Ideal) ℓ)

/-- The windows' block indices at a point: the token block is `t / 2`, the half of the hidden units `t % 2`. -/
theorem idx_val : ∀ t : Fin cfg0.N, win0_0.index t = ![t.val / 2, 0] ∧ win0_1.index t = ![0, 0]
    ∧ win0_2.index t = ![0, t.val % 2] ∧ win0_3.index t = ![0, t.val % 2] ∧ win0_4.index t = ![t.val % 2, 0]
    ∧ win0_5.index t = ![t.val / 2, 0] :=
  (by decide +kernel : ∀ t : Fin grid0.N, _)

/-- The number of the token at row `r` of point `t`'s block. -/
abbrev tok (t : Fin cfg0.N) (r : Fin 512) : Fin 16384 :=
  ⟨t.val / 2 * 512 + r.val, by have := lt_of_lt_of_eq t.isLt (show cfg0.N = 64 from N_0); omega⟩

theorem blk_x (c : Dev nD) (t : Fin cfg0.N) (r : Fin 512) (k : Fin 1024) :
    (show FVec Ideal S512x1024 .f32 from iblk m c 0 t) (ix2 r k) = (show FVec Ideal S16384x1024 .f32 from m (c.tc.loc main_arg0)) (ix2 (tok t r) k) := by
  blk_ext [iblk, V, idx_val t]

theorem blk_wg (c : Dev nD) (t : Fin cfg0.N) (k : Fin 1024) (f : Fin 1408) (q : Fin 2816) (hq : t.val % 2 * 1408 + f.val = q.val) :
    (show FVec Ideal S1024x1408 .bf16 from iblk m c 2 t) (ix2 k f) = (show FVec Ideal S1024x2816 .f32 from m (c.tc.loc main_arg6)) (ix2 k q) := by
  rw [← show (⟨t.val % 2 * 1408 + f.val, by omega⟩ : Fin 2816) = q from Fin.ext hq]
  blk_ext! [iblk, V, idx_val t]

theorem blk_wu (c : Dev nD) (t : Fin cfg0.N) (k : Fin 1024) (f : Fin 1408) (q : Fin 2816) (hq : t.val % 2 * 1408 + f.val = q.val) :
    (show FVec Ideal S1024x1408 .bf16 from iblk m c 3 t) (ix2 k f) = (show FVec Ideal S1024x2816 .f32 from m (c.tc.loc main_arg7)) (ix2 k q) := by
  rw [← show (⟨t.val % 2 * 1408 + f.val, by omega⟩ : Fin 2816) = q from Fin.ext hq]
  blk_ext! [iblk, V, idx_val t]

theorem blk_wd (c : Dev nD) (t : Fin cfg0.N) (f : Fin 1408) (l : Fin 1024) (q : Fin 2816) (hq : t.val % 2 * 1408 + f.val = q.val) :
    (show FVec Ideal S1408x1024 .bf16 from iblk m c 4 t) (ix2 f l) = (show FVec Ideal S2816x1024 .f32 from m (c.tc.loc main_arg8)) (ix2 q l) := by
  rw [← show (⟨t.val % 2 * 1408 + f.val, by omega⟩ : Fin 2816) = q from Fin.ext hq]
  blk_ext! [iblk, V, idx_val t]

/-- The parameter block's rows: gain, scale, shift, gate and the final gain, then zeros. -/
theorem blk_row (c : Dev nD) (t : Fin cfg0.N) (j : Fin 8) (l : Fin 1024) :
    (show FVec Ideal S8x1024 .f32 from iblk m c 1 t) (ix2 j l)
      = if 4 = j.val then (show FVec Ideal S1024 .f32 from m (c.tc.loc main_arg5)) (ix1 l)
        else if 3 = j.val then (show FVec Ideal S1024 .f32 from m (c.tc.loc main_arg4)) (ix1 l)
        else if 2 = j.val then (show FVec Ideal S1024 .f32 from m (c.tc.loc main_arg2)) (ix1 l)
        else if 1 = j.val then (show FVec Ideal S1024 .f32 from m (c.tc.loc main_arg3)) (ix1 l)
        else if 0 = j.val then (show FVec Ideal S1024 .f32 from m (c.tc.loc main_arg1)) (ix1 l) else 0 := by
  blk_simp [iblk]
  entry_read
  have e : ((View.whole main_v13).slice (win0_1.rect t)).emb (ix2 j l) = (ix2 j l : S8x1024.Idx) := by
    blk_ext [idx_val t]
  rw [e]
  iterate 5 refine (Cert.RowSet.apply _ rfl rfl _ _ _ _ (fun i => by pointwise; rfl) j l).trans (if_congr Iff.rfl rfl ?_)
  pointwise

/-- A one-row load off the parameter block. -/
theorem row_ld (B : FVec Ideal S8x1024 .f32) (j : Fin 8) (h : ∀ a, (![j.val, 0] : Fin 2 → Nat) a + S1x1024.size a ≤ S8x1024.size a) (l : Fin 1024) :
    (show FVec Ideal S1x1024 .f32 from View.ld (Val := Elt Ideal) (e' := .f32) B (Rect.unit (s := S8x1024) ![j.val, 0] ![1, 1024] h)) (ix2 0 l) = B (ix2 j l) :=
  View.ld_unit_apply_of (Val := Elt Ideal) (e := .f32) (S := S8x1024) B ![j.val, 0] ![1, 1024] h (ix2 0 l) (ix2 j l) (Fin.forall_fin_two.2 ⟨rfl, (Nat.zero_add _).symm⟩)

/-- What a flushing point's block holds. -/
theorem block_apply (c : Dev nD) (t : Fin cfg0.N) (h1 : t.val % 2 = 1) (r : Fin 512) (l : Fin 1024) :
    (show FVec Ideal S512x1024 .f32 from (outsAt0 m c t.val t.isLt).1) (ix2 r l)
      = finalOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) (m (c.tc.loc main_arg8))
          (ix2 (tok t r) l) := by
  have h0 : ¬t.val % 2 = 0 := by omega
  have hp : t.val - 1 < cfg0.N := Nat.lt_of_le_of_lt (Nat.sub_le ..) t.isLt
  rw [outsAt0_B m c t h0 h1]
  rw [outsAt0_A m c ⟨t.val - 1, hp⟩ (by show (t.val - 1) % 2 = 0; omega) (by show ¬(t.val - 1) % 2 = 1; omega)]
  frame_out
  simp only [read_unread_whole]
  have tokp : tok ⟨t.val - 1, hp⟩ r = tok t r := Fin.ext (by show (t.val - 1) / 2 * 512 + r.val = t.val / 2 * 512 + r.val; omega)
  have p0 := fun (t : Fin cfg0.N) (k : Fin 1024) => (row_ld (iblk m c 1 t) 0 inb_S8x1024_S1x1024_0_0 k).trans (blk_row m c t 0 k)
  have p1 := fun (t : Fin cfg0.N) (k : Fin 1024) => (row_ld (iblk m c 1 t) 1 inb_S8x1024_S1x1024_1_0 k).trans (blk_row m c t 1 k)
  have p2 := fun (t : Fin cfg0.N) (k : Fin 1024) => (row_ld (iblk m c 1 t) 2 inb_S8x1024_S1x1024_2_0 k).trans (blk_row m c t 2 k)
  have p3 := fun (t : Fin cfg0.N) (k : Fin 1024) => (row_ld (iblk m c 1 t) 3 inb_S8x1024_S1x1024_3_0 k).trans (blk_row m c t 3 k)
  have p4 := fun (t : Fin cfg0.N) (k : Fin 1024) => (row_ld (iblk m c 1 t) 4 inb_S8x1024_S1x1024_4_0 k).trans (blk_row m c t 4 k)
  have u : ∀ k : Fin 1024, k0_pay1 (F := Ideal) (iblk m c 0 ⟨t.val - 1, hp⟩) (View.ld (iblk m c 1 ⟨t.val - 1, hp⟩) (Rect.unit ![0, 0] ![1, 1024] inb_S8x1024_S1x1024_0_0))
      (View.ld (iblk m c 1 ⟨t.val - 1, hp⟩) (Rect.unit ![1, 0] ![1, 1024] inb_S8x1024_S1x1024_1_0))
      (View.ld (iblk m c 1 ⟨t.val - 1, hp⟩) (Rect.unit ![2, 0] ![1, 1024] inb_S8x1024_S1x1024_2_0)) (ix2 r k) = _ := fun k =>
    (mod_apply _ _ _ _ r k).trans (congrFun (congr (congr (congrArg₂ modulated (funext fun k => (blk_x m c _ r k).trans (by rw [tokp]))
      (funext fun k => p0 _ k)) (funext fun k => p1 _ k)) (funext fun k => p2 _ k)) k)
  refine (out_apply _ _ _ _ r l).trans ?_
  show _ = normed (fun l => _) (fun k => _) l
  refine congrArg₂ (fun a b => normed a b l) (funext fun k => ?_) (funext fun k => p4 t k)
  unfold tokenOut blockOut
  refine congrArg₂ (· + ·) (blk_x m c t r k) (congrArg₂ (· * ·) (p3 t k) ?_)
  refine (acc_apply _ _ _ _ _ r k).trans ?_
  rw [← mlp_halves]
  refine congrArg₂ (· + ·) ((acc_apply _ _ _ _ _ r k).trans ((congrArg (· + _) (zero_apply r k)).trans ((zero_add _).trans ?_))) ?_
  · refine Finset.sum_congr rfl fun f _ => congrArg₂ (· * ·)
      (congr (congrArg₂ unit (funext fun k => u k) (funext fun k => blk_wg m c _ k f _ ?_)) (funext fun k => blk_wu m c _ k f _ ?_)) (blk_wd m c _ f k _ ?_) <;>
    show (t.val - 1) % 2 * 1408 + f.val = f.val <;> omega
  · refine Finset.sum_congr rfl fun f _ => congrArg₂ (· * ·)
      (congr (congrArg₂ unit (funext fun k => u k) (funext fun k => blk_wg m c _ k f _ ?_)) (funext fun k => blk_wu m c _ k f _ ?_)) (blk_wd m c _ f k _ ?_) <;>
    show t.val % 2 * 1408 + f.val = 1408 + f.val <;> omega

/-- The result array is the block's array of the arguments. -/
theorem final (c : Dev nD) :
    (show FVec Ideal S16384x1024 .f32 from (dats m 0 c).arrAt 5 cfg0.N)
      = finalOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) (m (c.tc.loc main_arg8)) := by
  refine (dats m 0 c).arrAt_eq_of_covers 5 _ (by decide +kernel) fun t hf y => ?_
  have h1 : t.val % 2 = 1 := (flush0_5 t).1 hf
  idx_vars y
  blk_simp
  rw [after0_5]
  have e : (win0_5.blk t).view.emb (ix2 y0 y1) = (ix2 (tok t y0) y1 : S16384x1024.Idx) := by
    blk_ext [idx_val t]
  rw [e]
  exact block_apply m c t h1 y0 y1

end Cert.Kernel2Ideal.Ffn
end
-- ==== Proof.FfnFinalRef.lean ====
/-
  The reference of the last feed-forward block at an index, in the block's own terms.
-/
module

public import proofs.«01_k».proof.Proof.Gen.Reference2Ideal.Run
public import Idealize.ShloMosaic.Lib.Tactic.CleanTypes
public import proofs.«01_k».proof.Proof.FfnSpec

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Ffn

variable (m : (ℓ : Loc nD τ sig) → Buf (Elt Ideal) ℓ)

/-- The reference's result is the block's array of its arguments. -/
theorem result (c : Dev nD) :
    (show FVec Ideal S16384x1024 .f32 from Value.res_main_v42 m c)
      = finalOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) (m (c.tc.loc main_arg8)) := by
  funext y
  idx_vars y
  unfold Value.res_main_v42
  clean_types
  pointwise [finalOut, tokenOut, normed, blockOut, mlp, unit, modulated, rowScale, Ideal.logistic]

end Cert.Reference2Ideal.Ffn

end
-- ==== Proof.FfnBlock.lean ====
/-
  `ffn`, one row block. Its first three stored values are `ffn_final`'s (the two bodies differ in the last store
  alone), so only the last one is read here.
-/
module

public import proofs.«01_k».proof.Proof.Gen.Kernel3Ideal.Skeleton
public import proofs.«01_k».proof.Proof.FfnFinalBlock

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen Cert.Ffn

/-- The first point's modulated rows. -/
theorem mod_apply (x : FVec Ideal S512x1024 .f32) (g s b : FVec Ideal S1x1024 .f32) (r : Fin 512) (k : Fin 1024) :
    k0_pay1 (F := Ideal) x g s b (ix2 r k)
      = modulated (fun k => x (ix2 r k)) (fun k => g (ix2 0 k)) (fun k => s (ix2 0 k)) (fun k => b (ix2 0 k)) k :=
  Cert.Kernel2Ideal.Ffn.mod_apply x g s b r k

/-- The accumulator starts at zero. -/
theorem zero_apply (r : Fin 512) (k : Fin 1024) : k0_pay2 (F := Ideal) (ix2 r k) = 0 :=
  Cert.Kernel2Ideal.Ffn.zero_apply r k

/-- One point adds its 1408 hidden units' part. -/
theorem acc_apply (u : FVec Ideal S512x1024 .bf16) (wg wu : FVec Ideal S1024x1408 .bf16) (acc : FVec Ideal S512x1024 .f32)
    (wd : FVec Ideal S1408x1024 .bf16) (r : Fin 512) (l : Fin 1024) :
    k0_pay3 (F := Ideal) u wg wu acc wd (ix2 r l)
      = acc (ix2 r l) + ∑ f : Fin 1408, unit (fun k => u (ix2 r k)) (fun k => wg (ix2 k f)) (fun k => wu (ix2 k f)) * wd (ix2 f l) :=
  Cert.Kernel2Ideal.Ffn.acc_apply u wg wu acc wd r l

/-- The second point's result: residual and gate. -/
theorem out_apply (x : FVec Ideal S512x1024 .f32) (gate : FVec Ideal S1x1024 .f32) (y : FVec Ideal S512x1024 .f32)
    (r : Fin 512) (l : Fin 1024) :
    k0_pay4 (F := Ideal) x gate y (ix2 r l) = x (ix2 r l) + gate (ix2 0 l) * y (ix2 r l) := by
  pointwise [k0_pay4]

end Cert.Kernel3Ideal.Ffn

end
-- ==== Proof.FfnValue.lean ====
/-
  `ffn`, the first layer's feed-forward launch: what its result array ends holding. Two grid points make one block of 512 tokens: the first modulates
  the rows and adds the first half of the hidden units, the second adds the other half and writes the block.
-/
module

public import proofs.«01_k».proof.Proof.Gen.Kernel3Ideal.Value
public import proofs.«01_k».proof.Proof.FfnBlock
public import proofs.«01_k».proof.Proof.RowSet
public import Idealize.ShloMosaic.Lib.Pipeline.ValueKit
public import Idealize.ShloMosaic.Lib.Pipeline.ReadBack

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen Cert.Ffn

variable (m : (ℓ : Loc nD τ sig) → Buf (Elt Ideal) ℓ)

/-- The windows' block indices at a point: the token block is `t / 2`, the half of the hidden units `t % 2`. -/
theorem idx_val : ∀ t : Fin cfg0.N, win0_0.index t = ![t.val / 2, 0] ∧ win0_1.index t = ![0, 0]
    ∧ win0_2.index t = ![0, t.val % 2] ∧ win0_3.index t = ![0, t.val % 2] ∧ win0_4.index t = ![t.val % 2, 0]
    ∧ win0_5.index t = ![t.val / 2, 0] :=
  (by decide +kernel : ∀ t : Fin grid0.N, _)

/-- The number of the token at row `r` of point `t`'s block. -/
abbrev tok (t : Fin cfg0.N) (r : Fin 512) : Fin 16384 :=
  ⟨t.val / 2 * 512 + r.val, by have := lt_of_lt_of_eq t.isLt (show cfg0.N = 64 from N_0); omega⟩

theorem blk_x (c : Dev nD) (t : Fin cfg0.N) (r : Fin 512) (k : Fin 1024) :
    (show FVec Ideal S512x1024 .f32 from iblk m c 0 t) (ix2 r k) = (show FVec Ideal S16384x1024 .f32 from m (c.tc.loc main_arg0)) (ix2 (tok t r) k) := by
  blk_ext [iblk, V, idx_val t]

theorem blk_wg (c : Dev nD) (t : Fin cfg0.N) (k : Fin 1024) (f : Fin 1408) (q : Fin 2816) (hq : t.val % 2 * 1408 + f.val = q.val) :
    (show FVec Ideal S1024x1408 .bf16 from iblk m c 2 t) (ix2 k f) = (show FVec Ideal S1024x2816 .f32 from m (c.tc.loc main_arg5)) (ix2 k q) := by
  rw [← show (⟨t.val % 2 * 1408 + f.val, by omega⟩ : Fin 2816) = q from Fin.ext hq]
  blk_ext! [iblk, V, idx_val t]

theorem blk_wu (c : Dev nD) (t : Fin cfg0.N) (k : Fin 1024) (f : Fin 1408) (q : Fin 2816) (hq : t.val % 2 * 1408 + f.val = q.val) :
    (show FVec Ideal S1024x1408 .bf16 from iblk m c 3 t) (ix2 k f) = (show FVec Ideal S1024x2816 .f32 from m (c.tc.loc main_arg6)) (ix2 k q) := by
  rw [← show (⟨t.val % 2 * 1408 + f.val, by omega⟩ : Fin 2816) = q from Fin.ext hq]
  blk_ext! [iblk, V, idx_val t]

theorem blk_wd (c : Dev nD) (t : Fin cfg0.N) (f : Fin 1408) (l : Fin 1024) (q : Fin 2816) (hq : t.val % 2 * 1408 + f.val = q.val) :
    (show FVec Ideal S1408x1024 .bf16 from iblk m c 4 t) (ix2 f l) = (show FVec Ideal S2816x1024 .f32 from m (c.tc.loc main_arg7)) (ix2 q l) := by
  rw [← show (⟨t.val % 2 * 1408 + f.val, by omega⟩ : Fin 2816) = q from Fin.ext hq]
  blk_ext! [iblk, V, idx_val t]

/-- The parameter block's rows: gain, scale, shift, gate, then zeros. -/
theorem blk_row (c : Dev nD) (t : Fin cfg0.N) (j : Fin 8) (l : Fin 1024) :
    (show FVec Ideal S8x1024 .f32 from iblk m c 1 t) (ix2 j l)
      = if 3 = j.val then (show FVec Ideal S1024 .f32 from m (c.tc.loc main_arg4)) (ix1 l)
        else if 2 = j.val then (show FVec Ideal S1024 .f32 from m (c.tc.loc main_arg2)) (ix1 l)
        else if 1 = j.val then (show FVec Ideal S1024 .f32 from m (c.tc.loc main_arg3)) (ix1 l)
        else if 0 = j.val then (show FVec Ideal S1024 .f32 from m (c.tc.loc main_arg1)) (ix1 l) else 0 := by
  blk_simp [iblk]
  entry_read
  have e : ((View.whole main_v11).slice (win0_1.rect t)).emb (ix2 j l) = (ix2 j l : S8x1024.Idx) := by
    blk_ext [idx_val t]
  rw [e]
  iterate 4 refine (Cert.RowSet.apply _ rfl rfl _ _ _ _ (fun i => by pointwise; rfl) j l).trans (if_congr Iff.rfl rfl ?_)
  pointwise

/-- A one-row load off the parameter block. -/
theorem row_ld (B : FVec Ideal S8x1024 .f32) (j : Fin 8) (h : ∀ a, (![j.val, 0] : Fin 2 → Nat) a + S1x1024.size a ≤ S8x1024.size a) (l : Fin 1024) :
    (show FVec Ideal S1x1024 .f32 from View.ld (Val := Elt Ideal) (e' := .f32) B (Rect.unit (s := S8x1024) ![j.val, 0] ![1, 1024] h)) (ix2 0 l) = B (ix2 j l) :=
  View.ld_unit_apply_of (Val := Elt Ideal) (e := .f32) (S := S8x1024) B ![j.val, 0] ![1, 1024] h (ix2 0 l) (ix2 j l) (Fin.forall_fin_two.2 ⟨rfl, (Nat.zero_add _).symm⟩)

/-- What a flushing point's block holds. -/
theorem block_apply (c : Dev nD) (t : Fin cfg0.N) (h1 : t.val % 2 = 1) (r : Fin 512) (l : Fin 1024) :
    (show FVec Ideal S512x1024 .f32 from (outsAt0 m c t.val t.isLt).1) (ix2 r l)
      = ffnOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (ix2 (tok t r) l) := by
  have h0 : ¬t.val % 2 = 0 := by omega
  have hp : t.val - 1 < cfg0.N := Nat.lt_of_le_of_lt (Nat.sub_le ..) t.isLt
  rw [outsAt0_B m c t h0 h1]
  rw [outsAt0_A m c ⟨t.val - 1, hp⟩ (by show (t.val - 1) % 2 = 0; omega) (by show ¬(t.val - 1) % 2 = 1; omega)]
  frame_out
  simp only [read_unread_whole]
  have tokp : tok ⟨t.val - 1, hp⟩ r = tok t r := Fin.ext (by show (t.val - 1) / 2 * 512 + r.val = t.val / 2 * 512 + r.val; omega)
  have p0 := fun (t : Fin cfg0.N) (k : Fin 1024) => (row_ld (iblk m c 1 t) 0 inb_S8x1024_S1x1024_0_0 k).trans (blk_row m c t 0 k)
  have p1 := fun (t : Fin cfg0.N) (k : Fin 1024) => (row_ld (iblk m c 1 t) 1 inb_S8x1024_S1x1024_1_0 k).trans (blk_row m c t 1 k)
  have p2 := fun (t : Fin cfg0.N) (k : Fin 1024) => (row_ld (iblk m c 1 t) 2 inb_S8x1024_S1x1024_2_0 k).trans (blk_row m c t 2 k)
  have p3 := fun (t : Fin cfg0.N) (k : Fin 1024) => (row_ld (iblk m c 1 t) 3 inb_S8x1024_S1x1024_3_0 k).trans (blk_row m c t 3 k)
  have u : ∀ k : Fin 1024, k0_pay1 (F := Ideal) (iblk m c 0 ⟨t.val - 1, hp⟩) (View.ld (iblk m c 1 ⟨t.val - 1, hp⟩) (Rect.unit ![0, 0] ![1, 1024] inb_S8x1024_S1x1024_0_0))
      (View.ld (iblk m c 1 ⟨t.val - 1, hp⟩) (Rect.unit ![1, 0] ![1, 1024] inb_S8x1024_S1x1024_1_0))
      (View.ld (iblk m c 1 ⟨t.val - 1, hp⟩) (Rect.unit ![2, 0] ![1, 1024] inb_S8x1024_S1x1024_2_0)) (ix2 r k) = _ := fun k =>
    (mod_apply _ _ _ _ r k).trans (congrFun (congr (congr (congrArg₂ modulated (funext fun k => (blk_x m c _ r k).trans (by rw [tokp]))
      (funext fun k => p0 _ k)) (funext fun k => p1 _ k)) (funext fun k => p2 _ k)) k)
  refine (out_apply _ _ _ r l).trans ?_
  show _ = tokenOut _ _ _ _ _ _ _ _ _ l
  unfold tokenOut blockOut
  refine congrArg₂ (· + ·) (blk_x m c t r l) (congrArg₂ (· * ·) (p3 t l) ?_)
  refine (acc_apply _ _ _ _ _ r l).trans ?_
  rw [← mlp_halves]
  refine congrArg₂ (· + ·) ((acc_apply _ _ _ _ _ r l).trans ((congrArg (· + _) (zero_apply r l)).trans ((zero_add _).trans ?_))) ?_
  · refine Finset.sum_congr rfl fun f _ => congrArg₂ (· * ·)
      (congr (congrArg₂ unit (funext fun k => u k) (funext fun k => blk_wg m c _ k f _ ?_)) (funext fun k => blk_wu m c _ k f _ ?_)) (blk_wd m c _ f l _ ?_) <;>
    show (t.val - 1) % 2 * 1408 + f.val = f.val <;> omega
  · refine Finset.sum_congr rfl fun f _ => congrArg₂ (· * ·)
      (congr (congrArg₂ unit (funext fun k => u k) (funext fun k => blk_wg m c _ k f _ ?_)) (funext fun k => blk_wu m c _ k f _ ?_)) (blk_wd m c _ f l _ ?_) <;>
    show t.val % 2 * 1408 + f.val = 1408 + f.val <;> omega

/-- The result array is the block's array of the arguments. -/
theorem final (c : Dev nD) :
    (show FVec Ideal S16384x1024 .f32 from (dats m 0 c).arrAt 5 cfg0.N)
      = ffnOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) := by
  refine (dats m 0 c).arrAt_eq_of_covers 5 _ (by decide +kernel) fun t hf y => ?_
  have h1 : t.val % 2 = 1 := (flush0_5 t).1 hf
  idx_vars y
  blk_simp
  rw [after0_5]
  have e : (win0_5.blk t).view.emb (ix2 y0 y1) = (ix2 (tok t y0) y1 : S16384x1024.Idx) := by
    blk_ext [idx_val t]
  rw [e]
  exact block_apply m c t h1 y0 y1

end Cert.Kernel3Ideal.Ffn
end
-- ==== Proof.FfnRef.lean ====
/-
  The reference of the first layer's feed-forward block at an index, in the block's own terms.
-/
module

public import proofs.«01_k».proof.Proof.Gen.Reference3Ideal.Run
public import Idealize.ShloMosaic.Lib.Tactic.CleanTypes
public import proofs.«01_k».proof.Proof.FfnSpec

@[expose] public section

set_option maxRecDepth 16384

noncomputable section

namespace Cert.Reference3Ideal.Ffn

open Idealize.ShloMosaic Idealize.ShloMosaic.TcCoe Idealize.SL.Sem
open Cert.Reference3Ideal Cert.Reference3Ideal.Gen Cert.Ffn

variable (m : (ℓ : Loc nD τ sig) → Buf (Elt Ideal) ℓ)

/-- The reference's result is the block's array of its arguments. -/
theorem result (c : Dev nD) :
    (show FVec Ideal S16384x1024 .f32 from Value.res_main_v29 m c)
      = ffnOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) := by
  funext y
  idx_vars y
  unfold Value.res_main_v29
  clean_types
  pointwise [ffnOut, tokenOut, normed, blockOut, mlp, unit, modulated, rowScale, Ideal.logistic]

end Cert.Reference3Ideal.Ffn

end
-- ==== Proof.EvenInRef.lean ====
/-
  `even_in`, the even layer's combined input projection: the array in the layer's own terms, and the reference's.
-/
module

public import proofs.«01_k».proof.Proof.Gen.Reference4Ideal.Run
public import Idealize.ShloMosaic.Lib.Tactic.CleanTypes
public import proofs.«01_k».proof.Proof.FfnSpec

@[expose] public section

set_option maxRecDepth 16384

noncomputable section

namespace Cert.Ffn

open Idealize.ShloMosaic

/-- The modulated residual stream times the combined projection: token by column. -/
def projOut (h : Mat 16384 1024) (gain shift scale : Lanes 1024) (w : Mat 1024 8192) : Mat 16384 8192 := fun i =>
  ∑ k : Fin 1024, modulated (fun k => h (ix2 (i 0) k)) (fun k => gain (ix1 k)) (fun k => scale (ix1 k)) (fun k => shift (ix1 k)) k * w (ix2 k (i 1))

end Cert.Ffn

namespace Cert.Reference4Ideal.EvenIn

open Idealize.ShloMosaic Idealize.ShloMosaic.TcCoe Idealize.SL.Sem
open Cert.Reference4Ideal Cert.Reference4Ideal.Gen Cert.Ffn

variable (m : (ℓ : Loc nD τ sig) → Buf (Elt Ideal) ℓ)

/-- The reference runs, its result the projection's array of its arguments, which it leaves as they were. -/
theorem run (ρ : Dev nD → PrngReg) :
    θ_run defs (onTc (τ := τ) (main (F := Ideal))) ⟨m, fun _ => 0, ρ⟩ fun r => ∀ c : Dev nD,
      r.2.mem ((c.tc : Thread nD τ).loc main_v21) = projOut (m (c.tc.loc main_arg0)) (m (c.tc.loc main_arg1))
        (m (c.tc.loc main_arg2)) (m (c.tc.loc main_arg3)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  funext y
  idx_vars y
  clean_types
  pointwise [projOut, modulated, rowScale]

end Cert.Reference4Ideal.EvenIn

end
-- ==== Proof.EvenInValue.lean ====
/-
  `even_in`: what its result array ends holding. Eight grid points make the eight column blocks of 1024 tokens; the
  first of them modulates the rows and keeps them in scratch, and the other seven find them there.
-/
module

public import proofs.«01_k».proof.Proof.Gen.Kernel4Ideal.Value
public import proofs.«01_k».proof.Proof.EvenInRef
public import proofs.«01_k».proof.Proof.RowSet
public import Idealize.ShloMosaic.Lib.Pipeline.ValueKit
public import Idealize.ShloMosaic.Lib.Pipeline.ReadBack

@[expose] public section

set_option maxRecDepth 16384

noncomputable section

namespace Cert.Kernel4Ideal.EvenIn

open Idealize.ShloMosaic Idealize.ShloMosaic.TcCoe Idealize.SL.Sem
open Idealize.ShloMosaic.Pipeline (Dat)
open Cert.Kernel4Ideal Cert.Kernel4Ideal.Gen Cert.Ffn

variable (m : (ℓ : Loc nD τ sig) → Buf (Elt Ideal) ℓ)

/-- The first point's modulated rows. -/
theorem mod_apply (x : FVec Ideal S1024x1024 .f32) (g s b : FVec Ideal S1x1024 .f32) (r : Fin 1024) (k : Fin 1024) :
    k0_pay1 (F := Ideal) x g s b (ix2 r k)
      = modulated (fun k => x (ix2 r k)) (fun k => g (ix2 0 k)) (fun k => s (ix2 0 k)) (fun k => b (ix2 0 k)) k := by
  rw [← modulated_grouped]
  pointwise [k0_pay1, rowScale]

/-- A point's product. -/
theorem prod_apply (u w : FVec Ideal S1024x1024 .bf16) (r l : Fin 1024) :
    k0_pay2 (F := Ideal) u w (ix2 r l) = ∑ k : Fin 1024, u (ix2 r k) * w (ix2 k l) := by
  pointwise [k0_pay2]

/-- The windows' block indices at a point: the token block is `t / 8`, the column block `t % 8`. -/
theorem idx_val : ∀ t : Fin cfg0.N, win0_0.index t = ![t.val / 8, 0] ∧ win0_1.index t = ![0, 0]
    ∧ win0_2.index t = ![0, t.val % 8] ∧ win0_3.index t = ![t.val / 8, t.val % 8] :=
  (by decide +kernel : ∀ t : Fin grid0.N, _)

theorem lt_N (t : Fin cfg0.N) : t.val < 128 := lt_of_lt_of_eq t.isLt (show cfg0.N = 128 from N_0)

/-- The number of the token at row `r` of point `t`'s block. -/
abbrev tok (t : Fin cfg0.N) (r : Fin 1024) : Fin 16384 :=
  ⟨t.val / 8 * 1024 + r.val, by have := lt_N t; omega⟩

/-- The number of column `l` of point `t`'s block. -/
abbrev col (t : Fin cfg0.N) (l : Fin 1024) : Fin 8192 := ⟨t.val % 8 * 1024 + l.val, by omega⟩

theorem blk_x (c : Dev nD) (t : Fin cfg0.N) (r k : Fin 1024) :
    (show FVec Ideal S1024x1024 .f32 from iblk m c 0 t) (ix2 r k) = (show FVec Ideal S16384x1024 .f32 from m (c.tc.loc main_arg0)) (ix2 (tok t r) k) := by
  blk_ext [iblk, V, idx_val t]

theorem blk_w (c : Dev nD) (t : Fin cfg0.N) (k l : Fin 1024) :
    (show FVec Ideal S1024x1024 .bf16 from iblk m c 2 t) (ix2 k l) = (show FVec Ideal S1024x8192 .f32 from m (c.tc.loc main_arg4)) (ix2 k (col t l)) := by
  blk_ext! [iblk, V, idx_val t]

/-- The parameter block's rows: gain, scale and shift, then zeros. -/
theorem blk_row (c : Dev nD) (t : Fin cfg0.N) (j : Fin 8) (l : Fin 1024) :
    (show FVec Ideal S8x1024 .f32 from iblk m c 1 t) (ix2 j l)
      = if 2 = j.val then (show FVec Ideal S1024 .f32 from m (c.tc.loc main_arg2)) (ix1 l)
        else if 1 = j.val then (show FVec Ideal S1024 .f32 from m (c.tc.loc main_arg3)) (ix1 l)
        else if 0 = j.val then (show FVec Ideal S1024 .f32 from m (c.tc.loc main_arg1)) (ix1 l) else 0 := by
  blk_simp [iblk]
  entry_read
  have e : ((View.whole main_v6).slice (win0_1.rect t)).emb (ix2 j l) = (ix2 j l : S8x1024.Idx) := by
    blk_ext [idx_val t]
  rw [e]
  iterate 3 refine (Cert.RowSet.apply _ rfl rfl _ _ _ _ (fun i => by pointwise; rfl) j l).trans (if_congr Iff.rfl rfl ?_)
  pointwise

/-- A one-row load off the parameter block. -/
theorem row_ld (B : FVec Ideal S8x1024 .f32) (j : Fin 8) (h : ∀ a, (![j.val, 0] : Fin 2 → Nat) a + S1x1024.size a ≤ S8x1024.size a) (l : Fin 1024) :
    (show FVec Ideal S1x1024 .f32 from View.ld (Val := Elt Ideal) (e' := .f32) B (Rect.unit (s := S8x1024) ![j.val, 0] ![1, 1024] h)) (ix2 0 l) = B (ix2 j l) :=
  View.ld_unit_apply_of (Val := Elt Ideal) (e := .f32) (S := S8x1024) B ![j.val, 0] ![1, 1024] h (ix2 0 l) (ix2 j l) (Fin.forall_fin_two.2 ⟨rfl, (Nat.zero_add _).symm⟩)

/-- The modulated row of token `tok t r`, of the launch's arguments. -/
abbrev tokRow (c : Dev nD) (t : Fin cfg0.N) (r : Fin 1024) : Fin 1024 → EReal :=
  modulated (fun k => (show FVec Ideal S16384x1024 .f32 from m (c.tc.loc main_arg0)) (ix2 (tok t r) k))
    (fun k => (show FVec Ideal S1024 .f32 from m (c.tc.loc main_arg1)) (ix1 k))
    (fun k => (show FVec Ideal S1024 .f32 from m (c.tc.loc main_arg3)) (ix1 k))
    (fun k => (show FVec Ideal S1024 .f32 from m (c.tc.loc main_arg2)) (ix1 k))

/-- The rows a first point stores. -/
theorem rows_apply (c : Dev nD) (t : Fin cfg0.N) (r k : Fin 1024) :
    k0_pay1 (F := Ideal) (iblk m c 0 t) (View.ld (iblk m c 1 t) (Rect.unit ![0, 0] ![1, 1024] inb_S8x1024_S1x1024_0_0))
      (View.ld (iblk m c 1 t) (Rect.unit ![1, 0] ![1, 1024] inb_S8x1024_S1x1024_1_0))
      (View.ld (iblk m c 1 t) (Rect.unit ![2, 0] ![1, 1024] inb_S8x1024_S1x1024_2_0)) (ix2 r k) = tokRow m c t r k :=
  (mod_apply _ _ _ _ r k).trans (congrFun (congr (congr (congrArg₂ modulated (funext fun k => blk_x m c t r k)
    (funext fun k => (row_ld (iblk m c 1 t) 0 inb_S8x1024_S1x1024_0_0 k).trans (blk_row m c t 0 k)))
    (funext fun k => (row_ld (iblk m c 1 t) 1 inb_S8x1024_S1x1024_1_0 k).trans (blk_row m c t 1 k)))
    (funext fun k => (row_ld (iblk m c 1 t) 2 inb_S8x1024_S1x1024_2_0 k).trans (blk_row m c t 2 k))) k)

/-- After every point the scratch holds the modulated rows of that point's tokens. -/
theorem scratch (c : Dev nD) : ∀ (n : Nat) (hn : n < cfg0.N) (r k : Fin 1024),
    (show FVec Ideal S1024x1024 .bf16 from (outsAt0 m c n hn).2) (ix2 r k) = tokRow m c ⟨n, hn⟩ r k := by
  intro n
  induction n with
  | zero =>
    intro hn r k
    rw [outsAt0_A m c ⟨0, hn⟩ (Nat.zero_mod _)]
    frame_out
    exact rows_apply m c ⟨0, hn⟩ r k
  | succ n ih =>
    intro hn r k
    by_cases h0 : (n + 1) % 8 = 0
    · rw [outsAt0_A m c ⟨n + 1, hn⟩ h0]
      frame_out
      exact rows_apply m c ⟨n + 1, hn⟩ r k
    · rw [outsAt0_B m c ⟨n + 1, hn⟩ h0]
      frame_out
      refine (ih (Nat.lt_of_succ_lt hn) r k).trans ?_
      have e : tok ⟨n, Nat.lt_of_succ_lt hn⟩ r = tok ⟨n + 1, hn⟩ r :=
        Fin.ext (by show n / 8 * 1024 + r.val = (n + 1) / 8 * 1024 + r.val; omega)
      unfold tokRow
      rw [e]

/-- What a point's block holds. -/
theorem block_apply (c : Dev nD) (t : Fin cfg0.N) (r l : Fin 1024) :
    (show FVec Ideal S1024x1024 .f32 from (outsAt0 m c t.val t.isLt).1) (ix2 r l)
      = projOut (m (c.tc.loc main_arg0)) (m (c.tc.loc main_arg1)) (m (c.tc.loc main_arg2)) (m (c.tc.loc main_arg3))
          (m (c.tc.loc main_arg4)) (ix2 (tok t r) (col t l)) := by
  by_cases h0 : t.val % 8 = 0
  · rw [outsAt0_A m c t h0]
    frame_out
    refine (prod_apply _ _ r l).trans (Finset.sum_congr rfl fun k _ => congrArg₂ (· * ·) ?_ (blk_w m c t k l))
    exact rows_apply m c t r k
  · rw [outsAt0_B m c t h0]
    frame_out
    refine (prod_apply _ _ r l).trans (Finset.sum_congr rfl fun k _ => congrArg₂ (· * ·) ?_ (blk_w m c t k l))
    simp only [read_unread_whole]
    refine (scratch m c (t.val - 1) (Nat.lt_of_le_of_lt (Nat.sub_le ..) t.isLt) r k).trans ?_
    have e : tok ⟨t.val - 1, Nat.lt_of_le_of_lt (Nat.sub_le ..) t.isLt⟩ r = tok t r :=
      Fin.ext (by show (t.val - 1) / 8 * 1024 + r.val = t.val / 8 * 1024 + r.val; omega)
    unfold tokRow
    rw [e]
    rfl

/-- The result array is the projection's array of the arguments. -/
theorem final (c : Dev nD) :
    (show FVec Ideal S16384x8192 .f32 from (dats m 0 c).arrAt 3 cfg0.N)
      = projOut (m (c.tc.loc main_arg0)) (m (c.tc.loc main_arg1)) (m (c.tc.loc main_arg2)) (m (c.tc.loc main_arg3))
          (m (c.tc.loc main_arg4)) := by
  refine (dats m 0 c).arrAt_eq_of_covers 3 _ (by decide +kernel) fun t hf y => ?_
  idx_vars y
  blk_simp
  rw [after0_3]
  have e : (win0_3.blk t).view.emb (ix2 y0 y1) = (ix2 (tok t y0) (col t y1) : S16384x8192.Idx) := by
    blk_ext [idx_val t]
  rw [e]
  exact block_apply m c t y0 y1

end Cert.Kernel4Ideal.EvenIn
end
-- ==== Proof.EvenOutSpec.lean ====
/-
  The even layer's output launch, over the extended reals and free of either program: the SSD rows gated and then
  normalised in two groups, the HGRN2 rows normalised head by head and then gated, and the product of both with the
  output projection, gated into the residual.
-/
module

public import proofs.«01_k».proof.Proof.FfnSpec

@[expose] public section

noncomputable section

namespace Cert.EvenOut

open Idealize.ShloMosaic Cert.Ffn

/-- SiLU. -/
def silu (x : EReal) : EReal := x * Ideal.logistic x

/-- One over the root of a group's mean square, the mean shifted by 1e-6; `n` is the word of the group's length. -/
def groupScale {w : Nat} (n : BitVec 32) (x : Fin w → EReal) : EReal :=
  Ideal.rsqrt (Ideal.div (∑ k, x k * x k) (Ideal.ofBits .f32 n) + Ideal.ofBits .f32 0x358637BD#32)

/-- A lane normalised in its group of `w`, the lane and its group's lanes given by other indices of the same values. -/
theorem group_eq {w : Nat} (n e : EReal) (y : Fin 1024 → EReal) (k k' : Fin 1024) (own idx : Fin w → Fin 1024)
    (hk : k'.val = k.val) (hi : ∀ l, (idx l).val = (own l).val) :
    y k' * Ideal.rsqrt (Ideal.div (∑ l, y (idx l) * y (idx l)) n + e)
      = y k * Ideal.rsqrt (Ideal.div (∑ l, y (own l) * y (own l)) n + e) := by
  rw [Fin.ext hk, show idx = own from funext fun l => Fin.ext (hi l)]

/-- An SSD lane: the row `y` normalised in its group of 512, with its gain. -/
def ssdLane (y : Fin 1024 → EReal) (gain : Fin 1024 → EReal) (k : Fin 1024) : EReal :=
  y k * groupScale 0x44000000#32 (fun l : Fin 512 => y ⟨k.val / 512 * 512 + l.val, by omega⟩) * gain k

/-- An HGRN2 lane: the row `o` normalised in its head of 128, with the head gain, then gated. -/
def hgLane (o : Fin 1024 → EReal) (gain : Fin 128 → EReal) (g : Fin 1024 → EReal) (k : Fin 1024) : EReal :=
  o k * groupScale 0x43000000#32 (fun l : Fin 128 => o ⟨k.val / 128 * 128 + l.val, by omega⟩) * gain ⟨k.val % 128, by omega⟩
    * silu (g k)

/-- The token's row of the two directions' SSD outputs, through the SiLU gate. -/
def ssdRow (z yf yb : Fin 1024 → EReal) (k : Fin 1024) : EReal := (yf k + yb k) * silu (z k)

/-- Both halves through the output projection, at one output lane. -/
def mix (a b : Fin 1024 → EReal) (wa wb : Fin 1024 → EReal) : EReal := (∑ k, a k * wa k) + ∑ k, b k * wb k

/-- The launch's array: token by lane. -/
def evenOut (h : Mat 16384 1024) (zs : Mat 16384 8192) (yf yb o₁ o₂ : Mat 16384 1024) (w : Mat 2048 1024)
    (sg : Lanes 1024) (hg : Lanes 128) (gate : Lanes 1024) : Mat 16384 1024 := fun i =>
  h (ix2 (i 0) (i 1)) + gate (ix1 (i 1)) * mix
    (ssdLane (ssdRow (fun k => zs (ix2 (i 0) ⟨2048 + k.val, by omega⟩)) (fun k => yf (ix2 (i 0) k)) fun k => yb (ix2 (i 0) k)) fun k => sg (ix1 k))
    (hgLane (fun k => o₁ (ix2 (i 0) k) + o₂ (ix2 (i 0) k)) (fun k => hg (ix1 k)) fun k => zs (ix2 (i 0) ⟨5120 + k.val, by omega⟩))
    (fun k => w (ix2 ⟨k.val, by omega⟩ (i 1))) (fun k => w (ix2 ⟨1024 + k.val, by omega⟩ (i 1)))

end Cert.EvenOut

end
-- ==== Proof.EvenOutValue.lean ====
/-
  `even_out`: what its result array ends holding. Each grid point makes the rows of its own 512 tokens.
-/
module

public import proofs.«01_k».proof.Proof.Gen.Kernel5Ideal.Value
public import proofs.«01_k».proof.Proof.EvenOutSpec
public import proofs.«01_k».proof.Proof.RowSet
public import Idealize.ShloMosaic.Lib.Pipeline.ValueKit
public import Idealize.ShloMosaic.Lib.Pipeline.ReadBack

@[expose] public section

set_option maxRecDepth 16384

noncomputable section

namespace Cert.Kernel5Ideal.EvenOut

open Idealize.ShloMosaic Idealize.ShloMosaic.TcCoe Idealize.SL.Sem
open Idealize.ShloMosaic.Pipeline (Dat)
open Cert.Kernel5Ideal Cert.Kernel5Ideal.Gen Cert.Ffn Cert.EvenOut

variable (m : (ℓ : Loc nD τ sig) → Buf (Elt Ideal) ℓ)

/-- The SSD half, normalised. -/
theorem ssd_apply (yf yb z : FVec Ideal S512x1024 .f32) (g : FVec Ideal S1x1024 .f32) (r : Fin 512) (k : Fin 1024) :
    k0_pay3 (F := Ideal) yf yb z g (ix2 r k)
      = ssdLane (ssdRow (fun k => z (ix2 r k)) (fun k => yf (ix2 r k)) fun k => yb (ix2 r k)) (fun k => g (ix2 0 k)) k := by
  pointwise [k0_pay3, ssdLane, ssdRow, silu, groupScale]
  refine congrArg (· * _) ?_
  split_ifs
  all_goals exact group_eq (w := 512) _ _ (fun k => (yf (ix2 r k) + yb (ix2 r k)) * (z (ix2 r k) * Ideal.logistic (z (ix2 r k)))) k _
                (fun l => ⟨k.val / 512 * 512 + l.val, by omega⟩) _ (by first | rfl | (dsimp only; omega)) (fun l => by first | rfl | (dsimp only; omega))

/-- The HGRN2 half before its gate. -/
theorem hg_apply (o₁ o₂ : FVec Ideal S512x1024 .f32) (g : FVec Ideal S1x1024 .f32) (r : Fin 512) (k : Fin 1024) :
    k0_pay13 (F := Ideal) (k0_pay2 o₁ o₂) (k0_pay6 (k0_pay4 o₁ o₂) (k0_pay5 o₁ o₂)) (k0_pay7 (k0_pay2 o₁ o₂)) (k0_pay8 (k0_pay2 o₁ o₂))
      (k0_pay9 (k0_pay2 o₁ o₂)) (k0_pay10 (k0_pay2 o₁ o₂)) (k0_pay11 (k0_pay2 o₁ o₂)) k0_pay12 g (ix2 r k)
      = (o₁ (ix2 r k) + o₂ (ix2 r k)) * groupScale 0x43000000#32 (fun l : Fin 128 => o₁ (ix2 r ⟨k.val / 128 * 128 + l.val, by omega⟩)
          + o₂ (ix2 r ⟨k.val / 128 * 128 + l.val, by omega⟩)) * g (ix2 0 k) := by
  pointwise [k0_pay13, k0_pay2, k0_pay6, k0_pay4, k0_pay5, k0_pay7, k0_pay8, k0_pay9, k0_pay10, k0_pay11, k0_pay12, groupScale]
  refine congrArg (· * _) ?_
  split_ifs
  all_goals exact group_eq (w := 128) _ _ (fun k => o₁ (ix2 r k) + o₂ (ix2 r k)) k _
                (fun l => ⟨k.val / 128 * 128 + l.val, by omega⟩) _ (by first | rfl | (dsimp only; omega)) (fun l => by first | rfl | (dsimp only; omega))

/-- A point's stored block: both halves through the output projection, gated into the residual. -/
theorem out_apply (a : FVec Ideal S512x1024 .bf16) (b g₁ g₂ : FVec Ideal S512x1024 .f32) (wa wb : FVec Ideal S1024x1024 .bf16)
    (x : FVec Ideal S512x1024 .f32) (gate : FVec Ideal S1x1024 .f32) (r : Fin 512) (l : Fin 1024) :
    k0_pay1 (F := Ideal) a b g₁ g₂ wa wb x gate (ix2 r l) = x (ix2 r l) + gate (ix2 0 l) * mix (fun k => a (ix2 r k))
      (fun k => b (ix2 r k) * (g₁ (ix2 r k) * g₂ (ix2 r k))) (fun k => wa (ix2 k l)) (fun k => wb (ix2 k l)) := by
  pointwise [k0_pay1, mix]

/-- The windows' block indices at a point: the token block is the point, the two column blocks are `z`'s and `g`'s. -/
theorem idx_val : ∀ t : Fin cfg0.N, win0_0.index t = ![t.val, 0] ∧ win0_1.index t = ![t.val, 2] ∧ win0_2.index t = ![t.val, 5]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![t.val, 0] :=
  (by decide +kernel : ∀ t : Fin grid0.N, _)

theorem lt_N (t : Fin cfg0.N) : t.val < 32 := lt_of_lt_of_eq t.isLt (show cfg0.N = 32 from N_0)

/-- The number of the token at row `r` of point `t`'s block. -/
abbrev tok (t : Fin cfg0.N) (r : Fin 512) : Fin 16384 := ⟨t.val * 512 + r.val, by have := lt_N t; omega⟩

theorem blk_h (c : Dev nD) (t : Fin cfg0.N) (r : Fin 512) (k : Fin 1024) :
    (show FVec Ideal S512x1024 .f32 from iblk m c 0 t) (ix2 r k) = (show FVec Ideal S16384x1024 .f32 from m (c.tc.loc main_arg0)) (ix2 (tok t r) k) := by
  blk_ext [iblk, V, idx_val t]

theorem blk_z (c : Dev nD) (t : Fin cfg0.N) (r : Fin 512) (k : Fin 1024) :
    (show FVec Ideal S512x1024 .f32 from iblk m c 1 t) (ix2 r k)
      = (show FVec Ideal S16384x8192 .f32 from m (c.tc.loc main_arg1)) (ix2 (tok t r) ⟨2048 + k.val, by omega⟩) := by
  blk_ext [iblk, V, idx_val t]

theorem blk_g (c : Dev nD) (t : Fin cfg0.N) (r : Fin 512) (k : Fin 1024) :
    (show FVec Ideal S512x1024 .f32 from iblk m c 2 t) (ix2 r k)
      = (show FVec Ideal S16384x8192 .f32 from m (c.tc.loc main_arg1)) (ix2 (tok t r) ⟨5120 + k.val, by omega⟩) := by
  blk_ext [iblk, V, idx_val t]

theorem blk_yf (c : Dev nD) (t : Fin cfg0.N) (r : Fin 512) (k : Fin 1024) :
    (show FVec Ideal S512x1024 .f32 from iblk m c 3 t) (ix2 r k) = (show FVec Ideal S16384x1024 .f32 from m (c.tc.loc main_arg2)) (ix2 (tok t r) k) := by
  blk_ext [iblk, V, idx_val t]

theorem blk_yb (c : Dev nD) (t : Fin cfg0.N) (r : Fin 512) (k : Fin 1024) :
    (show FVec Ideal S512x1024 .f32 from iblk m c 4 t) (ix2 r k) = (show FVec Ideal S16384x1024 .f32 from m (c.tc.loc main_arg3)) (ix2 (tok t r) k) := by
  blk_ext [iblk, V, idx_val t]

theorem blk_of (c : Dev nD) (t : Fin cfg0.N) (r : Fin 512) (k : Fin 1024) :
    (show FVec Ideal S512x1024 .f32 from iblk m c 5 t) (ix2 r k) = (show FVec Ideal S16384x1024 .f32 from m (c.tc.loc main_arg4)) (ix2 (tok t r) k) := by
  blk_ext [iblk, V, idx_val t]

theorem blk_ob (c : Dev nD) (t : Fin cfg0.N) (r : Fin 512) (k : Fin 1024) :
    (show FVec Ideal S512x1024 .f32 from iblk m c 6 t) (ix2 r k) = (show FVec Ideal S16384x1024 .f32 from m (c.tc.loc main_arg5)) (ix2 (tok t r) k) := by
  blk_ext [iblk, V, idx_val t]

theorem blk_w (c : Dev nD) (t : Fin cfg0.N) (k : Fin 2048) (l : Fin 1024) :
    (show FVec Ideal S2048x1024 .bf16 from iblk m c 7 t) (ix2 k l) = (show FVec Ideal S2048x1024 .f32 from m (c.tc.loc main_arg6)) (ix2 k l) := by
  blk_ext! [iblk, V, idx_val t]

/-- The parameter block's rows: the SSD gain, the head gain repeated over the heads, the gate, then zeros. -/
theorem blk_row (c : Dev nD) (t : Fin cfg0.N) (j : Fin 8) (l : Fin 1024) :
    (show FVec Ideal S8x1024 .f32 from iblk m c 8 t) (ix2 j l)
      = if 2 = j.val then (show FVec Ideal S1024 .f32 from m (c.tc.loc main_arg9)) (ix1 l)
        else if 1 = j.val then (show FVec Ideal S128 .f32 from m (c.tc.loc main_arg8)) (ix1 ⟨l.val % 128, by omega⟩)
        else if 0 = j.val then (show FVec Ideal S1024 .f32 from m (c.tc.loc main_arg7)) (ix1 l) else 0 := by
  blk_simp [iblk]
  entry_read
  have e : ((View.whole main_v10).slice (win0_8.rect t)).emb (ix2 j l) = (ix2 j l : S8x1024.Idx) := by
    blk_ext [idx_val t]
  rw [e]
  refine (Cert.RowSet.apply _ rfl rfl _ _ _ _ (fun i => by pointwise; rfl) j l).trans (if_congr Iff.rfl rfl ?_)
  refine (Cert.RowSet.apply _ rfl rfl _ _ _ _ (fun i => by pointwise; rfl) j l).trans (if_congr Iff.rfl (by pointwise) ?_)
  refine (Cert.RowSet.apply _ rfl rfl _ _ _ _ (fun i => by pointwise; rfl) j l).trans (if_congr Iff.rfl rfl ?_)
  pointwise

/-- A one-row load off the parameter block. -/
theorem row_ld (B : FVec Ideal S8x1024 .f32) (j : Fin 8) (h : ∀ a, (![j.val, 0] : Fin 2 → Nat) a + S1x1024.size a ≤ S8x1024.size a) (l : Fin 1024) :
    (show FVec Ideal S1x1024 .f32 from View.ld (Val := Elt Ideal) (e' := .f32) B (Rect.unit (s := S8x1024) ![j.val, 0] ![1, 1024] h)) (ix2 0 l) = B (ix2 j l) :=
  View.ld_unit_apply_of (Val := Elt Ideal) (e := .f32) (S := S8x1024) B ![j.val, 0] ![1, 1024] h (ix2 0 l) (ix2 j l) (Fin.forall_fin_two.2 ⟨rfl, (Nat.zero_add _).symm⟩)

/-- A load of 1024 rows off the projection's block, from row `o`. -/
theorem half_ld (B : FVec Ideal S2048x1024 .bf16) (o : Nat) (h : ∀ a, (![o, 0] : Fin 2 → Nat) a + S1024x1024.size a ≤ S2048x1024.size a)
    (k l : Fin 1024) (k' : Fin 2048) (hk : k'.val = o + k.val) :
    (show FVec Ideal S1024x1024 .bf16 from View.ld (Val := Elt Ideal) (e' := .bf16) B (Rect.unit (s := S2048x1024) ![o, 0] ![1024, 1024] h)) (ix2 k l) = B (ix2 k' l) :=
  View.ld_unit_apply_of (Val := Elt Ideal) (e := .bf16) (S := S2048x1024) B ![o, 0] ![1024, 1024] h (ix2 k l) (ix2 k' l) (Fin.forall_fin_two.2 ⟨hk, (Nat.zero_add _).symm⟩)

/-- The gate's two factors are its SiLU. -/
theorem gate_apply (g : FVec Ideal S512x1024 .f32) (r : Fin 512) (k : Fin 1024) :
    g (ix2 r k) * k0_pay14 (F := Ideal) g (ix2 r k) = silu (g (ix2 r k)) := by
  pointwise [k0_pay14, silu]

/-- What a point's block holds. -/
theorem block_apply (c : Dev nD) (t : Fin cfg0.N) (r : Fin 512) (l : Fin 1024) :
    (show FVec Ideal S512x1024 .f32 from out0_9 (iblk m c 0 t) (iblk m c 1 t) (iblk m c 2 t) (iblk m c 3 t) (iblk m c 4 t)
        (iblk m c 5 t) (iblk m c 6 t) (iblk m c 7 t) (iblk m c 8 t)) (ix2 r l)
      = evenOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg9)) (ix2 (tok t r) l) := by
  unfold out0_9 k0_pay15
  frame_out
  refine (out_apply _ _ _ _ _ _ _ _ r l).trans (congrArg₂ (· + ·) (blk_h m c t r l)
    (congrArg₂ (· * ·) ((row_ld (iblk m c 8 t) 2 inb_S8x1024_S1x1024_2_0 l).trans (blk_row m c t 2 l)) ?_))
  refine congr (congr (congrArg₂ mix (funext fun k => ?_) (funext fun k => ?_)) (funext fun k => ?_)) (funext fun k => ?_)
  · exact (ssd_apply _ _ _ _ r k).trans (congrFun (congrArg₂ ssdLane (congr (congrArg₂ ssdRow (funext (blk_z m c t r))
      (funext (blk_yf m c t r))) (funext (blk_yb m c t r)))
      (funext fun k => (row_ld (iblk m c 8 t) 0 inb_S8x1024_S1x1024_0_0 k).trans (blk_row m c t 0 k))) k)
  · refine congrArg₂ (· * ·) ((hg_apply _ _ _ r k).trans (congrArg₂ (· * ·) ?_
      ((row_ld (iblk m c 8 t) 1 inb_S8x1024_S1x1024_1_0 k).trans (blk_row m c t 1 k))))
      ((gate_apply _ r k).trans (congrArg silu (blk_g m c t r k)))
    exact congrArg (fun o : Fin 1024 → EReal => o k * groupScale 0x43000000#32 fun l : Fin 128 => o ⟨k.val / 128 * 128 + l.val, by omega⟩)
      (funext fun k => congrArg₂ (· + ·) (blk_of m c t r k) (blk_ob m c t r k))
  · exact (half_ld (iblk m c 7 t) 0 inb_S2048x1024_S1024x1024_0_0 k l ⟨k.val, by omega⟩ (Nat.zero_add _).symm).trans (blk_w m c t _ l)
  · exact (half_ld (iblk m c 7 t) 1024 inb_S2048x1024_S1024x1024_1024_0 k l ⟨1024 + k.val, by omega⟩ rfl).trans (blk_w m c t _ l)

/-- The result array is the launch's array of the arguments. -/
theorem final (c : Dev nD) :
    (show FVec Ideal S16384x1024 .f32 from (dats m 0 c).arrAt 9 cfg0.N)
      = evenOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg9)) := by
  refine (dats m 0 c).arrAt_eq_of_covers 9 _ (by decide +kernel) fun t hf y => ?_
  idx_vars y
  blk_simp
  rw [after0_9]
  have e : (win0_9.blk t).view.emb (ix2 y0 y1) = (ix2 (tok t y0) y1 : S16384x1024.Idx) := by
    blk_ext [idx_val t]
  rw [e]
  exact block_apply m c t y0 y1

end Cert.Kernel5Ideal.EvenOut
end
-- ==== Proof.EvenOutRef.lean ====
/-
  The reference of `even_out` at an index, in the layer's own terms.
-/
module

public import proofs.«01_k».proof.Proof.Gen.Reference5Ideal.Run
public import Idealize.ShloMosaic.Lib.Tactic.CleanTypes
public import proofs.«01_k».proof.Proof.EvenOutSpec

@[expose] public section

set_option maxRecDepth 16384

noncomputable section

namespace Cert.Reference5Ideal.EvenOut

open Idealize.ShloMosaic Idealize.ShloMosaic.TcCoe Idealize.SL.Sem
open Cert.Reference5Ideal Cert.Reference5Ideal.Gen Cert.Ffn Cert.EvenOut

variable (m : (ℓ : Loc nD τ sig) → Buf (Elt Ideal) ℓ)

/-- The reference's result is the launch's array of its arguments. -/
theorem result (c : Dev nD) :
    (show FVec Ideal S16384x1024 .f32 from Value.res_main_v45 m c)
      = evenOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg9)) := by
  funext y
  idx_vars y
  unfold Value.res_main_v45
  clean_types
  pointwise [evenOut, mix, ssdLane, hgLane, ssdRow, groupScale, silu, Ideal.logistic]
  simp only [Nat.div_add_mod', Fin.eta]

end Cert.Reference5Ideal.EvenOut

end
-- ==== Proof.OddSpec.lean ====
/-
  The odd layer's two dense launches, over the extended reals and free of either program: the projection into the
  S5 planes in column-major order of the token grid, and the gated readout back in row-major order.
-/
module

public import proofs.«01_k».proof.Proof.FfnSpec

@[expose] public section

noncomputable section

namespace Cert.Odd

open Idealize.ShloMosaic Cert.Ffn

/-- Position `p` of the column-major order holds this token: the grid has 256 rows and 64 columns. -/
abbrev token (p : Fin 16384) : Fin 16384 := ⟨p.val % 256 * 64 + p.val / 256, by omega⟩

/-- Token `r * 64 + w` (row `r`, column `w` of the grid) stands at this position of the column-major order. -/
abbrev place (r : Fin 256) (w : Fin 64) : Fin 16384 := ⟨w.val * 256 + r.val, by omega⟩

/-- The four planes of 128 lanes each, by plane, position and lane. -/
abbrev Planes : Type := (⟨3, ![4, 16384, 128]⟩ : Shape).Idx → EReal

/-- The projection of the modulated tokens, plane by plane, in column-major order. -/
def planes (h : Mat 16384 1024) (gain shift scale : Lanes 1024) (w : Mat 1024 512) : Planes := fun i =>
  ∑ k : Fin 1024, modulated (fun k => h (ix2 (token (i 1)) k)) (fun k => gain (ix1 k)) (fun k => scale (ix1 k))
    (fun k => shift (ix1 k)) k * w (ix2 k ⟨(i 0).val * 128 + (i 2).val, by
      have h0 : (i 0).val < 4 := (i 0).isLt
      have h2 : (i 2).val < 128 := (i 2).isLt
      omega⟩)

/-- GELU in its tanh form. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- Lane `k` of all 512 at position `p`: the skip through `dsk` and the two directions' outputs. -/
def mixed (u yf yb : Planes) (dsk : Lanes 512) (p : Fin 16384) (k : Fin 512) : EReal :=
  dsk (ix1 k) * u (ix3 ⟨k.val / 128, by omega⟩ p ⟨k.val % 128, by omega⟩)
    + yf (ix3 ⟨k.val / 128, by omega⟩ p ⟨k.val % 128, by omega⟩)
    + yb (ix3 ⟨k.val / 128, by omega⟩ p ⟨k.val % 128, by omega⟩)

/-- The gated readout of one token's 512 lanes at an output lane, added to the residual `x`. -/
def readout (x gate : EReal) (y : Fin 512 → EReal) (wv wg : Fin 512 → EReal) : EReal :=
  x + gate * ((∑ k, gelu (y k) * wv k) * Ideal.logistic (∑ k, gelu (y k) * wg k))

/-- The result: grid row by grid column and lane, the columns' lanes side by side. -/
def gridOut (h : Mat 16384 1024) (u yf yb : Planes) (wv wg : Mat 512 1024) (gate : Lanes 1024) (dsk : Lanes 512) :
    Mat 256 65536 := fun i =>
  have hr : (i 0).val < 256 := (i 0).isLt
  have hq : (i 1).val < 65536 := (i 1).isLt
  readout (h (ix2 ⟨(i 0).val * 64 + (i 1).val / 1024, by omega⟩ ⟨(i 1).val % 1024, by omega⟩))
    (gate (ix1 ⟨(i 1).val % 1024, by omega⟩))
    (mixed u yf yb dsk (place ⟨(i 0).val, hr⟩ ⟨(i 1).val / 1024, by omega⟩))
    (fun k => wv (ix2 k ⟨(i 1).val % 1024, by omega⟩)) (fun k => wg (ix2 k ⟨(i 1).val % 1024, by omega⟩))

end Cert.Odd

end
-- ==== Proof.OddInValue.lean ====
/-
  `odd_in`: what its result array ends holding. Each grid point takes one column of the token grid, 256 tokens, and
  stores their projections as four planes of 128 lanes.
-/
module

public import proofs.«01_k».proof.Proof.Gen.Kernel6Ideal.Value
public import proofs.«01_k».proof.Proof.OddSpec
public import proofs.«01_k».proof.Proof.RowSet
public import Idealize.ShloMosaic.Lib.Pipeline.ValueKit
public import Idealize.ShloMosaic.Lib.Pipeline.ReadBack

@[expose] public section

set_option maxRecDepth 16384

noncomputable section

namespace Cert.Kernel6Ideal.OddIn

open Idealize.ShloMosaic Idealize.ShloMosaic.TcCoe Idealize.SL.Sem
open Idealize.ShloMosaic.Pipeline (Dat)
open Cert.Kernel6Ideal Cert.Kernel6Ideal.Gen Cert.Ffn Cert.Odd

variable (m : (ℓ : Loc nD τ sig) → Buf (Elt Ideal) ℓ)

/-- A point's product: its tokens' modulated rows through the projection. -/
theorem prod_apply (x : FVec Ideal S256x1024 .f32) (g s b : FVec Ideal S1x1024 .f32) (w : FVec Ideal S1024x512 .bf16)
    (r : Fin 256) (l : Fin 512) :
    k0_pay3 (F := Ideal) x g s b w (ix2 r l)
      = ∑ k : Fin 1024, modulated (fun k => x (ix2 r k)) (fun k => g (ix2 0 k)) (fun k => s (ix2 0 k)) (fun k => b (ix2 0 k)) k
          * w (ix2 k l) := by
  simp only [← modulated_grouped]
  pointwise [k0_pay3, rowScale]

/-- Where plane `j`'s store puts its entries. -/
theorem plane_emb (j : Fin 4) (h : ∀ a, (![j.val, 0, 0] : Fin 3 → Nat) a + S1x256x128.size a ≤ S4x256x128.size a)
    (o : Fin 1) (r : Fin 256) (l : Fin 128) :
    (Rect.unit (s := S4x256x128) ![j.val, 0, 0] S1x256x128.size h).emb (ix3 o r l) = (ix3 j r l : S4x256x128.Idx) := by
  blk_ext

/-- A product's lanes as four planes. -/
abbrev planesOf (u : FVec Ideal S256x512 .f32) : S4x256x128.Idx → EReal := fun i => u (ix2 (i 1) ⟨(i 0).val * 128 + (i 2).val, by
  have h0 : (i 0).val < 4 := (i 0).isLt
  have h2 : (i 2).val < 128 := (i 2).isLt
  omega⟩)

/-- The stored planes are the product's lanes, 128 to a plane. -/
theorem planes_apply (a : FVec Ideal S256x1024 .f32) (b : FVec Ideal S8x1024 .f32) (w : FVec Ideal S1024x512 .bf16)
    (y : S4x256x128.Idx) :
    (show FVec Ideal S4x256x128 .f32 from out0_3 (F := Ideal) a b w) y = planesOf (k0_pay6 a b w) y := by
  unfold out0_3
  refine View.canon_apply_of_pieces (Val := Elt Ideal) (planesOf (k0_pay6 a b w)) _ (fun p hp x => ?_) y
    (cover0_3 (F := Ideal) _ _ _ _ _)
  simp only [List.mem_cons, List.not_mem_nil, or_false] at hp
  rcases hp with rfl | rfl | rfl | rfl
  all_goals idx_vars x
  · exact Eq.trans (by pointwise [k0_pay2]; rfl) (congrArg (planesOf (k0_pay6 a b w)) (plane_emb 3 inb_S4x256x128_S1x256x128_3_0_0 x0 x1 x2).symm)
  · exact Eq.trans (by pointwise [k0_pay1]; rfl) (congrArg (planesOf (k0_pay6 a b w)) (plane_emb 2 inb_S4x256x128_S1x256x128_2_0_0 x0 x1 x2).symm)
  · exact Eq.trans (by pointwise [k0_pay5]; rfl) (congrArg (planesOf (k0_pay6 a b w)) (plane_emb 1 inb_S4x256x128_S1x256x128_1_0_0 x0 x1 x2).symm)
  · have e : (⟨x2.val, by omega⟩ : Fin 512) = ⟨0 + x2.val, by omega⟩ := Fin.ext (Nat.zero_add x2.val).symm
    exact Eq.trans (by pointwise [k0_pay4]; rw [e]; rfl) (congrArg (planesOf (k0_pay6 a b w)) (plane_emb 0 inb_S4x256x128_S1x256x128_0_0_0 x0 x1 x2).symm)

/-- The windows' block indices at a point: the point is the grid column. -/
theorem idx_val : ∀ t : Fin cfg0.N, win0_0.index t = ![0, t.val] ∧ win0_1.index t = ![0, 0] ∧ win0_2.index t = ![0, 0]
    ∧ win0_3.index t = ![0, t.val, 0] :=
  (by decide +kernel : ∀ t : Fin grid0.N, _)

theorem lt_N (t : Fin cfg0.N) : t.val < 64 := lt_of_lt_of_eq t.isLt (show cfg0.N = 64 from N_0)

/-- Where row `r` of point `t`'s column stands. -/
abbrev pos (t : Fin cfg0.N) (r : Fin 256) : Fin 16384 := place r ⟨t.val, lt_N t⟩

theorem blk_h (c : Dev nD) (t : Fin cfg0.N) (r : Fin 256) (k : Fin 1024) :
    (show FVec Ideal S256x1024 .f32 from iblk m c 0 t) (ix2 r k)
      = (show FVec Ideal S16384x1024 .f32 from m (c.tc.loc main_arg0)) (ix2 (token (pos t r)) k) := by
  have hN := lt_N t
  blk_simp [iblk]
  entry_read
  have e : ((View.whole main_v8).slice (win0_0.rect t)).emb (ix2 r k)
      = (ix2 r ⟨t.val * 1024 + k.val, by omega⟩ : S256x65536.Idx) := by
    blk_ext [idx_val t]
  rw [e]
  pointwise [token, place]
  have e₁ : (t.val * 256 + r.val) % 256 * 64 + (t.val * 256 + r.val) / 256 = r.val * 64 + (t.val * 1024 + k.val) / 1024 := by omega
  simp only [e₁]

theorem blk_w (c : Dev nD) (t : Fin cfg0.N) (k : Fin 1024) (l : Fin 512) :
    (show FVec Ideal S1024x512 .bf16 from iblk m c 2 t) (ix2 k l) = (show FVec Ideal S1024x512 .f32 from m (c.tc.loc main_arg4)) (ix2 k l) := by
  blk_ext! [iblk, V, idx_val t]

/-- The parameter block's rows: gain, scale and shift, then zeros. -/
theorem blk_row (c : Dev nD) (t : Fin cfg0.N) (j : Fin 8) (l : Fin 1024) :
    (show FVec Ideal S8x1024 .f32 from iblk m c 1 t) (ix2 j l)
      = if 2 = j.val then (show FVec Ideal S1024 .f32 from m (c.tc.loc main_arg2)) (ix1 l)
        else if 1 = j.val then (show FVec Ideal S1024 .f32 from m (c.tc.loc main_arg3)) (ix1 l)
        else if 0 = j.val then (show FVec Ideal S1024 .f32 from m (c.tc.loc main_arg1)) (ix1 l) else 0 := by
  blk_simp [iblk]
  entry_read
  have e : ((View.whole main_v7).slice (win0_1.rect t)).emb (ix2 j l) = (ix2 j l : S8x1024.Idx) := by
    blk_ext [idx_val t]
  rw [e]
  iterate 3 refine (Cert.RowSet.apply _ rfl rfl _ _ _ _ (fun i => by pointwise; rfl) j l).trans (if_congr Iff.rfl rfl ?_)
  pointwise

/-- A one-row load off the parameter block. -/
theorem row_ld (B : FVec Ideal S8x1024 .f32) (j : Fin 8) (h : ∀ a, (![j.val, 0] : Fin 2 → Nat) a + S1x1024.size a ≤ S8x1024.size a) (l : Fin 1024) :
    (show FVec Ideal S1x1024 .f32 from View.ld (Val := Elt Ideal) (e' := .f32) B (Rect.unit (s := S8x1024) ![j.val, 0] ![1, 1024] h)) (ix2 0 l) = B (ix2 j l) :=
  View.ld_unit_apply_of (Val := Elt Ideal) (e := .f32) (S := S8x1024) B ![j.val, 0] ![1, 1024] h (ix2 0 l) (ix2 j l) (Fin.forall_fin_two.2 ⟨rfl, (Nat.zero_add _).symm⟩)

/-- A load of a block's every row. -/
theorem x_ld (B : FVec Ideal S256x1024 .f32) (r : Fin 256) (k : Fin 1024) :
    (show FVec Ideal S256x1024 .f32 from View.ld (Val := Elt Ideal) (e' := .f32) B r0_0) (ix2 r k) = B (ix2 r k) :=
  View.ld_unit_apply_of (Val := Elt Ideal) (e := .f32) (S := S256x1024) B ![0, 0] S256x1024.size inb_S256x1024_S256x1024_0_0 (ix2 r k) (ix2 r k)
    (Fin.forall_fin_two.2 ⟨(Nat.zero_add _).symm, (Nat.zero_add _).symm⟩)

theorem w_ld (B : FVec Ideal S1024x512 .bf16) (k : Fin 1024) (l : Fin 512) :
    (show FVec Ideal S1024x512 .bf16 from View.ld (Val := Elt Ideal) (e' := .bf16) B r0_4) (ix2 k l) = B (ix2 k l) :=
  View.ld_unit_apply_of (Val := Elt Ideal) (e := .bf16) (S := S1024x512) B ![0, 0] S1024x512.size inb_S1024x512_S1024x512_0_0 (ix2 k l) (ix2 k l)
    (Fin.forall_fin_two.2 ⟨(Nat.zero_add _).symm, (Nat.zero_add _).symm⟩)

/-- What a point's block holds. -/
theorem block_apply (c : Dev nD) (t : Fin cfg0.N) (j : Fin 4) (r : Fin 256) (l : Fin 128) :
    (show FVec Ideal S4x256x128 .f32 from out0_3 (iblk m c 0 t) (iblk m c 1 t) (iblk m c 2 t)) (ix3 j r l)
      = planes (m (c.tc.loc main_arg0)) (m (c.tc.loc main_arg1)) (m (c.tc.loc main_arg2)) (m (c.tc.loc main_arg3))
          (m (c.tc.loc main_arg4)) (ix3 j (pos t r) l) := by
  refine (planes_apply _ _ _ (ix3 j r l)).trans ((prod_apply _ _ _ _ _ r _).trans (Finset.sum_congr rfl fun k _ =>
    congrArg₂ (· * ·) (congrFun (congr (congr (congrArg₂ modulated (funext fun k => (x_ld (iblk m c 0 t) r k).trans (blk_h m c t r k))
      (funext fun k => (row_ld (iblk m c 1 t) 0 inb_S8x1024_S1x1024_0_0 k).trans (blk_row m c t 0 k)))
      (funext fun k => (row_ld (iblk m c 1 t) 1 inb_S8x1024_S1x1024_1_0 k).trans (blk_row m c t 1 k)))
      (funext fun k => (row_ld (iblk m c 1 t) 2 inb_S8x1024_S1x1024_2_0 k).trans (blk_row m c t 2 k))) k)
      ((w_ld (iblk m c 2 t) k _).trans (blk_w m c t k _))))

/-- The result array is the planes of the arguments. -/
theorem final (c : Dev nD) :
    (show FVec Ideal S4x16384x128 .f32 from (dats m 0 c).arrAt 3 cfg0.N)
      = planes (m (c.tc.loc main_arg0)) (m (c.tc.loc main_arg1)) (m (c.tc.loc main_arg2)) (m (c.tc.loc main_arg3))
          (m (c.tc.loc main_arg4)) := by
  refine (dats m 0 c).arrAt_eq_of_covers 3 _ (by decide +kernel) fun t hf y => ?_
  idx_vars y
  blk_simp
  rw [after0_3]
  have e : (win0_3.blk t).view.emb (ix3 y0 y1 y2) = (ix3 y0 (pos t y1) y2 : S4x16384x128.Idx) := by
    blk_ext [idx_val t]
  rw [e]
  exact block_apply m c t y0 y1 y2

end Cert.Kernel6Ideal.OddIn
end
-- ==== Proof.OddInRef.lean ====
/-
  The reference of `odd_in` at an index, in the layer's own terms.
-/
module

public import proofs.«01_k».proof.Proof.Gen.Reference6Ideal.Run
public import Idealize.ShloMosaic.Lib.Tactic.CleanTypes
public import proofs.«01_k».proof.Proof.OddSpec

@[expose] public section

set_option maxRecDepth 16384

noncomputable section

namespace Cert.Reference6Ideal.OddIn

open Idealize.ShloMosaic Idealize.ShloMosaic.TcCoe Idealize.SL.Sem
open Cert.Reference6Ideal Cert.Reference6Ideal.Gen Cert.Ffn Cert.Odd

variable (m : (ℓ : Loc nD τ sig) → Buf (Elt Ideal) ℓ)

/-- The reference runs, its result the planes of its arguments, which it leaves as they were. -/
theorem run (ρ : Dev nD → PrngReg) :
    θ_run defs (onTc (τ := τ) (main (F := Ideal))) ⟨m, fun _ => 0, ρ⟩ fun r => ∀ c : Dev nD,
      r.2.mem ((c.tc : Thread nD τ).loc main_v26) = planes (m (c.tc.loc main_arg0)) (m (c.tc.loc main_arg1))
        (m (c.tc.loc main_arg2)) (m (c.tc.loc main_arg3)) (m (c.tc.loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  funext y
  idx_vars y
  clean_types
  pointwise [planes, modulated, rowScale]

end Cert.Reference6Ideal.OddIn

end
-- ==== Proof.OddOutValue.lean ====
/-
  `odd_out`: what its result array ends holding. Each grid point takes one column of the token grid, 256 tokens, reads
  their lanes off the four planes and stores the gated readout into that column.
-/
module

public import proofs.«01_k».proof.Proof.Gen.Kernel7Ideal.Value
public import proofs.«01_k».proof.Proof.OddSpec
public import proofs.«01_k».proof.Proof.RowSet
public import Idealize.ShloMosaic.Lib.Pipeline.ValueKit
public import Idealize.ShloMosaic.Lib.Pipeline.ReadBack

@[expose] public section

set_option maxRecDepth 16384

noncomputable section

namespace Cert.Kernel7Ideal.OddOut

open Idealize.ShloMosaic Idealize.ShloMosaic.TcCoe Idealize.SL.Sem
open Idealize.ShloMosaic.Pipeline (Dat)
open Cert.Kernel7Ideal Cert.Kernel7Ideal.Gen Cert.Ffn Cert.Odd

variable (m : (ℓ : Loc nD τ sig) → Buf (Elt Ideal) ℓ)

/-- GELU as the kernel groups its cube. -/
theorem gelu_grouped (x : EReal) : x * (Ideal.ofBits .f32 0x3F000000#32 * (Ideal.ofBits .f32 0x3F800000#32
    + Ideal.tanh (Ideal.ofBits .f32 0x3F4C422A#32 * (x + Ideal.ofBits .f32 0x3D372713#32 * (x * (x * x)))))) = gelu x := by
  unfold gelu
  rw [mul_assoc x x x]

/-- One row's lane of the 512, from the four planes of one block: the skip and the two directions. -/
def lane (u yf yb : FVec Ideal S4x256x128 .f32) (d : FVec Ideal S4x1x128 .f32) (r : Fin 256) (k : Fin 512) : EReal :=
  d (ix3 ⟨k.val / 128, by omega⟩ 0 ⟨k.val % 128, by omega⟩) * u (ix3 ⟨k.val / 128, by omega⟩ r ⟨k.val % 128, by omega⟩)
    + yf (ix3 ⟨k.val / 128, by omega⟩ r ⟨k.val % 128, by omega⟩) + yb (ix3 ⟨k.val / 128, by omega⟩ r ⟨k.val % 128, by omega⟩)

/-- Lane `j * 128 + l` is lane `l` of plane `j`. -/
theorem lane_of (u yf yb : FVec Ideal S4x256x128 .f32) (d : FVec Ideal S4x1x128 .f32) (r : Fin 256) (k : Fin 512)
    (j : Fin 4) (l : Fin 128) (h : k.val = j.val * 128 + l.val) :
    lane u yf yb d r k = u (ix3 j r l) * d (ix3 j 0 l) + yf (ix3 j r l) + yb (ix3 j r l) := by
  have hj : (⟨k.val / 128, by omega⟩ : Fin 4) = j := Fin.ext (by show k.val / 128 = j.val; omega)
  have hl : (⟨k.val % 128, by omega⟩ : Fin 128) = l := Fin.ext (by show k.val % 128 = l.val; omega)
  unfold lane
  rw [hj, hl, mul_comm]

/-- The activations of one row. -/
theorem act_apply (u yf yb : FVec Ideal S4x256x128 .f32) (d : FVec Ideal S4x1x128 .f32) (r : Fin 256) (k : Fin 512) :
    k0_pay6 (F := Ideal) (k0_pay2 (View.ld u r0_0) (View.ld d r0_1) (View.ld yf r0_0) (View.ld yb r0_0))
      (k0_pay3 (View.ld u r0_2) (View.ld d r0_3) (View.ld yf r0_2) (View.ld yb r0_2)) (k0_pay4 (View.ld u r0_4))
      (k0_pay5 (View.ld d r0_5)) (View.ld yf r0_4) (View.ld yb r0_4) (View.ld u r0_6) (View.ld d r0_7) (View.ld yf r0_6)
      (View.ld yb r0_6) (ix2 r k) = gelu (lane u yf yb d r k) := by
  rw [← gelu_grouped]
  pointwise [k0_pay6, k0_pay2, k0_pay3, k0_pay4, k0_pay5]
  split_ifs
  all_goals first
    | (exfalso; omega)
    | (have hk : k.val < 128 := by omega
       rw [lane_of u yf yb d r k 0 ⟨k.val, hk⟩ (Nat.zero_add _).symm])
    | (have hk : 128 ≤ k.val ∧ k.val < 256 := by omega
       rw [lane_of u yf yb d r k 1 ⟨k.val - 128, by omega⟩ (by show k.val = 1 * 128 + (k.val - 128); omega)])
    | (have hk : 256 ≤ k.val ∧ k.val < 384 := by omega
       rw [lane_of u yf yb d r k 2 ⟨k.val - 128 - 128, by omega⟩ (by show k.val = 2 * 128 + (k.val - 128 - 128); omega)])
    | rw [lane_of u yf yb d r k 3 ⟨k.val - 128 - 128 - 128, by omega⟩ (by show k.val = 3 * 128 + (k.val - 128 - 128 - 128); omega)]

/-- A point's stored block, of its activations. -/
theorem out_apply (a : FVec Ideal S256x512 .bf16) (wv wg : FVec Ideal S512x1024 .bf16) (x : FVec Ideal S256x1024 .f32)
    (gate : FVec Ideal S1x1024 .f32) (r : Fin 256) (l : Fin 1024) :
    k0_pay1 (F := Ideal) a (k0_pay7 wv) wg x gate (ix2 r l) = x (ix2 r l) + gate (ix2 0 l)
      * ((∑ k, a (ix2 r k) * wv (ix2 k l)) * Ideal.logistic (∑ k, a (ix2 r k) * wg (ix2 k l))) := by
  pointwise [k0_pay1, k0_pay7]

/-- The windows' block indices at a point: the point is the grid column. -/
theorem idx_val : ∀ t : Fin cfg0.N, win0_0.index t = ![0, t.val] ∧ win0_1.index t = ![0, t.val, 0] ∧ win0_2.index t = ![0, t.val, 0]
    ∧ win0_3.index t = ![0, t.val, 0] ∧ win0_4.index t = ![0, 0] ∧ win0_5.index t = ![0, 0] ∧ win0_6.index t = ![0, 0]
    ∧ win0_7.index t = ![0, 0, 0] ∧ win0_8.index t = ![0, t.val] :=
  (by decide +kernel : ∀ t : Fin grid0.N, _)

theorem lt_N (t : Fin cfg0.N) : t.val < 64 := lt_of_lt_of_eq t.isLt (show cfg0.N = 64 from N_0)

/-- Where row `r` of point `t`'s column stands in column-major order. -/
abbrev pos (t : Fin cfg0.N) (r : Fin 256) : Fin 16384 := place r ⟨t.val, lt_N t⟩

/-- Lane `l` of point `t`'s column, among all columns' lanes. -/
abbrev col (t : Fin cfg0.N) (l : Fin 1024) : Fin 65536 := ⟨t.val * 1024 + l.val, by have := lt_N t; omega⟩

theorem blk_h (c : Dev nD) (t : Fin cfg0.N) (r : Fin 256) (l : Fin 1024) :
    (show FVec Ideal S256x1024 .f32 from iblk m c 0 t) (ix2 r l)
      = (show FVec Ideal S16384x1024 .f32 from m (c.tc.loc main_arg0)) (ix2 ⟨r.val * 64 + (col t l).val / 1024, by omega⟩ ⟨(col t l).val % 1024, by omega⟩) := by
  blk_simp [iblk]
  entry_read
  have e : ((View.whole main_v6).slice (win0_0.rect t)).emb (ix2 r l) = (ix2 r (col t l) : S256x65536.Idx) := by
    blk_ext [idx_val t]
  rw [e]
  have e₁ : (t.val * 1024 + l.val) % 1024 = l.val := by omega
  pointwise [col]
  simp only [e₁]

theorem blk_u (c : Dev nD) (t : Fin cfg0.N) (j : Fin 4) (r : Fin 256) (l : Fin 128) :
    (show FVec Ideal S4x256x128 .f32 from iblk m c 1 t) (ix3 j r l)
      = (show FVec Ideal S4x16384x128 .f32 from m (c.tc.loc main_arg1)) (ix3 j (pos t r) l) := by
  blk_ext [iblk, V, idx_val t]

theorem blk_yf (c : Dev nD) (t : Fin cfg0.N) (j : Fin 4) (r : Fin 256) (l : Fin 128) :
    (show FVec Ideal S4x256x128 .f32 from iblk m c 2 t) (ix3 j r l)
      = (show FVec Ideal S4x16384x128 .f32 from m (c.tc.loc main_arg2)) (ix3 j (pos t r) l) := by
  blk_ext [iblk, V, idx_val t]

theorem blk_yb (c : Dev nD) (t : Fin cfg0.N) (j : Fin 4) (r : Fin 256) (l : Fin 128) :
    (show FVec Ideal S4x256x128 .f32 from iblk m c 3 t) (ix3 j r l)
      = (show FVec Ideal S4x16384x128 .f32 from m (c.tc.loc main_arg3)) (ix3 j (pos t r) l) := by
  blk_ext [iblk, V, idx_val t]

theorem blk_wv (c : Dev nD) (t : Fin cfg0.N) (k : Fin 512) (l : Fin 1024) :
    (show FVec Ideal S512x1024 .bf16 from iblk m c 4 t) (ix2 k l) = (show FVec Ideal S512x1024 .f32 from m (c.tc.loc main_arg4)) (ix2 k l) := by
  blk_ext! [iblk, V, idx_val t]

theorem blk_wg (c : Dev nD) (t : Fin cfg0.N) (k : Fin 512) (l : Fin 1024) :
    (show FVec Ideal S512x1024 .bf16 from iblk m c 5 t) (ix2 k l) = (show FVec Ideal S512x1024 .f32 from m (c.tc.loc main_arg5)) (ix2 k l) := by
  blk_ext! [iblk, V, idx_val t]

/-- The parameter block's first row is the gate; the others are zeros. -/
theorem blk_row (c : Dev nD) (t : Fin cfg0.N) (j : Fin 8) (l : Fin 1024) :
    (show FVec Ideal S8x1024 .f32 from iblk m c 6 t) (ix2 j l)
      = if 0 = j.val then (show FVec Ideal S1024 .f32 from m (c.tc.loc main_arg6)) (ix1 l) else 0 := by
  blk_simp [iblk]
  entry_read
  have e : ((View.whole main_v4).slice (win0_6.rect t)).emb (ix2 j l) = (ix2 j l : S8x1024.Idx) := by
    blk_ext [idx_val t]
  rw [e]
  refine (Cert.RowSet.apply _ rfl rfl _ _ _ _ (fun i => by pointwise; rfl) j l).trans (if_congr Iff.rfl rfl ?_)
  pointwise

/-- The skip's block: its 512 lanes as four planes. -/
theorem blk_skip (c : Dev nD) (t : Fin cfg0.N) (k : Fin 512) :
    (show FVec Ideal S4x1x128 .f32 from iblk m c 7 t) (ix3 ⟨k.val / 128, by omega⟩ 0 ⟨k.val % 128, by omega⟩)
      = (show FVec Ideal S512 .f32 from m (c.tc.loc main_arg7)) (ix1 k) := by
  blk_simp [iblk]
  entry_read
  have e : ((View.whole main_v5).slice (win0_7.rect t)).emb (ix3 ⟨k.val / 128, by omega⟩ 0 ⟨k.val % 128, by omega⟩)
      = (ix3 ⟨k.val / 128, by omega⟩ 0 ⟨k.val % 128, by omega⟩ : S4x1x128.Idx) := by
    blk_ext [idx_val t]
  rw [e]
  pointwise

theorem gate_ld (B : FVec Ideal S8x1024 .f32) (l : Fin 1024) :
    (show FVec Ideal S1x1024 .f32 from View.ld (Val := Elt Ideal) (e' := .f32) B r0_10) (ix2 0 l) = B (ix2 0 l) :=
  View.ld_unit_apply_of (Val := Elt Ideal) (e := .f32) (S := S8x1024) B ![0, 0] S1x1024.size inb_S8x1024_S1x1024_0_0 (ix2 0 l) (ix2 0 l)
    (Fin.forall_fin_two.2 ⟨rfl, (Nat.zero_add _).symm⟩)

/-- What a point's block holds. -/
theorem block_apply (c : Dev nD) (t : Fin cfg0.N) (r : Fin 256) (l : Fin 1024) :
    (show FVec Ideal S256x1024 .f32 from out0_8 (F := Ideal) (iblk m c 0 t) (iblk m c 1 t) (iblk m c 2 t) (iblk m c 3 t) (iblk m c 4 t)
        (iblk m c 5 t) (iblk m c 6 t) (iblk m c 7 t)) (ix2 r l)
      = gridOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) (ix2 r (col t l)) := by
  have hc : (col t l).val / 1024 = t.val := by show (t.val * 1024 + l.val) / 1024 = t.val; omega
  have hl : (⟨(col t l).val % 1024, by omega⟩ : Fin 1024) = l := Fin.ext (by show (t.val * 1024 + l.val) % 1024 = l.val; omega)
  have hp : place r ⟨(col t l).val / 1024, by omega⟩ = pos t r := congrArg (place r) (Fin.ext hc)
  have hy : (fun k => lane (iblk m c 1 t) (iblk m c 2 t) (iblk m c 3 t) (iblk m c 7 t) r k)
      = mixed (m (c.tc.loc main_arg1)) (m (c.tc.loc main_arg2)) (m (c.tc.loc main_arg3)) (m (c.tc.loc main_arg7)) (pos t r) :=
    funext fun k => congrArg₂ (· + ·) (congrArg₂ (· + ·) (congrArg₂ (· * ·) (blk_skip m c t k) (blk_u m c t _ r _)) (blk_yf m c t _ r _)) (blk_yb m c t _ r _)
  unfold out0_8
  frame_out
  refine (out_apply _ _ _ _ _ r l).trans ?_
  show _ = readout _ _ (mixed _ _ _ _ (place r ⟨(col t l).val / 1024, by omega⟩)) _ _
  rw [hp, ← hy]
  refine congrArg₂ (· + ·) (blk_h m c t r l) (congrArg₂ (· * ·) ?_ (congrArg₂ (fun a b => a * Ideal.logistic b) ?_ ?_))
  · exact (gate_ld (iblk m c 6 t) l).trans ((blk_row m c t 0 l).trans
      (congrArg (fun q : Fin 1024 => (show FVec Ideal S1024 .f32 from m (c.tc.loc main_arg6)) (ix1 q)) hl.symm))
  · exact Finset.sum_congr rfl fun k _ => congrArg₂ (· * ·) (act_apply _ _ _ _ r k) ((blk_wv m c t k l).trans
      (congrArg (fun q : Fin 1024 => (show FVec Ideal S512x1024 .f32 from m (c.tc.loc main_arg4)) (ix2 k q)) hl.symm))
  · exact Finset.sum_congr rfl fun k _ => congrArg₂ (· * ·) (act_apply _ _ _ _ r k) ((blk_wg m c t k l).trans
      (congrArg (fun q : Fin 1024 => (show FVec Ideal S512x1024 .f32 from m (c.tc.loc main_arg5)) (ix2 k q)) hl.symm))

/-- The result array is the launch's array of the arguments. -/
theorem final (c : Dev nD) :
    (show FVec Ideal S256x65536 .f32 from (dats m 0 c).arrAt 8 cfg0.N)
      = gridOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) := by
  refine (dats m 0 c).arrAt_eq_of_covers 8 _ (by decide +kernel) fun t hf y => ?_
  idx_vars y
  blk_simp
  rw [after0_8]
  have e : (win0_8.blk t).view.emb (ix2 y0 y1) = (ix2 y0 (col t y1) : S256x65536.Idx) := by
    blk_ext [idx_val t]
  rw [e]
  exact block_apply m c t y0 y1

end Cert.Kernel7Ideal.OddOut
end
-- ==== Proof.OddOutRef.lean ====
/-
  The reference of `odd_out` at an index, in the layer's own terms.
-/
module

public import proofs.«01_k».proof.Proof.Gen.Reference7Ideal.Run
public import Idealize.ShloMosaic.Lib.Tactic.CleanTypes
public import proofs.«01_k».proof.Proof.OddSpec

@[expose] public section

set_option maxRecDepth 16384

noncomputable section

namespace Cert.Reference7Ideal.OddOut

open Idealize.ShloMosaic Idealize.ShloMosaic.TcCoe Idealize.SL.Sem
open Cert.Reference7Ideal Cert.Reference7Ideal.Gen Cert.Ffn Cert.Odd

variable (m : (ℓ : Loc nD τ sig) → Buf (Elt Ideal) ℓ)

/-- The reference's result is the gated readout of its arguments. -/
theorem result (c : Dev nD) :
    (show FVec Ideal S256x65536 .f32 from Value.res_main_v40 m c)
      = gridOut (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) := by
  funext y
  idx_vars y
  unfold Value.res_main_v40
  clean_types
  pointwise [gridOut, readout, mixed, gelu, place, Ideal.logistic]
  have e : (y0.val * 64 + y1.val / 1024) % 64 = y1.val / 1024 := by omega
  simp only [e]

end Cert.Reference7Ideal.OddOut

end
-- ==== Proof.AdaSpec.lean ====
/-
  The modulation vectors: for each layer, the conditioning rows through SiLU and an affine map.
-/
module

public import Idealize.ShloMosaic.Lib.Pipeline.ValueKit

@[expose] public section

noncomputable section

namespace Cert.Ada

open Idealize.ShloMosaic

/-- Lane `n` of layer `l`'s vector for conditioning row `i`. -/
def vectors (x : (⟨2, ![8, 1024]⟩ : Shape).Idx → EReal) (w : (⟨3, ![2, 1024, 6144]⟩ : Shape).Idx → EReal)
    (b : (⟨2, ![2, 6144]⟩ : Shape).Idx → EReal) : (⟨3, ![2, 8, 6144]⟩ : Shape).Idx → EReal := fun y =>
  (∑ k : Fin 1024, x (ix2 (y 1) k) * Ideal.logistic (x (ix2 (y 1) k)) * w (ix3 (y 0) k (y 2))) + b (ix2 (y 0) (y 2))

end Cert.Ada

end
-- ==== Proof.AdaValue.lean ====
/-
  `ada`: what its result array ends holding. Eight grid points make the two layers' vectors, 1536 lanes at a time.
-/
module

public import proofs.«01_k».proof.Proof.Gen.Kernel8Ideal.Value
public import proofs.«01_k».proof.Proof.AdaSpec
public import Idealize.ShloMosaic.Lib.Pipeline.ValueKit
public import Idealize.ShloMosaic.Lib.Pipeline.ReadBack

@[expose] public section

set_option maxRecDepth 16384

noncomputable section

namespace Cert.Kernel8Ideal.Ada

open Idealize.ShloMosaic Idealize.ShloMosaic.TcCoe Idealize.SL.Sem
open Idealize.ShloMosaic.Pipeline (Dat)
open Cert.Kernel8Ideal Cert.Kernel8Ideal.Gen Cert.Ada

variable (m : (ℓ : Loc nD τ sig) → Buf (Elt Ideal) ℓ)

/-- A point's stored block. -/
theorem out_apply (x : FVec Ideal S8x1024 .f32) (w : FVec Ideal S1x1024x1536 .f32) (b : FVec Ideal S1x1x1536 .f32) (o : Fin 1) (i : Fin 8) (l : Fin 1536) :
    k0_pay1 (F := Ideal) x w b (ix3 o i l)
      = (∑ k : Fin 1024, x (ix2 i k) * Ideal.logistic (x (ix2 i k)) * w (ix3 0 k l)) + b (ix3 0 0 l) := by
  pointwise [k0_pay1]

/-- The windows' block indices at a point: the layer is `t / 4`, the block of lanes `t % 4`. -/
theorem idx_val : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem lt_N (t : Fin cfg0.N) : t.val < 8 := lt_of_lt_of_eq t.isLt (show cfg0.N = 8 from N_0)

/-- The layer of point `t`, and lane `l` of its block. -/
abbrev layer (t : Fin cfg0.N) : Fin 2 := ⟨t.val / 4, by have := lt_N t; omega⟩
abbrev col (t : Fin cfg0.N) (l : Fin 1536) : Fin 6144 := ⟨t.val % 4 * 1536 + l.val, by omega⟩

theorem blk_x (c : Dev nD) (t : Fin cfg0.N) (i : Fin 8) (k : Fin 1024) :
    (show FVec Ideal S8x1024 .f32 from iblk m c 0 t) (ix2 i k) = (show FVec Ideal S8x1024 .f32 from m (c.tc.loc main_arg0)) (ix2 i k) := by
  blk_ext [iblk, V, idx_val t]

theorem blk_w (c : Dev nD) (t : Fin cfg0.N) (k : Fin 1024) (l : Fin 1536) :
    (show FVec Ideal S1x1024x1536 .f32 from iblk m c 1 t) (ix3 0 k l)
      = (show FVec Ideal S2x1024x6144 .f32 from m (c.tc.loc main_arg1)) (ix3 (layer t) k (col t l)) := by
  blk_ext [iblk, V, idx_val t]

theorem blk_b (c : Dev nD) (t : Fin cfg0.N) (l : Fin 1536) :
    (show FVec Ideal S1x1x1536 .f32 from iblk m c 2 t) (ix3 0 0 l)
      = (show FVec Ideal S2x6144 .f32 from m (c.tc.loc main_arg2)) (ix2 (layer t) (col t l)) := by
  have hN := lt_N t
  blk_simp [iblk]
  entry_read
  have e : ((View.whole main_v0).slice (win0_2.rect t)).emb (ix3 0 0 l) = (ix3 (layer t) 0 (col t l) : S2x1x6144.Idx) := by
    blk_ext [idx_val t]
  rw [e]
  pointwise

/-- What a point's block holds. -/
theorem block_apply (c : Dev nD) (t : Fin cfg0.N) (o : Fin 1) (i : Fin 8) (l : Fin 1536) :
    (show FVec Ideal S1x8x1536 .f32 from out0_3 (F := Ideal) (iblk m c 0 t) (iblk m c 1 t) (iblk m c 2 t)) (ix3 o i l)
      = vectors (m (c.tc.loc main_arg0)) (m (c.tc.loc main_arg1)) (m (c.tc.loc main_arg2)) (ix3 (layer t) i (col t l)) := by
  unfold out0_3
  frame_out
  refine (out_apply _ _ _ o i l).trans (congrArg₂ (· + ·) (Finset.sum_congr rfl fun k _ => congrArg₂ (· * ·) ?_ (blk_w m c t k l)) (blk_b m c t l))
  exact congrArg (fun q : EReal => q * Ideal.logistic q) (blk_x m c t i k)

/-- The result array is the vectors of the arguments. -/
theorem final (c : Dev nD) :
    (show FVec Ideal S2x8x6144 .f32 from (dats m 0 c).arrAt 3 cfg0.N)
      = vectors (m (c.tc.loc main_arg0)) (m (c.tc.loc main_arg1)) (m (c.tc.loc main_arg2)) := by
  refine (dats m 0 c).arrAt_eq_of_covers 3 _ (by decide +kernel) fun t hf y => ?_
  idx_vars y
  blk_simp
  rw [after0_3]
  obtain rfl : y0 = 0 := Subsingleton.elim _ _
  have e : (win0_3.blk t).view.emb (ix3 0 y1 y2) = (ix3 (layer t) y1 (col t y2) : S2x8x6144.Idx) := by
    blk_ext [idx_val t]
  rw [e]
  exact block_apply m c t 0 y1 y2

end Cert.Kernel8Ideal.Ada
end
-- ==== Proof.AdaRef.lean ====
/-
  The modulation vectors' reference: each layer's affine map of the rows, the two layers stacked.
-/
module

public import proofs.«01_k».proof.Proof.Gen.Reference8Ideal.Run
public import Idealize.ShloMosaic.Lib.Tactic.CleanTypes
public import proofs.«01_k».proof.Proof.AdaSpec

@[expose] public section

set_option maxRecDepth 16384

noncomputable section

namespace Cert.Reference8Ideal.Ada

open Idealize.ShloMosaic Idealize.ShloMosaic.TcCoe Idealize.SL.Sem
open Cert.Reference8Ideal Cert.Reference8Ideal.Gen Cert.Ada

variable (m : (ℓ : Loc nD τ sig) → Buf (Elt Ideal) ℓ)

/-- The reference runs, its result the vectors of its arguments, which it leaves as they were. -/
theorem run (ρ : Dev nD → PrngReg) :
    θ_run defs (onTc (τ := τ) (main (F := Ideal))) ⟨m, fun _ => 0, ρ⟩ fun r => ∀ c : Dev nD,
      r.2.mem ((c.tc : Thread nD τ).loc main_v20) = vectors (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext y
  idx_vars y
  clean_types
  fin_cases y0
  all_goals
    pointwise [vectors, Ideal.logistic]

end Cert.Reference8Ideal.Ada

end
-- ==== Proof.S5BackLoop.lean ====
/-
  The backward recurrence inside one block of 256 tokens: the loop runs over the rows of the drive from the last to the
  first, keeps the state in one row of scratch and replaces each row of the drive by the state before it.
-/
module

public import proofs.«01_k».proof.Proof.Gen.Kernel9Ideal.Value
public import proofs.«01_k».proof.Proof.S5Spec
public import Idealize.ShloMosaic.Lib.Pipeline.ValueKit
public import Idealize.ShloMosaic.Lib.WritesUnit

@[expose] public section

set_option maxRecDepth 16384

noncomputable section

namespace Cert.Kernel9Ideal.S5Back

open Idealize.ShloMosaic Idealize.ShloMosaic.TcCoe Idealize.SL.Sem
open Idealize.ShloMosaic.Pipeline (Dat)
open Cert.Kernel9Ideal Cert.Kernel9Ideal.Gen Cert.S5

/-- The drive's scratch and the state's. -/
abbrev vD : View sig .tc .vmem S256x1024 .f32 := View.whole cc0_scratch0
abbrev vS : View sig .tc .vmem S1x1024 .f32 := View.whole cc0_scratch1

/-- What the trips before `k` write, from the contents `G` of the drive's scratch and `G'` of the state's. -/
abbrev pcs (c : Dev nD) (t : Fin cfg0.N) (l l' : Vec Ideal S1x1x512 .f32) (G : BufTy.Contents (Elt Ideal) vD.ty)
    (G' : BufTy.Contents (Elt Ideal) vS.ty) (k : ℕ) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _) l l' G G' k

/-- What trip `n` drives lane `q` with: the rows of the drive are taken from the last to the first. -/
abbrev lane (D : Vec Ideal S256x1024 .f32) (q : Fin 1024) (n : ℕ) : EReal := if h : n < 256 then D (ix2 (Fin.rev ⟨n, h⟩) q) else 0

/-- Lane `a`'s state before trip `n`. -/
abbrev state (l l' : Vec Ideal S1x1x512 .f32) (D : Vec Ideal S256x1024 .f32) (s : Vec Ideal S1x1024 .f32) (a : Fin 512) (n : ℕ) : EReal × EReal :=
  orbit (l (ix3 0 0 a)) (l' (ix3 0 0 a)) (lane D (re a)) (lane D (im a)) (s (ix2 0 (re a)), s (ix2 0 (im a))) n

theorem off_iv : ∀ k : Fin 256, (Scalar.indexCast (Scalar.subi (255#32) (Scf.iv (0#32) (1#32) k.val))).toNat = 255 - k.val := by decide +kernel

theorem pay_re (l l' : Vec Ideal S1x1x512 .f32) (p q : Vec Ideal S1x512 .f32) (d : Vec Ideal S1x1024 .f32) (a : Fin 512) :
    k0_pay8 (F := Ideal) l l' p q d (ix2 0 a) = l (ix3 0 0 a) * p (ix2 0 a) - l' (ix3 0 0 a) * q (ix2 0 a) + d (ix2 0 (re a)) := by
  pointwise [k0_pay8, k0_pay6, k0_pay7]

theorem pay_im (l l' : Vec Ideal S1x1x512 .f32) (p q : Vec Ideal S1x512 .f32) (d : Vec Ideal S1x1024 .f32) (a : Fin 512) :
    k0_pay9 (F := Ideal) l l' p q d (ix2 0 a) = l (ix3 0 0 a) * q (ix2 0 a) + l' (ix3 0 0 a) * p (ix2 0 a) + d (ix2 0 (im a)) := by
  pointwise [k0_pay9, k0_pay6, k0_pay7]

theorem pay10_apply (p : Vec Ideal S1x512 .f32) (a : Fin 512) : k0_pay10 (F := Ideal) p (ix2 0 a) = p (ix2 0 a) := by
  pointwise [k0_pay10]
theorem pay11_apply (p : Vec Ideal S1x512 .f32) (a : Fin 512) : k0_pay11 (F := Ideal) p (ix2 0 a) = p (ix2 0 a) := by
  pointwise [k0_pay11]

theorem trips_eq : k0_t1_loop.trips = 256 := by decide +kernel

/-- The row trip `k` takes. -/
abbrev row (k : Fin k0_t1_loop.trips) : Fin 256 := ⟨255 - k.val, by omega⟩

theorem off1 (k : Fin k0_t1_loop.trips) : k0_off1 k = ![255 - k.val, 0] := by
  show ![_, 0] = _
  rw [show (Scalar.indexCast (Scalar.subi (255#32) (Scf.iv (0#32) (1#32) k.val))).toNat = 255 - k.val from off_iv ⟨k.val, k.isLt.trans_eq trips_eq⟩]
theorem off2 (k : Fin k0_t1_loop.trips) : k0_off2 k = ![255 - k.val, 0] := off1 k
theorem off3 (k : Fin k0_t1_loop.trips) : k0_off3 k = ![255 - k.val, 512] := by
  show ![_, 512] = _
  rw [show (Scalar.indexCast (Scalar.subi (255#32) (Scf.iv (0#32) (1#32) k.val))).toNat = 255 - k.val from off_iv ⟨k.val, k.isLt.trans_eq trips_eq⟩]

/-- The rows a trip loads: the state's two halves and the trip's row of the drive. -/
abbrev ldRe (f : BufTy.Contents (Elt Ideal) vS.ty) : Vec Ideal S1x512 .f32 :=
  View.readAt (Elt Ideal) vS (Rect.unit (s := S1x1024) ![0, 0] S1x512.size inb_S1x1024_S1x512_0_0).toLoadRect f
abbrev ldIm (f : BufTy.Contents (Elt Ideal) vS.ty) : Vec Ideal S1x512 .f32 :=
  View.readAt (Elt Ideal) vS (Rect.unit (s := S1x1024) ![0, 512] S1x512.size inb_S1x1024_S1x512_0_512).toLoadRect f
abbrev ldRow (k : Fin k0_t1_loop.trips) (f : BufTy.Contents (Elt Ideal) vD.ty) : Vec Ideal S1x1024 .f32 :=
  View.readAt (Elt Ideal) vD (Rect.unit (s := S256x1024) (k0_off1 k) S1x1024.size (k0_off1_inb k)).toLoadRect f

theorem ldRe_apply (f : BufTy.Contents (Elt Ideal) vS.ty) (b : Fin 512) :
    ldRe f (ix2 0 b) = vS.read (Elt Ideal) f (ix2 0 (re b)) := by
  show View.read _ _ _ _ = _
  refine congrArg _ (funext fun a => Fin.ext ?_)
  match a with
  | ⟨0, _⟩ => rfl
  | ⟨1, _⟩ => simp [Rect.unit]

theorem ldIm_apply (f : BufTy.Contents (Elt Ideal) vS.ty) (b : Fin 512) :
    ldIm f (ix2 0 b) = vS.read (Elt Ideal) f (ix2 0 (im b)) := by
  show View.read _ _ _ _ = _
  refine congrArg _ (funext fun a => Fin.ext ?_)
  match a with
  | ⟨0, _⟩ => rfl
  | ⟨1, _⟩ => simp [Rect.unit]

theorem ldRow_apply (k : Fin k0_t1_loop.trips) (f : BufTy.Contents (Elt Ideal) vD.ty) (b : Fin 1024) :
    ldRow k f (ix2 0 b) = vD.read (Elt Ideal) f (ix2 (row k) b) := by
  show View.read _ _ _ _ = _
  refine congrArg _ (funext fun a => Fin.ext ?_)
  match a with
  | ⟨0, _⟩ => simp [Rect.unit, off1 k]
  | ⟨1, _⟩ => simp [Rect.unit, off1 k]

variable (c : Dev nD) (t : Fin cfg0.N) (l l' : Vec Ideal S1x1x512 .f32) (G : BufTy.Contents (Elt Ideal) vD.ty)
  (G' : BufTy.Contents (Elt Ideal) vS.ty)

/-- The two scratch buffers before trip `k`, and as arrays: the state's row and the drive's rows. -/
abbrev bufS (k : ℕ) : BufTy.Contents (Elt Ideal) vS.ty := vS.writes (Elt Ideal) G' (pcs c t l l' G G' k).2
abbrev bufD (k : ℕ) : BufTy.Contents (Elt Ideal) vD.ty := vD.writes (Elt Ideal) G (pcs c t l l' G G' k).1
abbrev stateRow (k : ℕ) : Vec Ideal S1x1024 .f32 := vS.read (Elt Ideal) (bufS c t l l' G G' k)
abbrev rows (k : ℕ) : Vec Ideal S256x1024 .f32 := vD.read (Elt Ideal) (bufD c t l l' G G' k)

/-- What one trip writes over the state's row covers it, whatever was there. -/
theorem trip_payload (B : BufTy.Contents (Elt Ideal) vS.ty) (k : Fin k0_t1_loop.trips) (a : Fin 512) :
    vS.read (Elt Ideal) (vS.writes (Elt Ideal) B (pcs c t l l' G G' (k.val + 1)).2) (ix2 0 (re a))
        = k0_pay8 l l' (ldRe (bufS c t l l' G G' k.val)) (ldIm (bufS c t l l' G G' k.val)) (ldRow k (bufD c t l l' G G' k.val)) (ix2 0 a)
      ∧ vS.read (Elt Ideal) (vS.writes (Elt Ideal) B (pcs c t l l' G G' (k.val + 1)).2) (ix2 0 (im a))
        = k0_pay9 l l' (ldRe (bufS c t l l' G G' k.val)) (ldIm (bufS c t l l' G G' k.val)) (ldRow k (bufD c t l l' G G' k.val)) (ix2 0 a) := by
  unfold bufS bufD pcs
  rw [pb_k0_t1_succ]
  dsimp only [tripL_k0_t1]
  unfold trip_k0_t1
  dsimp only
  constructor
  · rw [List.cons_append, View.read_writes_cons_unit_of_not_mem _ _ _ _ _ _ rfl 1 (Or.inl (by show a.val < 512; omega)),
      List.cons_append, View.read_writes_cons_unit_of_mem _ _ _ _ _ _ (ix2 0 a) rfl (by intro b; match b with | ⟨0, _⟩ => rfl | ⟨1, _⟩ => exact (Nat.zero_add _).symm)]
  · rw [List.cons_append, View.read_writes_cons_unit_of_mem _ _ _ _ _ _ (ix2 0 a) rfl (by intro b; match b with | ⟨0, _⟩ => rfl | ⟨1, _⟩ => rfl)]

/-- What one trip leaves in the state's row. -/
theorem trip_state (k : Fin k0_t1_loop.trips) (a : Fin 512) :
    stateRow c t l l' G G' (k.val + 1) (ix2 0 (re a))
        = l (ix3 0 0 a) * stateRow c t l l' G G' k.val (ix2 0 (re a)) - l' (ix3 0 0 a) * stateRow c t l l' G G' k.val (ix2 0 (im a))
          + rows c t l l' G G' k.val (ix2 (row k) (re a))
      ∧ stateRow c t l l' G G' (k.val + 1) (ix2 0 (im a))
        = l (ix3 0 0 a) * stateRow c t l l' G G' k.val (ix2 0 (im a)) + l' (ix3 0 0 a) * stateRow c t l l' G G' k.val (ix2 0 (re a))
          + rows c t l l' G G' k.val (ix2 (row k) (im a)) := by
  have h := trip_payload c t l l' G G' G' k a
  unfold stateRow
  rw [h.1, h.2, pay_re, pay_im, ldRe_apply, ldIm_apply, ldRow_apply, ldRow_apply]
  exact ⟨rfl, rfl⟩

/-- A trip replaces its row of the drive by the state before it. -/
theorem trip_row (k : Fin k0_t1_loop.trips) (a : Fin 512) :
    rows c t l l' G G' (k.val + 1) (ix2 (row k) (re a)) = stateRow c t l l' G G' k.val (ix2 0 (re a))
      ∧ rows c t l l' G G' (k.val + 1) (ix2 (row k) (im a)) = stateRow c t l l' G G' k.val (ix2 0 (im a)) := by
  suffices h : rows c t l l' G G' (k.val + 1) (ix2 (row k) (re a)) = ldRe (bufS c t l l' G G' k.val) (ix2 0 a)
      ∧ rows c t l l' G G' (k.val + 1) (ix2 (row k) (im a)) = ldIm (bufS c t l l' G G' k.val) (ix2 0 a) by
    rw [h.1, h.2, ldRe_apply, ldIm_apply]
    exact ⟨rfl, rfl⟩
  unfold rows bufD pcs
  rw [pb_k0_t1_succ]
  dsimp only [tripL_k0_t1]
  unfold trip_k0_t1
  dsimp only
  constructor
  · rw [List.cons_append, View.read_writes_cons_unit_of_not_mem _ _ _ _ _ _ (off3 k) 1 (Or.inl (by show a.val < 512; omega)),
      List.cons_append, View.read_writes_cons_unit_of_mem _ _ _ _ _ _ (ix2 0 a) (off2 k) (by intro b; match b with | ⟨0, _⟩ => rfl | ⟨1, _⟩ => exact (Nat.zero_add _).symm)]
    exact pay10_apply _ a
  · rw [List.cons_append, View.read_writes_cons_unit_of_mem _ _ _ _ _ _ (ix2 0 a) (off3 k) (by intro b; match b with | ⟨0, _⟩ => rfl | ⟨1, _⟩ => rfl)]
    exact pay11_apply _ a

/-- and leaves the other rows. -/
theorem trip_other (k : Fin k0_t1_loop.trips) (r : Fin 256) (hr : 255 - r.val ≠ k.val) (q : Fin 1024) :
    rows c t l l' G G' (k.val + 1) (ix2 r q) = rows c t l l' G G' k.val (ix2 r q) := by
  have hne : r.val < 255 - k.val ∨ 255 - k.val + 1 ≤ r.val := by have := k.isLt.trans_eq trips_eq; omega
  unfold rows bufD pcs
  rw [pb_k0_t1_succ]
  dsimp only [tripL_k0_t1]
  unfold trip_k0_t1
  dsimp only
  rw [List.cons_append, View.read_writes_cons_unit_of_not_mem _ _ _ _ _ _ (off3 k) 0 hne,
      List.cons_append, View.read_writes_cons_unit_of_not_mem _ _ _ _ _ _ (off2 k) 0 hne, List.nil_append]

/-- The loop's invariant. Before trip `k` the state's row holds every lane's state; the rows of the drive already
    passed hold the states before them, the others the drive. -/
theorem before_trip (D : Vec Ideal S256x1024 .f32) (s : Vec Ideal S1x1024 .f32) (hD : vD.read (Elt Ideal) G = D) (hs : vS.read (Elt Ideal) G' = s) :
    ∀ k : ℕ, k ≤ 256 →
      (∀ a : Fin 512, stateRow c t l l' G G' k (ix2 0 (re a)) = (state l l' D s a k).1 ∧ stateRow c t l l' G G' k (ix2 0 (im a)) = (state l l' D s a k).2)
        ∧ ∀ r : Fin 256, (255 - r.val < k → ∀ a : Fin 512, rows c t l l' G G' k (ix2 r (re a)) = (state l l' D s a (255 - r.val)).1
              ∧ rows c t l l' G G' k (ix2 r (im a)) = (state l l' D s a (255 - r.val)).2)
            ∧ (k ≤ 255 - r.val → ∀ q, rows c t l l' G G' k (ix2 r q) = D (ix2 r q))
  | 0, _ => by
    subst hD hs
    exact ⟨fun a => ⟨rfl, rfl⟩, fun r => ⟨fun h => absurd h (Nat.not_lt_zero _), fun _ q => rfl⟩⟩
  | k + 1, h => by
    obtain ⟨ih, ihr⟩ := before_trip D s hD hs k (by omega)
    have hk : k < k0_t1_loop.trips := trips_eq ▸ h
    have hrow : 255 - (row ⟨k, hk⟩).val = k := by show 255 - (255 - k) = k; omega
    refine ⟨fun a => ?_, fun r => ⟨fun hr a => ?_, fun hr q => ?_⟩⟩
    · have e := trip_state c t l l' G G' ⟨k, hk⟩ a
      dsimp only at e
      rw [e.1, e.2, (ih a).1, (ih a).2, (ihr (row ⟨k, hk⟩)).2 hrow.ge, (ihr (row ⟨k, hk⟩)).2 hrow.ge]
      have d : ∀ q, D (ix2 (row ⟨k, hk⟩) q) = lane D q k := fun q => by
        rw [lane, dif_pos (show k < 256 from h)]
        exact congrArg (fun r => D (ix2 r q)) (Fin.ext (by show 255 - k = 256 - (k + 1); omega))
      rw [d, d]
      exact ⟨rfl, rfl⟩
    · by_cases hrk : 255 - r.val = k
      · have e := trip_row c t l l' G G' ⟨k, hk⟩ a
        dsimp only at e
        obtain rfl : r = row ⟨k, hk⟩ := Fin.ext (by show r.val = 255 - k; omega)
        rw [e.1, e.2, hrow]
        exact ih a
      · have e := trip_other c t l l' G G' ⟨k, hk⟩ r hrk
        dsimp only at e
        rw [e, e]
        exact (ihr r).1 (by omega) a
    · have e := trip_other c t l l' G G' ⟨k, hk⟩ r (by show 255 - r.val ≠ k; omega) q
      dsimp only at e
      rw [e]
      exact (ihr r).2 (by omega) q

/-- After the loop: the state's row, also as the last writes alone make it, and the rows. -/
theorem after_loop (D : Vec Ideal S256x1024 .f32) (s : Vec Ideal S1x1024 .f32) (hD : vD.read (Elt Ideal) G = D) (hs : vS.read (Elt Ideal) G' = s) :
    (∀ q, stateRow c t l l' G G' 256 (ix2 0 q) = cols (fun a => state l l' D s a 256) q)
      ∧ (∀ q, View.canon (pcs c t l l' G G' 256).2 (ix2 0 q) = cols (fun a => state l l' D s a 256) q)
      ∧ ∀ r q, rows c t l l' G G' 256 (ix2 r q) = cols (fun a => state l l' D s a (255 - r.val)) q := by
  obtain ⟨h, hr⟩ := before_trip c t l l' G G' D s hD hs 256 le_rfl
  have hq : ∀ q, stateRow c t l l' G G' 256 (ix2 0 q) = cols (fun a => state l l' D s a 256) q := fun q => by
    obtain ⟨a, rfl⟩ | ⟨a, rfl⟩ := re_or_im q
    · rw [cols_re]; exact (h a).1
    · rw [cols_im]; exact (h a).2
  refine ⟨hq, fun q => (Eq.trans ?_ (hq q)), fun r q => ?_⟩
  · rw [← View.read_writes_junk_eq_canon vS]
    obtain ⟨a, rfl⟩ | ⟨a, rfl⟩ := re_or_im q
    · exact (trip_payload c t l l' G G' _ ⟨255, by rw [trips_eq]; decide⟩ a).1.trans (trip_payload c t l l' G G' G' ⟨255, by rw [trips_eq]; decide⟩ a).1.symm
    · exact (trip_payload c t l l' G G' _ ⟨255, by rw [trips_eq]; decide⟩ a).2.trans (trip_payload c t l l' G G' G' ⟨255, by rw [trips_eq]; decide⟩ a).2.symm
  · obtain ⟨a, rfl⟩ | ⟨a, rfl⟩ := re_or_im q
    · rw [cols_re]; exact ((hr r).1 (by omega) a).1
    · rw [cols_im]; exact ((hr r).1 (by omega) a).2

end Cert.Kernel9Ideal.S5Back
end
-- ==== Proof.S5BackValue.lean ====
/-
  The backward S5 scan: what its two result arrays end holding. Sixteen grid points run plane by plane, four blocks of
  256 positions each, from the last block to the first; step `n` of a plane is at position `1023 - n`. The state's row is carried from block to block and reset to the given initial state at the first one.
-/
module

public import proofs.«01_k».proof.Proof.Gen.Kernel9Ideal.Value
public import proofs.«01_k».proof.Proof.S5BackLoop
public import Idealize.ShloMosaic.Lib.Pipeline.ValueKit
public import Idealize.ShloMosaic.Lib.Pipeline.ReadBack

@[expose] public section

set_option maxRecDepth 16384

noncomputable section

namespace Cert.Kernel9Ideal.S5Back

open Idealize.ShloMosaic Idealize.ShloMosaic.TcCoe Idealize.SL.Sem
open Idealize.ShloMosaic.Pipeline (Dat)
open Cert.Kernel9Ideal Cert.Kernel9Ideal.Gen Cert.S5

variable (m : (ℓ : Loc nD τ sig) → Buf (Elt Ideal) ℓ)

/-- The windows' block indices: the plane is `t / 4`, the block of positions `3 - t % 4`. -/
theorem idx_val : ∀ t : Fin cfg0.N, win0_0.index t = ![t.val / 4, 3 - t.val % 4, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val / 4, 3 - t.val % 4, 0] ∧ win0_7.index t = ![t.val / 4, 0, 0] :=
  (by decide +kernel : ∀ t : Fin grid0.N, _)

theorem lt_N (t : Fin cfg0.N) : t.val < 16 := lt_of_lt_of_eq t.isLt (show cfg0.N = 16 from N_0)

/-- The plane of point `t`, and the position of row `r` of its block. -/
abbrev plane (t : Fin cfg0.N) : Fin 4 := ⟨t.val / 4, by have := lt_N t; omega⟩
abbrev pos (t : Fin cfg0.N) (r : Fin 256) : Fin 1024 := ⟨(3 - t.val % 4) * 256 + r.val, by omega⟩
/-- The step that takes row `r`. -/
abbrev stepOf (t : Fin cfg0.N) (r : Fin 256) : Fin 1024 := ⟨t.val % 4 * 256 + (255 - r.val), by omega⟩

theorem rev_stepOf (t : Fin cfg0.N) (r : Fin 256) : Fin.rev (stepOf t r) = pos t r :=
  Fin.ext (by show 1024 - (t.val % 4 * 256 + (255 - r.val) + 1) = (3 - t.val % 4) * 256 + r.val; omega)
theorem rev_pos (t : Fin cfg0.N) (r : Fin 256) : Fin.rev (pos t r) = stepOf t r :=
  Fin.ext (by show 1024 - ((3 - t.val % 4) * 256 + r.val + 1) = t.val % 4 * 256 + (255 - r.val); omega)

/-- The arguments, as functions; the input by the step that takes it. -/
abbrev aU (c : Dev nD) (j : Fin 4) (n : Fin 1024) (k : Fin 2048) : EReal := (show FVec Ideal S4x1024x2048 .f32 from m (c.tc.loc main_arg0)) (ix3 j (Fin.rev n) k)
abbrev aIn (c : Dev nD) (j : Fin 4) (k : Fin 2048) (q : Fin 1024) : EReal := (show FVec Ideal S4x2048x1024 .bf16 from m (c.tc.loc main_arg1)) (ix3 j k q)
abbrev aOut (c : Dev nD) (j : Fin 4) (q : Fin 1024) (o : Fin 2048) : EReal := (show FVec Ideal S4x1024x2048 .bf16 from m (c.tc.loc main_arg2)) (ix3 j q o)
abbrev aT (c : Dev nD) (j : Fin 4) (k o : Fin 2048) : EReal := (show FVec Ideal S4x2048x2048 .bf16 from m (c.tc.loc main_arg3)) (ix3 j k o)
abbrev aL (c : Dev nD) (j : Fin 4) (q : Fin 1024) : EReal := (show FVec Ideal S4x8x1024 .f32 from m (c.tc.loc main_arg4)) (ix3 j 0 q)
abbrev aH (c : Dev nD) (j : Fin 4) (q : Fin 1024) : EReal := (show FVec Ideal S4x8x1024 .f32 from m (c.tc.loc main_arg5)) (ix3 j 0 q)

variable (c : Dev nD)

theorem blk_u (t : Fin cfg0.N) (r : Fin 256) (k : Fin 2048) :
    (show FVec Ideal S1x256x2048 .f32 from iblk m c 0 t) (ix3 0 r k) = aU m c (plane t) (stepOf t r) k := by
  rw [aU, rev_stepOf]
  blk_ext [iblk, V, idx_val t]
theorem blk_in (t : Fin cfg0.N) (k : Fin 2048) (q : Fin 1024) :
    (show FVec Ideal S1x2048x1024 .bf16 from iblk m c 1 t) (ix3 0 k q) = aIn m c (plane t) k q := by
  blk_ext [iblk, V, idx_val t]
theorem blk_out (t : Fin cfg0.N) (q : Fin 1024) (o : Fin 2048) :
    (show FVec Ideal S1x1024x2048 .bf16 from iblk m c 2 t) (ix3 0 q o) = aOut m c (plane t) q o := by
  blk_ext [iblk, V, idx_val t]
theorem blk_t (t : Fin cfg0.N) (k o : Fin 2048) :
    (show FVec Ideal S1x2048x2048 .bf16 from iblk m c 3 t) (ix3 0 k o) = aT m c (plane t) k o := by
  blk_ext [iblk, V, idx_val t]
theorem blk_l (t : Fin cfg0.N) (q : Fin 1024) :
    (show FVec Ideal S1x8x1024 .f32 from iblk m c 4 t) (ix3 0 0 q) = aL m c (plane t) q := by
  blk_ext [iblk, V, idx_val t]
theorem blk_h (t : Fin cfg0.N) (q : Fin 1024) :
    (show FVec Ideal S1x8x1024 .f32 from iblk m c 5 t) (ix3 0 0 q) = aH m c (plane t) q := by
  blk_ext [iblk, V, idx_val t]

/-- The multiplier's halves, the initial state and the drive, as a point holds them. -/
abbrev lR (t : Fin cfg0.N) : Vec Ideal S1x1x512 .f32 :=
  View.ld (iblk m c 4 t) (Rect.unit (s := S1x8x1024) ![0, 0, 0] S1x1x512.size inb_S1x8x1024_S1x1x512_0_0_0)
abbrev lI (t : Fin cfg0.N) : Vec Ideal S1x1x512 .f32 :=
  View.ld (iblk m c 4 t) (Rect.unit (s := S1x8x1024) ![0, 0, 512] S1x1x512.size inb_S1x8x1024_S1x1x512_0_0_512)
abbrev first (t : Fin cfg0.N) : Vec Ideal S1x1024 .f32 :=
  k0_pay3 (F := Ideal) (View.ld (iblk m c 5 t) (Rect.unit (s := S1x8x1024) ![0, 0, 0] S1x1x1024.size inb_S1x8x1024_S1x1x1024_0_0_0))
abbrev drv (t : Fin cfg0.N) : Vec Ideal S256x1024 .f32 := k0_pay5 (F := Ideal) (iblk m c 0 t) (iblk m c 1 t)

theorem lR_apply (t : Fin cfg0.N) (a : Fin 512) : lR m c t (ix3 0 0 a) = aL m c (plane t) (re a) := by
  rw [← blk_l]
  exact View.ld_unit_apply_of (Val := Elt Ideal) (e := .f32) (S := S1x8x1024) (iblk m c 4 t) ![0, 0, 0] S1x1x512.size inb_S1x8x1024_S1x1x512_0_0_0 (ix3 0 0 a) (ix3 0 0 (re a))
    (by intro b; match b with | ⟨0, _⟩ => rfl | ⟨1, _⟩ => rfl | ⟨2, _⟩ => exact (Nat.zero_add _).symm)
theorem lI_apply (t : Fin cfg0.N) (a : Fin 512) : lI m c t (ix3 0 0 a) = aL m c (plane t) (im a) := by
  rw [← blk_l]
  exact View.ld_unit_apply_of (Val := Elt Ideal) (e := .f32) (S := S1x8x1024) (iblk m c 4 t) ![0, 0, 512] S1x1x512.size inb_S1x8x1024_S1x1x512_0_0_512 (ix3 0 0 a) (ix3 0 0 (im a))
    (by intro b; match b with | ⟨0, _⟩ => rfl | ⟨1, _⟩ => rfl | ⟨2, _⟩ => rfl)

theorem pay3_apply (x : Vec Ideal S1x1x1024 .f32) (q : Fin 1024) : k0_pay3 (F := Ideal) x (ix2 0 q) = x (ix3 0 0 q) := by
  pointwise [k0_pay3]
theorem first_apply (t : Fin cfg0.N) (q : Fin 1024) : first m c t (ix2 0 q) = aH m c (plane t) q := by
  rw [← blk_h, first, pay3_apply]
  exact View.ld_unit_apply_of (Val := Elt Ideal) (e := .f32) (S := S1x8x1024) (iblk m c 5 t) ![0, 0, 0] S1x1x1024.size inb_S1x8x1024_S1x1x1024_0_0_0 (ix3 0 0 q) (ix3 0 0 q)
    (by intro b; match b with | ⟨0, _⟩ => rfl | ⟨1, _⟩ => rfl | ⟨2, _⟩ => exact (Nat.zero_add _).symm)

theorem pay5_apply (u : Vec Ideal S1x256x2048 .f32) (w : Vec Ideal S1x2048x1024 .bf16) (r : Fin 256) (q : Fin 1024) :
    k0_pay5 (F := Ideal) u w (ix2 r q) = ∑ k : Fin 2048, u (ix3 0 r k) * w (ix3 0 k q) := by
  pointwise [k0_pay5, k0_pay4]

theorem drv_apply (t : Fin cfg0.N) (q : Fin 1024) (r : Fin 256) :
    drv m c t (ix2 r q) = drive (aU m c) (aIn m c) (plane t) q (t.val % 4 * 256 + (255 - r.val)) := by
  rw [drv, pay5_apply, drive, dif_pos (stepOf t r).isLt]
  exact Finset.sum_congr rfl fun k _ => congrArg₂ _ (blk_u m c t r k) (blk_in m c t k q)

/-- A point's output: the states' rows read out, plus the block's tokens through the direct matrix. -/
theorem out_apply (u : Vec Ideal S1x256x2048 .f32) (x : Vec Ideal S256x1024 .f32) (w : Vec Ideal S1x1024x2048 .bf16) (v : Vec Ideal S1x2048x2048 .bf16)
    (r : Fin 256) (o : Fin 2048) :
    k0_pay1 (F := Ideal) (k0_pay4 u) (k0_pay12 x w) (k0_pay13 v) (constant S256x2048 FTy.f32 0#32) (ix3 0 r o)
      = (∑ q : Fin 1024, x (ix2 r q) * w (ix3 0 q o)) + ∑ k : Fin 2048, u (ix3 0 r k) * v (ix3 0 k o) := by
  pointwise [k0_pay1, k0_pay4, k0_pay12, k0_pay13]

theorem pay2_apply (x : Vec Ideal S1x1024 .f32) (i : Fin 8) (q : Fin 1024) : k0_pay2 (F := Ideal) x (ix3 0 i q) = x (ix2 0 q) := by
  pointwise [k0_pay2]

/-- The states of the arguments' recurrence. -/
abbrev lanes (j : Fin 4) (n : ℕ) : Fin 512 → EReal × EReal := laneState (aU m c) (aIn m c) (aL m c) (aH m c) j n

/-- A block's states are the recurrence's at the block's positions, once it starts from the state before its first. -/
theorem state_block (t : Fin cfg0.N) (s : Vec Ideal S1x1024 .f32) (hs : ∀ q, s (ix2 0 q) = cols (lanes m c (plane t) (t.val % 4 * 256)) q)
    (a : Fin 512) (n : ℕ) (hn : n ≤ 256) :
    state (lR m c t) (lI m c t) (drv m c t) s a n = lanes m c (plane t) (t.val % 4 * 256 + n) a := by
  have hl : ∀ q, ∀ k < n, lane (drv m c t) q k = drive (aU m c) (aIn m c) (plane t) q (t.val % 4 * 256 + k) := fun q k hk => by
    have hk : k < 256 := by omega
    refine (dif_pos hk).trans ((drv_apply m c t q (Fin.rev ⟨k, hk⟩)).trans (congrArg (fun i => drive (aU m c) (aIn m c) (plane t) q (t.val % 4 * 256 + i)) ?_))
    show 255 - (256 - (k + 1)) = k
    omega
  unfold state lanes laneState
  rw [← orbit_add, lR_apply, lI_apply, hs, hs, cols_re, cols_im]
  exact orbit_congr _ _ _ _ _ _ _ n (hl _) (hl _)

/-- The drive's scratch when the loop starts. -/
abbrev G0 (t : Fin cfg0.N) : BufTy.Contents (Elt Ideal) vD.ty :=
  vD.writes (Elt Ideal) vD.junk [⟨Rect.unit ![0, 0] ![256, 1024] inb_S256x1024_S256x1024_0_0, drv m c t⟩]

theorem drive_stored (D : Vec Ideal S256x1024 .f32) :
    vD.read (Elt Ideal) (vD.writes (Elt Ideal) vD.junk [⟨Rect.unit ![0, 0] ![256, 1024] inb_S256x1024_S256x1024_0_0, D⟩]) = D := by
  funext y
  idx_vars y
  exact View.read_writes_cons_unit_of_mem (s := S256x1024) vD _ inb_S256x1024_S256x1024_0_0 D [] (ix2 y0 y1) (ix2 y0 y1) rfl
    (by intro b; match b with | ⟨0, _⟩ => exact (Nat.zero_add _).symm | ⟨1, _⟩ => exact (Nat.zero_add _).symm)

theorem G0_read (t : Fin cfg0.N) : vD.read (Elt Ideal) (G0 m c t) = drv m c t := drive_stored _

/-- The rows the read-out takes. -/
theorem rows_read (t : Fin cfg0.N) (G' : BufTy.Contents (Elt Ideal) vS.ty) :
    vD.readCov ((pcs c t (lR m c t) (lI m c t) (G0 m c t) G' 256).1 ++ [⟨Rect.unit ![0, 0] ![256, 1024] inb_S256x1024_S256x1024_0_0, drv m c t⟩])
        (Rect.unit ![0, 0] ![256, 1024] inb_S256x1024_S256x1024_0_0).toLoadRect
      = rows c t (lR m c t) (lI m c t) (G0 m c t) G' 256 := by
  rw [View.readCov_eq_canon', ← View.read_writes_junk_eq_canon vD, View.writes_append]
  funext y
  idx_vars y
  show rows c t (lR m c t) (lI m c t) (G0 m c t) G' 256 _ = _
  refine congrArg _ (funext fun a => Fin.ext ?_)
  match a with
  | ⟨0, _⟩ => simp [Rect.unit]
  | ⟨1, _⟩ => simp [Rect.unit]

theorem trips256 : Scf.trips (0#32) (Scalar.addi 0#32 256#32) 1#32 = 256 := trips_eq

/-- The output block, from what the loop starts with. -/
theorem block_out (t : Fin cfg0.N) (G' : BufTy.Contents (Elt Ideal) vS.ty)
    (hs : ∀ q, vS.read (Elt Ideal) G' (ix2 0 q) = cols (lanes m c (plane t) (t.val % 4 * 256)) q) (r : Fin 256) (o : Fin 2048) :
    k0_pay1 (F := Ideal) (k0_pay4 (iblk m c 0 t)) (k0_pay12 (rows c t (lR m c t) (lI m c t) (G0 m c t) G' 256) (iblk m c 2 t)) (k0_pay13 (iblk m c 3 t))
        (constant S256x2048 FTy.f32 0#32) (ix3 0 r o)
      = output (aU m c) (aIn m c) (aOut m c) (aT m c) (aL m c) (aH m c) (plane t) (stepOf t r) o := by
  rw [out_apply, output]
  refine congrArg₂ _ (Finset.sum_congr rfl fun q _ => ?_) (Finset.sum_congr rfl fun k _ => congrArg₂ _ (blk_u m c t r k) (blk_t m c t k o))
  rw [(after_loop c t (lR m c t) (lI m c t) (G0 m c t) G' _ _ (G0_read m c t) rfl).2.2 r q]
  refine congrArg₂ _ (congrFun (congrArg cols (funext fun a => ?_)) q) (blk_out m c t q o)
  exact state_block m c t _ hs a (255 - r.val) (by omega)

/-- The state's row after the loop, in the two forms it is left in. -/
theorem block_state (t : Fin cfg0.N) (G' : BufTy.Contents (Elt Ideal) vS.ty)
    (hs : ∀ q, vS.read (Elt Ideal) G' (ix2 0 q) = cols (lanes m c (plane t) (t.val % 4 * 256)) q) (q : Fin 1024) :
    stateRow c t (lR m c t) (lI m c t) (G0 m c t) G' 256 (ix2 0 q) = cols (lanes m c (plane t) (t.val % 4 * 256 + 256)) q
      ∧ View.canon (pcs c t (lR m c t) (lI m c t) (G0 m c t) G' 256).2 (ix2 0 q) = cols (lanes m c (plane t) (t.val % 4 * 256 + 256)) q := by
  obtain ⟨h1, h2, -⟩ := after_loop c t (lR m c t) (lI m c t) (G0 m c t) G' _ _ (G0_read m c t) rfl
  rw [h1, h2, show (fun a => state (lR m c t) (lI m c t) (drv m c t) (vS.read (Elt Ideal) G') a 256) = lanes m c (plane t) (t.val % 4 * 256 + 256) from
    funext fun a => state_block m c t _ hs a 256 le_rfl]
  exact ⟨rfl, rfl⟩

/-- The state's scratch at the start of a plane. -/
abbrev S0 (t : Fin cfg0.N) : BufTy.Contents (Elt Ideal) vS.ty :=
  vS.writes (Elt Ideal) vS.junk [⟨Rect.unit ![0, 0] ![1, 1024] inb_S1x1024_S1x1024_0_0, first m c t⟩]

theorem S0_read (t : Fin cfg0.N) (h0 : t.val % 4 = 0) (q : Fin 1024) :
    vS.read (Elt Ideal) (S0 m c t) (ix2 0 q) = cols (lanes m c (plane t) (t.val % 4 * 256)) q := by
  refine (View.read_writes_cons_unit_of_mem _ _ _ _ _ _ (ix2 0 q) rfl (by intro b; match b with | ⟨0, _⟩ => rfl | ⟨1, _⟩ => exact (Nat.zero_add _).symm)).trans ?_
  rw [first_apply, h0, Nat.zero_mul]
  obtain ⟨a, rfl⟩ | ⟨a, rfl⟩ := re_or_im q
  · rw [cols_re]; rfl
  · rw [cols_im]; rfl

theorem carry_A (t : Fin cfg0.N) (h0 : t.val % 4 = 0) (h1 : ¬ t.val % 4 = 3) (q : Fin 1024) :
    (outsAt0 m c t.val t.isLt).2.2 (ix2 0 q) = cols (lanes m c (plane t) (t.val % 4 * 256 + 256)) q := by
  rw [outsAt0_A m c t h0 h1]
  frame_out
  rw [trips256, ← View.read_writes_junk_eq_canon vS, View.writes_append]
  exact (block_state m c t (S0 m c t) (S0_read m c t h0) q).1

theorem out_A (t : Fin cfg0.N) (h0 : t.val % 4 = 0) (h1 : ¬ t.val % 4 = 3) (r : Fin 256) (o : Fin 2048) :
    (outsAt0 m c t.val t.isLt).1 (ix3 0 r o) = output (aU m c) (aIn m c) (aOut m c) (aT m c) (aL m c) (aH m c) (plane t) (stepOf t r) o := by
  rw [outsAt0_A m c t h0 h1]
  frame_out
  rw [trips256]
  erw [rows_read m c t (S0 m c t)]
  exact block_out m c t (S0 m c t) (S0_read m c t h0) r o

/-- The state's scratch at a later block of a plane: what the block before left. -/
theorem unread_row (x : Vec Ideal S1x1024 .f32) (h : (Memref.whole cc0_scratch1).IsWhole) : vS.read (Elt Ideal) (h.unread x) = x :=
  read_unread_whole _ _ _

/-- What a point leaves as the carried state. -/
def Carried (t : Fin cfg0.N) : Prop :=
  ∀ q, (outsAt0 m c t.val t.isLt).2.2 (ix2 0 q) = cols (lanes m c (plane t) (t.val % 4 * 256 + 256)) q

/-- The carried state is where the next block of the plane starts. -/
theorem Carried.next (t : Fin cfg0.N) (h0 : ¬ t.val % 4 = 0) (h : Carried m c ⟨t.val - 1, by have := lt_N t; omega⟩) (q : Fin 1024) :
    (outsAt0 m c (t.val - 1) (by omega)).2.2 (ix2 0 q) = cols (lanes m c (plane t) (t.val % 4 * 256)) q := by
  have e := h q
  have e1 : plane ⟨t.val - 1, by have := lt_N t; omega⟩ = plane t := Fin.ext (by show (t.val - 1) / 4 = t.val / 4; omega)
  have e2 : (t.val - 1) % 4 * 256 + 256 = t.val % 4 * 256 := by omega
  dsimp only at e
  rw [e1, e2] at e
  exact e

theorem carry_B (t : Fin cfg0.N) (h0 : ¬ t.val % 4 = 0) (h1 : ¬ t.val % 4 = 3)
    (h : ∀ q, (outsAt0 m c (t.val - 1) (by omega)).2.2 (ix2 0 q) = cols (lanes m c (plane t) (t.val % 4 * 256)) q) : Carried m c t := fun q => by
  rw [outsAt0_B m c t h0 h1]
  frame_out
  rw [trips256]
  exact (block_state m c t _ (fun q => (congrFun (unread_row _ _) _).trans (h q)) q).2

theorem carry_C (t : Fin cfg0.N) (h0 : ¬ t.val % 4 = 0) (h1 : t.val % 4 = 3)
    (h : ∀ q, (outsAt0 m c (t.val - 1) (by omega)).2.2 (ix2 0 q) = cols (lanes m c (plane t) (t.val % 4 * 256)) q) : Carried m c t := fun q => by
  rw [outsAt0_C m c t h0 h1]
  frame_out
  rw [trips256]
  exact (block_state m c t _ (fun q => (congrFun (unread_row _ _) _).trans (h q)) q).2

theorem carried : ∀ (n : ℕ) (hn : n < cfg0.N), Carried m c ⟨n, hn⟩
  | 0, hn => carry_A m c ⟨0, hn⟩ rfl (by show ¬ 0 % 4 = 3; decide)
  | n + 1, hn => by
    by_cases h0 : (n + 1) % 4 = 0
    · exact carry_A m c ⟨n + 1, hn⟩ h0 (by show ¬ (n + 1) % 4 = 3; omega)
    · have hp := Carried.next m c ⟨n + 1, hn⟩ h0 (carried n (by omega))
      by_cases h1 : (n + 1) % 4 = 3
      · exact carry_C m c ⟨n + 1, hn⟩ h0 h1 hp
      · exact carry_B m c ⟨n + 1, hn⟩ h0 h1 hp

/-- So a later block starts from the state before its first position. -/
theorem entry (t : Fin cfg0.N) (h0 : ¬ t.val % 4 = 0) (q : Fin 1024) :
    (outsAt0 m c (t.val - 1) (by omega)).2.2 (ix2 0 q) = cols (lanes m c (plane t) (t.val % 4 * 256)) q :=
  Carried.next m c t h0 (carried m c _ _) q

/-- Every point's output block. -/
theorem out_apply_at (t : Fin cfg0.N) (r : Fin 256) (o : Fin 2048) :
    (outsAt0 m c t.val t.isLt).1 (ix3 0 r o) = output (aU m c) (aIn m c) (aOut m c) (aT m c) (aL m c) (aH m c) (plane t) (stepOf t r) o := by
  by_cases h0 : t.val % 4 = 0
  · exact out_A m c t h0 (by omega) r o
  · by_cases h1 : t.val % 4 = 3
    · rw [outsAt0_C m c t h0 h1]
      frame_out
      rw [trips256]
      erw [rows_read m c t]
      exact block_out m c t _ (fun q => (congrFun (unread_row _ _) _).trans (entry m c t h0 q)) r o
    · rw [outsAt0_B m c t h0 h1]
      frame_out
      rw [trips256]
      erw [rows_read m c t]
      exact block_out m c t _ (fun q => (congrFun (unread_row _ _) _).trans (entry m c t h0 q)) r o

/-- The last block of a plane puts the final state out, in all eight rows. -/
theorem last_apply (t : Fin cfg0.N) (h1 : t.val % 4 = 3) (i : Fin 8) (q : Fin 1024) :
    (outsAt0 m c t.val t.isLt).2.1 (ix3 0 i q) = cols (lanes m c (plane t) 1024) q := by
  have h0 : ¬ t.val % 4 = 0 := by omega
  rw [outsAt0_C m c t h0 h1]
  frame_out
  rw [trips256, pay2_apply]
  refine (block_state m c t _ (fun q => (congrFun (unread_row _ _) _).trans (entry m c t h0 q)) q).1.trans ?_
  rw [h1]

/-- The two result arrays. -/
theorem final_out :
    (dats m 0 c).arrAt 6 cfg0.N = outputsBack (m (c.tc.loc main_arg0)) (m (c.tc.loc main_arg1)) (m (c.tc.loc main_arg2))
      (m (c.tc.loc main_arg3)) (m (c.tc.loc main_arg4)) (m (c.tc.loc main_arg5)) := by
  refine (dats m 0 c).arrAt_eq_of_covers 6 _ (by decide +kernel) fun t hf y => ?_
  idx_vars y
  blk_simp
  rw [after0_6]
  obtain rfl : y0 = 0 := Subsingleton.elim _ _
  have e : (win0_6.blk t).view.emb (ix3 0 y1 y2) = (ix3 (plane t) (pos t y1) y2 : S4x1024x2048.Idx) := by
    blk_ext [idx_val t]
  rw [e]
  refine (out_apply_at m c t y1 y2).trans ?_
  rw [← rev_pos]
  rfl

theorem final_state :
    (dats m 0 c).arrAt 7 cfg0.N = finalState (turn (m (c.tc.loc main_arg0))) (m (c.tc.loc main_arg1)) (m (c.tc.loc main_arg4)) (m (c.tc.loc main_arg5)) := by
  refine (dats m 0 c).arrAt_eq_of_covers 7 _ (by decide +kernel) fun t hf y => ?_
  idx_vars y
  blk_simp
  rw [after0_7]
  obtain rfl : y0 = 0 := Subsingleton.elim _ _
  have e : (win0_7.blk t).view.emb (ix3 0 y1 y2) = (ix3 (plane t) y1 y2 : S4x8x1024.Idx) := by
    blk_ext [idx_val t]
  rw [e]
  have h1 : t.val % 4 = 3 := (flush0_7 t).1 hf
  exact last_apply m c t h1 y1 y2

end Cert.Kernel9Ideal.S5Back
end
-- ==== Proof.S5BackRef.lean ====
/-
  The backward S5 scan's reference: the recurrence from the last position to the first, then the read-out of the states it passed through.
-/
module

public import proofs.«01_k».proof.Proof.Gen.Reference9Ideal.Run
public import Idealize.ShloMosaic.Lib.Tactic.CleanTypes
public import proofs.«01_k».proof.Proof.S5Ref

@[expose] public section

set_option maxRecDepth 16384

noncomputable section

namespace Cert.Reference9Ideal.S5Back

open Idealize.ShloMosaic Idealize.ShloMosaic.TcCoe Idealize.SL.Sem Idealize.ShloMosaic.StableHlo
open Cert.Reference9Ideal Cert.Reference9Ideal.Gen Cert.Reference9Ideal.Value Cert.S5
open Cert.ReferenceIdeal.S5 (row_read row_write row_keep cast_row joined put_row read_out put_state)

variable (m : (ℓ : Loc nD τ sig) → Buf (Elt Ideal) ℓ) (c : Dev nD)

/-- The carried buffers before trip `k`. -/
abbrev Vk (k : ℕ) : Valuation τ sig (Elt Ideal) := STEP^[k] (entryContents preI m c)

theorem Vk_succ (k : ℕ) : Vk m c (k + 1) = STEP (Vk m c k) := Function.iterate_succ_apply' _ _ _

/-- The arguments, as functions; the input by the trip that takes it. -/
abbrev aU (j : Fin 4) (n : Fin 1024) (k : Fin 2048) : EReal := (show FVec Ideal S4x1024x2048 .f32 from m (c.tc.loc main_arg0)) (ix3 j (Fin.rev n) k)
abbrev aIn (j : Fin 4) (k : Fin 2048) (q : Fin 1024) : EReal := (show FVec Ideal S4x2048x1024 .bf16 from m (c.tc.loc main_arg1)) (ix3 j k q)
abbrev aL (j : Fin 4) (q : Fin 1024) : EReal := (show FVec Ideal S4x8x1024 .f32 from m (c.tc.loc main_arg4)) (ix3 j 0 q)
abbrev aH (j : Fin 4) (q : Fin 1024) : EReal := (show FVec Ideal S4x8x1024 .f32 from m (c.tc.loc main_arg5)) (ix3 j 0 q)

/-- What the loop carries, as arrays. -/
abbrev drives (k : ℕ) : FVec Ideal S1024x4x1024 .f32 := Vk m c k (Proc.devRef .tc main_v12_0)
abbrev lamRe (k : ℕ) : FVec Ideal S4x512 .f32 := Vk m c k (Proc.devRef .tc main_v12_1)
abbrev lamIm (k : ℕ) : FVec Ideal S4x512 .f32 := Vk m c k (Proc.devRef .tc main_v12_2)
abbrev counter (k : ℕ) : IVec S_ 32 := Vk m c k (Proc.devRef .tc main_v12_3)
abbrev stRe (k : ℕ) : FVec Ideal S4x512 .f32 := Vk m c k (Proc.devRef .tc main_v12_4)
abbrev stIm (k : ℕ) : FVec Ideal S4x512 .f32 := Vk m c k (Proc.devRef .tc main_v12_5)
abbrev passed (k : ℕ) : FVec Ideal S1024x4x1024 .f32 := Vk m c k (Proc.devRef .tc main_v12_6)

theorem entry_drive (n : Fin 1024) (j : Fin 4) (q : Fin 1024) :
    drives m c 0 (ix3 n j q) = ∑ k : Fin 2048, aU m c j (Fin.rev n) k * aIn m c j k q := by
  have e : drives m c 0 = transpose S1024x4x1024 [2, 0, 1] (Host.dotGeneral dot_S4x2048x1024_S4x1024x2048_S4x1024x1024_1_2_2_1_0_0 none
      (extf FTy.f32 (show FVec Ideal S4x2048x1024 .bf16 from m (c.tc.loc main_arg1)) bitsLt_bf16_f32) (show FVec Ideal S4x1024x2048 .f32 from m (c.tc.loc main_arg0)))
      transposes_S4x1024x1024_S1024x4x1024_2_0_1 := by
    show (show FVec Ideal S1024x4x1024 .f32 from entryContents preI m c (Proc.devRef .tc main_v12_0)) = _
    simp only [entryContents, afterL_cons, afterL_nil]
    after_reads_simp
    rfl
  rw [e]
  pointwise []
  refine Finset.sum_congr rfl fun k _ => (mul_comm _ _).trans ?_
  rw [aU, Fin.rev_rev]

theorem entry_lamRe (j : Fin 4) (a : Fin 512) : lamRe m c 0 (ix2 j a) = aL m c j (re a) := by
  show (show FVec Ideal S4x512 .f32 from entryContents preI m c (Proc.devRef .tc main_v12_1)) _ = _
  simp only [entryContents, afterL_cons, afterL_nil]
  after_reads_simp
  clean_types
  pointwise []
  rfl

theorem entry_lamIm (j : Fin 4) (a : Fin 512) : lamIm m c 0 (ix2 j a) = aL m c j (im a) := by
  show (show FVec Ideal S4x512 .f32 from entryContents preI m c (Proc.devRef .tc main_v12_2)) _ = _
  simp only [entryContents, afterL_cons, afterL_nil]
  after_reads_simp
  clean_types
  pointwise []
  rfl

theorem entry_stRe (j : Fin 4) (a : Fin 512) : stRe m c 0 (ix2 j a) = aH m c j (re a) := by
  show (show FVec Ideal S4x512 .f32 from entryContents preI m c (Proc.devRef .tc main_v12_4)) _ = _
  simp only [entryContents, afterL_cons, afterL_nil]
  after_reads_simp
  clean_types
  pointwise []
  rfl

theorem entry_stIm (j : Fin 4) (a : Fin 512) : stIm m c 0 (ix2 j a) = aH m c j (im a) := by
  show (show FVec Ideal S4x512 .f32 from entryContents preI m c (Proc.devRef .tc main_v12_5)) _ = _
  simp only [entryContents, afterL_cons, afterL_nil]
  after_reads_simp
  clean_types
  pointwise []
  rfl

/-- The drive and the multipliers stay, and the counter counts. -/
theorem drives_eq : ∀ k, drives m c k = drives m c 0
  | 0 => rfl
  | k + 1 => by rw [drives, Vk_succ, STEP_main_v12_0]; exact drives_eq k
theorem lamRe_eq : ∀ k, lamRe m c k = lamRe m c 0
  | 0 => rfl
  | k + 1 => by rw [lamRe, Vk_succ, STEP_main_v12_1]; exact lamRe_eq k
theorem lamIm_eq : ∀ k, lamIm m c k = lamIm m c 0
  | 0 => rfl
  | k + 1 => by rw [lamIm, Vk_succ, STEP_main_v12_2]; exact lamIm_eq k
theorem counter_eq : ∀ k, counter m c k = fun _ => BitVec.ofNat 32 k
  | 0 => ctr_entry m c
  | k + 1 => by
    rw [counter, Vk_succ, STEP_main_v12_3, step_main_v12_3]
    funext i
    show (counter m c k i : BitVec 32) + 1#32 = _
    rw [counter_eq k]
    exact (BitVec.ofNat_add ..).symm

/-- The words a trip's row is addressed by: trip `k` takes row `1023 - k`. -/
def start (V : Valuation τ sig (Elt Ideal)) : Fin 3 → Int := fun a =>
  (((![res_main_while0b_v22 V, constantI S_ 32 0#32, constantI S_ 32 0#32] : Fin 3 → (⟨S_, .i32⟩ : BufTy).Contents (Elt Ideal))) a (Shape.Idx.first h_S_)).toInt

theorem start_row (k : ℕ) (n : Fin 1024) (hn : n.val + k = 1023) : start (Vk m c k) 0 = n.val := by
  show ((1024#32 - counter m c k (Shape.Idx.first h_S_)) - 1#32).toInt = (n.val : Int)
  rw [counter_eq]
  have e : ((1024#32 - BitVec.ofNat 32 k) - 1#32).toNat = n.val := by
    simp only [BitVec.toNat_sub, BitVec.toNat_ofNat]
    omega
  show ((1024#32 - BitVec.ofNat 32 k) - 1#32).toInt = _
  rw [BitVec.toInt_eq_toNat_of_lt (by rw [e]; omega), e]

theorem start_plane (V : Valuation τ sig (Elt Ideal)) : start V 1 = 0 := rfl
theorem start_col (V : Valuation τ sig (Elt Ideal)) : start V 2 = 0 := rfl

theorem row_of_drive (k : ℕ) (n : Fin 1024) (hn : n.val + k = 1023) (j : Fin 4) (q : Fin 1024) :
    (show FVec Ideal S4x1024 .f32 from res_main_while0b_v23 (Vk m c k)) (ix2 j q) = drives m c k (ix3 n j q) := by
  unfold res_main_while0b_v23
  exact (cast_row _ j q).trans (row_read _ (start (Vk m c k)) n _ (start_row m c k n hn) (start_plane _) (start_col _) j q)

/-- One trip's states. -/
theorem step_re (V : Valuation τ sig (Elt Ideal)) (j : Fin 4) (a : Fin 512) :
    (show FVec Ideal S4x512 .f32 from step_main_v12_4 V) (ix2 j a)
      = (show FVec Ideal S4x512 .f32 from V (Proc.devRef .tc main_v12_1)) (ix2 j a) * (show FVec Ideal S4x512 .f32 from V (Proc.devRef .tc main_v12_4)) (ix2 j a)
        - (show FVec Ideal S4x512 .f32 from V (Proc.devRef .tc main_v12_2)) (ix2 j a) * (show FVec Ideal S4x512 .f32 from V (Proc.devRef .tc main_v12_5)) (ix2 j a)
        + (show FVec Ideal S4x1024 .f32 from res_main_while0b_v23 V) (ix2 j (re a)) := by
  unfold step_main_v12_4
  generalize res_main_while0b_v23 V = r
  clean_types
  simp only [id_eq]
  pointwise []

theorem step_im (V : Valuation τ sig (Elt Ideal)) (j : Fin 4) (a : Fin 512) :
    (show FVec Ideal S4x512 .f32 from step_main_v12_5 V) (ix2 j a)
      = (show FVec Ideal S4x512 .f32 from V (Proc.devRef .tc main_v12_1)) (ix2 j a) * (show FVec Ideal S4x512 .f32 from V (Proc.devRef .tc main_v12_5)) (ix2 j a)
        + (show FVec Ideal S4x512 .f32 from V (Proc.devRef .tc main_v12_2)) (ix2 j a) * (show FVec Ideal S4x512 .f32 from V (Proc.devRef .tc main_v12_4)) (ix2 j a)
        + (show FVec Ideal S4x1024 .f32 from res_main_while0b_v23 V) (ix2 j (im a)) := by
  unfold step_main_v12_5
  generalize res_main_while0b_v23 V = r
  clean_types
  simp only [id_eq]
  pointwise []

/-- The states of the arguments' recurrence. -/
abbrev lanes (j : Fin 4) (n : ℕ) : Fin 512 → EReal × EReal := laneState (aU m c) (aIn m c) (aL m c) (aH m c) j n

/-- Before trip `k` the loop carries the states before step `k`. -/
theorem states_eq : ∀ k, k ≤ 1024 → ∀ (j : Fin 4) (a : Fin 512),
    stRe m c k (ix2 j a) = (lanes m c j k a).1 ∧ stIm m c k (ix2 j a) = (lanes m c j k a).2
  | 0, _, j, a => ⟨entry_stRe m c j a, entry_stIm m c j a⟩
  | k + 1, hk, j, a => by
    have ih := states_eq k (by omega) j a
    have hd : ∀ q, (show FVec Ideal S4x1024 .f32 from res_main_while0b_v23 (Vk m c k)) (ix2 j q) = drive (aU m c) (aIn m c) j q k := fun q => by
      have hn : (Fin.rev ⟨k, hk⟩ : Fin 1024).val + k = 1023 := by show 1024 - (k + 1) + k = 1023; omega
      rw [row_of_drive m c k _ hn, drives_eq, entry_drive, drive, dif_pos (show k < 1024 from hk), Fin.rev_rev]
    have e1 := step_re (Vk m c k) j a
    have e2 := step_im (Vk m c k) j a
    rw [hd] at e1 e2
    constructor
    · rw [stRe, Vk_succ, STEP_main_v12_4]
      refine e1.trans ?_
      show lamRe m c k _ * stRe m c k _ - lamIm m c k _ * stIm m c k _ + _ = _
      rw [lamRe_eq, lamIm_eq, entry_lamRe, entry_lamIm, ih.1, ih.2]
      rfl
    · rw [stIm, Vk_succ, STEP_main_v12_5]
      refine e2.trans ?_
      show lamRe m c k _ * stIm m c k _ + lamIm m c k _ * stRe m c k _ + _ = _
      rw [lamRe_eq, lamIm_eq, entry_lamRe, entry_lamIm, ih.1, ih.2]
      rfl

/-- Before trip `k` the rows put out are the states before their trips. -/
theorem passed_eq : ∀ k, k ≤ 1024 → ∀ (n : Fin 1024), (Fin.rev n).val < k → ∀ (j : Fin 4) (q : Fin 1024),
    passed m c k (ix3 n j q) = cols (lanes m c j (Fin.rev n).val) q
  | 0, _, n, hn, _, _ => absurd hn (Nat.not_lt_zero _)
  | k + 1, hk, n, hn, j, q => by
    rw [passed, Vk_succ, STEP_main_v12_6, step_main_v12_6, id_eq]
    by_cases h : (Fin.rev n).val = k
    · have hn : n.val + k = 1023 := by have : 1024 - (n.val + 1) = k := h; omega
      rw [h]
      refine (row_write _ _ (start (Vk m c k)) n _ (start_row m c k n hn) (start_plane _) (start_col _) j q).trans ?_
      refine (put_row _ j q).trans (joined _ _ _ j (fun a => (states_eq m c k (by omega) j a).1) (fun a => (states_eq m c k (by omega) j a).2) q)
    · have ht : (Fin.rev ⟨k, hk⟩ : Fin 1024).val + k = 1023 := by show 1024 - (k + 1) + k = 1023; omega
      have hne : n ≠ Fin.rev ⟨k, hk⟩ := fun e => h (by rw [e, Fin.rev_rev])
      refine (row_keep _ _ (start (Vk m c k)) (Fin.rev ⟨k, hk⟩) n hne _ (start_row m c k _ ht) j q).trans ?_
      exact passed_eq k (by omega) n (by omega) j q

/-- The two results. -/
theorem result_out : out_main_v17 (Vk m c 1024) = outputsBack (m (c.tc.loc main_arg0)) (m (c.tc.loc main_arg1)) (m (c.tc.loc main_arg2))
    (m (c.tc.loc main_arg3)) (m (c.tc.loc main_arg4)) (m (c.tc.loc main_arg5)) := by
  unfold out_main_v17
  have e2 : Vk m c 1024 (Proc.devRef .tc main_arg2) = _ := iter_main_arg2 m c 1024
  have e0 : Vk m c 1024 (Proc.devRef .tc main_arg0) = _ := iter_main_arg0 m c 1024
  have e3 : Vk m c 1024 (Proc.devRef .tc main_arg3) = _ := iter_main_arg3 m c 1024
  rw [e2, e0, e3]
  funext y
  idx_vars y
  refine (read_out _ _ _ _ y0 y1 y2).trans ?_
  have hp : ∀ q, passed m c 1024 (ix3 y1 y0 q) = cols (lanes m c y0 (Fin.rev y1).val) q := passed_eq m c 1024 le_rfl y1 (Fin.rev y1).isLt y0
  revert hp
  unfold passed
  generalize Vk m c 1024 (Proc.devRef .tc main_v12_6) = p
  intro hp
  unfold outputsBack turn outputs output
  refine congrArg₂ (· + ·) (Finset.sum_congr rfl fun q _ => ?_) (Finset.sum_congr rfl fun k _ => ?_)
  · rw [hp]
    rfl
  · show _ * _ = (show FVec Ideal S4x1024x2048 .f32 from m (c.tc.loc main_arg0)) (ix3 y0 (Fin.rev (Fin.rev y1)) k) * _
    rw [Fin.rev_rev]
    rfl

theorem result_state : out_main_v20 (Vk m c 1024) = finalState (turn (m (c.tc.loc main_arg0))) (m (c.tc.loc main_arg1)) (m (c.tc.loc main_arg4)) (m (c.tc.loc main_arg5)) := by
  unfold out_main_v20
  funext y
  idx_vars y
  refine (put_state _ y0 y1 y2).trans ?_
  exact joined _ _ _ y0 (fun a => (states_eq m c 1024 le_rfl y0 a).1) (fun a => (states_eq m c 1024 le_rfl y0 a).2) y2

end Cert.Reference9Ideal.S5Back
end
-- ==== Proof.ScanSpec.lean ====
/-
  The even layer's two scans over the extended reals, free of either program: the state-space recurrence of 16 heads in
  two groups and the gated linear recurrence of 8 heads, both in chunks of 64 positions. Within a chunk the contribution
  of one position to another is weighted by the decay between the two; from chunk to chunk each scan hands on one state.
-/
module

public import Idealize.ShloMosaic.Lib.Pointwise

@[expose] public section

noncomputable section

namespace Cert.Scan

open Idealize.ShloMosaic

/-- The head, the group and the place within the group of a state-space lane, and the lane of such a place. -/
def head (q : Fin 1024) : Fin 16 := ⟨q.val / 64, by omega⟩
def group (q : Fin 1024) : Fin 2 := ⟨q.val / 512, by omega⟩
def place (q : Fin 1024) : Fin 512 := ⟨q.val % 512, by omega⟩
def lane (g : Fin 2) (j : Fin 512) : Fin 1024 := ⟨g.val * 512 + j.val, by omega⟩
/-- The head and the place of a gated lane, and the lane of such a place. -/
def part (q : Fin 1024) : Fin 8 := ⟨q.val / 128, by omega⟩
def within (q : Fin 1024) : Fin 128 := ⟨q.val % 128, by omega⟩
def key (h : Fin 8) (k : Fin 128) : Fin 1024 := ⟨h.val * 128 + k.val, by omega⟩
/-- The columns of the convolved activations: the inputs, the input maps and the output maps. -/
def xcol (q : Fin 1024) : Fin 1536 := ⟨q.val, by omega⟩
def bcol (g : Fin 2) (n : Fin 128) : Fin 1536 := ⟨1024 + g.val * 128 + n.val, by omega⟩
def ccol (g : Fin 2) (n : Fin 128) : Fin 1536 := ⟨1280 + g.val * 128 + n.val, by omega⟩
/-- The columns of the projections: the queries and the values. -/
def qcol (q : Fin 1024) : Fin 8192 := ⟨3072 + q.val, by omega⟩
def vcol (q : Fin 1024) : Fin 8192 := ⟨4096 + q.val, by omega⟩

/-- A direction: which positions of a chunk count at which, the position the scan leaves a chunk by, and the columns of
    the step widths and of the forget gates. -/
structure Way where
  seen : Fin 64 → Fin 64 → Bool
  last : Fin 64
  dtcol : Fin 16 → Fin 8192
  fcol : Fin 1024 → Fin 8192

/-- From the first position to the last. -/
def forth : Way := ⟨fun t s => decide (s.val ≤ t.val), 63, fun h => ⟨1536 + h.val, by omega⟩, fun q => ⟨6144 + q.val, by omega⟩⟩

/-- What both scans read besides the positions. -/
structure Weights where
  bias : Fin 16 → EReal
  rate : Fin 16 → EReal
  skip : Fin 1024 → EReal
  low : Fin 1024 → EReal

abbrev Acts := Fin 64 → Fin 1536 → EReal
abbrev Rows := Fin 64 → Fin 8192 → EReal
abbrev SsdState := Fin 2 → Fin 128 → Fin 512 → EReal
abbrev HgState := Fin 8 → Fin 128 → Fin 128 → EReal

def softplus (x : EReal) : EReal := max x 0 + Ideal.log1p (Ideal.exp (-(max x (-x))))
def silu (x : EReal) : EReal := x * Ideal.logistic x

variable (w : Way) (p : Weights)

/-- The sum over the positions that count at `t`, and the decay from `s` to `t` of a running sum. -/
def runSum (a : Fin 64 → EReal) (t : Fin 64) : EReal := ∑ s, if w.seen t s then a s else 0
def decay (a : Fin 64 → EReal) (t s : Fin 64) : EReal := Ideal.exp (if w.seen t s then a t - a s else ⊥)

/-- The step width of a head, the running log decay, the scaled input. -/
def dt (z : Rows) (h : Fin 16) (t : Fin 64) : EReal := softplus (z t (w.dtcol h) + p.bias h)
def cum (z : Rows) (h : Fin 16) (t : Fin 64) : EReal := runSum w (fun s => -dt w p z h s * p.rate h) t
def xdt (x : Acts) (z : Rows) (q : Fin 1024) (t : Fin 64) : EReal := x t (xcol q) * dt w p z (head q) t

/-- The state-space scan's output in a chunk entered with the state `st`, and the state it leaves with. -/
def ssdOut (x : Acts) (z : Rows) (st : SsdState) (t : Fin 64) (q : Fin 1024) : EReal :=
  (∑ s, (∑ n, x t (ccol (group q) n) * x s (bcol (group q) n)) * decay w (cum w p z (head q)) t s * xdt w p x z q s)
    + (∑ n, x t (ccol (group q) n) * st (group q) n (place q)) * Ideal.exp (cum w p z (head q) t)
def ssdNext (x : Acts) (z : Rows) (st : SsdState) : SsdState := fun g n j =>
  st g n j * Ideal.exp (cum w p z (head (lane g j)) w.last)
    + ∑ s, x s (bcol g n) * (xdt w p x z (lane g j) s * Ideal.exp (cum w p z (head (lane g j)) w.last - cum w p z (head (lane g j)) s))

/-- The forget gate and the running sum of its logarithm. -/
def gate (z : Rows) (q : Fin 1024) (t : Fin 64) : EReal := p.low q + (1 - p.low q) * Ideal.logistic (z t (w.fcol q))
def hcum (z : Rows) (q : Fin 1024) (t : Fin 64) : EReal := runSum w (fun s => Ideal.log (gate w p z q s)) t

/-- The gated scan's output in a chunk entered with the state `gt`, and the state it leaves with. -/
def hgOut (z : Rows) (gt : HgState) (t : Fin 64) (q : Fin 1024) : EReal :=
  (∑ s, (∑ k, silu (z t (qcol (key (part q) k))) * (1 - gate w p z (key (part q) k) s) * decay w (hcum w p z (key (part q) k)) t s)
      * z s (vcol q))
    + ∑ k, silu (z t (qcol (key (part q) k))) * Ideal.exp (hcum w p z (key (part q) k) t) * gt (part q) (within q) k
def hgNext (z : Rows) (gt : HgState) : HgState := fun h v k =>
  gt h v k * Ideal.exp (hcum w p z (key h k) w.last)
    + ∑ s, z s (vcol (key h v)) * ((1 - gate w p z (key h k) s) * Ideal.exp (hcum w p z (key h k) w.last - hcum w p z (key h k) s))

/-- The states before chunk `n` of a sequence of chunks. -/
def ssdState (x : ℕ → Acts) (z : ℕ → Rows) (s0 : SsdState) : ℕ → SsdState
  | 0 => s0
  | n + 1 => ssdNext w p (x n) (z n) (ssdState x z s0 n)
def hgState (z : ℕ → Rows) (g0 : HgState) : ℕ → HgState
  | 0 => g0
  | n + 1 => hgNext w p (z n) (hgState z g0 n)

/-- The five-tap convolution over the positions, zero before the first and after the last, through SiLU. -/
def tap (z : Fin 16384 → Fin 8192 → EReal) (n j : ℕ) (c : Fin 1536) : EReal :=
  if h : 2 ≤ n + j ∧ n + j < 16386 then z ⟨n + j - 2, by omega⟩ ⟨c.val, by omega⟩ else 0
def act (z : Fin 16384 → Fin 8192 → EReal) (cw : Fin 8 → Fin 1536 → EReal) (cb : Fin 1536 → EReal) (n : ℕ) (c : Fin 1536) : EReal :=
  silu (cb c + cw 0 c * tap z n 0 c + cw 1 c * tap z n 1 c + cw 2 c * tap z n 2 c + cw 3 c * tap z n 3 c + cw 4 c * tap z n 4 c)

end Cert.Scan

end
-- ==== Proof.ScanMath.lean ====
/-
  What the chunked kernel's split products, masked products and factored decays come to over the extended reals.
-/
module

public import proofs.«01_k».proof.Proof.ScanSpec

@[expose] public section

noncomputable section

namespace Cert.Scan

open Idealize.ShloMosaic

/-! ## Sums with a lowest element -/

theorem sum_eq_bot {ι : Type} (s : Finset ι) (f : ι → EReal) : ∑ i ∈ s, f i = ⊥ ↔ ∃ i ∈ s, f i = ⊥ := by
  classical
  induction s using Finset.induction_on with
  | empty => simp
  | insert a s ha ih => rw [Finset.sum_insert ha, EReal.add_eq_bot_iff, ih]; simp

theorem sum_nonpos' {ι : Type} (s : Finset ι) (f : ι → EReal) (h : ∀ i ∈ s, f i ≤ 0) : ∑ i ∈ s, f i ≤ 0 := Finset.sum_nonpos h

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- What is left of a number after taking itself away: nothing, or the lowest element if it was that. -/
theorem self_sub {x : EReal} (h : x ≠ ⊤) : (x ≠ ⊥ → x - x = 0) ∧ (x = ⊥ → x - x = ⊥) := by
  induction x with
  | bot => simp
  | top => exact absurd rfl h
  | coe r => exact ⟨fun _ => by rw [← EReal.coe_sub, sub_self]; rfl, fun e => absurd e (EReal.coe_ne_bot r)⟩

theorem add_self_sub {x : EReal} (h : x ≠ ⊤) : x + (x - x) = x := by
  by_cases hb : x = ⊥
  · subst hb; simp
  · rw [(self_sub h).1 hb, add_zero]

/-! ## The split products -/

/-- A product with zeros and ones. -/
theorem pick_mul (b : Bool) (x : EReal) : (if b then (1 : EReal) else 0) * x = if b then x else 0 := by
  cases b <;> simp

/-- A masked sum in three passes, each taking what the one before left of the summands. -/
theorem three_pass (b : Fin 64 → Bool) (a : Fin 64 → EReal) (ha : ∀ s, a s ≠ ⊤) :
    (∑ s, (if b s then (1 : EReal) else 0) * a s) + (∑ s, (if b s then (1 : EReal) else 0) * (a s - a s))
        + (∑ s, (if b s then (1 : EReal) else 0) * ((a s - a s) - (a s - a s)))
      = ∑ s, if b s then a s else 0 := by
  simp only [pick_mul]
  by_cases h : ∃ s, b s = true ∧ a s = ⊥
  · obtain ⟨s, hs, hb⟩ := h
    have e : (∑ s, if b s then a s else 0) = ⊥ := (sum_eq_bot _ _).2 ⟨s, Finset.mem_univ s, by rw [if_pos hs, hb]⟩
    rw [e]
    simp
  · have hz : ∀ s, (if b s then a s - a s else 0) = 0 := fun s => by
      by_cases hs : b s = true
      · rw [if_pos hs]; exact (self_sub (ha s)).1 fun e => h ⟨s, hs, e⟩
      · rw [if_neg hs]
    have hz' : ∀ s, (if b s then (a s - a s) - (a s - a s) else 0) = 0 := fun s => by
      by_cases hs : b s = true
      · have e := (self_sub (ha s)).1 fun e => h ⟨s, hs, e⟩
        rw [if_pos hs, e]; simp
      · rw [if_neg hs]
    simp only [hz, hz', Finset.sum_const_zero, add_zero]

/-- A row spread over the lanes in two passes. -/
theorem two_pass {n : ℕ} (x e : Fin n → EReal) (j : Fin n) (he : ∀ k, e k = if j = k then 1 else 0) (hx : x j ≠ ⊤) :
    (∑ k, x k * e k) + (∑ k, (x k - x k) * e k) = x j := by
  have p : ∀ y : Fin n → EReal, ∑ k, y k * e k = y j := fun y => by
    rw [Finset.sum_eq_single j (fun k _ hk => by rw [he, if_neg (Ne.symm hk), mul_zero]) (fun h => absurd (Finset.mem_univ j) h), he, if_pos rfl, mul_one]
  rw [p, p, add_self_sub hx]

/-! ## Signs -/

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

/-- The softplus of a number short of infinity is a real number that is not negative. -/
theorem softplus_real {x : EReal} (h : x ≠ ⊤) : ∃ r : ℝ, 0 ≤ r ∧ softplus x = r := by
  have l : ∀ r : ℝ, 0 ≤ r → ∃ q : ℝ, 0 ≤ q ∧ Ideal.log1p (r : EReal) = q := fun r hr => by
    refine ⟨Real.log (1 + r), Real.log_nonneg (by linarith), ?_⟩
    rw [Ideal.log1p, show (1 : EReal) + (r : EReal) = ((1 + r : ℝ) : EReal) by simp, Ideal.log_coe, if_neg (by linarith)]
  induction x with
  | top => exact absurd rfl h
  | bot =>
    obtain ⟨q, hq, e⟩ := l 0 le_rfl
    refine ⟨q, hq, ?_⟩
    rw [softplus, ← e]
    simp
  | coe r =>
    obtain ⟨q, hq, e⟩ := l (Real.exp (-|r|)) (Real.exp_pos _).le
    refine ⟨max r 0 + q, add_nonneg (le_max_right _ _) hq, ?_⟩
    rw [softplus, EReal.coe_add, ← e]
    have e1 : max (r : EReal) (-(r : EReal)) = ((|r| : ℝ) : EReal) := by
      rw [← EReal.coe_neg]; exact (EReal.coe_strictMono.monotone.map_max (a := r) (b := -r)).symm
    have e2 : max (r : EReal) 0 = ((max r 0 : ℝ) : EReal) := by
      exact (EReal.coe_strictMono.monotone.map_max (a := r) (b := 0)).symm
    rw [e1, e2, ← EReal.coe_neg, Ideal.exp_coe]

/-- A log decay is not positive. -/
theorem step_nonpos {d r : EReal} (hd : 0 ≤ d) (hr : 0 ≤ r) : -d * r ≤ 0 := by
  rw [neg_mul, EReal.neg_le]
  simpa using mul_nonneg hd hr

/-! ## Running sums of numbers that are not positive -/

variable (w : Way)

theorem runSum_nonpos (a : Fin 64 → EReal) (ha : ∀ s, a s ≤ 0) (t : Fin 64) : runSum w a t ≤ 0 :=
  Finset.sum_nonpos fun s _ => by split_ifs <;> [exact ha s; exact le_rfl]

theorem ne_top_of_nonpos {x : EReal} (h : x ≤ 0) : x ≠ ⊤ := fun e => by rw [e] at h; exact absurd h (by simp)

/-- From the end of the chunk back to a position the log decay is short of infinity. -/
theorem end_sub_ne_top (hl : ∀ t s, w.seen t s = true → w.seen w.last s = true) (a : Fin 64 → EReal) (ha : ∀ s, a s ≤ 0) (t : Fin 64) :
    runSum w a w.last - runSum w a t ≠ ⊤ := by
  have h1 := ne_top_of_nonpos (runSum_nonpos w a ha w.last)
  have h2 := ne_top_of_nonpos (runSum_nonpos w a ha t)
  by_cases hb : runSum w a t = ⊥
  · have : runSum w a w.last = ⊥ := by
      obtain ⟨s, -, e⟩ := (sum_eq_bot _ _).1 hb
      refine (sum_eq_bot _ _).2 ⟨s, Finset.mem_univ s, ?_⟩
      by_cases hs : w.seen t s = true
      · rw [if_pos hs] at e; rw [if_pos (hl t s hs), e]
      · rw [if_neg hs] at e; exact absurd e (by simp)
    rw [this, hb]
    simp
  · generalize runSum w a w.last = x at *
    generalize runSum w a t = y at *
    induction y with
    | top => exact absurd rfl h2
    | bot => exact absurd rfl hb
    | coe y =>
      induction x with
      | top => exact absurd rfl h1
      | bot => simp
      | coe x => rw [← EReal.coe_sub]; exact EReal.coe_ne_top _

/-! ## Masked products -/

/-- A masked weight is the weight of a masked log decay. -/
theorem masked_decay (b : Bool) (c x : EReal) : (if b then c * Ideal.exp x else 0) = c * Ideal.exp (if b then x else ⊥) := by
  cases b <;> simp

/-- The decay between two positions out of the decays of each to the ends of the chunk. -/
theorem factored (q k : EReal) (t s l : ℝ) :
    q * Ideal.exp (t : EReal) * (k * Ideal.exp ((l : EReal) - s) * Ideal.exp (-(l : EReal))) = q * k * Ideal.exp ((t : EReal) - s) := by
  have e : Ideal.exp (t : EReal) * (Ideal.exp ((l : EReal) - s) * Ideal.exp (-(l : EReal))) = Ideal.exp ((t : EReal) - s) := by
    rw [← EReal.coe_sub, ← EReal.coe_neg, ← EReal.coe_sub]
    simp only [Ideal.exp_coe]
    rw [← EReal.coe_mul, ← EReal.coe_mul, ← Real.exp_add, ← Real.exp_add]
    congr 2
    ring
  rw [← e]
  simp only [mul_assoc]
  congr 1
  rw [mul_left_comm]

/-! ## The gates -/

theorem logistic_real (x : EReal) : ∃ r : ℝ, 0 ≤ r ∧ r ≤ 1 ∧ Ideal.logistic x = r := by
  induction x with
  | bot => exact ⟨0, le_rfl, zero_le_one, by simp⟩
  | top => exact ⟨1, zero_le_one, le_rfl, by simp⟩
  | coe r =>
    have p := Real.exp_pos (-r)
    exact ⟨(1 + Real.exp (-r))⁻¹, inv_nonneg.2 (by linarith), inv_le_one_of_one_le₀ (by linarith), by simp⟩

/-- A gate whose bound is positive and finite has a real logarithm. -/
theorem gate_log {lo : EReal} (h0 : 0 < lo) (h1 : lo ≠ ⊤) (x : EReal) : ∃ r : ℝ, Ideal.log (lo + (1 - lo) * Ideal.logistic x) = r := by
  obtain ⟨s, hs0, hs1, hs⟩ := logistic_real x
  rw [hs]
  induction lo with
  | bot => exact absurd h0 (by simp)
  | top => exact absurd rfl h1
  | coe b =>
    have h0' : 0 < b := by exact_mod_cast h0
    have p : 0 < b + (1 - b) * s := by
      rcases hs0.eq_or_lt with e | e
      · rw [← e]; linarith
      · nlinarith [mul_nonneg h0'.le (sub_nonneg.2 hs1)]
    refine ⟨Real.log (b + (1 - b) * s), ?_⟩
    rw [show ((b : EReal) + (1 - (b : EReal)) * (s : EReal)) = ((b + (1 - b) * s : ℝ) : EReal) by simp, Ideal.log_coe, if_neg (not_le.2 p)]

theorem runSum_real (a : Fin 64 → EReal) (ha : ∀ s, ∃ r : ℝ, a s = r) (t : Fin 64) : ∃ r : ℝ, runSum w a t = r := by
  choose f hf using ha
  refine ⟨∑ s, if w.seen t s then f s else 0, ?_⟩
  rw [← sum_coe, runSum]
  refine Finset.sum_congr rfl fun s _ => ?_
  rw [hf]
  split_ifs <;> rfl

end Cert.Scan

end
-- ==== Proof.ScanPay.lean ====
/-
  The scan kernel's point, first part: what its masks, its convolved activations, its step widths and its running log
  decays hold, entry by entry.
-/
module

public import proofs.«01_k».proof.Proof.Gen.Kernel10Ideal.Skeleton
public import proofs.«01_k».proof.Proof.ScanMath
public import Idealize.ShloMosaic.Lib.Pipeline.ValueKit

@[expose] public section

set_option maxRecDepth 16384

noncomputable section

namespace Cert.Kernel10Ideal.Scan

open Idealize.ShloMosaic Idealize.ShloMosaic.TcCoe
open Cert.Kernel10Ideal Cert.Kernel10Ideal.Gen Cert.Scan

theorem choose {α : Type} (b : Bool) (x y : α) : Scalar.select (if b then 1#1 else 0#1) x y = if b then x else y := by
  cases b <;> rfl

/-- The masks: the positions up to `t`, and the first half of a pair of heads. -/
theorem mask_apply (t s : Fin 64) : k0_pay1 (ix2 t s) = if forth.seen t s then 1#1 else 0#1 := by
  pointwise [k0_pay1]
  revert t s
  decide +kernel
theorem tri_apply (t s : Fin 64) : k0_pay2 (F := Ideal) (ix2 t s) = if forth.seen t s then (1 : EReal) else 0 := by
  pointwise [k0_pay2]
  rw [mask_apply, choose]
theorem low_apply (t : Fin 64) (l : Fin 128) : k0_pay21 (ix2 t l) = if decide (l.val < 64) then 1#1 else 0#1 := by
  pointwise [k0_pay21]
  revert l
  decide +kernel

/-- Whether a block is the first, or the last. -/
theorem first_block (n : ℕ) (hn : n < 256) (x y : EReal) : Scalar.select (Scalar.cmpi CmpIPredicate.eq (BitVec.ofNat 32 n) 0#32) x y = if n = 0 then x else y := by
  have h : ∀ n : Fin 256, Scalar.cmpi CmpIPredicate.eq (BitVec.ofNat 32 n.val) 0#32 = if decide (n.val = 0) then 1#1 else 0#1 := by decide +kernel
  rw [h ⟨n, hn⟩, choose]
  simp
theorem last_block (n : ℕ) (hn : n < 256) (x y : EReal) : Scalar.select (Scalar.cmpi CmpIPredicate.eq (BitVec.ofNat 32 n) 255#32) x y = if n = 255 then x else y := by
  have h : ∀ n : Fin 256, Scalar.cmpi CmpIPredicate.eq (BitVec.ofNat 32 n.val) 255#32 = if decide (n.val = 255) then 1#1 else 0#1 := by decide +kernel
  rw [h ⟨n, hn⟩, choose]
  simp

/-- The rows the convolution reads: the block's own between the eight before and the eight after, which count as zero at the ends. -/
theorem ext_apply (i : grid0.Coords) (a b : Vec Ideal S8x1536 .f32) (x : Vec Ideal S64x1536 .f32) (r : Fin 80) (c : Fin 1536) :
    k0_pay3 (F := Ideal) i a b x (ix2 r c)
      = if h : r.val < 8 then (if (i 0).val = 0 then 0 else a (ix2 ⟨r.val, h⟩ c))
        else if h' : r.val < 72 then x (ix2 ⟨r.val - 8, by omega⟩ c)
        else if (i 0).val = 255 then 0 else b (ix2 ⟨r.val - 72, by omega⟩ c) := by
  pointwise [k0_pay3]
  by_cases h : r.val < 8
  · rw [dif_pos h, dif_pos h]
    exact first_block _ (i 0).isLt _ _
  · by_cases h' : r.val < 72
    · rw [dif_neg h, dif_neg h, dif_pos h', dif_pos (show r.val - 8 < 64 by omega)]
    · rw [dif_neg h, dif_neg h, dif_neg h', dif_neg (show ¬ r.val - 8 < 64 by omega)]
      exact (last_block _ (i 0).isLt _ _).trans (by simp only [Nat.sub_sub])

theorem act_apply (i : grid0.Coords) (a b : Vec Ideal S8x1536 .f32) (x : Vec Ideal S64x1536 .f32) (cb w0 w1 w2 w3 w4 : Vec Ideal S1x1536 .f32)
    (t : Fin 64) (c : Fin 1536) :
    k0_pay6 (F := Ideal) (k0_pay3 i a b x) (k0_pay4 i a b x cb w0 w1) (k0_pay5 i a b x w2) w3 w4 (ix2 t c)
      = silu (cb (ix2 0 c) + w0 (ix2 0 c) * k0_pay3 (F := Ideal) i a b x (ix2 ⟨t.val + 6, by omega⟩ c) + w1 (ix2 0 c) * k0_pay3 (F := Ideal) i a b x (ix2 ⟨t.val + 7, by omega⟩ c)
        + w2 (ix2 0 c) * k0_pay3 (F := Ideal) i a b x (ix2 ⟨t.val + 8, by omega⟩ c) + w3 (ix2 0 c) * k0_pay3 (F := Ideal) i a b x (ix2 ⟨t.val + 9, by omega⟩ c)
        + w4 (ix2 0 c) * k0_pay3 (F := Ideal) i a b x (ix2 ⟨t.val + 10, by omega⟩ c)) := by
  unfold k0_pay6 k0_pay4 k0_pay5
  generalize k0_pay3 (F := Ideal) i a b x = e
  pointwise []
  simp only [Nat.add_comm _ t.val]
  rfl

theorem width_apply (z : Vec Ideal S64x128 .f32) (b : Vec Ideal S1x1x128 .f32) (t : Fin 64) (h : Fin 128) :
    k0_pay8 (F := Ideal) z b (ix2 t h) = softplus (z (ix2 t h) + b (ix3 0 0 h)) := by
  pointwise [k0_pay8]
  rw [if_neg (fun h => h rfl), sub_eq_add_neg, zero_add]
  rfl

theorem step_apply (z : Vec Ideal S64x128 .f32) (b r : Vec Ideal S1x1x128 .f32) (t : Fin 64) (h : Fin 128) :
    k0_pay9 (F := Ideal) z b r (ix2 t h) = -softplus (z (ix2 t h) + b (ix3 0 0 h)) * Ideal.exp (r (ix3 0 0 h)) := by
  rw [← width_apply]
  unfold k0_pay9
  generalize k0_pay8 (F := Ideal) z b = e
  pointwise []
  rw [sub_eq_add_neg, zero_add]

theorem cum_apply (z : Vec Ideal S64x128 .f32) (b r : Vec Ideal S1x1x128 .f32) (t : Fin 64) (h : Fin 128)
    (hz : ∀ s, z (ix2 s h) + b (ix3 0 0 h) ≠ ⊤) :
    k0_pay13 (F := Ideal) k0_pay2 (k0_pay11 k0_pay2 z b r) (k0_pay12 z b r) (ix2 t h)
      = runSum forth (fun s => -softplus (z (ix2 s h) + b (ix3 0 0 h)) * Ideal.exp (r (ix3 0 0 h))) t := by
  simp only [← step_apply z b r]
  unfold k0_pay13 k0_pay11 k0_pay12 k0_pay10
  have ha : ∀ s, k0_pay9 (F := Ideal) z b r (ix2 s h) ≠ ⊤ := fun s => by
    obtain ⟨d, hd, e⟩ := softplus_real (hz s)
    rw [step_apply, e]
    exact ne_top_of_nonpos (step_nonpos (by exact_mod_cast hd) (exp_nonneg _))
  revert ha
  generalize k0_pay9 (F := Ideal) z b r = e
  intro ha
  pointwise []
  simp only [tri_apply]
  exact three_pass (forth.seen t) (fun s => e (ix2 s h)) ha

/-- A table of 128 columns spread over the 1024 lanes, each column over the 64 lanes of its head. -/
theorem spread_apply (x : FVec Ideal S200x128 .f32) (e : Vec Ideal S128x1024 .bf16) (he : ∀ k q, e (ix2 k q) = if (⟨q.val / 64, by omega⟩ : Fin 128) = k then (1 : EReal) else 0)
    (r : Fin 200) (q : Fin 1024) (hx : x (ix2 r ⟨q.val / 64, by omega⟩) ≠ ⊤) :
    addf (matmul (φ₂ := .bf16) dot_S200x128_S128x1024_S200x1024_1_0_0_1_n_n none (truncf .bf16 x bitsLt_bf16_f32) (shapeCast (α := Ideal .bf16) S128x1024 e shapeCasts_S128x1024_S128x1024) (constant S200x1024 .f32 0x00000000#32))
        (matmul (φ₂ := .bf16) dot_S200x128_S128x1024_S200x1024_1_0_0_1_n_n none (truncf .bf16 (subf x (extf .f32 (truncf .bf16 x bitsLt_bf16_f32) bitsLt_bf16_f32)) bitsLt_bf16_f32) (shapeCast (α := Ideal .bf16) S128x1024 e shapeCasts_S128x1024_S128x1024) (constant S200x1024 .f32 0x00000000#32))
        (ix2 r q)
      = x (ix2 r ⟨q.val / 64, by omega⟩) := by
  pointwise []
  exact two_pass (fun k => x (ix2 r k)) (fun k => e (ix2 k q)) ⟨q.val / 64, by omega⟩ (fun k => he k q) hx

/-- One pair of heads: each position's weights on the positions before it, each half of the lanes by its own head's decay. -/
theorem pair_apply (a0 a1 : FVec Ideal S64x1 .f32) (b0 b1 : FVec Ideal S1x64 .f32) (cb : FVec Ideal S64x64 .f32) (x : FVec Ideal S64x128 .bf16)
    (h0 : ∀ s, b0 (ix2 0 s) = a0 (ix2 s 0)) (h1 : ∀ s, b1 (ix2 0 s) = a1 (ix2 s 0)) (t : Fin 64) (l : Fin 128) :
    addf (matmul dot_S64x64_S64x128_S64x128_1_0_0_1_n_n none (truncf .bf16 (select k0_pay1 (mulf cb (exp (subf (broadcastTo S64x64 a0 broadcasts_S64x1_S64x64) (broadcastTo S64x64 b0 broadcasts_S1x64_S64x64))))
            (broadcast S64x64 (Scalar.ofBits .f32 0x00000000#32 : Ideal .f32))) bitsLt_bf16_f32) (select k0_pay21 x k0_pay22) (constant S64x128 .f32 0x00000000#32))
        (matmul dot_S64x64_S64x128_S64x128_1_0_0_1_n_n none (truncf .bf16 (select k0_pay1 (mulf cb (exp (subf (broadcastTo S64x64 a1 broadcasts_S64x1_S64x64) (broadcastTo S64x64 b1 broadcasts_S1x64_S64x64))))
            (broadcast S64x64 (Scalar.ofBits .f32 0x00000000#32 : Ideal .f32))) bitsLt_bf16_f32) (select k0_pay21 k0_pay22 x) (constant S64x128 .f32 0x00000000#32)) (ix2 t l)
      = ∑ s : Fin 64, cb (ix2 t s) * decay forth (fun u => if l.val < 64 then a0 (ix2 u 0) else a1 (ix2 u 0)) t s * x (ix2 s l) := by
  pointwise [k0_pay22]
  have e : ∀ s, Scalar.select (k0_pay1 (ix2 t s)) (cb (ix2 t s) * Ideal.exp (a0 (ix2 t 0) - a0 (ix2 s 0)) * x (ix2 s l)) (0 : EReal)
      = cb (ix2 t s) * decay forth (fun u => a0 (ix2 u 0)) t s * x (ix2 s l) := fun s => by
    rw [mask_apply, choose, decay, ← masked_decay, ite_mul, zero_mul]
  have e' : ∀ s, Scalar.select (k0_pay1 (ix2 t s)) (cb (ix2 t s) * Ideal.exp (a1 (ix2 t 0) - a1 (ix2 s 0)) * x (ix2 s l)) (0 : EReal)
      = cb (ix2 t s) * decay forth (fun u => a1 (ix2 u 0)) t s * x (ix2 s l) := fun s => by
    rw [mask_apply, choose, decay, ← masked_decay, ite_mul, zero_mul]
  simp only [h0, h1, e, e', low_apply, choose]
  by_cases hl : l.val < 64
  · simp [hl]
  · simp [hl]

/-- The table's rows: the step widths, the decays from the chunk's start, those to its end, and the whole chunk's. -/
abbrev table (d a : FVec Ideal S64x128 .f32) : FVec Ideal S200x128 .f32 :=
  concatenate S200x128 0 [⟨S64x128, d⟩, ⟨S64x128, exp a⟩,
    ⟨S64x128, exp (subf (broadcastTo S64x128 (extractStridedSlice S1x128 ![63, 0] a slices_S64x128_o63_0_S1x128) broadcasts_S1x128_S64x128) a)⟩,
    ⟨S8x128, broadcastTo S8x128 (shapeCast S1x128 (exp (extractStridedSlice S1x128 ![63, 0] a slices_S64x128_o63_0_S1x128)) shapeCasts_S1x128_S1x128) broadcasts_S1x128_S8x128⟩]
    concatenates_S64x128_S64x128_S64x128_S8x128_S200x128_d0

theorem table_apply (d a : FVec Ideal S64x128 .f32) (r : Fin 200) (h : Fin 128) : table d a (ix2 r h) =
    if h0 : r.val < 64 then d (ix2 ⟨r.val, h0⟩ h) else if h1 : r.val < 128 then Ideal.exp (a (ix2 ⟨r.val - 64, by omega⟩ h))
      else if h2 : r.val < 192 then Ideal.exp (a (ix2 63 h) - a (ix2 ⟨r.val - 128, by omega⟩ h)) else Ideal.exp (a (ix2 63 h)) := by
  pointwise [table]
  by_cases h0 : r.val < 64
  · rw [dif_pos h0, dif_pos h0]
  · by_cases h1 : r.val < 128
    · rw [dif_neg h0, dif_neg h0, dif_pos h1, dif_pos (show r.val - 64 < 64 by omega)]
    · by_cases h2 : r.val < 192
      · rw [dif_neg h0, dif_neg h0, dif_neg h1, dif_neg (show ¬ r.val - 64 < 64 by omega), dif_pos h2, dif_pos (show r.val - 64 - 64 < 64 by omega)]
        simp only [Nat.sub_sub]
      · rw [dif_neg h0, dif_neg h0, dif_neg h1, dif_neg (show ¬ r.val - 64 < 64 by omega), dif_neg h2, dif_neg (show ¬ r.val - 64 - 64 < 64 by omega)]

/-- The two halves of the lanes of the output, with the skip term. -/
theorem join_apply (x : FVec Ideal S64x1024 .f32) (y0 y1 : FVec Ideal S64x512 .f32) (k : Vec Ideal S1x1024 .f32) (F : Fin 1024 → EReal) (t : Fin 64)
    (h0 : ∀ j : Fin 512, y0 (ix2 t j) = F (lane 0 j)) (h1 : ∀ j : Fin 512, y1 (ix2 t j) = F (lane 1 j)) (q : Fin 1024) :
    k0_pay53 (F := Ideal) x y0 y1 k (ix2 t q) = F q + k (ix2 0 q) * x (ix2 t q) := by
  pointwise [k0_pay53]
  refine congrArg (· + _) ?_
  split_ifs
  all_goals first
    | exact (h0 _).trans (congrArg F (Fin.ext (by simp [lane])))
    | exact (h1 _).trans (congrArg F (Fin.ext (by simp [lane]; omega)))

/-- Four pairs side by side. -/
theorem four_apply (p0 p1 p2 p3 : FVec Ideal S64x128 .f32) (F : Fin 512 → EReal) (t : Fin 64)
    (h : ∀ l : Fin 128, p0 (ix2 t l) = F ⟨l.val, by omega⟩ ∧ p1 (ix2 t l) = F ⟨128 + l.val, by omega⟩ ∧ p2 (ix2 t l) = F ⟨256 + l.val, by omega⟩
      ∧ p3 (ix2 t l) = F ⟨384 + l.val, by omega⟩) (j : Fin 512) :
    concatenate S64x512 1 [⟨S64x128, p0⟩, ⟨S64x128, p1⟩, ⟨S64x128, p2⟩, ⟨S64x128, p3⟩] concatenates_S64x128_S64x128_S64x128_S64x128_S64x512_d1 (ix2 t j) = F j := by
  pointwise []
  have e : ∀ (g l : ℕ) (hl : g + l < 512), g + l = j.val → F ⟨g + l, hl⟩ = F j := fun g l hl h => congrArg F (Fin.ext h)
  split_ifs
  all_goals first
    | exact (h _).1
    | exact (h _).2.1.trans (e 128 _ _ (by show 128 + (j.val - 128) = j.val; omega))
    | exact (h _).2.2.1.trans (e 256 _ _ (by show 256 + (j.val - 128 - 128) = j.val; omega))
    | exact (h _).2.2.2.trans (e 384 _ _ (by show 384 + (j.val - 128 - 128 - 128) = j.val; omega))

/-- Eight heads side by side. -/
theorem eight_apply (p0 p1 p2 p3 p4 p5 p6 p7 : FVec Ideal S64x128 .f32) (F : Fin 1024 → EReal) (t : Fin 64)
    (h : ∀ l : Fin 128, p0 (ix2 t l) = F (key 0 l) ∧ p1 (ix2 t l) = F (key 1 l) ∧ p2 (ix2 t l) = F (key 2 l) ∧ p3 (ix2 t l) = F (key 3 l)
      ∧ p4 (ix2 t l) = F (key 4 l) ∧ p5 (ix2 t l) = F (key 5 l) ∧ p6 (ix2 t l) = F (key 6 l) ∧ p7 (ix2 t l) = F (key 7 l)) (q : Fin 1024) :
    concatenate S64x1024 1 [⟨S64x128, p0⟩, ⟨S64x128, p1⟩, ⟨S64x128, p2⟩, ⟨S64x128, p3⟩, ⟨S64x128, p4⟩, ⟨S64x128, p5⟩, ⟨S64x128, p6⟩, ⟨S64x128, p7⟩]
      concatenates_S64x128_S64x128_S64x128_S64x128_S64x128_S64x128_S64x128_S64x128_S64x1024_d1 (ix2 t q) = F q := by
  pointwise []
  have e : ∀ (g : Fin 8) (l : ℕ) (hl : l < 128), g.val * 128 + l = q.val → F (key g ⟨l, hl⟩) = F q := fun g l hl h => congrArg F (Fin.ext h)
  split_ifs
  all_goals first
    | exact (h _).1.trans (e 0 _ _ (by show 0 * 128 + _ = _; omega))
    | exact (h _).2.1.trans (e 1 _ _ (by show 1 * 128 + _ = _; omega))
    | exact (h _).2.2.1.trans (e 2 _ _ (by show 2 * 128 + _ = _; omega))
    | exact (h _).2.2.2.1.trans (e 3 _ _ (by show 3 * 128 + _ = _; omega))
    | exact (h _).2.2.2.2.1.trans (e 4 _ _ (by show 4 * 128 + _ = _; omega))
    | exact (h _).2.2.2.2.2.1.trans (e 5 _ _ (by show 5 * 128 + _ = _; omega))
    | exact (h _).2.2.2.2.2.2.1.trans (e 6 _ _ (by show 6 * 128 + _ = _; omega))
    | exact (h _).2.2.2.2.2.2.2.trans (e 7 _ _ (by show 7 * 128 + _ = _; omega))

end Cert.Kernel10Ideal.Scan

end
-- ==== Proof.ScanPieces.lean ====
/-
  The scan kernel's states are stored plane by plane: what such stores leave, and what a load of one plane reads.
-/
module

public import proofs.«01_k».proof.Proof.ScanPay
public import Idealize.ShloMosaic.Lib.Pipeline.ReadBack

@[expose] public section

set_option maxRecDepth 16384

noncomputable section

namespace Cert.Kernel10Ideal.Scan

open Idealize.ShloMosaic Idealize.ShloMosaic.TcCoe

variable {N A B : ℕ}

/-- The last store at a plane is what the plane holds, -/
theorem plane_hit (g : ℕ) (inb : ∀ a, (![g, 0, 0] : Fin 3 → ℕ) a + (![1, A, B] : Fin 3 → ℕ) a ≤ (⟨3, ![N, A, B]⟩ : Shape).size a)
    (w : (⟨3, ![1, A, B]⟩ : Shape).Idx → Elt Ideal .f32) (L : List (View.Piece (Elt Ideal) (⟨3, ![N, A, B]⟩ : Shape) .f32)) (h : Fin N) (e : h.val = g)
    (a : Fin A) (b : Fin B) :
    View.canon ((⟨Rect.unit (s := ⟨3, ![N, A, B]⟩) ![g, 0, 0] ![1, A, B] inb, w⟩ : View.Piece (Elt Ideal) (⟨3, ![N, A, B]⟩ : Shape) .f32) :: L) (ix3 h a b) = w (ix3 0 a b) := by
  have hx : (ix3 h a b : (⟨3, ![N, A, B]⟩ : Shape).Idx) = (Rect.unit (s := ⟨3, ![N, A, B]⟩) ![g, 0, 0] ![1, A, B] inb).emb (ix3 0 a b) := by
    funext d
    refine Fin.ext ?_
    rw [Rect.emb_apply]
    match d with
    | ⟨0, _⟩ => show h.val = g + 1 * 0; omega
    | ⟨1, _⟩ => show a.val = 0 + 1 * a.val; omega
    | ⟨2, _⟩ => show b.val = 0 + 1 * b.val; omega
  rw [hx]
  exact View.canon_cons_emb _ _ _ _

/-- and a store at another plane leaves it. -/
theorem plane_miss (g : ℕ) (inb : ∀ a, (![g, 0, 0] : Fin 3 → ℕ) a + (![1, A, B] : Fin 3 → ℕ) a ≤ (⟨3, ![N, A, B]⟩ : Shape).size a)
    (w : (⟨3, ![1, A, B]⟩ : Shape).Idx → Elt Ideal .f32) (L : List (View.Piece (Elt Ideal) (⟨3, ![N, A, B]⟩ : Shape) .f32)) (h : Fin N) (e : h.val ≠ g)
    (a : Fin A) (b : Fin B) :
    View.canon ((⟨Rect.unit (s := ⟨3, ![N, A, B]⟩) ![g, 0, 0] ![1, A, B] inb, w⟩ : View.Piece (Elt Ideal) (⟨3, ![N, A, B]⟩ : Shape) .f32) :: L) (ix3 h a b) = View.canon L (ix3 h a b) := by
  refine View.canon_cons_of_not_mem _ _ fun hm => ?_
  obtain ⟨x, hx⟩ := (Rect.unit (s := ⟨3, ![N, A, B]⟩) ![g, 0, 0] ![1, A, B] inb).toLoadRect.exists_idx_of_mem hm
  have := congrArg Fin.val (congrFun hx 0)
  rw [show ((Rect.unit (s := ⟨3, ![N, A, B]⟩) ![g, 0, 0] ![1, A, B] inb).idx x 0).val = g + 1 * (x 0).val from rfl] at this
  have h1 : (x 0).val < 1 := (x 0).isLt
  have h2 : ((ix3 h a b : (⟨3, ![N, A, B]⟩ : Shape).Idx) 0).val = h.val := rfl
  omega

/-- One store of the whole is what is there. -/
theorem whole_hit (inb : ∀ a, (![0, 0, 0] : Fin 3 → ℕ) a + (![N, A, B] : Fin 3 → ℕ) a ≤ (⟨3, ![N, A, B]⟩ : Shape).size a)
    (w : (⟨3, ![N, A, B]⟩ : Shape).Idx → Elt Ideal .f32) (h : Fin N) (a : Fin A) (b : Fin B) :
    View.canon [(⟨Rect.unit (s := ⟨3, ![N, A, B]⟩) ![0, 0, 0] ![N, A, B] inb, w⟩ : View.Piece (Elt Ideal) (⟨3, ![N, A, B]⟩ : Shape) .f32)] (ix3 h a b) = w (ix3 h a b) := by
  have hx : (ix3 h a b : (⟨3, ![N, A, B]⟩ : Shape).Idx) = (Rect.unit (s := ⟨3, ![N, A, B]⟩) ![0, 0, 0] ![N, A, B] inb).emb (ix3 h a b) := by
    funext d
    refine Fin.ext ?_
    rw [Rect.emb_apply]
    match d with
    | ⟨0, _⟩ => show h.val = 0 + 1 * h.val; omega
    | ⟨1, _⟩ => show a.val = 0 + 1 * a.val; omega
    | ⟨2, _⟩ => show b.val = 0 + 1 * b.val; omega
  exact (congrArg _ hx).trans (View.canon_cons_emb _ _ _ _)

/-- A load of one plane, of a block and of what stores left. -/
theorem plane_ld (W : (⟨3, ![N, A, B]⟩ : Shape).Idx → Elt Ideal .f32) (g : ℕ) (inb : ∀ a, (![g, 0, 0] : Fin 3 → ℕ) a + (![1, A, B] : Fin 3 → ℕ) a ≤ (⟨3, ![N, A, B]⟩ : Shape).size a)
    (h : Fin N) (e : h.val = g) (a : Fin A) (b : Fin B) :
    View.ld (Val := Elt Ideal) (e' := .f32) W (Rect.unit (s := ⟨3, ![N, A, B]⟩) ![g, 0, 0] ![1, A, B] inb) (ix3 0 a b) = W (ix3 h a b) :=
  View.ld_unit_apply_of (Val := Elt Ideal) (e := .f32) (S := ⟨3, ![N, A, B]⟩) W ![g, 0, 0] ![1, A, B] inb (ix3 0 a b) (ix3 h a b)
    (by intro d; match d with | ⟨0, _⟩ => exact e | ⟨1, _⟩ => exact (Nat.zero_add _).symm | ⟨2, _⟩ => exact (Nat.zero_add _).symm)

theorem plane_cov {sig : RefSig} {κ : Kind} {sp : Space} (v : View sig κ sp (⟨3, ![N, A, B]⟩ : Shape) .f32) (L : List (View.Piece (Elt Ideal) (⟨3, ![N, A, B]⟩ : Shape) .f32))
    (g : ℕ) (inb : ∀ a, (![g, 0, 0] : Fin 3 → ℕ) a + (![1, A, B] : Fin 3 → ℕ) a ≤ (⟨3, ![N, A, B]⟩ : Shape).size a)
    (h : Fin N) (e : h.val = g) (a : Fin A) (b : Fin B) :
    v.readCov L (Rect.unit (s := ⟨3, ![N, A, B]⟩) ![g, 0, 0] ![1, A, B] inb).toLoadRect (ix3 0 a b) = View.canon L (ix3 h a b) := by
  rw [View.readCov_eq_canon']
  refine congrArg (View.canon L) (funext fun d => Fin.ext ?_)
  match d with
  | ⟨0, _⟩ => show g + 1 * 0 = h.val; omega
  | ⟨1, _⟩ => show 0 + 1 * a.val = a.val; omega
  | ⟨2, _⟩ => show 0 + 1 * b.val = b.val; omega

end Cert.Kernel10Ideal.Scan

end
-- ==== Proof.ScanBlocks.lean ====
/-
  The scan kernel's blocks: what each point reads, off the arguments.
-/
module

public import proofs.«01_k».proof.Proof.Gen.Kernel10Ideal.Value
public import proofs.«01_k».proof.Proof.ScanPieces
public import Idealize.ShloMosaic.Lib.Pipeline.ValueKit

@[expose] public section

set_option maxRecDepth 16384

noncomputable section

namespace Cert.Kernel10Ideal.Scan

open Idealize.ShloMosaic Idealize.ShloMosaic.TcCoe Idealize.SL.Sem
open Idealize.ShloMosaic.Pipeline (Dat)
open Cert.Kernel10Ideal Cert.Kernel10Ideal.Gen Cert.Scan

variable (m : (ℓ : Loc nD τ sig) → Buf (Elt Ideal) ℓ) (c : Dev nD)

theorem lt_N (t : Fin cfg0.N) : t.val < 256 := lt_of_lt_of_eq t.isLt (show cfg0.N = 256 from N_0)

/-- The block indices of the windows that move with the point. -/
theorem idx_val : ∀ t : Fin cfg0.N, win0_0.index t = ![t.val, 0] ∧ win0_1.index t = ![t.val * 8 - 1, 0] ∧ win0_2.index t = ![min (t.val * 8 + 8) 2047, 0]
    ∧ win0_3.index t = ![t.val, 12] ∧ win0_4.index t = ![t.val, 3] ∧ win0_5.index t = ![t.val, 4] ∧ win0_6.index t = ![t.val, 6]
    ∧ win0_15.index t = ![t.val, 0] ∧ win0_16.index t = ![t.val, 0] :=
  (by decide +kernel : ∀ t : Fin grid0.N, _)

/-- And of those that stay. -/
theorem idx_fix : ∀ t : Fin cfg0.N, win0_7.index t = ![0, 0] ∧ win0_8.index t = ![0, 0] ∧ win0_9.index t = ![0, 0, 0] ∧ win0_10.index t = ![0, 0]
    ∧ win0_11.index t = ![0, 0] ∧ win0_12.index t = ![0, 0] ∧ win0_13.index t = ![0, 0, 0] ∧ win0_14.index t = ![0, 0, 0]
    ∧ win0_17.index t = ![0, 0, 0] ∧ win0_18.index t = ![0, 0, 0] :=
  (by decide +kernel : ∀ t : Fin grid0.N, _)

theorem coord_val : ∀ t : Fin cfg0.N, (grid0.coords t 0).val = t.val := (by decide +kernel : ∀ t : Fin grid0.N, (grid0.coords t 0).val = t.val)

/-- The arguments, as functions. -/
abbrev aZ (n : Fin 16384) (k : Fin 8192) : EReal := (show FVec Ideal S16384x8192 .f32 from m (c.tc.loc main_arg0)) (ix2 n k)
abbrev aCw (i : Fin 8) (k : Fin 1536) : EReal := (show FVec Ideal S8x1536 .f32 from m (c.tc.loc main_arg1)) (ix2 i k)
abbrev aCb (k : Fin 1536) : EReal := (show FVec Ideal S1x1536 .f32 from m (c.tc.loc main_arg2)) (ix2 0 k)
abbrev aDt (i : Fin 8) (h : Fin 128) : EReal := (show FVec Ideal S2x8x128 .f32 from m (c.tc.loc main_arg3)) (ix3 0 i h)
abbrev aSkip (q : Fin 1024) : EReal := (show FVec Ideal S1x1024 .f32 from m (c.tc.loc main_arg4)) (ix2 0 q)
abbrev aLow (q : Fin 1024) : EReal := (show FVec Ideal S1x1024 .f32 from m (c.tc.loc main_arg5)) (ix2 0 q)
abbrev aS0 (g : Fin 2) (n : Fin 128) (j : Fin 512) : EReal := (show FVec Ideal S2x128x512 .f32 from m (c.tc.loc main_arg6)) (ix3 g n j)
abbrev aG0 (h : Fin 8) (v k : Fin 128) : EReal := (show FVec Ideal S8x128x128 .f32 from m (c.tc.loc main_arg7)) (ix3 h v k)

/-- The position of row `r` of point `t`. -/
abbrev pos (t : Fin cfg0.N) (r : Fin 64) : Fin 16384 := ⟨t.val * 64 + r.val, by have := lt_N t; omega⟩

theorem blk_x (t : Fin cfg0.N) (r : Fin 64) (k : Fin 1536) :
    (show FVec Ideal S64x1536 .f32 from X0_0 m c t) (ix2 r k) = aZ m c (pos t r) ⟨k.val, by omega⟩ := by
  refine (dif_pos (moved0_0 t (ix2 r k))).trans ?_
  blk_ext [iblk, V, idx_val t]
theorem blk_before (t : Fin cfg0.N) (r : Fin 8) (k : Fin 1536) :
    (show FVec Ideal S8x1536 .f32 from X0_1 m c t) (ix2 r k) = aZ m c ⟨(t.val * 8 - 1) * 8 + r.val, by have := lt_N t; omega⟩ ⟨k.val, by omega⟩ := by
  refine (dif_pos (moved0_1 t (ix2 r k))).trans ?_
  blk_ext [iblk, V, idx_val t]
theorem blk_after (t : Fin cfg0.N) (r : Fin 8) (k : Fin 1536) :
    (show FVec Ideal S8x1536 .f32 from X0_2 m c t) (ix2 r k) = aZ m c ⟨min (t.val * 8 + 8) 2047 * 8 + r.val, by have := lt_N t; omega⟩ ⟨k.val, by omega⟩ := by
  refine (dif_pos (moved0_2 t (ix2 r k))).trans ?_
  blk_ext [iblk, V, idx_val t]
theorem blk_dt (t : Fin cfg0.N) (r : Fin 64) (h : Fin 128) :
    (show FVec Ideal S64x128 .f32 from iblk m c 3 t) (ix2 r h) = aZ m c (pos t r) ⟨1536 + h.val, by omega⟩ := by
  blk_ext [iblk, V, idx_val t]
theorem blk_q (t : Fin cfg0.N) (r : Fin 64) (q : Fin 1024) :
    (show FVec Ideal S64x1024 .f32 from iblk m c 4 t) (ix2 r q) = aZ m c (pos t r) ⟨3072 + q.val, by omega⟩ := by
  blk_ext [iblk, V, idx_val t]
theorem blk_v (t : Fin cfg0.N) (r : Fin 64) (q : Fin 1024) :
    (show FVec Ideal S64x1024 .f32 from iblk m c 5 t) (ix2 r q) = aZ m c (pos t r) ⟨4096 + q.val, by omega⟩ := by
  blk_ext [iblk, V, idx_val t]
theorem blk_f (t : Fin cfg0.N) (r : Fin 64) (q : Fin 1024) :
    (show FVec Ideal S64x1024 .f32 from iblk m c 6 t) (ix2 r q) = aZ m c (pos t r) ⟨6144 + q.val, by omega⟩ := by
  blk_ext [iblk, V, idx_val t]
theorem blk_cw (t : Fin cfg0.N) (i : Fin 8) (k : Fin 1536) :
    (show FVec Ideal S8x1536 .f32 from iblk m c 7 t) (ix2 i k) = aCw m c i k := by
  blk_ext [iblk, V, idx_fix t]
theorem blk_cb (t : Fin cfg0.N) (k : Fin 1536) :
    (show FVec Ideal S1x1536 .f32 from iblk m c 8 t) (ix2 0 k) = aCb m c k := by
  blk_ext [iblk, V, idx_fix t]
theorem blk_dtc (t : Fin cfg0.N) (i : Fin 8) (h : Fin 128) :
    (show FVec Ideal S1x8x128 .f32 from iblk m c 9 t) (ix3 0 i h) = aDt m c i h := by
  blk_ext [iblk, V, idx_fix t]
theorem blk_skip (t : Fin cfg0.N) (q : Fin 1024) :
    (show FVec Ideal S1x1024 .f32 from iblk m c 10 t) (ix2 0 q) = aSkip m c q := by
  blk_ext [iblk, V, idx_fix t]
theorem blk_low (t : Fin cfg0.N) (q : Fin 1024) :
    (show FVec Ideal S1x1024 .f32 from iblk m c 11 t) (ix2 0 q) = aLow m c q := by
  blk_ext [iblk, V, idx_fix t]
theorem blk_s0 (t : Fin cfg0.N) (g : Fin 2) (n : Fin 128) (j : Fin 512) :
    (show FVec Ideal S2x128x512 .f32 from iblk m c 13 t) (ix3 g n j) = aS0 m c g n j := by
  blk_ext [iblk, V, idx_fix t]
theorem blk_g0 (t : Fin cfg0.N) (h : Fin 8) (v k : Fin 128) :
    (show FVec Ideal S8x128x128 .f32 from iblk m c 14 t) (ix3 h v k) = aG0 m c h v k := by
  blk_ext [iblk, V, idx_fix t]

/-- The floor division of a lane's number by 64, as the host spells it. -/
theorem head_word : ∀ q : Fin 1024, Scalar.select
          (IntOp.andi
            (IntOp.cmpi CmpIPredicate.ne
              (if BitVec.ofNat 32 q.val = 0 then 0 else if (BitVec.ofNat 32 q.val).msb = true then -1 else 1)
              (if 64#32 = 0 then 0 else if (64#32).msb = true then -1 else (1 : BitVec 32)))
            (IntOp.cmpi CmpIPredicate.ne (IntOp.remsi ArithUnit.host (BitVec.ofNat 32 q.val) 64#32) 0#32))
          (IntOp.subi (IntOp.divsi ArithUnit.host (BitVec.ofNat 32 q.val) 64#32) 1#32)
          (IntOp.divsi ArithUnit.host (BitVec.ofNat 32 q.val) 64#32) = BitVec.ofNat 32 (q.val / 64) := by
  decide +kernel

/-- Whether two small numbers are one, as a float. -/
theorem same_word (k j : Fin 128) : (FloatOps.uitofp (F := Ideal) .bf16 (IntOp.cmpi CmpIPredicate.eq (BitVec.ofNat 32 k.val) (BitVec.ofNat 32 j.val)) : EReal)
    = if j = k then 1 else 0 := by
  by_cases h : j = k
  · subst h
    rw [if_pos rfl]
    have : IntOp.cmpi CmpIPredicate.eq (BitVec.ofNat 32 j.val) (BitVec.ofNat 32 j.val) = 1#1 := by simp [IntOp.cmpi]
    rw [this]
    simp [FloatOps.uitofp]
  · rw [if_neg h]
    have : IntOp.cmpi CmpIPredicate.eq (BitVec.ofNat 32 k.val) (BitVec.ofNat 32 j.val) = 0#1 := by
      have hne : BitVec.ofNat 32 k.val ≠ BitVec.ofNat 32 j.val := by
        intro e
        have := congrArg BitVec.toNat e
        simp only [BitVec.toNat_ofNat] at this
        exact h (Fin.ext (by omega))
      show BitVec.ofBool (BitVec.ofNat 32 k.val == BitVec.ofNat 32 j.val) = 0#1
      rw [beq_eq_false_iff_ne.mpr hne]; rfl
    rw [this]
    simp [FloatOps.uitofp]

theorem heads_entry (k : Fin 128) (q : Fin 1024) : (show FVec Ideal S128x1024 .bf16 from V m c main_v8) (ix2 k q) = if (⟨q.val / 64, by omega⟩ : Fin 128) = k then (1 : EReal) else 0 := by
  unfold V
  simp only [hostOps0, hostOps0_1, hostOps0_2, List.flatten_cons, List.flatten_nil, List.append_nil, List.cons_append, List.nil_append]
  after_results_simp
  simp only [StableHlo.TRef.ofBuf_toBuf, StableHlo.TRef.ofBuf, StableHlo.TRef.toBuf, cast_eq, id_eq]
  pointwise []
  refine (congrArg (fun w => (FloatOps.uitofp (F := Ideal) .bf16 (IntOp.cmpi CmpIPredicate.eq (BitVec.ofNat 32 k.val) w) : EReal)) (head_word q)).trans ?_
  exact same_word k ⟨q.val / 64, by omega⟩

/-- The heads' indicator, computed before the call. -/
theorem blk_heads (t : Fin cfg0.N) (k : Fin 128) (q : Fin 1024) :
    (show FVec Ideal S128x1024 .bf16 from iblk m c 12 t) (ix2 k q) = if (⟨q.val / 64, by omega⟩ : Fin 128) = k then (1 : EReal) else 0 := by
  have e : (show S128x1024.Idx from (win0_12.blk t).view.emb (ix2 k q)) = ix2 k q := by
    blk_ext [idx_fix t]
  refine Eq.trans ?_ (heads_entry m c k q)
  refine Eq.trans ?_ (congrArg (show FVec Ideal S128x1024 .bf16 from V m c main_v8) e)
  rfl

end Cert.Kernel10Ideal.Scan

end
-- ==== Proof.ScanSsd.lean ====
/-
  The scan kernel's point, second part: the state-space scan's output and state out of the activations, the step widths
  and the running log decays.
-/
module

public import proofs.«01_k».proof.Proof.ScanPay

@[expose] public section

set_option maxRecDepth 16384

noncomputable section

namespace Cert.Kernel10Ideal.Scan

open Idealize.ShloMosaic Idealize.ShloMosaic.TcCoe
open Cert.Kernel10Ideal Cert.Kernel10Ideal.Gen Cert.Scan

/-- The column of a head in a row of 128. -/
abbrev col (h : Fin 16) : Fin 128 := ⟨h.val, by omega⟩

theorem group_lane (g : Fin 2) (j : Fin 512) : group (lane g j) = g := Fin.ext (by show (g.val * 512 + j.val) / 512 = g.val; omega)
theorem place_lane (g : Fin 2) (j : Fin 512) : place (lane g j) = j := Fin.ext (by show (g.val * 512 + j.val) % 512 = j.val; omega)

/-- What a point's arrays hold once its first part has run. -/
structure Ready (p : Weights) (z : Rows) (x : Acts) (X : FVec Ideal S64x1536 .f32) (xs : FVec Ideal S64x1024 .f32) (D S1 S2 : FVec Ideal S64x128 .f32)
    (E : Vec Ideal S128x1024 .bf16) : Prop where
  acts : ∀ t c, X (ix2 t c) = x t c
  inputs : ∀ t q, xs (ix2 t q) = x t (xcol q)
  width : ∀ t h, D (ix2 t (col h)) = dt forth p z h t
  run : ∀ t h, k0_pay13 (F := Ideal) k0_pay2 S1 S2 (ix2 t (col h)) = cum forth p z h t
  heads : ∀ k q, E (ix2 k q) = if (⟨q.val / 64, by omega⟩ : Fin 128) = k then (1 : EReal) else 0
  width_lt : ∀ t h, dt forth p z h t ≠ ⊤
  run_lt : ∀ t h, cum forth p z h t ≠ ⊤
  rest_lt : ∀ t h, cum forth p z h 63 - cum forth p z h t ≠ ⊤

section
variable {p : Weights} {z : Rows} {x : Acts} {X : FVec Ideal S64x1536 .f32} {xs : FVec Ideal S64x1024 .f32} {D S1 S2 : FVec Ideal S64x128 .f32}
  {E : Vec Ideal S128x1024 .bf16} (R : Ready p z x X xs D S1 S2 E)
include R

theorem spread_table (r : Fin 200) (q : Fin 1024) (hx : table D (k0_pay13 (F := Ideal) k0_pay2 S1 S2) (ix2 r (col (head q))) ≠ ⊤) :
    k0_pay15 (F := Ideal) k0_pay2 D S1 S2 E (ix2 r q) = table D (k0_pay13 (F := Ideal) k0_pay2 S1 S2) (ix2 r (col (head q))) :=
  spread_apply (table D (k0_pay13 (F := Ideal) k0_pay2 S1 S2)) E R.heads r q hx

theorem fromStart_apply (t : Fin 64) (q : Fin 1024) : k0_pay16 (F := Ideal) k0_pay2 D S1 S2 E (ix2 t q) = Ideal.exp (cum forth p z (head q) t) := by
  have e : table D (k0_pay13 (F := Ideal) k0_pay2 S1 S2) (ix2 ⟨64 + t.val, by omega⟩ (col (head q))) = Ideal.exp (cum forth p z (head q) t) := by
    rw [table_apply, dif_neg (by dsimp only; omega), dif_pos (by dsimp only; omega), ← R.run]
    simp only [Nat.add_sub_cancel_left]
  rw [← e, ← spread_table R _ _ (by rw [e]; exact exp_ne_top (R.run_lt _ _))]
  unfold k0_pay16
  generalize k0_pay15 (F := Ideal) k0_pay2 D S1 S2 E = s
  pointwise []

theorem whole_apply (q : Fin 1024) : k0_pay17 (F := Ideal) k0_pay2 D S1 S2 E (ix2 0 q) = Ideal.exp (cum forth p z (head q) 63) := by
  have e : table D (k0_pay13 (F := Ideal) k0_pay2 S1 S2) (ix2 ⟨192, by omega⟩ (col (head q))) = Ideal.exp (cum forth p z (head q) 63) := by
    rw [table_apply, dif_neg (by dsimp only; omega), dif_neg (by dsimp only; omega), dif_neg (by dsimp only; omega), ← R.run]
  rw [← e, ← spread_table R _ _ (by rw [e]; exact exp_ne_top (R.run_lt _ _))]
  unfold k0_pay17
  generalize k0_pay15 (F := Ideal) k0_pay2 D S1 S2 E = s
  pointwise []

theorem scaled_apply (t : Fin 64) (q : Fin 1024) : k0_pay18 (F := Ideal) k0_pay2 xs D S1 S2 E (ix2 t q) = xdt forth p x z q t := by
  have e : table D (k0_pay13 (F := Ideal) k0_pay2 S1 S2) (ix2 ⟨t.val, by omega⟩ (col (head q))) = dt forth p z (head q) t := by
    rw [table_apply, dif_pos t.isLt, ← R.width]
  rw [xdt, ← R.inputs, ← e, ← spread_table R _ _ (by rw [e]; exact R.width_lt _ _)]
  unfold k0_pay18
  generalize k0_pay15 (F := Ideal) k0_pay2 D S1 S2 E = s
  pointwise []

theorem scaled_bf_apply (t : Fin 64) (q : Fin 1024) : k0_pay20 (F := Ideal) k0_pay2 xs D S1 S2 E (ix2 t q) = xdt forth p x z q t :=
  scaled_apply R t q

theorem toEnd_apply (t : Fin 64) (q : Fin 1024) : k0_pay19 (F := Ideal) k0_pay2 xs D S1 S2 E (ix2 t q)
    = xdt forth p x z q t * Ideal.exp (cum forth p z (head q) 63 - cum forth p z (head q) t) := by
  have e : table D (k0_pay13 (F := Ideal) k0_pay2 S1 S2) (ix2 ⟨128 + t.val, by omega⟩ (col (head q)))
      = Ideal.exp (cum forth p z (head q) 63 - cum forth p z (head q) t) := by
    rw [table_apply, dif_neg (by dsimp only; omega), dif_neg (by dsimp only; omega), dif_pos (by dsimp only; omega), ← R.run, ← R.run]
    simp only [Nat.add_sub_cancel_left]
  rw [← scaled_apply R, ← e, ← spread_table R _ _ (by rw [e]; exact exp_ne_top (R.rest_lt _ _))]
  unfold k0_pay19
  generalize k0_pay18 (F := Ideal) k0_pay2 xs D S1 S2 E = r
  generalize k0_pay15 (F := Ideal) k0_pay2 D S1 S2 E = s
  pointwise []

theorem run_turned (t : Fin 64) (h : Fin 128) : k0_pay14 (F := Ideal) k0_pay2 S1 S2 (ix2 h t) = k0_pay13 (F := Ideal) k0_pay2 S1 S2 (ix2 t h) := by
  unfold k0_pay14
  generalize k0_pay13 (F := Ideal) k0_pay2 S1 S2 = s
  pointwise []

end

/-- What a position adds to a position of the same chunk. -/
def within_chunk (p : Weights) (z : Rows) (x : Acts) (cb : FVec Ideal S64x64 .f32) (t : Fin 64) (q : Fin 1024) : EReal :=
  ∑ s, cb (ix2 t s) * decay forth (cum forth p z (head q)) t s * xdt forth p x z q s

section
variable {p : Weights} {z : Rows} {x : Acts} {X : FVec Ideal S64x1536 .f32} {xs : FVec Ideal S64x1024 .f32} {D S1 S2 : FVec Ideal S64x128 .f32}
  {E : Vec Ideal S128x1024 .bf16} (R : Ready p z x X xs D S1 S2 E)
include R

/-- A pair of heads, at its columns. -/
theorem pair_at (cb : FVec Ideal S64x64 .f32) (i o u v : ℕ) (hi : i < 8) (ho : o = 128 * i) (hu : u = 2 * i) (hv : v = 2 * i + 1)
    (so : S64x1024.Slices ![0, o] S64x128) (su : S64x128.Slices ![0, u] S64x1) (su' : S128x64.Slices ![u, 0] S1x64)
    (sv : S64x128.Slices ![0, v] S64x1) (sv' : S128x64.Slices ![v, 0] S1x64) (t : Fin 64) (l : Fin 128) :
    addf (matmul dot_S64x64_S64x128_S64x128_1_0_0_1_n_n none (truncf .bf16 (select k0_pay1 (mulf cb (exp (subf
              (broadcastTo S64x64 (extractStridedSlice S64x1 ![0, u] (k0_pay13 (F := Ideal) k0_pay2 S1 S2) su) broadcasts_S64x1_S64x64)
              (broadcastTo S64x64 (extractStridedSlice S1x64 ![u, 0] (k0_pay14 (F := Ideal) k0_pay2 S1 S2) su') broadcasts_S1x64_S64x64))))
            (broadcast S64x64 (Scalar.ofBits .f32 0x00000000#32 : Ideal .f32))) bitsLt_bf16_f32)
          (select k0_pay21 (extractStridedSlice S64x128 ![0, o] (k0_pay20 (F := Ideal) k0_pay2 xs D S1 S2 E) so) k0_pay22) (constant S64x128 .f32 0x00000000#32))
        (matmul dot_S64x64_S64x128_S64x128_1_0_0_1_n_n none (truncf .bf16 (select k0_pay1 (mulf cb (exp (subf
              (broadcastTo S64x64 (extractStridedSlice S64x1 ![0, v] (k0_pay13 (F := Ideal) k0_pay2 S1 S2) sv) broadcasts_S64x1_S64x64)
              (broadcastTo S64x64 (extractStridedSlice S1x64 ![v, 0] (k0_pay14 (F := Ideal) k0_pay2 S1 S2) sv') broadcasts_S1x64_S64x64))))
            (broadcast S64x64 (Scalar.ofBits .f32 0x00000000#32 : Ideal .f32))) bitsLt_bf16_f32)
          (select k0_pay21 k0_pay22 (extractStridedSlice S64x128 ![0, o] (k0_pay20 (F := Ideal) k0_pay2 xs D S1 S2 E) so)) (constant S64x128 .f32 0x00000000#32)) (ix2 t l)
      = within_chunk p z x cb t ⟨128 * i + l.val, by omega⟩ := by
  subst ho hu hv
  have ex : ∀ s, extractStridedSlice S64x128 ![0, 128 * i] (k0_pay20 (F := Ideal) k0_pay2 xs D S1 S2 E) so (ix2 s l) = xdt forth p x z ⟨128 * i + l.val, by omega⟩ s := fun s => by
    rw [← scaled_bf_apply R]
    generalize k0_pay20 (F := Ideal) k0_pay2 xs D S1 S2 E = y
    pointwise []
  have ea : ∀ (a : FVec Ideal S64x128 .f32) (w : ℕ) (hw : w < 16) (sw : S64x128.Slices ![0, w] S64x1) (s : Fin 64),
      extractStridedSlice S64x1 ![0, w] a sw (ix2 s 0) = a (ix2 s (col ⟨w, hw⟩)) := fun a w hw sw s => by pointwise []
  have eb : ∀ (a : FVec Ideal S128x64 .f32) (w : ℕ) (hw : w < 16) (sw : S128x64.Slices ![w, 0] S1x64) (s : Fin 64),
      extractStridedSlice S1x64 ![w, 0] a sw (ix2 0 s) = a (ix2 (col ⟨w, hw⟩) s) := fun a w hw sw s => by pointwise []
  rw [pair_apply _ _ _ _ cb _ (fun s => by rw [ea _ _ (by omega), eb _ _ (by omega), run_turned R]) (fun s => by rw [ea _ _ (by omega), eb _ _ (by omega), run_turned R]) t l]
  refine Finset.sum_congr rfl fun s _ => ?_
  rw [ex]
  refine congrArg (cb (ix2 t s) * · * _) (congrArg (decay forth · t s) (funext fun y => ?_))
  split_ifs with hl
  · rw [ea _ _ (by omega), R.run]
    exact congrArg (cum forth p z · y) (Fin.ext (by show 2 * i = (128 * i + l.val) / 64; omega))
  · rw [ea _ _ (by omega), R.run]
    exact congrArg (cum forth p z · y) (Fin.ext (by show 2 * i + 1 = (128 * i + l.val) / 64; omega))

end

end Cert.Kernel10Ideal.Scan

end
-- ==== Proof.ScanSsd2.lean ====
/-
  The scan kernel's point, third part: the state-space scan's two groups, put together.
-/
module

public import proofs.«01_k».proof.Proof.ScanSsd

@[expose] public section

set_option maxRecDepth 16384

noncomputable section

namespace Cert.Kernel10Ideal.Scan

open Idealize.ShloMosaic Idealize.ShloMosaic.TcCoe
open Cert.Kernel10Ideal Cert.Kernel10Ideal.Gen Cert.Scan

variable {p : Weights} {z : Rows} {x : Acts} {X : FVec Ideal S64x1536 .f32} {xs : FVec Ideal S64x1024 .f32} {D S1 S2 : FVec Ideal S64x128 .f32}
  {E : Vec Ideal S128x1024 .bf16} (R : Ready p z x X xs D S1 S2 E)

/-- The kernel's arrays, named for what they hold. -/
abbrev kA (S1 S2 : FVec Ideal S64x128 .f32) := k0_pay13 (F := Ideal) k0_pay2 S1 S2
abbrev kT (S1 S2 : FVec Ideal S64x128 .f32) := k0_pay14 (F := Ideal) k0_pay2 S1 S2
abbrev kX (xs : FVec Ideal S64x1024 .f32) (D S1 S2 : FVec Ideal S64x128 .f32) (E : Vec Ideal S128x1024 .bf16) := k0_pay20 (F := Ideal) k0_pay2 xs D S1 S2 E
abbrev kS (D S1 S2 : FVec Ideal S64x128 .f32) (E : Vec Ideal S128x1024 .bf16) := k0_pay16 (F := Ideal) k0_pay2 D S1 S2 E
abbrev kW (D S1 S2 : FVec Ideal S64x128 .f32) (E : Vec Ideal S128x1024 .bf16) := k0_pay17 (F := Ideal) k0_pay2 D S1 S2 E
abbrev kE (xs : FVec Ideal S64x1024 .f32) (D S1 S2 : FVec Ideal S64x128 .f32) (E : Vec Ideal S128x1024 .bf16) := k0_pay19 (F := Ideal) k0_pay2 xs D S1 S2 E

/-- The first group's output. -/
abbrev first_group (X : FVec Ideal S64x1536 .f32) (xs : FVec Ideal S64x1024 .f32) (D S1 S2 : FVec Ideal S64x128 .f32) (E : Vec Ideal S128x1024 .bf16)
    (s0 : Vec Ideal S1x128x512 .f32) : FVec Ideal S64x512 .f32 :=
  k0_pay37 (kS D S1 S2 E) (k0_pay27 (k0_pay24 X) (k0_pay26 s0) (constant S64x512 .f32 0x00000000#32))
    (k0_pay28 k0_pay1 (kA S1 S2) (kT S1 S2) (kX xs D S1 S2 E) k0_pay21 k0_pay22 (k0_pay25 X))
    (k0_pay32 (k0_pay30 k0_pay1 (kA S1 S2) (kT S1 S2) (kX xs D S1 S2 E) k0_pay21 k0_pay22 (k0_pay25 X))
      (k0_pay31 k0_pay1 (kA S1 S2) (kT S1 S2) (kX xs D S1 S2 E) k0_pay21 k0_pay22 (k0_pay25 X)))
    (k0_pay33 k0_pay1 (kA S1 S2) (kT S1 S2) (kX xs D S1 S2 E) k0_pay21 k0_pay22 (k0_pay25 X))
    (k0_pay35 k0_pay1 (kA S1 S2) (kT S1 S2) (kX xs D S1 S2 E) k0_pay21 k0_pay22 (k0_pay25 X))
    (k0_pay36 k0_pay1 (kA S1 S2) (kT S1 S2) (kX xs D S1 S2 E) k0_pay21 k0_pay22 (k0_pay25 X))

/-- The second group's output. -/
abbrev second_group (X : FVec Ideal S64x1536 .f32) (xs : FVec Ideal S64x1024 .f32) (D S1 S2 : FVec Ideal S64x128 .f32) (E : Vec Ideal S128x1024 .bf16)
    (s1 : Vec Ideal S1x128x512 .f32) : FVec Ideal S64x512 .f32 :=
  k0_pay51 k0_pay1 (kA S1 S2) (kT S1 S2) (kS D S1 S2 E) (kX xs D S1 S2 E) k0_pay21 k0_pay22 (k0_pay41 X) (k0_pay42 X s1)
    (k0_pay46 k0_pay1 k0_pay21 k0_pay22 (k0_pay43 (kX xs D S1 S2 E))
      (k0_pay44 k0_pay1 X (kA S1 S2) (kT S1 S2) (kX xs D S1 S2 E) k0_pay21 k0_pay22) (k0_pay45 X (kA S1 S2) (kT S1 S2)))
    (k0_pay47 k0_pay1 (kA S1 S2) (kT S1 S2) (kX xs D S1 S2 E) k0_pay21 k0_pay22 (k0_pay41 X))
    (k0_pay48 (kX xs D S1 S2 E))
    (k0_pay49 k0_pay1 (kA S1 S2) (kT S1 S2) (kX xs D S1 S2 E) k0_pay21 k0_pay22 (k0_pay41 X))
    (k0_pay50 (kA S1 S2) (kT S1 S2) (k0_pay41 X))

/-- A group's output out of its four pairs: the chunk's own part, and the entering state's. -/
theorem group_read (p0 p1 p2 p3 : FVec Ideal S64x128 .f32) (w : FVec Ideal S64x512 .f32) (e : FVec Ideal S64x1024 .f32) (o : ℕ) (ho : o ≤ 512) (so : S64x1024.Slices ![0, o] S64x512)
    (F : Fin 512 → EReal) (t : Fin 64)
    (h : ∀ l : Fin 128, p0 (ix2 t l) = F ⟨l.val, by omega⟩ ∧ p1 (ix2 t l) = F ⟨128 + l.val, by omega⟩ ∧ p2 (ix2 t l) = F ⟨256 + l.val, by omega⟩
      ∧ p3 (ix2 t l) = F ⟨384 + l.val, by omega⟩) (j : Fin 512) :
    addf (concatenate S64x512 1 [⟨S64x128, p0⟩, ⟨S64x128, p1⟩, ⟨S64x128, p2⟩, ⟨S64x128, p3⟩] concatenates_S64x128_S64x128_S64x128_S64x128_S64x512_d1)
        (mulf w (extractStridedSlice S64x512 ![0, o] e so)) (ix2 t j)
      = F j + w (ix2 t j) * e (ix2 t ⟨o + j.val, by omega⟩) := by
  rw [← four_apply p0 p1 p2 p3 F t h j]
  generalize concatenate S64x512 1 [⟨S64x128, p0⟩, ⟨S64x128, p1⟩, ⟨S64x128, p2⟩, ⟨S64x128, p3⟩] concatenates_S64x128_S64x128_S64x128_S64x128_S64x512_d1 = y
  pointwise []

theorem cb0_apply (X : FVec Ideal S64x1536 .f32) (t s : Fin 64) : k0_pay25 (F := Ideal) X (ix2 t s) = ∑ n, X (ix2 t (ccol 0 n)) * X (ix2 s (bcol 0 n)) := by
  pointwise [k0_pay25, k0_pay24, k0_pay23]
  rfl
theorem cb1_apply (X : FVec Ideal S64x1536 .f32) (t s : Fin 64) : k0_pay41 (F := Ideal) X (ix2 t s) = ∑ n, X (ix2 t (ccol 1 n)) * X (ix2 s (bcol 1 n)) := by
  pointwise [k0_pay41, k0_pay40, k0_pay39]
  refine Finset.sum_congr rfl fun n _ => congrArg₂ _ (congrArg X (congrArg (ix2 t) (Fin.ext ?_))) (congrArg X (congrArg (ix2 s) (Fin.ext ?_)))
  · show 1408 + n.val = 1280 + 1 * 128 + n.val; omega
  · show 1152 + n.val = 1024 + 1 * 128 + n.val; omega
theorem cs0_apply (X : FVec Ideal S64x1536 .f32) (s0 : Vec Ideal S1x128x512 .f32) (t : Fin 64) (j : Fin 512) :
    k0_pay27 (F := Ideal) (k0_pay24 X) (k0_pay26 s0) (constant S64x512 .f32 0x00000000#32) (ix2 t j) = ∑ n, X (ix2 t (ccol 0 n)) * s0 (ix3 0 n j) := by
  pointwise [k0_pay27, k0_pay24, k0_pay26]
  rfl
theorem cs1_apply (X : FVec Ideal S64x1536 .f32) (s1 : Vec Ideal S1x128x512 .f32) (t : Fin 64) (j : Fin 512) :
    k0_pay42 (F := Ideal) X s1 (ix2 t j) = ∑ n, X (ix2 t (ccol 1 n)) * s1 (ix3 0 n j) := by
  pointwise [k0_pay42, k0_pay40]
  refine Finset.sum_congr rfl fun n _ => congrArg (X · * _) (congrArg (ix2 t) (Fin.ext ?_))
  show 1408 + n.val = 1280 + 1 * 128 + n.val; omega

include R

theorem out_at (g : Fin 2) (st : SsdState) (cb : FVec Ideal S64x64 .f32) (w : FVec Ideal S64x512 .f32) (t : Fin 64) (j : Fin 512)
    (hcb : ∀ s, cb (ix2 t s) = ∑ n, X (ix2 t (ccol g n)) * X (ix2 s (bcol g n))) (hw : w (ix2 t j) = ∑ n, X (ix2 t (ccol g n)) * st g n j) :
    within_chunk p z x cb t (lane g j) + w (ix2 t j) * kS D S1 S2 E (ix2 t (lane g j)) = ssdOut forth p x z st t (lane g j) := by
  rw [kS, fromStart_apply R, hw, within_chunk, ssdOut, group_lane, place_lane]
  simp only [hcb, R.acts]

theorem first_group_apply (st : SsdState) (s0 : Vec Ideal S1x128x512 .f32) (h0 : ∀ n j, s0 (ix3 0 n j) = st 0 n j) (t : Fin 64) (j : Fin 512) :
    first_group X xs D S1 S2 E s0 (ix2 t j) = ssdOut forth p x z st t (lane 0 j) := by
  refine Eq.trans ?_ (out_at R 0 st (k0_pay25 X) (k0_pay27 (k0_pay24 X) (k0_pay26 s0) (constant S64x512 .f32 0x00000000#32)) t j (cb0_apply X t)
    (by rw [cs0_apply]; simp only [h0]))
  refine (group_read _ _ _ _ _ (kS D S1 S2 E) 0 (by omega) _ (fun j => within_chunk p z x (k0_pay25 X) t (lane 0 j)) t (fun l => ⟨?_, ?_, ?_, ?_⟩) j).trans ?_
  · refine (pair_at R (k0_pay25 X) 0 0 0 1 (by omega) rfl rfl rfl slices_S64x1024_o0_0_S64x128 _ _ _ _ t l).trans (congrArg _ (Fin.ext ?_))
    show 128 * 0 + l.val = 0 * 512 + l.val; omega
  · refine (pair_at R (k0_pay25 X) 1 128 2 3 (by omega) rfl rfl rfl slices_S64x1024_o0_128_S64x128 _ _ _ _ t l).trans (congrArg _ (Fin.ext ?_))
    show 128 * 1 + l.val = 0 * 512 + (128 + l.val); omega
  · refine (pair_at R (k0_pay25 X) 2 256 4 5 (by omega) rfl rfl rfl slices_S64x1024_o0_256_S64x128 _ _ _ _ t l).trans (congrArg _ (Fin.ext ?_))
    show 128 * 2 + l.val = 0 * 512 + (256 + l.val); omega
  · refine (pair_at R (k0_pay25 X) 3 384 6 7 (by omega) rfl rfl rfl slices_S64x1024_o0_384_S64x128 _ _ _ _ t l).trans (congrArg _ (Fin.ext ?_))
    show 128 * 3 + l.val = 0 * 512 + (384 + l.val); omega
  · exact congrArg (_ + _ * kS D S1 S2 E ·) (congrArg (ix2 t) (Fin.ext (by show 0 + j.val = 0 * 512 + j.val; omega)))

theorem second_group_apply (st : SsdState) (s1 : Vec Ideal S1x128x512 .f32) (h1 : ∀ n j, s1 (ix3 0 n j) = st 1 n j) (t : Fin 64) (j : Fin 512) :
    second_group X xs D S1 S2 E s1 (ix2 t j) = ssdOut forth p x z st t (lane 1 j) := by
  refine Eq.trans ?_ (out_at R 1 st (k0_pay41 X) (k0_pay42 X s1) t j (cb1_apply X t) (by rw [cs1_apply]; simp only [h1]))
  refine (group_read _ _ _ _ _ (kS D S1 S2 E) 512 (by omega) _ (fun j => within_chunk p z x (k0_pay41 X) t (lane 1 j)) t (fun l => ⟨?_, ?_, ?_, ?_⟩) j).trans ?_
  · refine (pair_at R (k0_pay41 X) 4 512 8 9 (by omega) rfl rfl rfl slices_S64x1024_o0_512_S64x128 _ _ _ _ t l).trans (congrArg _ (Fin.ext ?_))
    show 128 * 4 + l.val = 1 * 512 + l.val; omega
  · refine (pair_at R (k0_pay41 X) 5 640 10 11 (by omega) rfl rfl rfl slices_S64x1024_o0_640_S64x128 _ _ _ _ t l).trans (congrArg _ (Fin.ext ?_))
    show 128 * 5 + l.val = 1 * 512 + (128 + l.val); omega
  · refine (pair_at R (k0_pay41 X) 6 768 12 13 (by omega) rfl rfl rfl slices_S64x1024_o0_768_S64x128 _ _ _ _ t l).trans (congrArg _ (Fin.ext ?_))
    show 128 * 6 + l.val = 1 * 512 + (256 + l.val); omega
  · refine (pair_at R (k0_pay41 X) 7 896 14 15 (by omega) rfl rfl rfl slices_S64x1024_o0_896_S64x128 _ _ _ _ t l).trans (congrArg _ (Fin.ext ?_))
    show 128 * 7 + l.val = 1 * 512 + (384 + l.val); omega
  · exact congrArg (_ + _ * kS D S1 S2 E ·) (congrArg (ix2 t) (Fin.ext (by show 512 + j.val = 1 * 512 + j.val; omega)))

/-- The output with the skip term. -/
theorem ssd_point (st : SsdState) (s0 s1 : Vec Ideal S1x128x512 .f32) (h0 : ∀ n j, s0 (ix3 0 n j) = st 0 n j) (h1 : ∀ n j, s1 (ix3 0 n j) = st 1 n j)
    (k : Vec Ideal S1x1024 .f32) (hk : ∀ q, k (ix2 0 q) = p.skip q) (t : Fin 64) (q : Fin 1024) :
    k0_pay53 (F := Ideal) xs (first_group X xs D S1 S2 E s0) (second_group X xs D S1 S2 E s1) k (ix2 t q)
      = ssdOut forth p x z st t q + p.skip q * x t (xcol q) := by
  rw [join_apply _ _ _ _ (ssdOut forth p x z st t) t (first_group_apply R st s0 h0 t) (second_group_apply R st s1 h1 t), hk, R.inputs]

/-- The state each group leaves. -/
theorem next0_apply (st : SsdState) (s0 : Vec Ideal S1x128x512 .f32) (h0 : ∀ n j, s0 (ix3 0 n j) = st 0 n j) (n : Fin 128) (j : Fin 512) :
    k0_pay38 (F := Ideal) (kW D S1 S2 E) (kE xs D S1 S2 E) (k0_pay23 X) s0 (ix3 0 n j) = ssdNext forth p x z st 0 n j := by
  have e : ∀ (W : FVec Ideal S1x1024 .f32) (V : FVec Ideal S64x1024 .bf16), k0_pay38 (F := Ideal) W V (k0_pay23 X) s0 (ix3 0 n j)
      = s0 (ix3 0 n j) * W (ix2 0 (lane 0 j)) + ∑ s, X (ix2 s (bcol 0 n)) * V (ix2 s (lane 0 j)) := fun W V => by
    pointwise [k0_pay38, k0_pay23]
    refine congrArg₂ (· + ·) (congrArg (s0 _ * W ·) (congrArg (ix2 0) (Fin.ext ?_)))
      (Finset.sum_congr rfl fun s _ => congrArg₂ (· * ·) (congrArg X (congrArg (ix2 s) (Fin.ext ?_))) (congrArg V (congrArg (ix2 s) (Fin.ext ?_))))
    · show j.val = 0 * 512 + j.val; omega
    · show 1024 + n.val = 1024 + 0 * 128 + n.val; omega
    · show j.val = 0 * 512 + j.val; omega
  rw [e, h0, kW, whole_apply R, ssdNext]
  refine congrArg₂ _ rfl (Finset.sum_congr rfl fun s _ => ?_)
  rw [R.acts, kE, toEnd_apply R]
  rfl

theorem next1_apply (st : SsdState) (s1 : Vec Ideal S1x128x512 .f32) (h1 : ∀ n j, s1 (ix3 0 n j) = st 1 n j) (n : Fin 128) (j : Fin 512) :
    k0_pay52 (F := Ideal) (kW D S1 S2 E) (kE xs D S1 S2 E) (k0_pay39 X) s1 (ix3 0 n j) = ssdNext forth p x z st 1 n j := by
  have e : ∀ (W : FVec Ideal S1x1024 .f32) (V : FVec Ideal S64x1024 .bf16), k0_pay52 (F := Ideal) W V (k0_pay39 X) s1 (ix3 0 n j)
      = s1 (ix3 0 n j) * W (ix2 0 (lane 1 j)) + ∑ s, X (ix2 s (bcol 1 n)) * V (ix2 s (lane 1 j)) := fun W V => by
    pointwise [k0_pay52, k0_pay39]
    refine congrArg₂ (· + ·) (congrArg (s1 _ * W ·) (congrArg (ix2 0) (Fin.ext ?_)))
      (Finset.sum_congr rfl fun s _ => congrArg₂ (· * ·) (congrArg X (congrArg (ix2 s) (Fin.ext ?_))) (congrArg V (congrArg (ix2 s) (Fin.ext ?_))))
    · show 512 + j.val = 1 * 512 + j.val; omega
    · show 1152 + n.val = 1024 + 1 * 128 + n.val; omega
    · show 512 + j.val = 1 * 512 + j.val; omega
  rw [e, h1, kW, whole_apply R, ssdNext]
  refine congrArg₂ _ rfl (Finset.sum_congr rfl fun s _ => ?_)
  rw [R.acts, kE, toEnd_apply R]
  rfl

end Cert.Kernel10Ideal.Scan

end
-- ==== Proof.ScanHg.lean ====
/-
  The scan kernel's point, fourth part: the gated scan's output and state.
-/
module

public import proofs.«01_k».proof.Proof.ScanPay

@[expose] public section

set_option maxRecDepth 16384

noncomputable section

namespace Cert.Kernel10Ideal.Scan

open Idealize.ShloMosaic Idealize.ShloMosaic.TcCoe
open Cert.Kernel10Ideal Cert.Kernel10Ideal.Gen Cert.Scan

/-- One head's output, at its columns. -/
theorem head_out (o : ℕ) (ho : o ≤ 896) (Q K V : FVec Ideal S64x1024 .bf16) (G : FVec Ideal S128x128 .f32) (so so' so'' so3 : S64x1024.Slices ![0, o] S64x128)
    (t : Fin 64) (l : Fin 128) :
    addf (matmul dot_S64x64_S64x128_S64x128_1_0_0_1_n_n none
          (truncf .bf16 (select k0_pay1 (matmul dot_S64x128_S64x128_S64x64_1_1_0_0_n_n none (extractStridedSlice S64x128 ![0, o] Q so) (extractStridedSlice S64x128 ![0, o] K so') (constant S64x64 .f32 0x00000000#32))
            (broadcast S64x64 (Scalar.ofBits .f32 0x00000000#32 : Ideal .f32))) bitsLt_bf16_f32) (extractStridedSlice S64x128 ![0, o] V so'') (constant S64x128 .f32 0x00000000#32))
        (matmul dot_S64x128_S128x128_S64x128_1_1_0_0_n_n none (extractStridedSlice S64x128 ![0, o] Q so3) (truncf .bf16 G bitsLt_bf16_f32) (constant S64x128 .f32 0x00000000#32)) (ix2 t l)
      = (∑ s : Fin 64, (if forth.seen t s then ∑ k : Fin 128, Q (ix2 t ⟨o + k.val, by omega⟩) * K (ix2 s ⟨o + k.val, by omega⟩) else 0) * V (ix2 s ⟨o + l.val, by omega⟩))
        + ∑ k : Fin 128, Q (ix2 t ⟨o + k.val, by omega⟩) * G (ix2 l k) := by
  pointwise []
  simp only [mask_apply, choose]
  refine congrArg (· + _) (Finset.sum_congr rfl fun s _ => ?_)
  split_ifs
  · rfl
  · rw [zero_mul]

/-- One head's state, at its columns. -/
theorem head_next (o : ℕ) (ho : o ≤ 896) (V K : FVec Ideal S64x1024 .bf16) (e : FVec Ideal S1x1024 .f32) (G : Vec Ideal S1x128x128 .f32)
    (so so' : S64x1024.Slices ![0, o] S64x128) (se : S1x1024.Slices ![0, o] S1x128) (v k : Fin 128) :
    shapeCast S1x128x128 (addf (mulf (shapeCast (α := Ideal .f32) S128x128 G shapeCasts_S1x128x128_S128x128) (broadcastTo S128x128 (extractStridedSlice S1x128 ![0, o] e se) broadcasts_S1x128_S128x128))
        (matmul dot_S64x128_S64x128_S128x128_0_0_1_1_n_n none (extractStridedSlice S64x128 ![0, o] V so) (extractStridedSlice S64x128 ![0, o] K so') (constant S128x128 .f32 0x00000000#32)))
        shapeCasts_S128x128_S1x128x128 (ix3 0 v k)
      = G (ix3 0 v k) * e (ix2 0 ⟨o + k.val, by omega⟩) + ∑ s : Fin 64, V (ix2 s ⟨o + v.val, by omega⟩) * K (ix2 s ⟨o + k.val, by omega⟩) := by
  pointwise []

/-- What a point reads for the gated scan, the floors within their range. -/
structure Gated (p : Weights) (z : Rows) (lb : Vec Ideal S1x1024 .f32) (f q v : Vec Ideal S64x1024 .f32) : Prop where
  low : ∀ c, lb (ix2 0 c) = p.low c
  forget : ∀ t c, f (ix2 t c) = z t (forth.fcol c)
  query : ∀ t c, q (ix2 t c) = z t (qcol c)
  value : ∀ t c, v (ix2 t c) = z t (vcol c)
  pos : ∀ c, 0 < p.low c
  fin : ∀ c, p.low c ≠ ⊤

section
variable {p : Weights} {z : Rows} {lb : Vec Ideal S1x1024 .f32} {f q v : Vec Ideal S64x1024 .f32} (R : Gated p z lb f q v)
include R

theorem gate_apply (t : Fin 64) (c : Fin 1024) : k0_pay54 (F := Ideal) lb f (ix2 t c) = gate forth p z c t := by
  rw [gate, ← R.low, ← R.forget]
  pointwise [k0_pay54]

theorem log_real (t : Fin 64) (c : Fin 1024) : ∃ r : ℝ, Ideal.log (gate forth p z c t) = r := gate_log (R.pos c) (R.fin c) _

theorem hcum_real (t : Fin 64) (c : Fin 1024) : ∃ r : ℝ, hcum forth p z c t = r := runSum_real forth _ (fun s => log_real R s c) t

theorem hcum_apply (t : Fin 64) (c : Fin 1024) : k0_pay55 (F := Ideal) k0_pay2 lb f (ix2 t c) = hcum forth p z c t := by
  have h := three_pass (fun s => forth.seen t s) (fun s => Ideal.log (gate forth p z c s))
    (fun s => by obtain ⟨r, e⟩ := log_real R s c; rw [e]; exact EReal.coe_ne_top r)
  rw [hcum, runSum, ← h]
  simp only [← gate_apply R]
  unfold k0_pay55
  generalize k0_pay54 (F := Ideal) lb f = g
  pointwise []
  simp only [tri_apply]

theorem last_apply (c : Fin 1024) : k0_pay56 (F := Ideal) k0_pay2 lb f (ix2 0 c) = hcum forth p z c 63 := by
  rw [← hcum_apply R]
  unfold k0_pay56
  generalize k0_pay55 (F := Ideal) k0_pay2 lb f = g
  pointwise []

theorem query_apply (t : Fin 64) (c : Fin 1024) : k0_pay57 (F := Ideal) k0_pay2 lb f q (ix2 t c) = silu (z t (qcol c)) * Ideal.exp (hcum forth p z c t) := by
  rw [← hcum_apply R, silu, ← R.query]
  unfold k0_pay57
  generalize k0_pay55 (F := Ideal) k0_pay2 lb f = g
  pointwise []

theorem rest_apply (t : Fin 64) (c : Fin 1024) :
    k0_pay58 (F := Ideal) k0_pay2 lb f (ix2 t c) = (1 - gate forth p z c t) * Ideal.exp (hcum forth p z c 63 - hcum forth p z c t) := by
  rw [← hcum_apply R t, ← last_apply R, ← gate_apply R]
  unfold k0_pay58
  generalize k0_pay55 (F := Ideal) k0_pay2 lb f = g
  generalize k0_pay56 (F := Ideal) k0_pay2 lb f = g'
  generalize k0_pay54 (F := Ideal) lb f = g''
  pointwise []

end

theorem part_key (h : Fin 8) (l : Fin 128) : part (key h l) = h := Fin.ext (by show (h.val * 128 + l.val) / 128 = h.val; omega)
theorem within_key (h : Fin 8) (l : Fin 128) : within (key h l) = l := Fin.ext (by show (h.val * 128 + l.val) % 128 = l.val; omega)

abbrev aL (lb : Vec Ideal S1x1024 .f32) (f : Vec Ideal S64x1024 .f32) := k0_pay56 (F := Ideal) k0_pay2 lb f
abbrev aE (lb : Vec Ideal S1x1024 .f32) (f : Vec Ideal S64x1024 .f32) := k0_pay58 (F := Ideal) k0_pay2 lb f
abbrev aQ (lb : Vec Ideal S1x1024 .f32) (f q : Vec Ideal S64x1024 .f32) := k0_pay57 (F := Ideal) k0_pay2 lb f q
abbrev aK (lb : Vec Ideal S1x1024 .f32) (f : Vec Ideal S64x1024 .f32) := k0_pay60 (F := Ideal) (aL lb f) (aE lb f) k0_pay59
abbrev aN (lb : Vec Ideal S1x1024 .f32) (f : Vec Ideal S64x1024 .f32) := k0_pay61 (F := Ideal) (aE lb f)
abbrev aW (lb : Vec Ideal S1x1024 .f32) (f : Vec Ideal S64x1024 .f32) := k0_pay62 (F := Ideal) (aL lb f)

section
variable {p : Weights} {z : Rows} {lb : Vec Ideal S1x1024 .f32} {f q v : Vec Ideal S64x1024 .f32} (R : Gated p z lb f q v)
include R

theorem aK_apply (t : Fin 64) (c : Fin 1024) :
    aK lb f (ix2 t c) = (1 - gate forth p z c t) * Ideal.exp (hcum forth p z c 63 - hcum forth p z c t) * Ideal.exp (-hcum forth p z c 63) := by
  rw [← rest_apply R, ← last_apply R]
  pointwise [k0_pay60, k0_pay59]
  rw [zero_sub]

theorem aN_apply (t : Fin 64) (c : Fin 1024) :
    aN lb f (ix2 t c) = (1 - gate forth p z c t) * Ideal.exp (hcum forth p z c 63 - hcum forth p z c t) := rest_apply R t c

theorem aW_apply (c : Fin 1024) : aW lb f (ix2 0 c) = Ideal.exp (hcum forth p z c 63) := by
  rw [← last_apply R]
  pointwise [k0_pay62]

/-- A product of a query's and a key's entries is the pair's weight with the decay between the positions. -/
theorem between (t s : Fin 64) (c : Fin 1024) :
    aQ lb f q (ix2 t c) * aK lb f (ix2 s c)
      = silu (z t (qcol c)) * (1 - gate forth p z c s) * Ideal.exp (hcum forth p z c t - hcum forth p z c s) := by
  rw [aK_apply R, aQ, query_apply R]
  obtain ⟨a, ha⟩ := hcum_real R t c
  obtain ⟨b, hb⟩ := hcum_real R s c
  obtain ⟨e, he⟩ := hcum_real R 63 c
  rw [ha, hb, he]
  exact factored _ _ a b e

/-- A head's columns put together are the scan's output at its lane. -/
theorem head_value (h : Fin 8) (o : ℕ) (ho : o = h.val * 128) (gt : HgState) (G : FVec Ideal S128x128 .f32) (hG : ∀ l k, G (ix2 l k) = gt h l k) (t : Fin 64) (l : Fin 128) :
    (∑ s : Fin 64, (if forth.seen t s then ∑ k : Fin 128, aQ lb f q (ix2 t ⟨o + k.val, by omega⟩) * aK lb f (ix2 s ⟨o + k.val, by omega⟩) else 0) * v (ix2 s ⟨o + l.val, by omega⟩))
        + ∑ k : Fin 128, aQ lb f q (ix2 t ⟨o + k.val, by omega⟩) * G (ix2 l k)
      = hgOut forth p z gt t (key h l) := by
  subst ho
  rw [hgOut, part_key, within_key]
  refine congrArg₂ (· + ·) (Finset.sum_congr rfl fun s _ => congrArg₂ (· * ·) ?_ ?_) (Finset.sum_congr rfl fun k _ => congrArg₂ (· * ·) ?_ (hG l k))
  · by_cases hs : forth.seen t s = true
    · rw [if_pos hs]
      refine Finset.sum_congr rfl fun k _ => ?_
      rw [decay, if_pos hs]
      exact between R t s (key h k)
    · rw [if_neg hs]
      refine (Finset.sum_eq_zero fun k _ => ?_).symm
      rw [decay, if_neg hs]
      simp
  · exact R.value s (key h l)
  · exact query_apply R t (key h k)

theorem next_value (h : Fin 8) (o : ℕ) (ho : o = h.val * 128) (gt : HgState) (G : Vec Ideal S1x128x128 .f32) (hG : ∀ l k, G (ix3 0 l k) = gt h l k) (u k : Fin 128) :
    G (ix3 0 u k) * aW lb f (ix2 0 ⟨o + k.val, by omega⟩) + ∑ s : Fin 64, v (ix2 s ⟨o + u.val, by omega⟩) * aN lb f (ix2 s ⟨o + k.val, by omega⟩)
      = hgNext forth p z gt h u k := by
  subst ho
  rw [hgNext, hG]
  exact congrArg₂ (· + ·) (congrArg (_ * ·) (aW_apply R (key h k))) (Finset.sum_congr rfl fun s _ => congrArg₂ (· * ·) (R.value s (key h u)) (aN_apply R s (key h k)))

/-- One head's output columns are the scan's at its lanes. -/
theorem head_at (h : Fin 8) (o : ℕ) (ho : o = h.val * 128) (so so' so'' so3 : S64x1024.Slices ![0, o] S64x128) (gt : HgState) (g : Vec Ideal S1x128x128 .f32)
    (hg : ∀ l k, g (ix3 0 l k) = gt h l k) (t : Fin 64) (l : Fin 128) :
    addf (matmul dot_S64x64_S64x128_S64x128_1_0_0_1_n_n none
          (truncf .bf16 (select k0_pay1 (matmul dot_S64x128_S64x128_S64x64_1_1_0_0_n_n none (extractStridedSlice S64x128 ![0, o] (aQ lb f q) so) (extractStridedSlice S64x128 ![0, o] (aK lb f) so') (constant S64x64 .f32 0x00000000#32))
            (broadcast S64x64 (Scalar.ofBits .f32 0x00000000#32 : Ideal .f32))) bitsLt_bf16_f32) (extractStridedSlice S64x128 ![0, o] (k0_pay63 (F := Ideal) v) so'') (constant S64x128 .f32 0x00000000#32))
        (matmul dot_S64x128_S128x128_S64x128_1_1_0_0_n_n none (extractStridedSlice S64x128 ![0, o] (aQ lb f q) so3)
          (truncf .bf16 (shapeCast (α := Ideal .f32) S128x128 g shapeCasts_S1x128x128_S128x128) bitsLt_bf16_f32) (constant S64x128 .f32 0x00000000#32)) (ix2 t l)
      = hgOut forth p z gt t (key h l) :=
  (head_out o (by omega) (aQ lb f q) (aK lb f) (k0_pay63 (F := Ideal) v) _ so so' so'' so3 t l).trans
    (head_value R h o ho gt _ (fun l k => by rw [← hg]; pointwise []) t l)

/-- One head's new state is the scan's. -/
theorem next_at (h : Fin 8) (o : ℕ) (ho : o = h.val * 128) (so so' : S64x1024.Slices ![0, o] S64x128) (se : S1x1024.Slices ![0, o] S1x128) (gt : HgState) (g : Vec Ideal S1x128x128 .f32)
    (hg : ∀ l k, g (ix3 0 l k) = gt h l k) (u k : Fin 128) :
    shapeCast S1x128x128 (addf (mulf (shapeCast (α := Ideal .f32) S128x128 g shapeCasts_S1x128x128_S128x128) (broadcastTo S128x128 (extractStridedSlice S1x128 ![0, o] (aW lb f) se) broadcasts_S1x128_S128x128))
        (matmul dot_S64x128_S64x128_S128x128_0_0_1_1_n_n none (extractStridedSlice S64x128 ![0, o] (k0_pay63 (F := Ideal) v) so) (extractStridedSlice S64x128 ![0, o] (aN lb f) so') (constant S128x128 .f32 0x00000000#32)))
        shapeCasts_S128x128_S1x128x128 (ix3 0 u k)
      = hgNext forth p z gt h u k :=
  (head_next o (by omega) (k0_pay63 (F := Ideal) v) (aN lb f) (aW lb f) g so so' se u k).trans (next_value R h o ho gt g hg u k)

/-- What the point stores for the gated scan is the scan's output in its chunk. -/
theorem hg_point (gt : HgState) (g : Fin 8 → Vec Ideal S1x128x128 .f32) (hg : ∀ h l k, g h (ix3 0 l k) = gt h l k) (t : Fin 64) (c : Fin 1024) :
    k0_pay90 (F := Ideal) k0_pay1 (aQ lb f q) (aK lb f) (k0_pay63 (F := Ideal) v)
        (k0_pay65 (F := Ideal) k0_pay1 (aL lb f) (aQ lb f q) (aE lb f) k0_pay59 v (g 0))
        (k0_pay69 (F := Ideal) (aQ lb f q) (k0_pay63 (F := Ideal) v) (k0_pay67 (F := Ideal) k0_pay1 (aL lb f) (aQ lb f q) (aE lb f) k0_pay59) (k0_pay68 (F := Ideal) (g 1)))
        (k0_pay72 (F := Ideal) k0_pay1 (aQ lb f q) (aK lb f) (k0_pay63 (F := Ideal) v) (g 2))
        (k0_pay76 (F := Ideal) k0_pay1 (aQ lb f q) (aK lb f) (k0_pay63 (F := Ideal) v) (k0_pay74 (F := Ideal) (aQ lb f q)) (g 3))
        (k0_pay79 (F := Ideal) k0_pay1 (aQ lb f q) (aK lb f) (k0_pay63 (F := Ideal) v) (g 4))
        (k0_pay83 (F := Ideal) k0_pay1 (aQ lb f q) (aK lb f) (k0_pay63 (F := Ideal) v) (g 5))
        (k0_pay85 (F := Ideal) k0_pay1 (aQ lb f q) (aK lb f)) (k0_pay86 (F := Ideal) (g 6)) (g 7) (ix2 t c)
      = hgOut forth p z gt t c := by
  refine eight_apply _ _ _ _ _ _ _ _ (fun c => hgOut forth p z gt t c) t (fun l => ?_) c
  exact ⟨head_at R 0 0 rfl slices_S64x1024_o0_0_S64x128 slices_S64x1024_o0_0_S64x128 slices_S64x1024_o0_0_S64x128 slices_S64x1024_o0_0_S64x128 gt (g 0) (hg 0) t l,
    head_at R 1 128 rfl slices_S64x1024_o0_128_S64x128 slices_S64x1024_o0_128_S64x128 slices_S64x1024_o0_128_S64x128 slices_S64x1024_o0_128_S64x128 gt (g 1) (hg 1) t l,
    head_at R 2 256 rfl slices_S64x1024_o0_256_S64x128 slices_S64x1024_o0_256_S64x128 slices_S64x1024_o0_256_S64x128 slices_S64x1024_o0_256_S64x128 gt (g 2) (hg 2) t l,
    head_at R 3 384 rfl slices_S64x1024_o0_384_S64x128 slices_S64x1024_o0_384_S64x128 slices_S64x1024_o0_384_S64x128 slices_S64x1024_o0_384_S64x128 gt (g 3) (hg 3) t l,
    head_at R 4 512 rfl slices_S64x1024_o0_512_S64x128 slices_S64x1024_o0_512_S64x128 slices_S64x1024_o0_512_S64x128 slices_S64x1024_o0_512_S64x128 gt (g 4) (hg 4) t l,
    head_at R 5 640 rfl slices_S64x1024_o0_640_S64x128 slices_S64x1024_o0_640_S64x128 slices_S64x1024_o0_640_S64x128 slices_S64x1024_o0_640_S64x128 gt (g 5) (hg 5) t l,
    head_at R 6 768 rfl slices_S64x1024_o0_768_S64x128 slices_S64x1024_o0_768_S64x128 slices_S64x1024_o0_768_S64x128 slices_S64x1024_o0_768_S64x128 gt (g 6) (hg 6) t l,
    head_at R 7 896 rfl slices_S64x1024_o0_896_S64x128 slices_S64x1024_o0_896_S64x128 slices_S64x1024_o0_896_S64x128 slices_S64x1024_o0_896_S64x128 gt (g 7) (hg 7) t l⟩

/-- What the point stores into each head's state is the state the scan leaves the chunk with. -/
theorem hg_next (gt : HgState) (g : Fin 8 → Vec Ideal S1x128x128 .f32) (hg : ∀ h l k, g h (ix3 0 l k) = gt h l k) (u k : Fin 128) :
    k0_pay66 (F := Ideal) (aL lb f) (aE lb f) v (g 0) (ix3 0 u k) = hgNext forth p z gt 0 u k
      ∧ k0_pay70 (F := Ideal) (aN lb f) (aW lb f) (k0_pay63 (F := Ideal) v) (k0_pay68 (F := Ideal) (g 1)) (ix3 0 u k) = hgNext forth p z gt 1 u k
      ∧ k0_pay73 (F := Ideal) (aN lb f) (aW lb f) (k0_pay63 (F := Ideal) v) (g 2) (ix3 0 u k) = hgNext forth p z gt 2 u k
      ∧ k0_pay77 (F := Ideal) (aN lb f) (aW lb f) (k0_pay63 (F := Ideal) v) (g 3) (ix3 0 u k) = hgNext forth p z gt 3 u k
      ∧ k0_pay81 (F := Ideal) (aW lb f) (k0_pay78 (F := Ideal) (g 4)) (k0_pay80 (F := Ideal) (aN lb f) (k0_pay63 (F := Ideal) v)) (ix3 0 u k) = hgNext forth p z gt 4 u k
      ∧ k0_pay84 (F := Ideal) (aN lb f) (aW lb f) (k0_pay63 (F := Ideal) v) (g 5) (ix3 0 u k) = hgNext forth p z gt 5 u k
      ∧ k0_pay87 (F := Ideal) (aN lb f) (aW lb f) (k0_pay63 (F := Ideal) v) (k0_pay86 (F := Ideal) (g 6)) (ix3 0 u k) = hgNext forth p z gt 6 u k
      ∧ k0_pay89 (F := Ideal) (aN lb f) (aW lb f) (k0_pay63 (F := Ideal) v) (g 7) (ix3 0 u k) = hgNext forth p z gt 7 u k :=
  ⟨next_at R 0 0 rfl slices_S64x1024_o0_0_S64x128 slices_S64x1024_o0_0_S64x128 slices_S1x1024_o0_0_S1x128 gt (g 0) (hg 0) u k,
    next_at R 1 128 rfl slices_S64x1024_o0_128_S64x128 slices_S64x1024_o0_128_S64x128 slices_S1x1024_o0_128_S1x128 gt (g 1) (hg 1) u k,
    next_at R 2 256 rfl slices_S64x1024_o0_256_S64x128 slices_S64x1024_o0_256_S64x128 slices_S1x1024_o0_256_S1x128 gt (g 2) (hg 2) u k,
    next_at R 3 384 rfl slices_S64x1024_o0_384_S64x128 slices_S64x1024_o0_384_S64x128 slices_S1x1024_o0_384_S1x128 gt (g 3) (hg 3) u k,
    next_at R 4 512 rfl slices_S64x1024_o0_512_S64x128 slices_S64x1024_o0_512_S64x128 slices_S1x1024_o0_512_S1x128 gt (g 4) (hg 4) u k,
    next_at R 5 640 rfl slices_S64x1024_o0_640_S64x128 slices_S64x1024_o0_640_S64x128 slices_S1x1024_o0_640_S1x128 gt (g 5) (hg 5) u k,
    next_at R 6 768 rfl slices_S64x1024_o0_768_S64x128 slices_S64x1024_o0_768_S64x128 slices_S1x1024_o0_768_S1x128 gt (g 6) (hg 6) u k,
    next_at R 7 896 rfl slices_S64x1024_o0_896_S64x128 slices_S64x1024_o0_896_S64x128 slices_S1x1024_o0_896_S1x128 gt (g 7) (hg 7) u k⟩

end

end Cert.Kernel10Ideal.Scan

end
-- ==== Proof.ScanOut.lean ====
/-
  The even layer's two scans over the whole sequence, free of either program: 256 chunks of 64 positions, the states
  handed from chunk to chunk, and the four arrays that come out.
-/
module

public import proofs.«01_k».proof.Proof.ScanSpec

@[expose] public section

noncomputable section

namespace Cert.Scan

open Idealize.ShloMosaic

/-- What the two scans read: the projections, the convolution's taps and bias, the step widths' biases and log rates, the
    skip weights, the gates' floors, the two initial states. -/
structure Data where
  z : Fin 16384 → Fin 8192 → EReal
  cw : Fin 8 → Fin 1536 → EReal
  cb : Fin 1536 → EReal
  d : Fin 8 → Fin 128 → EReal
  skip : Fin 1024 → EReal
  low : Fin 1024 → EReal
  s0 : SsdState
  g0 : HgState

/-- The same out of eight arrays. -/
def data (a0 : FVec Ideal ⟨2, ![16384, 8192]⟩ .f32) (a1 : FVec Ideal ⟨2, ![8, 1536]⟩ .f32) (a2 : FVec Ideal ⟨2, ![1, 1536]⟩ .f32)
    (a3 : FVec Ideal ⟨3, ![2, 8, 128]⟩ .f32) (a4 a5 : FVec Ideal ⟨2, ![1, 1024]⟩ .f32) (a6 : FVec Ideal ⟨3, ![2, 128, 512]⟩ .f32)
    (a7 : FVec Ideal ⟨3, ![8, 128, 128]⟩ .f32) : Data where
  z n k := a0 (ix2 n k)
  cw i k := a1 (ix2 i k)
  cb k := a2 (ix2 0 k)
  d i h := a3 (ix3 0 i h)
  skip q := a4 (ix2 0 q)
  low q := a5 (ix2 0 q)
  s0 g n j := a6 (ix3 g n j)
  g0 h v k := a7 (ix3 h v k)

/-- The step widths' arguments are short of infinity, the floors are positive and finite. -/
structure Regular (D : Data) : Prop where
  width : ∀ n (h : Fin 16), D.z n ⟨1536 + h.val, by omega⟩ ≠ ⊤
  bias : ∀ h : Fin 16, D.d 0 ⟨h.val, by omega⟩ ≠ ⊤
  pos : ∀ q, 0 < D.low q
  fin : ∀ q, D.low q ≠ ⊤

variable (D : Data)

def Data.weights : Weights := ⟨fun h => D.d 0 ⟨h.val, by omega⟩, fun h => Ideal.exp (D.d 1 ⟨h.val, by omega⟩), D.skip, D.low⟩
def Data.rows (n : ℕ) : Rows := fun s k => if h : n * 64 + s.val < 16384 then D.z ⟨n * 64 + s.val, h⟩ k else 0
def Data.acts (n : ℕ) : Acts := fun s k => act D.z D.cw D.cb (n * 64 + s.val) k
/-- The states before chunk `n`. -/
def Data.ssd (n : ℕ) : SsdState := ssdState forth D.weights D.acts D.rows D.s0 n
def Data.hg (n : ℕ) : HgState := hgState forth D.weights D.rows D.g0 n
/-- Chunk `n`'s outputs. -/
def Data.y (n : ℕ) (t : Fin 64) (q : Fin 1024) : EReal :=
  ssdOut forth D.weights (D.acts n) (D.rows n) (D.ssd n) t q + D.weights.skip q * D.acts n t (xcol q)
def Data.o (n : ℕ) (t : Fin 64) (q : Fin 1024) : EReal := hgOut forth D.weights (D.rows n) (D.hg n) t q

/-- The four arrays. -/
def yArr : FVec Ideal ⟨2, ![16384, 1024]⟩ .f32 := fun i => D.y ((i 0).val / 64) ⟨(i 0).val % 64, by omega⟩ (i 1)
def oArr : FVec Ideal ⟨2, ![16384, 1024]⟩ .f32 := fun i => D.o ((i 0).val / 64) ⟨(i 0).val % 64, by omega⟩ (i 1)
def sArr : FVec Ideal ⟨3, ![2, 128, 512]⟩ .f32 := fun i => D.ssd 256 (i 0) (i 1) (i 2)
def gArr : FVec Ideal ⟨3, ![8, 128, 128]⟩ .f32 := fun i => D.hg 256 (i 0) (i 1) (i 2)

end Cert.Scan

end
-- ==== Proof.ScanPoint.lean ====
/-
  The scan kernel's point, off the arguments: the activations, the step widths and the gates it works on are the chunk's.
-/
module

public import proofs.«01_k».proof.Proof.ScanBlocks
public import proofs.«01_k».proof.Proof.ScanSsd2
public import proofs.«01_k».proof.Proof.ScanHg
public import proofs.«01_k».proof.Proof.ScanOut

@[expose] public section

set_option maxRecDepth 16384

noncomputable section

namespace Cert.Kernel10Ideal.Scan

open Idealize.ShloMosaic Idealize.ShloMosaic.TcCoe Idealize.SL.Sem
open Idealize.ShloMosaic.Pipeline (Dat)
open Cert.Kernel10Ideal Cert.Kernel10Ideal.Gen Cert.Scan

variable (m : (ℓ : Loc nD τ sig) → Buf (Elt Ideal) ℓ) (c : Dev nD)

/-- What the scans read, off the arguments. -/
abbrev kd : Data := data (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7))

theorem rows_at (t : Fin cfg0.N) (r : Fin 64) (k : Fin 8192) : (kd m c).rows t.val r k = aZ m c (pos t r) k := by
  unfold Data.rows
  rw [dif_pos (pos t r).isLt]
  rfl

/-- The convolution's rows and the two rows of the step widths, as a point loads them. -/
abbrev tapRow (i : ℕ) (inb : ∀ a, (![i, 0] : Fin 2 → ℕ) a + S1x1536.size a ≤ S8x1536.size a) (t : Fin cfg0.N) : Vec Ideal S1x1536 .f32 :=
  View.ld (iblk m c 7 t) (Rect.unit (s := S8x1536) ![i, 0] S1x1536.size inb)
abbrev widthRow (i : ℕ) (inb : ∀ a, (![0, i, 0] : Fin 3 → ℕ) a + S1x1x128.size a ≤ S1x8x128.size a) (t : Fin cfg0.N) : Vec Ideal S1x1x128 .f32 :=
  View.ld (iblk m c 9 t) (Rect.unit (s := S1x8x128) ![0, i, 0] S1x1x128.size inb)

theorem tapRow_apply (i : ℕ) (inb : ∀ a, (![i, 0] : Fin 2 → ℕ) a + S1x1536.size a ≤ S8x1536.size a) (t : Fin cfg0.N) (j : Fin 8) (e : i = j.val) (k : Fin 1536) :
    tapRow m c i inb t (ix2 0 k) = aCw m c j k := by
  rw [← blk_cw m c t]
  exact View.ld_unit_apply_of (Val := Elt Ideal) (e := .f32) (S := S8x1536) (iblk m c 7 t) ![i, 0] S1x1536.size inb (ix2 0 k) (ix2 j k)
    (by intro b; match b with | ⟨0, _⟩ => exact e.symm | ⟨1, _⟩ => exact (Nat.zero_add _).symm)
theorem widthRow_apply (i : ℕ) (inb : ∀ a, (![0, i, 0] : Fin 3 → ℕ) a + S1x1x128.size a ≤ S1x8x128.size a) (t : Fin cfg0.N) (j : Fin 8) (e : i = j.val) (h : Fin 128) :
    widthRow m c i inb t (ix3 0 0 h) = aDt m c j h := by
  rw [← blk_dtc m c t]
  exact View.ld_unit_apply_of (Val := Elt Ideal) (e := .f32) (S := S1x8x128) (iblk m c 9 t) ![0, i, 0] S1x1x128.size inb (ix3 0 0 h) (ix3 0 j h)
    (by intro b; match b with | ⟨0, _⟩ => rfl | ⟨1, _⟩ => exact e.symm | ⟨2, _⟩ => exact (Nat.zero_add _).symm)

/-- The rows the convolution reads are the sequence's around the chunk. -/
theorem ext_row (t : Fin cfg0.N) (R : Fin 80) (h6 : 6 ≤ R.val) (k : Fin 1536) :
    k0_pay3 (F := Ideal) (grid0.coords t) (X0_1 m c t) (X0_2 m c t) (X0_0 m c t) (ix2 R k) = tap (aZ m c) (t.val * 64) (R.val - 6) k := by
  have hN := lt_N t
  rw [ext_apply, coord_val]
  unfold tap
  by_cases h : R.val < 8
  · rw [dif_pos h]
    by_cases h0 : t.val = 0
    · rw [if_pos h0, dif_neg (by omega)]
    · rw [if_neg h0, dif_pos (by omega)]
      refine (blk_before m c t _ k).trans (congrArg (fun n => aZ m c n _) (Fin.ext ?_))
      dsimp only
      omega
  · rw [dif_neg h]
    by_cases h' : R.val < 72
    · rw [dif_pos h', dif_pos (by omega)]
      refine (blk_x m c t _ k).trans (congrArg (fun n => aZ m c n _) (Fin.ext ?_))
      dsimp only
      omega
    · rw [dif_neg h']
      by_cases h0 : t.val = 255
      · rw [if_pos h0, dif_neg (by omega)]
      · rw [if_neg h0, dif_pos (by omega)]
        refine (blk_after m c t _ k).trans (congrArg (fun n => aZ m c n _) (Fin.ext ?_))
        dsimp only
        omega

theorem tap_shift (z : Fin 16384 → Fin 8192 → EReal) (n r j R : ℕ) (h : R = r + j) (k : Fin 1536) : tap z n R k = tap z (n + r) j k := by
  subst h
  unfold tap
  simp only [Nat.add_assoc]

/-- The activations, the step widths and the running sum's parts. -/
abbrev pE (t : Fin cfg0.N) := k0_pay3 (F := Ideal) (grid0.coords t) (X0_1 m c t) (X0_2 m c t) (X0_0 m c t)
abbrev pX (t : Fin cfg0.N) : FVec Ideal S64x1536 .f32 :=
  k0_pay6 (F := Ideal) (pE m c t) (k0_pay4 (grid0.coords t) (X0_1 m c t) (X0_2 m c t) (X0_0 m c t) (iblk m c 8 t)
      (tapRow m c 0 inb_S8x1536_S1x1536_0_0 t) (tapRow m c 1 inb_S8x1536_S1x1536_1_0 t))
    (k0_pay5 (grid0.coords t) (X0_1 m c t) (X0_2 m c t) (X0_0 m c t) (tapRow m c 2 inb_S8x1536_S1x1536_2_0 t))
    (tapRow m c 3 inb_S8x1536_S1x1536_3_0 t) (tapRow m c 4 inb_S8x1536_S1x1536_4_0 t)
abbrev pI (t : Fin cfg0.N) : FVec Ideal S64x1024 .f32 :=
  k0_pay7 (F := Ideal) (pE m c t) (k0_pay4 (grid0.coords t) (X0_1 m c t) (X0_2 m c t) (X0_0 m c t) (iblk m c 8 t)
      (tapRow m c 0 inb_S8x1536_S1x1536_0_0 t) (tapRow m c 1 inb_S8x1536_S1x1536_1_0 t))
    (k0_pay5 (grid0.coords t) (X0_1 m c t) (X0_2 m c t) (X0_0 m c t) (tapRow m c 2 inb_S8x1536_S1x1536_2_0 t))
    (tapRow m c 3 inb_S8x1536_S1x1536_3_0 t) (tapRow m c 4 inb_S8x1536_S1x1536_4_0 t)
abbrev pB (t : Fin cfg0.N) := widthRow m c 0 inb_S1x8x128_S1x1x128_0_0_0 t
abbrev pR (t : Fin cfg0.N) := widthRow m c 1 inb_S1x8x128_S1x1x128_0_1_0 t
abbrev pD (t : Fin cfg0.N) : FVec Ideal S64x128 .f32 := k0_pay8 (F := Ideal) (iblk m c 3 t) (pB m c t)
abbrev pS1 (t : Fin cfg0.N) : FVec Ideal S64x128 .f32 := k0_pay11 (F := Ideal) k0_pay2 (iblk m c 3 t) (pB m c t) (pR m c t)
abbrev pS2 (t : Fin cfg0.N) : FVec Ideal S64x128 .f32 := k0_pay12 (F := Ideal) (iblk m c 3 t) (pB m c t) (pR m c t)

theorem pX_apply (t : Fin cfg0.N) (r : Fin 64) (k : Fin 1536) : pX m c t (ix2 r k) = (kd m c).acts t.val r k := by
  refine (act_apply _ _ _ _ _ _ _ _ _ _ r k).trans ?_
  have hx : ∀ (j : ℕ) (i : ℕ) (hi : i < 80), i = r.val + 6 + j →
      k0_pay3 (F := Ideal) (grid0.coords t) (X0_1 m c t) (X0_2 m c t) (X0_0 m c t) (ix2 ⟨i, hi⟩ k) = tap (aZ m c) (t.val * 64 + r.val) j k :=
    fun j i hi h => (ext_row m c t ⟨i, hi⟩ (by dsimp only; omega) k).trans (tap_shift _ _ r.val j _ (by dsimp only; omega) k)
  exact congrArg silu (congrArg₂ (· + ·) (congrArg₂ (· + ·) (congrArg₂ (· + ·) (congrArg₂ (· + ·) (congrArg₂ (· + ·) (blk_cb m c t k)
      (congrArg₂ (· * ·) (tapRow_apply m c 0 _ t 0 rfl k) (hx 0 _ _ (by omega)))) (congrArg₂ (· * ·) (tapRow_apply m c 1 _ t 1 rfl k) (hx 1 _ _ (by omega))))
      (congrArg₂ (· * ·) (tapRow_apply m c 2 _ t 2 rfl k) (hx 2 _ _ (by omega)))) (congrArg₂ (· * ·) (tapRow_apply m c 3 _ t 3 rfl k) (hx 3 _ _ (by omega))))
      (congrArg₂ (· * ·) (tapRow_apply m c 4 _ t 4 rfl k) (hx 4 _ _ (by omega))))

theorem slice_apply (e : FVec Ideal S80x1536 .f32) (a b : FVec Ideal S64x1536 .f32) (u v : Vec Ideal S1x1536 .f32) (r : Fin 64) (q : Fin 1024) :
    k0_pay7 (F := Ideal) e a b u v (ix2 r q) = k0_pay6 (F := Ideal) e a b u v (ix2 r (xcol q)) := by
  unfold k0_pay7
  generalize k0_pay6 (F := Ideal) e a b u v = w
  pointwise []
  rfl

variable {m c} (H : Regular (kd m c))
include H

theorem arg_lt (t : Fin cfg0.N) (r : Fin 64) (h : Fin 16) : aZ m c (pos t r) ⟨1536 + h.val, by omega⟩ + aDt m c 0 (col h) ≠ ⊤ :=
  EReal.add_ne_top (H.width _ h) (H.bias h)

/-- What the state-space scan works on. -/
theorem ready (t : Fin cfg0.N) :
    Ready (kd m c).weights ((kd m c).rows t.val) ((kd m c).acts t.val) (pX m c t) (pI m c t) (pD m c t) (pS1 m c t) (pS2 m c t) (iblk m c 12 t) := by
  have hz : ∀ r h, (show FVec Ideal S64x128 .f32 from iblk m c 3 t) (ix2 r (col h)) + pB m c t (ix3 0 0 (col h))
      = (kd m c).rows t.val r (forth.dtcol h) + (kd m c).weights.bias h := fun r h => by
    rw [rows_at]
    exact congrArg₂ (· + ·) (blk_dt m c t r (col h)) (widthRow_apply m c 0 _ t 0 rfl (col h))
  have hr : ∀ h, Ideal.exp (pR m c t (ix3 0 0 (col h))) = (kd m c).weights.rate h := fun h => by
    exact congrArg Ideal.exp (widthRow_apply m c 1 _ t 1 rfl (col h))
  have hlt : ∀ r h, (kd m c).rows t.val r (forth.dtcol h) + (kd m c).weights.bias h ≠ ⊤ := fun r h => by
    rw [rows_at]
    exact arg_lt H t r h
  have hdt : ∀ h r, ∃ d : ℝ, 0 ≤ d ∧ dt forth (kd m c).weights ((kd m c).rows t.val) h r = d := fun h r => softplus_real (hlt r h)
  have hneg : ∀ h r, -dt forth (kd m c).weights ((kd m c).rows t.val) h r * (kd m c).weights.rate h ≤ 0 := fun h r => by
    obtain ⟨d, h0, e⟩ := hdt h r
    exact step_nonpos (by rw [e]; exact_mod_cast h0) (exp_nonneg _)
  refine ⟨pX_apply m c t, fun r q => (slice_apply _ _ _ _ _ r q).trans (pX_apply m c t r _), fun r h => ?_, fun r h => ?_, blk_heads m c t, fun r h => ?_,
    fun r h => ?_, fun r h => ?_⟩
  · exact (width_apply _ _ r (col h)).trans (congrArg softplus (hz r h))
  · refine (cum_apply _ _ _ r (col h) fun s => by rw [hz]; exact hlt s h).trans ?_
    unfold cum
    refine congrArg (fun a => runSum forth a r) (funext fun s => ?_)
    rw [hz, hr]
    rfl
  · obtain ⟨d, -, e⟩ := hdt h r
    rw [e]
    exact EReal.coe_ne_top d
  · exact ne_top_of_nonpos (runSum_nonpos forth _ (hneg h) r)
  · exact end_sub_ne_top forth (fun t s _ => by show decide (s.val ≤ 63) = true; exact decide_eq_true (by omega)) _ (hneg h) r

/-- What the gated scan works on. -/
theorem gated (t : Fin cfg0.N) :
    Gated (kd m c).weights ((kd m c).rows t.val) (iblk m c 11 t) (iblk m c 6 t) (iblk m c 4 t) (iblk m c 5 t) :=
  ⟨fun q => blk_low m c t q, fun r q => (blk_f m c t r q).trans (rows_at m c t r _).symm, fun r q => (blk_q m c t r q).trans (rows_at m c t r _).symm,
    fun r q => (blk_v m c t r q).trans (rows_at m c t r _).symm, H.pos, H.fin⟩

end Cert.Kernel10Ideal.Scan

end
-- ==== Proof.ScanValue.lean ====
/-
  The scan kernel's result arrays: every point leaves the chunk's outputs, and the states the scans leave the chunk with.
-/
module

public import proofs.«01_k».proof.Proof.ScanPoint
public import proofs.«01_k».proof.Proof.ScanPieces
public import Idealize.ShloMosaic.Lib.Pipeline.ReadBack

@[expose] public section

set_option maxRecDepth 16384

noncomputable section

namespace Cert.Kernel10Ideal.Scan

open Idealize.ShloMosaic Idealize.ShloMosaic.TcCoe Idealize.SL.Sem
open Idealize.ShloMosaic.Pipeline (Dat)
open Cert.Kernel10Ideal Cert.Kernel10Ideal.Gen Cert.Scan

variable {m : (ℓ : Loc nD τ sig) → Buf (Elt Ideal) ℓ} {c : Dev nD} (H : Regular (kd m c))

/-- What a later point finds as the states. -/
abbrev Found (m : (ℓ : Loc nD τ sig) → Buf (Elt Ideal) ℓ) (c : Dev nD) (t : Fin cfg0.N) : Prop :=
  (∀ g n j, (outsAt0 m c (t.val - 1) (by omega)).2.2.1 (ix3 g n j) = (kd m c).ssd t.val g n j)
    ∧ ∀ h v k, (outsAt0 m c (t.val - 1) (by omega)).2.2.2 (ix3 h v k) = (kd m c).hg t.val h v k

theorem inb_head (h : Fin 8) : ∀ a, (![h.val, 0, 0] : Fin 3 → ℕ) a + (![1, 128, 128] : Fin 3 → ℕ) a ≤ S8x128x128.size a := by
  revert h
  decide

/-- The heads' states as a later point loads them. -/
abbrev held (m : (ℓ : Loc nD τ sig) → Buf (Elt Ideal) ℓ) (c : Dev nD) (t : Fin cfg0.N) (h : Fin 8) : Vec Ideal S1x128x128 .f32 :=
  View.ld (outsAt0 m c (t.val - 1) (by omega)).2.2.2 (Rect.unit (s := S8x128x128) ![h.val, 0, 0] ![1, 128, 128] (inb_head h))

include H

theorem y_B (t : Fin cfg0.N) (h0 : ¬ t.val % 256 = 0) (hf : Found m c t) (r : Fin 64) (q : Fin 1024) :
    (outsAt0 m c t.val t.isLt).1 (ix2 r q) = (kd m c).y t.val r q := by
  rw [outsAt0_B m c t h0]
  frame_out
  exact ssd_point (ready H t) ((kd m c).ssd t.val) _ _ (fun n j => (plane_ld _ 0 _ 0 rfl n j).trans (hf.1 0 n j))
    (fun n j => (plane_ld _ 1 _ 1 rfl n j).trans (hf.1 1 n j)) (iblk m c 10 t) (blk_skip m c t) r q

theorem o_B (t : Fin cfg0.N) (h0 : ¬ t.val % 256 = 0) (hf : Found m c t) (r : Fin 64) (q : Fin 1024) :
    (outsAt0 m c t.val t.isLt).2.1 (ix2 r q) = (kd m c).o t.val r q := by
  rw [outsAt0_B m c t h0]
  frame_out
  exact hg_point (gated H t) ((kd m c).hg t.val) (held m c t) (fun h l k => (plane_ld _ h.val _ h rfl l k).trans (hf.2 h l k)) r q

theorem s_B (t : Fin cfg0.N) (h0 : ¬ t.val % 256 = 0) (hf : Found m c t) (g : Fin 2) (n : Fin 128) (j : Fin 512) :
    (outsAt0 m c t.val t.isLt).2.2.1 (ix3 g n j) = (kd m c).ssd (t.val + 1) g n j := by
  rw [outsAt0_B m c t h0]
  frame_out
  match g with
  | ⟨0, _⟩ =>
    refine (plane_miss 1 _ _ _ 0 (by decide) n j).trans ((plane_hit 0 _ _ _ 0 rfl n j).trans ?_)
    exact next0_apply (ready H t) ((kd m c).ssd t.val) _ (fun n j => (plane_ld _ 0 _ 0 rfl n j).trans (hf.1 0 n j)) n j
  | ⟨1, _⟩ =>
    refine (plane_hit 1 _ _ _ 1 rfl n j).trans ?_
    exact next1_apply (ready H t) ((kd m c).ssd t.val) _ (fun n j => (plane_ld _ 1 _ 1 rfl n j).trans (hf.1 1 n j)) n j

theorem g_B (t : Fin cfg0.N) (h0 : ¬ t.val % 256 = 0) (hf : Found m c t) (h : Fin 8) (v k : Fin 128) :
    (outsAt0 m c t.val t.isLt).2.2.2 (ix3 h v k) = (kd m c).hg (t.val + 1) h v k := by
  obtain ⟨e0, e1, e2, e3, e4, e5, e6, e7⟩ := hg_next (gated H t) ((kd m c).hg t.val) (held m c t) (fun h l k => (plane_ld _ h.val _ h rfl l k).trans (hf.2 h l k)) v k
  rw [outsAt0_B m c t h0]
  frame_out
  match h with
  | ⟨0, _⟩ =>
    iterate 7 refine (plane_miss _ _ _ _ 0 (by decide) v k).trans ?_
    exact (plane_hit 0 _ _ _ 0 rfl v k).trans e0
  | ⟨1, _⟩ =>
    iterate 6 refine (plane_miss _ _ _ _ 1 (by decide) v k).trans ?_
    exact (plane_hit 1 _ _ _ 1 rfl v k).trans e1
  | ⟨2, _⟩ =>
    iterate 5 refine (plane_miss _ _ _ _ 2 (by decide) v k).trans ?_
    exact (plane_hit 2 _ _ _ 2 rfl v k).trans e2
  | ⟨3, _⟩ =>
    iterate 4 refine (plane_miss _ _ _ _ 3 (by decide) v k).trans ?_
    exact (plane_hit 3 _ _ _ 3 rfl v k).trans e3
  | ⟨4, _⟩ =>
    iterate 3 refine (plane_miss _ _ _ _ 4 (by decide) v k).trans ?_
    exact (plane_hit 4 _ _ _ 4 rfl v k).trans e4
  | ⟨5, _⟩ =>
    iterate 2 refine (plane_miss _ _ _ _ 5 (by decide) v k).trans ?_
    exact (plane_hit 5 _ _ _ 5 rfl v k).trans e5
  | ⟨6, _⟩ =>
    refine (plane_miss _ _ _ _ 6 (by decide) v k).trans ?_
    exact (plane_hit 6 _ _ _ 6 rfl v k).trans e6
  | ⟨7, _⟩ => exact (plane_hit 7 _ _ _ 7 rfl v k).trans e7

theorem y_A (t : Fin cfg0.N) (h0 : t.val % 256 = 0) (r : Fin 64) (q : Fin 1024) :
    (outsAt0 m c t.val t.isLt).1 (ix2 r q) = (kd m c).y t.val r q := by
  have ht : t.val = 0 := by have := lt_N t; omega
  have hs : ∀ g n j, (kd m c).ssd t.val g n j = aS0 m c g n j := fun g n j => by rw [ht]; rfl
  rw [outsAt0_A m c t h0]
  frame_out
  refine ssd_point (ready H t) ((kd m c).ssd t.val) _ _ (fun n j => (plane_cov _ _ 0 _ 0 rfl n j).trans ?_)
    (fun n j => (plane_cov _ _ 1 _ 1 rfl n j).trans ?_) (iblk m c 10 t) (blk_skip m c t) r q
  · exact (whole_hit _ _ 0 n j).trans ((blk_s0 m c t 0 n j).trans (hs 0 n j).symm)
  · exact (plane_miss 0 _ _ _ 1 (by decide) n j).trans ((whole_hit _ _ 1 n j).trans ((blk_s0 m c t 1 n j).trans (hs 1 n j).symm))

set_option maxHeartbeats 2000000 in
/-- The second mixer's rows at the first point, whose heads read the states stored at its start. -/
theorem o_A (t : Fin cfg0.N) (h0 : t.val % 256 = 0) (r : Fin 64) (q : Fin 1024) :
    (outsAt0 m c t.val t.isLt).2.1 (ix2 r q) = (kd m c).o t.val r q := by
  have ht : t.val = 0 := by have := lt_N t; omega
  have start : ∀ h v k, (show FVec Ideal S8x128x128 .f32 from iblk m c 14 t) (ix3 h v k) = (kd m c).hg t.val h v k := fun h v k => by
    rw [ht]
    exact blk_g0 m c t h v k
  rw [outsAt0_A m c t h0]
  frame_out
  refine hg_point (gated H t) ((kd m c).hg t.val) ![_, _, _, _, _, _, _, _] (fun h l k => ?_) r q
  match h with
  | ⟨0, _⟩ => exact (plane_cov _ _ 0 _ 0 rfl l k).trans ((whole_hit _ _ 0 l k).trans (start 0 l k))
  | ⟨1, _⟩ =>
    refine (plane_cov _ _ 1 _ 1 rfl l k).trans ?_
    iterate 1 refine (plane_miss _ _ _ _ 1 (by decide) l k).trans ?_
    exact (whole_hit _ _ 1 l k).trans (start 1 l k)
  | ⟨2, _⟩ =>
    refine (plane_cov _ _ 2 _ 2 rfl l k).trans ?_
    iterate 2 refine (plane_miss _ _ _ _ 2 (by decide) l k).trans ?_
    exact (whole_hit _ _ 2 l k).trans (start 2 l k)
  | ⟨3, _⟩ =>
    refine (plane_cov _ _ 3 _ 3 rfl l k).trans ?_
    iterate 3 refine (plane_miss _ _ _ _ 3 (by decide) l k).trans ?_
    exact (whole_hit _ _ 3 l k).trans (start 3 l k)
  | ⟨4, _⟩ =>
    refine (plane_cov _ _ 4 _ 4 rfl l k).trans ?_
    iterate 4 refine (plane_miss _ _ _ _ 4 (by decide) l k).trans ?_
    exact (whole_hit _ _ 4 l k).trans (start 4 l k)
  | ⟨5, _⟩ =>
    refine (plane_cov _ _ 5 _ 5 rfl l k).trans ?_
    iterate 5 refine (plane_miss _ _ _ _ 5 (by decide) l k).trans ?_
    exact (whole_hit _ _ 5 l k).trans (start 5 l k)
  | ⟨6, _⟩ =>
    refine (plane_cov _ _ 6 _ 6 rfl l k).trans ?_
    iterate 6 refine (plane_miss _ _ _ _ 6 (by decide) l k).trans ?_
    exact (whole_hit _ _ 6 l k).trans (start 6 l k)
  | ⟨7, _⟩ =>
    refine (plane_cov _ _ 7 _ 7 rfl l k).trans ?_
    iterate 7 refine (plane_miss _ _ _ _ 7 (by decide) l k).trans ?_
    exact (whole_hit _ _ 7 l k).trans (start 7 l k)

theorem s_A (t : Fin cfg0.N) (h0 : t.val % 256 = 0) (g : Fin 2) (n : Fin 128) (j : Fin 512) :
    (outsAt0 m c t.val t.isLt).2.2.1 (ix3 g n j) = (kd m c).ssd (t.val + 1) g n j := by
  have ht : t.val = 0 := by have := lt_N t; omega
  have hs : ∀ g n j, (kd m c).ssd t.val g n j = aS0 m c g n j := fun g n j => by rw [ht]; rfl
  rw [outsAt0_A m c t h0]
  frame_out
  match g with
  | ⟨0, _⟩ =>
    refine (plane_miss 1 _ _ _ 0 (by decide) n j).trans ((plane_hit 0 _ _ _ 0 rfl n j).trans ?_)
    refine next0_apply (ready H t) ((kd m c).ssd t.val) _ (fun n j => (plane_cov _ _ 0 _ 0 rfl n j).trans ?_) n j
    exact (whole_hit _ _ 0 n j).trans ((blk_s0 m c t 0 n j).trans (hs 0 n j).symm)
  | ⟨1, _⟩ =>
    refine (plane_hit 1 _ _ _ 1 rfl n j).trans ?_
    refine next1_apply (ready H t) ((kd m c).ssd t.val) _ (fun n j => (plane_cov _ _ 1 _ 1 rfl n j).trans ?_) n j
    exact (plane_miss 0 _ _ _ 1 (by decide) n j).trans ((whole_hit _ _ 1 n j).trans ((blk_s0 m c t 1 n j).trans (hs 1 n j).symm))

theorem g_A (t : Fin cfg0.N) (h0 : t.val % 256 = 0) (h : Fin 8) (v k : Fin 128) :
    (outsAt0 m c t.val t.isLt).2.2.2 (ix3 h v k) = (kd m c).hg (t.val + 1) h v k := by
  have ht : t.val = 0 := by have := lt_N t; omega
  have start : ∀ h v k, (show FVec Ideal S8x128x128 .f32 from iblk m c 14 t) (ix3 h v k) = (kd m c).hg t.val h v k := fun h v k => by
    rw [ht]
    exact blk_g0 m c t h v k
  rw [outsAt0_A m c t h0]
  frame_out
  match h with
  | ⟨0, _⟩ =>
    iterate 7 refine (plane_miss _ _ _ _ 0 (by decide) v k).trans ?_
    refine (plane_hit 0 _ _ _ 0 rfl v k).trans ?_
    refine next_at (gated H t) 0 0 rfl slices_S64x1024_o0_0_S64x128 slices_S64x1024_o0_0_S64x128 slices_S1x1024_o0_0_S1x128 ((kd m c).hg t.val) _ (fun l k => ?_) v k
    refine (plane_cov _ _ 0 _ 0 rfl l k).trans ?_
    exact (whole_hit _ _ 0 l k).trans (start 0 l k)
  | ⟨1, _⟩ =>
    iterate 6 refine (plane_miss _ _ _ _ 1 (by decide) v k).trans ?_
    refine (plane_hit 1 _ _ _ 1 rfl v k).trans ?_
    refine next_at (gated H t) 1 128 rfl slices_S64x1024_o0_128_S64x128 slices_S64x1024_o0_128_S64x128 slices_S1x1024_o0_128_S1x128 ((kd m c).hg t.val) _ (fun l k => ?_) v k
    refine (plane_cov _ _ 1 _ 1 rfl l k).trans ?_
    iterate 1 refine (plane_miss _ _ _ _ 1 (by decide) l k).trans ?_
    exact (whole_hit _ _ 1 l k).trans (start 1 l k)
  | ⟨2, _⟩ =>
    iterate 5 refine (plane_miss _ _ _ _ 2 (by decide) v k).trans ?_
    refine (plane_hit 2 _ _ _ 2 rfl v k).trans ?_
    refine next_at (gated H t) 2 256 rfl slices_S64x1024_o0_256_S64x128 slices_S64x1024_o0_256_S64x128 slices_S1x1024_o0_256_S1x128 ((kd m c).hg t.val) _ (fun l k => ?_) v k
    refine (plane_cov _ _ 2 _ 2 rfl l k).trans ?_
    iterate 2 refine (plane_miss _ _ _ _ 2 (by decide) l k).trans ?_
    exact (whole_hit _ _ 2 l k).trans (start 2 l k)
  | ⟨3, _⟩ =>
    iterate 4 refine (plane_miss _ _ _ _ 3 (by decide) v k).trans ?_
    refine (plane_hit 3 _ _ _ 3 rfl v k).trans ?_
    refine next_at (gated H t) 3 384 rfl slices_S64x1024_o0_384_S64x128 slices_S64x1024_o0_384_S64x128 slices_S1x1024_o0_384_S1x128 ((kd m c).hg t.val) _ (fun l k => ?_) v k
    refine (plane_cov _ _ 3 _ 3 rfl l k).trans ?_
    iterate 3 refine (plane_miss _ _ _ _ 3 (by decide) l k).trans ?_
    exact (whole_hit _ _ 3 l k).trans (start 3 l k)
  | ⟨4, _⟩ =>
    iterate 3 refine (plane_miss _ _ _ _ 4 (by decide) v k).trans ?_
    refine (plane_hit 4 _ _ _ 4 rfl v k).trans ?_
    refine next_at (gated H t) 4 512 rfl slices_S64x1024_o0_512_S64x128 slices_S64x1024_o0_512_S64x128 slices_S1x1024_o0_512_S1x128 ((kd m c).hg t.val) _ (fun l k => ?_) v k
    refine (plane_cov _ _ 4 _ 4 rfl l k).trans ?_
    iterate 4 refine (plane_miss _ _ _ _ 4 (by decide) l k).trans ?_
    exact (whole_hit _ _ 4 l k).trans (start 4 l k)
  | ⟨5, _⟩ =>
    iterate 2 refine (plane_miss _ _ _ _ 5 (by decide) v k).trans ?_
    refine (plane_hit 5 _ _ _ 5 rfl v k).trans ?_
    refine next_at (gated H t) 5 640 rfl slices_S64x1024_o0_640_S64x128 slices_S64x1024_o0_640_S64x128 slices_S1x1024_o0_640_S1x128 ((kd m c).hg t.val) _ (fun l k => ?_) v k
    refine (plane_cov _ _ 5 _ 5 rfl l k).trans ?_
    iterate 5 refine (plane_miss _ _ _ _ 5 (by decide) l k).trans ?_
    exact (whole_hit _ _ 5 l k).trans (start 5 l k)
  | ⟨6, _⟩ =>
    iterate 1 refine (plane_miss _ _ _ _ 6 (by decide) v k).trans ?_
    refine (plane_hit 6 _ _ _ 6 rfl v k).trans ?_
    refine next_at (gated H t) 6 768 rfl slices_S64x1024_o0_768_S64x128 slices_S64x1024_o0_768_S64x128 slices_S1x1024_o0_768_S1x128 ((kd m c).hg t.val) _ (fun l k => ?_) v k
    refine (plane_cov _ _ 6 _ 6 rfl l k).trans ?_
    iterate 6 refine (plane_miss _ _ _ _ 6 (by decide) l k).trans ?_
    exact (whole_hit _ _ 6 l k).trans (start 6 l k)
  | ⟨7, _⟩ =>
    refine (plane_hit 7 _ _ _ 7 rfl v k).trans ?_
    refine next_at (gated H t) 7 896 rfl slices_S64x1024_o0_896_S64x128 slices_S64x1024_o0_896_S64x128 slices_S1x1024_o0_896_S1x128 ((kd m c).hg t.val) _ (fun l k => ?_) v k
    refine (plane_cov _ _ 7 _ 7 rfl l k).trans ?_
    iterate 7 refine (plane_miss _ _ _ _ 7 (by decide) l k).trans ?_
    exact (whole_hit _ _ 7 l k).trans (start 7 l k)

end Cert.Kernel10Ideal.Scan

end
-- ==== Proof.ScanFinal.lean ====
/-
  The scan kernel's four result arrays are the whole sequence's.
-/
module

public import proofs.«01_k».proof.Proof.ScanValue

@[expose] public section

set_option maxRecDepth 16384

noncomputable section

namespace Cert.Kernel10Ideal.Scan

open Idealize.ShloMosaic Idealize.ShloMosaic.TcCoe Idealize.SL.Sem
open Idealize.ShloMosaic.Pipeline (Dat)
open Cert.Kernel10Ideal Cert.Kernel10Ideal.Gen Cert.Scan

variable {m : (ℓ : Loc nD τ sig) → Buf (Elt Ideal) ℓ} {c : Dev nD}

/-- What a point leaves as the states. -/
def Left (m : (ℓ : Loc nD τ sig) → Buf (Elt Ideal) ℓ) (c : Dev nD) (t : Fin cfg0.N) : Prop :=
  (∀ g n j, (outsAt0 m c t.val t.isLt).2.2.1 (ix3 g n j) = (kd m c).ssd (t.val + 1) g n j)
    ∧ ∀ h v k, (outsAt0 m c t.val t.isLt).2.2.2 (ix3 h v k) = (kd m c).hg (t.val + 1) h v k

variable (H : Regular (kd m c))
include H

theorem left : ∀ (n : ℕ) (hn : n < cfg0.N), Left m c ⟨n, hn⟩
  | 0, hn => ⟨s_A H ⟨0, hn⟩ rfl, g_A H ⟨0, hn⟩ rfl⟩
  | n + 1, hn => by
    have h0 : ¬ (⟨n + 1, hn⟩ : Fin cfg0.N).val % 256 = 0 := by
      have := lt_N ⟨n + 1, hn⟩
      dsimp only at this ⊢
      omega
    have hf : Found m c ⟨n + 1, hn⟩ := left n (by omega)
    exact ⟨s_B H ⟨n + 1, hn⟩ h0 hf, g_B H ⟨n + 1, hn⟩ h0 hf⟩

theorem found (t : Fin cfg0.N) (h0 : ¬ t.val % 256 = 0) : Found m c t := by
  obtain ⟨n, hn⟩ := t
  match n with
  | 0 => exact absurd rfl h0
  | n + 1 => exact left H n (by omega)

theorem y_at (t : Fin cfg0.N) (r : Fin 64) (q : Fin 1024) : (outsAt0 m c t.val t.isLt).1 (ix2 r q) = (kd m c).y t.val r q := by
  by_cases h0 : t.val % 256 = 0
  · exact y_A H t h0 r q
  · exact y_B H t h0 (found H t h0) r q

theorem o_at (t : Fin cfg0.N) (r : Fin 64) (q : Fin 1024) : (outsAt0 m c t.val t.isLt).2.1 (ix2 r q) = (kd m c).o t.val r q := by
  by_cases h0 : t.val % 256 = 0
  · exact o_A H t h0 r q
  · exact o_B H t h0 (found H t h0) r q

theorem final_y : (dats m 0 c).arrAt 15 cfg0.N = yArr (kd m c) := by
  refine (dats m 0 c).arrAt_eq_of_covers 15 _ (by decide +kernel) fun t hf y => ?_
  idx_vars y
  blk_simp
  rw [after0_15]
  have e : (win0_15.blk t).view.emb (ix2 y0 y1) = (ix2 (pos t y0) y1 : S16384x1024.Idx) := by
    blk_ext [idx_val t]
  rw [e]
  refine (y_at H t y0 y1).trans ?_
  show _ = (kd m c).y ((t.val * 64 + y0.val) / 64) ⟨(t.val * 64 + y0.val) % 64, _⟩ y1
  have h1 : (t.val * 64 + y0.val) / 64 = t.val := by omega
  have h2 : (⟨(t.val * 64 + y0.val) % 64, by omega⟩ : Fin 64) = y0 := Fin.ext (by dsimp only; omega)
  rw [h1, h2]

theorem final_o : (dats m 0 c).arrAt 16 cfg0.N = oArr (kd m c) := by
  refine (dats m 0 c).arrAt_eq_of_covers 16 _ (by decide +kernel) fun t hf y => ?_
  idx_vars y
  blk_simp
  rw [after0_16]
  have e : (win0_16.blk t).view.emb (ix2 y0 y1) = (ix2 (pos t y0) y1 : S16384x1024.Idx) := by
    blk_ext [idx_val t]
  rw [e]
  refine (o_at H t y0 y1).trans ?_
  show _ = (kd m c).o ((t.val * 64 + y0.val) / 64) ⟨(t.val * 64 + y0.val) % 64, _⟩ y1
  have h1 : (t.val * 64 + y0.val) / 64 = t.val := by omega
  have h2 : (⟨(t.val * 64 + y0.val) % 64, by omega⟩ : Fin 64) = y0 := Fin.ext (by dsimp only; omega)
  rw [h1, h2]

theorem final_s : (dats m 0 c).arrAt 17 cfg0.N = sArr (kd m c) := by
  refine (dats m 0 c).arrAt_eq_of_covers 17 _ (by decide +kernel) fun t hf y => ?_
  idx_vars y
  blk_simp
  rw [after0_17]
  have e : (win0_17.blk t).view.emb (ix3 y0 y1 y2) = (ix3 y0 y1 y2 : S2x128x512.Idx) := by
    blk_ext [idx_fix t]
  rw [e]
  have h1 : t.val + 1 = 256 := by have := (flush0_17 t).1 hf; have := lt_N t; omega
  refine ((left H t.val t.isLt).1 y0 y1 y2).trans ?_
  show (kd m c).ssd (t.val + 1) y0 y1 y2 = (kd m c).ssd 256 y0 y1 y2
  rw [h1]

theorem final_g : (dats m 0 c).arrAt 18 cfg0.N = gArr (kd m c) := by
  refine (dats m 0 c).arrAt_eq_of_covers 18 _ (by decide +kernel) fun t hf y => ?_
  idx_vars y
  blk_simp
  rw [after0_18]
  have e : (win0_18.blk t).view.emb (ix3 y0 y1 y2) = (ix3 y0 y1 y2 : S8x128x128.Idx) := by
    blk_ext [idx_fix t]
  rw [e]
  have h1 : t.val + 1 = 256 := by have := (flush0_18 t).1 hf; have := lt_N t; omega
  refine ((left H t.val t.isLt).2 y0 y1 y2).trans ?_
  show (kd m c).hg (t.val + 1) y0 y1 y2 = (kd m c).hg 256 y0 y1 y2
  rw [h1]

end Cert.Kernel10Ideal.Scan

end
-- ==== Proof.ScanRef.lean ====
/-
  The even layer's scans' reference: chunk by chunk, both states carried from one to the next.
-/
module

public import proofs.«01_k».proof.Proof.Gen.Reference10Ideal.Run
public import Idealize.ShloMosaic.Lib.Tactic.CleanTypes
public import Idealize.ShloMosaic.Lib.Pipeline.ValueKit
public import proofs.«01_k».proof.Proof.ScanSpec

@[expose] public section

set_option maxRecDepth 16384

noncomputable section

namespace Cert.Reference10Ideal.Scan

open Idealize.ShloMosaic Idealize.ShloMosaic.TcCoe Idealize.SL.Sem Idealize.ShloMosaic.StableHlo
open Cert.Reference10Ideal Cert.Reference10Ideal.Gen Cert.Reference10Ideal.Value Cert.Scan

/-- What one trip reads: the carried buffers, as arrays. -/
abbrev vActs (V : Valuation τ sig (Elt Ideal)) : Acts := fun t c => (show FVec Ideal S64x1536 .f32 from res_main_while0b_v57 V) (ix2 t c)
abbrev vRows (V : Valuation τ sig (Elt Ideal)) : Rows := fun t c => (show FVec Ideal S64x8192 .f32 from res_main_while0b_v58 V) (ix2 t c)
abbrev vWeights (V : Valuation τ sig (Elt Ideal)) : Weights where
  bias h := (show FVec Ideal S16 .f32 from V (Proc.devRef .tc main_v53_2)) (ix1 h)
  rate h := (show FVec Ideal S16 .f32 from V (Proc.devRef .tc main_v53_3)) (ix1 h)
  skip q := (show FVec Ideal S1x1024 .f32 from V (Proc.devRef .tc main_v53_5)) (ix2 0 q)
  low q := (show FVec Ideal S1x1024 .f32 from V (Proc.devRef .tc main_v53_6)) (ix2 0 q)
abbrev vSsd (V : Valuation τ sig (Elt Ideal)) : SsdState := fun g n j =>
  (show FVec Ideal S2x128x8x64 .f32 from V (Proc.devRef .tc main_v53_8)) (ix4 g n ⟨j.val / 64, by omega⟩ ⟨j.val % 64, by omega⟩)
abbrev vHg (V : Valuation τ sig (Elt Ideal)) : HgState := fun h v k => (show FVec Ideal S8x128x128 .f32 from V (Proc.devRef .tc main_v53_9)) (ix3 h v k)
/-- The mask it reads keeps the positions up to the one in hand. -/
def Masked (V : Valuation τ sig (Elt Ideal)) : Prop :=
  ∀ t s : Fin 64, (show IVec S64x64 1 from V (Proc.devRef .tc main_v53_4)) (ix2 t s) = if forth.seen t s then 1#1 else 0#1

variable (V : Valuation τ sig (Elt Ideal))

theorem absf_eq (x : EReal) : FloatOps.absf (F := Ideal) (φ := .f32) x = max x (-x) := rfl

theorem dt_read (t : Fin 64) (h : Fin 16) : (show FVec Ideal S64x16 .f32 from res_main_while0b_v69 V) (ix2 t h) = dt forth (vWeights V) (vRows V) h t := by
  have e : (show FVec Ideal S64x16 .f32 from res_main_while0b_v68 V) (ix2 t h) = vRows V t (forth.dtcol h) + (vWeights V).bias h := by
    unfold res_main_while0b_v68 vRows
    generalize res_main_while0b_v58 V = a
    clean_types
    pointwise []
    rfl
  unfold dt softplus
  rw [← e]
  unfold res_main_while0b_v69 res_main_while0b_call5_v3
  generalize res_main_while0b_v68 V = a
  unfold res_main_while0b_call5_cst
  clean_types
  simp only [id_eq]
  pointwise []
  rw [if_neg (by simp)]
  rfl

theorem scalar_select (b : Bool) (x y : EReal) : Scalar.select (if b then 1#1 else 0#1) x y = if b then x else y := by
  cases b <;> rfl

theorem pick (hm : Masked V) (t s : Fin 64) (x y : EReal) (hy : y = 0) :
    Scalar.select ((show IVec S64x64 1 from V (Proc.devRef .tc main_v53_4)) (ix2 t s)) x y = if forth.seen t s then x else 0 := by
  rw [hm t s, scalar_select, hy]

theorem bottom : (Ideal.ofBits .f32 0xFF800000#32 : EReal) = ⊥ := by simp [Ideal.ofBits, Ideal.ieee]

theorem zero_read : (id (constant (F := Ideal) S_ .f32 0x00000000#32)) ix0 = (0 : EReal) := by
  simp only [id_eq]
  pointwise []

theorem cum_read (hm : Masked V) (t : Fin 64) (g : Fin 2) (r : Fin 8) :
    (show FVec Ideal S64x2x8 .f32 from res_main_while0b_v78 V) (ix3 t g r) = cum forth (vWeights V) (vRows V) ⟨g.val * 8 + r.val, by omega⟩ t := by
  unfold cum runSum
  simp only [← dt_read V]
  unfold res_main_while0b_v78
  generalize res_main_while0b_v69 V = a
  clean_types
  pointwise []
  refine Finset.sum_congr rfl fun s _ => ?_
  exact pick V hm t s _ _ zero_read

theorem xdt_read (t : Fin 64) (g : Fin 2) (r : Fin 8) (k : Fin 64) :
    (show FVec Ideal S64x2x8x64 .f32 from res_main_while0b_v81 V) (ix4 t g r k)
      = xdt forth (vWeights V) (vActs V) (vRows V) ⟨g.val * 512 + r.val * 64 + k.val, by omega⟩ t := by
  unfold xdt
  rw [← dt_read V t]
  have e : head (⟨g.val * 512 + r.val * 64 + k.val, by omega⟩ : Fin 1024) = ⟨g.val * 8 + r.val, by omega⟩ := Fin.ext (by unfold head; dsimp only; omega)
  rw [e]
  unfold res_main_while0b_v81
  show _ = (show FVec Ideal S64x1536 .f32 from res_main_while0b_v57 V) _ * _
  generalize res_main_while0b_v57 V = b
  generalize res_main_while0b_v69 V = a
  clean_types
  pointwise []
  rfl

theorem b_read (t : Fin 64) (g : Fin 2) (n : Fin 128) : (show FVec Ideal S64x2x128 .f32 from res_main_while0b_v62 V) (ix3 t g n) = vActs V t (bcol g n) := by
  unfold res_main_while0b_v62 vActs
  generalize res_main_while0b_v57 V = b
  clean_types
  pointwise []
  exact congrArg b (congrArg (ix2 t) (Fin.ext (by unfold bcol; dsimp only; omega)))

theorem c_read (t : Fin 64) (g : Fin 2) (n : Fin 128) : (show FVec Ideal S64x2x128 .f32 from res_main_while0b_v64 V) (ix3 t g n) = vActs V t (ccol g n) := by
  unfold res_main_while0b_v64 vActs
  generalize res_main_while0b_v57 V = b
  clean_types
  pointwise []
  exact congrArg b (congrArg (ix2 t) (Fin.ext (by unfold ccol; dsimp only; omega)))

/-- One trip's state-space state. -/
theorem ssd_step (hm : Masked V) (g : Fin 2) (n : Fin 128) (r : Fin 8) (k : Fin 64) :
    (show FVec Ideal S2x128x8x64 .f32 from step_main_v53_8 V) (ix4 g n r k)
      = ssdNext forth (vWeights V) (vActs V) (vRows V) (vSsd V) g n ⟨r.val * 64 + k.val, by omega⟩ := by
  unfold ssdNext
  have el : lane g (⟨r.val * 64 + k.val, by omega⟩ : Fin 512) = ⟨g.val * 512 + r.val * 64 + k.val, by omega⟩ := Fin.ext (by unfold lane; dsimp only; omega)
  have e : head (⟨g.val * 512 + r.val * 64 + k.val, by omega⟩ : Fin 1024) = ⟨g.val * 8 + r.val, by omega⟩ := Fin.ext (by unfold head; dsimp only; omega)
  have es : vSsd V g n (⟨r.val * 64 + k.val, by omega⟩ : Fin 512) = (show FVec Ideal S2x128x8x64 .f32 from V (Proc.devRef .tc main_v53_8)) (ix4 g n r k) := by
    show (show FVec Ideal S2x128x8x64 .f32 from V (Proc.devRef .tc main_v53_8)) (ix4 g n _ _) = _
    congr 1
    exact congrArg₂ (ix4 g n) (Fin.ext (by dsimp only; omega)) (Fin.ext (by dsimp only; omega))
  rw [el, e, es, ← cum_read V hm]
  rw [Finset.sum_congr rfl fun s _ => by rw [← cum_read V hm s, ← xdt_read V s, ← b_read V s]]
  unfold step_main_v53_8
  generalize res_main_while0b_v78 V = a
  generalize res_main_while0b_v62 V = b
  generalize res_main_while0b_v81 V = d
  clean_types
  simp only [id_eq]
  pointwise []
  rfl

theorem decay_read (a : Fin 64 → EReal) (hm : Masked V) (t s : Fin 64) (x : EReal) (hx : x = a t - a s) :
    Ideal.exp (Scalar.select ((show IVec S64x64 1 from V (Proc.devRef .tc main_v53_4)) (ix2 t s)) x ⊥) = decay forth a t s := by
  rw [hm t s, scalar_select, hx]
  rfl

theorem q_read (t : Fin 64) (h : Fin 8) (k : Fin 128) : (show FVec Ideal S64x8x128 .f32 from res_main_while0b_v128 V) (ix3 t h k) = silu (vRows V t (qcol (key h k))) := by
  unfold res_main_while0b_v128 res_main_while0b_v126 vRows silu
  generalize res_main_while0b_v58 V = b
  clean_types
  pointwise []
  have e : (⟨3072 + (h.val * 128 + k.val), by omega⟩ : Fin 8192) = qcol (key h k) := rfl
  rw [e]
  rfl

theorem v_read (t : Fin 64) (h : Fin 8) (k : Fin 128) : (show FVec Ideal S64x8x128 .f32 from res_main_while0b_v130 V) (ix3 t h k) = vRows V t (vcol (key h k)) := by
  unfold res_main_while0b_v130 vRows
  generalize res_main_while0b_v58 V = b
  clean_types
  pointwise []
  rfl

theorem f_read (t : Fin 64) (h : Fin 8) (k : Fin 128) :
    (show FVec Ideal S64x8x128 .f32 from res_main_while0b_v144 V) (ix3 t h k) = gate forth (vWeights V) (vRows V) (key h k) t := by
  unfold res_main_while0b_v144 vRows gate
  generalize res_main_while0b_v58 V = b
  clean_types
  pointwise []
  rfl

theorem hcum_read (hm : Masked V) (t : Fin 64) (h : Fin 8) (k : Fin 128) :
    (show FVec Ideal S64x8x128 .f32 from res_main_while0b_v149 V) (ix3 t h k) = hcum forth (vWeights V) (vRows V) (key h k) t := by
  unfold hcum runSum
  simp only [← f_read V]
  unfold res_main_while0b_v149
  generalize res_main_while0b_v144 V = a
  clean_types
  pointwise []
  refine Finset.sum_congr rfl fun s _ => ?_
  exact pick V hm t s _ _ zero_read

/-- One trip's gated state. -/
theorem hg_step (hm : Masked V) (h : Fin 8) (v k : Fin 128) :
    (show FVec Ideal S8x128x128 .f32 from step_main_v53_9 V) (ix3 h v k) = hgNext forth (vWeights V) (vRows V) (vHg V) h v k := by
  unfold hgNext
  rw [← hcum_read V hm]
  rw [Finset.sum_congr rfl fun s _ => by rw [← hcum_read V hm s, ← f_read V s, ← v_read V s]]
  unfold step_main_v53_9 vHg
  generalize res_main_while0b_v149 V = a
  generalize res_main_while0b_v130 V = b
  generalize res_main_while0b_v144 V = d
  clean_types
  simp only [id_eq]
  pointwise []
  rfl

/-- A chunk of 64 positions of a `[256, 64, W]` array read at a word. -/
theorem row_read {α : Type} {W : ℕ} (hW : 0 < W) (x : (⟨3, ![256, 64, W]⟩ : Shape).Idx → α) (start : Fin 3 → Int) (n : Fin 256)
    (h : (⟨3, ![256, 64, W]⟩ : Shape).Slices (fun _ => 0) ⟨3, ![1, 64, W]⟩) (h0 : start 0 = n.val) (h1 : start 1 = 0) (h2 : start 2 = 0)
    (t : Fin 64) (q : Fin W) :
    Host.dynamicSlice ⟨3, ![1, 64, W]⟩ x start h (ix3 0 t q) = x (ix3 n t q) := by
  unfold Host.dynamicSlice extractStridedSlice
  refine congrArg x (funext fun a => Fin.ext ?_)
  match a with
  | ⟨0, _⟩ =>
    show (min (max (start 0) 0) ((256 - 1 : ℕ) : Int)).toNat + 0 = n.val
    rw [h0]; omega
  | ⟨1, _⟩ =>
    show (min (max (start 1) 0) ((64 - 64 : ℕ) : Int)).toNat + t.val = t.val
    rw [h1]; omega
  | ⟨2, _⟩ =>
    show (min (max (start 2) 0) ((W - W : ℕ) : Int)).toNat + q.val = q.val
    rw [h2]; omega

/-- One chunk of a `[256, 64, 1024]` array replaced at a word: the chunk at that word, -/
theorem row_write {α : Type} (x : S256x64x1024.Idx → α) (u : S1x64x1024.Idx → α) (start : Fin 3 → Int) (n : Fin 256)
    (h : S256x64x1024.Slices (fun _ => 0) S1x64x1024) (h0 : start 0 = n.val) (h1 : start 1 = 0) (h2 : start 2 = 0) (t : Fin 64) (q : Fin 1024) :
    Host.dynamicUpdateSlice x u start h (ix3 n t q) = u (ix3 0 t q) := by
  unfold Host.dynamicUpdateSlice updateSlice
  have e0 : (min (max (start 0) 0) ((256 - 1 : ℕ) : Int)).toNat = n.val := by rw [h0]; omega
  have e1 : (min (max (start 1) 0) ((64 - 64 : ℕ) : Int)).toNat = 0 := by rw [h1]; omega
  have e2 : (min (max (start 2) 0) ((1024 - 1024 : ℕ) : Int)).toNat = 0 := by rw [h2]; omega
  refine (dif_pos fun a => ?_).trans (congrArg u (funext fun a => Fin.ext ?_))
  · match a with
    | ⟨0, _⟩ =>
      show (min (max (start 0) 0) ((256 - 1 : ℕ) : Int)).toNat ≤ n.val ∧ n.val < (min (max (start 0) 0) ((256 - 1 : ℕ) : Int)).toNat + 1
      omega
    | ⟨1, _⟩ =>
      show (min (max (start 1) 0) ((64 - 64 : ℕ) : Int)).toNat ≤ t.val ∧ t.val < (min (max (start 1) 0) ((64 - 64 : ℕ) : Int)).toNat + 64
      omega
    | ⟨2, _⟩ =>
      show (min (max (start 2) 0) ((1024 - 1024 : ℕ) : Int)).toNat ≤ q.val ∧ q.val < (min (max (start 2) 0) ((1024 - 1024 : ℕ) : Int)).toNat + 1024
      omega
  · match a with
    | ⟨0, _⟩ => show n.val - (min (max (start 0) 0) ((256 - 1 : ℕ) : Int)).toNat = 0; omega
    | ⟨1, _⟩ => show t.val - (min (max (start 1) 0) ((64 - 64 : ℕ) : Int)).toNat = t.val; omega
    | ⟨2, _⟩ => show q.val - (min (max (start 2) 0) ((1024 - 1024 : ℕ) : Int)).toNat = q.val; omega

/-- and the others as they were. -/
theorem row_keep {α : Type} (x : S256x64x1024.Idx → α) (u : S1x64x1024.Idx → α) (start : Fin 3 → Int) (n r : Fin 256) (hr : r ≠ n)
    (h : S256x64x1024.Slices (fun _ => 0) S1x64x1024) (h0 : start 0 = n.val) (t : Fin 64) (q : Fin 1024) :
    Host.dynamicUpdateSlice x u start h (ix3 r t q) = x (ix3 r t q) := by
  unfold Host.dynamicUpdateSlice updateSlice
  refine dif_neg fun hall => hr (Fin.ext ?_)
  have e0 : (min (max (start 0) 0) ((256 - 1 : ℕ) : Int)).toNat = n.val := by rw [h0]; omega
  have e : (min (max (start 0) 0) ((256 - 1 : ℕ) : Int)).toNat ≤ r.val ∧ r.val < (min (max (start 0) 0) ((256 - 1 : ℕ) : Int)).toNat + 1 := hall 0
  omega

/-- The word a trip's chunk is addressed by. -/
def At (n : Fin 256) : Prop := ∀ i, ((show IVec S_ 32 from V (Proc.devRef .tc main_v53_7)) i).toInt = (n.val : Int)

/-- One trip's state-space output: the chunk it puts out, -/
theorem ssd_out (hm : Masked V) (n : Fin 256) (hn : At V n) (t : Fin 64) (q : Fin 1024) :
    (show FVec Ideal S256x64x1024 .f32 from step_main_v53_10 V) (ix3 n t q)
      = ssdOut forth (vWeights V) (vActs V) (vRows V) (vSsd V) t q + (vWeights V).skip q * vActs V t (xcol q) := by
  have eh : (⟨(q.val / 512) * 8 + q.val / 64 % 8, by omega⟩ : Fin 16) = head q := Fin.ext (by unfold head; dsimp only; omega)
  have eq : (⟨(q.val / 512) * 512 + (q.val / 64 % 8) * 64 + q.val % 64, by omega⟩ : Fin 1024) = q := Fin.ext (by dsimp only; omega)
  have ec : ∀ s, cum forth (vWeights V) (vRows V) (head q) s
      = (show FVec Ideal S64x2x8 .f32 from res_main_while0b_v78 V) (ix3 s ⟨q.val / 512, by omega⟩ ⟨q.val / 64 % 8, by omega⟩) := fun s => by
    rw [cum_read V hm, eh]
  have ex : ∀ s, xdt forth (vWeights V) (vActs V) (vRows V) q s
      = (show FVec Ideal S64x2x8x64 .f32 from res_main_while0b_v81 V) (ix4 s ⟨q.val / 512, by omega⟩ ⟨q.val / 64 % 8, by omega⟩ ⟨q.val % 64, by omega⟩) := fun s => by
    rw [xdt_read V, eq]
  have es : ∀ k, vSsd V (group q) k (place q)
      = (show FVec Ideal S2x128x8x64 .f32 from V (Proc.devRef .tc main_v53_8)) (ix4 ⟨q.val / 512, by omega⟩ k ⟨q.val / 64 % 8, by omega⟩ ⟨q.val % 64, by omega⟩) := fun k => by
    show (show FVec Ideal S2x128x8x64 .f32 from V (Proc.devRef .tc main_v53_8)) (ix4 (group q) k _ _) = _
    congr 1
    exact congrArg₂ (ix4 (group q) k) (Fin.ext (by unfold place; dsimp only; omega)) (Fin.ext (by unfold place; dsimp only; omega))
  unfold ssdOut
  simp only [ec, ex, es, ← b_read V, ← c_read V, ← decay_read V _ hm _ _ _ rfl]
  unfold step_main_v53_10
  show Host.dynamicUpdateSlice _ _ _ _ _ = _
  refine (row_write _ _ _ n _ (hn _) rfl rfl t q).trans ?_
  show _ = _ + _ * (show FVec Ideal S64x1536 .f32 from res_main_while0b_v57 V) _
  generalize res_main_while0b_v78 V = a
  generalize res_main_while0b_v62 V = b
  generalize res_main_while0b_v64 V = d
  generalize res_main_while0b_v81 V = x
  generalize res_main_while0b_v57 V = xb
  clean_types
  simp only [id_eq]
  pointwise []
  rw [bottom]
  refine congrArg₂ (· + ·) (congrArg₂ (· + ·) (Finset.sum_congr rfl fun s _ => ?_) (congrArg (· * _) (Finset.sum_congr rfl fun k _ => mul_comm _ _))) rfl
  rw [mul_comm]
  exact congrArg (· * _) (congrArg (· * _) (Finset.sum_congr rfl fun k _ => mul_comm _ _))

/-- and the gated scan's. -/
theorem hg_out (hm : Masked V) (n : Fin 256) (hn : At V n) (t : Fin 64) (q : Fin 1024) :
    (show FVec Ideal S256x64x1024 .f32 from step_main_v53_11 V) (ix3 n t q) = hgOut forth (vWeights V) (vRows V) (vHg V) t q := by
  have ev : ∀ s, vRows V s (vcol q) = (show FVec Ideal S64x8x128 .f32 from res_main_while0b_v130 V) (ix3 s (part q) (within q)) := fun s => by
    rw [v_read]
    exact congrArg (fun c => vRows V s (vcol c)) (Fin.ext (by unfold key part within; dsimp only; omega))
  unfold hgOut
  simp only [ev, ← q_read V, ← f_read V, ← hcum_read V hm, ← decay_read V _ hm _ _ _ rfl]
  unfold step_main_v53_11
  show Host.dynamicUpdateSlice _ _ _ _ _ = _
  refine (row_write _ _ _ n _ (hn _) rfl rfl t q).trans ?_
  unfold vHg
  generalize res_main_while0b_v149 V = a
  generalize res_main_while0b_v130 V = b
  generalize res_main_while0b_v144 V = d
  generalize res_main_while0b_v128 V = x
  clean_types
  simp only [id_eq]
  pointwise []
  rw [bottom]
  refine congrArg₂ (· + ·) (Finset.sum_congr rfl fun s _ => mul_comm _ _) (Finset.sum_congr rfl fun k _ => mul_comm _ _)

end Cert.Reference10Ideal.Scan

end
-- ==== Proof.ScanLoop.lean ====
/-
  The even layer's scans' reference, its loop: trip `n` takes chunk `n` of the activations and of the projections and the
  states before it, so the rows put out and the last states are the whole sequence's.
-/
module

public import proofs.«01_k».proof.Proof.ScanRef
public import proofs.«01_k».proof.Proof.ScanOut

@[expose] public section

set_option maxRecDepth 16384

noncomputable section

namespace Cert.Reference10Ideal.Scan

open Idealize.ShloMosaic Idealize.ShloMosaic.TcCoe Idealize.SL.Sem Idealize.ShloMosaic.StableHlo
open Cert.Reference10Ideal Cert.Reference10Ideal.Gen Cert.Reference10Ideal.Value Cert.Scan

/-! ## What the loop starts with -/

/-- A padded row is the sequence's, or zero. -/
theorem pad_tap (z : Fin 16384 → Fin 8192 → EReal) (N j : ℕ) (k : Fin 1536) (b : Prop) [Decidable b] (hb : b ↔ 2 ≤ N + j ∧ N + j < 16386) (f : b → EReal)
    (hf : ∀ h h', f h = z ⟨N + j - 2, h'⟩ ⟨k.val, by omega⟩) :
    (if h : b then f h else FloatOps.sitofp (F := Ideal) FTy.f32 0#32) = tap z N j k := by
  unfold tap
  by_cases h : b
  · rw [dif_pos h, dif_pos (hb.1 h)]
    exact hf h _
  · rw [dif_neg h, dif_neg (fun h' => h (hb.2 h'))]
    simp [FloatOps.sitofp]

theorem act_of (z : Fin 16384 → Fin 8192 → EReal) (cw : Fin 8 → Fin 1536 → EReal) (cb : Fin 1536 → EReal) (n : ℕ) (k : Fin 1536) (x : EReal)
    (h : x = cw 0 k * tap z n 0 k + cw 1 k * tap z n 1 k + cw 2 k * tap z n 2 k + cw 3 k * tap z n 3 k + cw 4 k * tap z n 4 k + cb k) :
    x * Ideal.div 1 (1 + Ideal.exp (-x)) = act z cw cb n k := by
  rw [h, add_comm _ (cb k)]
  simp only [act, ← add_assoc]
  rfl

variable (m : (ℓ : Loc nD τ sig) → Buf (Elt Ideal) ℓ) (c : Dev nD)

/-- What the scans read, off the arguments. -/
abbrev rd : Data := data (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7))

theorem entry_acts (n : Fin 256) (t : Fin 64) (k : Fin 1536) :
    (show FVec Ideal S256x64x1536 .f32 from entryContents preI m c (Proc.devRef .tc main_v53_0)) (ix3 n t k) = (rd m c).acts n.val t k := by
  simp only [entryContents, afterL_cons, afterL_nil]
  after_results_simp
  simp only [StableHlo.TRef.ofBuf_toBuf, StableHlo.TRef.ofBuf, StableHlo.TRef.toBuf, cast_eq, id_eq]
  clean_types
  pointwise []
  refine act_of (rd m c).z (rd m c).cw (rd m c).cb (n.val * 64 + t.val) k _ ?_
  refine congrArg₂ (· + ·) (congrArg₂ (· + ·) (congrArg₂ (· + ·) (congrArg₂ (· + ·) (congrArg₂ (· + ·)
    (congrArg ((rd m c).cw 0 k * ·) (pad_tap _ _ 0 k _ (by omega) _ ?_)) (congrArg ((rd m c).cw 1 k * ·) (pad_tap _ _ 1 k _ (by omega) _ ?_)))
    (congrArg ((rd m c).cw 2 k * ·) (pad_tap _ _ 2 k _ (by omega) _ ?_))) (congrArg ((rd m c).cw 3 k * ·) (pad_tap _ _ 3 k _ (by omega) _ ?_)))
    (congrArg ((rd m c).cw 4 k * ·) (pad_tap _ _ 4 k _ (by omega) _ ?_))) rfl
  all_goals
    intro h h'
    refine congrArg (fun r => (rd m c).z r _) (Fin.ext ?_)
    dsimp only
    omega

theorem entry_rows (n : Fin 256) (t : Fin 64) (k : Fin 8192) :
    (show FVec Ideal S256x64x8192 .f32 from entryContents preI m c (Proc.devRef .tc main_v53_1)) (ix3 n t k) = (rd m c).rows n.val t k := by
  simp only [entryContents, afterL_cons, afterL_nil]
  after_results_simp
  clean_types
  pointwise []
  unfold Data.rows
  rw [dif_pos (show n.val * 64 + t.val < 16384 by omega)]
  rfl

theorem entry_bias (h : Fin 16) : (show FVec Ideal S16 .f32 from entryContents preI m c (Proc.devRef .tc main_v53_2)) (ix1 h) = (rd m c).weights.bias h := by
  simp only [entryContents, afterL_cons, afterL_nil]
  after_results_simp
  clean_types
  pointwise []
  rfl
theorem entry_rate (h : Fin 16) : (show FVec Ideal S16 .f32 from entryContents preI m c (Proc.devRef .tc main_v53_3)) (ix1 h) = (rd m c).weights.rate h := by
  simp only [entryContents, afterL_cons, afterL_nil]
  after_results_simp
  clean_types
  pointwise []
  rfl
theorem entry_skip (q : Fin 1024) : (show FVec Ideal S1x1024 .f32 from entryContents preI m c (Proc.devRef .tc main_v53_5)) (ix2 0 q) = (rd m c).weights.skip q := by
  simp only [entryContents, afterL_cons, afterL_nil]
  after_results_simp
  rfl
theorem entry_low (q : Fin 1024) : (show FVec Ideal S1x1024 .f32 from entryContents preI m c (Proc.devRef .tc main_v53_6)) (ix2 0 q) = (rd m c).weights.low q := by
  simp only [entryContents, afterL_cons, afterL_nil]
  after_results_simp
  rfl

theorem entry_mask (t s : Fin 64) : (show IVec S64x64 1 from entryContents preI m c (Proc.devRef .tc main_v53_4)) (ix2 t s) = if forth.seen t s then 1#1 else 0#1 := by
  simp only [entryContents, afterL_cons, afterL_nil]
  after_results_simp
  simp only [StableHlo.TRef.ofBuf_toBuf, StableHlo.TRef.ofBuf, StableHlo.TRef.toBuf, cast_eq, id_eq]
  clean_types
  pointwise []
  revert t s
  decide +kernel

theorem entry_ssd (g : Fin 2) (n : Fin 128) (j : Fin 512) :
    (show FVec Ideal S2x128x8x64 .f32 from entryContents preI m c (Proc.devRef .tc main_v53_8)) (ix4 g n ⟨j.val / 64, by omega⟩ ⟨j.val % 64, by omega⟩) = (rd m c).s0 g n j := by
  simp only [entryContents, afterL_cons, afterL_nil]
  after_results_simp
  clean_types
  pointwise []
  show (show FVec Ideal S2x128x512 .f32 from m (c.tc.loc main_arg6)) _ = (show FVec Ideal S2x128x512 .f32 from m (c.tc.loc main_arg6)) _
  refine congrArg _ (congrArg (ix3 g n) (Fin.ext ?_))
  show j.val / 64 * 64 + j.val % 64 = j.val
  omega
theorem entry_hg (h : Fin 8) (v k : Fin 128) :
    (show FVec Ideal S8x128x128 .f32 from entryContents preI m c (Proc.devRef .tc main_v53_9)) (ix3 h v k) = (rd m c).g0 h v k := by
  simp only [entryContents, afterL_cons, afterL_nil]
  after_results_simp
  rfl

/-! ## What each trip reads -/

abbrev Vk (k : ℕ) : Valuation τ sig (Elt Ideal) := STEP^[k] (entryContents preI m c)

theorem Vk_succ (k : ℕ) : Vk m c (k + 1) = STEP (Vk m c k) := Function.iterate_succ_apply' _ _ _

theorem keep (r : Ref sig .tc) (h : ∀ V : Valuation τ sig (Elt Ideal), STEP V (Proc.devRef .tc r) = V (Proc.devRef .tc r)) :
    ∀ k, Vk m c k (Proc.devRef .tc r) = entryContents preI m c (Proc.devRef .tc r)
  | 0 => rfl
  | k + 1 => by rw [Vk_succ, h]; exact keep r h k

theorem counter_eq : ∀ k, (show IVec S_ 32 from Vk m c k (Proc.devRef .tc main_v53_7)) = fun _ => BitVec.ofNat 32 k
  | 0 => ctr_entry m c
  | k + 1 => by
    rw [Vk_succ, STEP_main_v53_7, step_main_v53_7]
    funext i
    show ((show IVec S_ 32 from Vk m c k (Proc.devRef .tc main_v53_7)) i : BitVec 32) + 1#32 = _
    rw [counter_eq k]
    exact (BitVec.ofNat_add ..).symm

theorem at_trip (n : Fin 256) : At (Vk m c n.val) n := fun i => by
  rw [counter_eq]
  have e : (BitVec.ofNat 32 n.val).toNat = n.val := by
    simp only [BitVec.toNat_ofNat]
    omega
  rw [BitVec.toInt_eq_toNat_of_lt (by rw [e]; omega), e]

theorem masked (k : ℕ) : Masked (Vk m c k) := fun t s => by
  rw [keep m c main_v53_4 STEP_main_v53_4 k]
  exact entry_mask m c t s

theorem weights_eq (k : ℕ) : vWeights (Vk m c k) = (rd m c).weights := by
  unfold vWeights
  rw [keep m c main_v53_2 STEP_main_v53_2 k, keep m c main_v53_3 STEP_main_v53_3 k, keep m c main_v53_5 STEP_main_v53_5 k, keep m c main_v53_6 STEP_main_v53_6 k]
  have h1 := funext (entry_bias m c)
  have h2 := funext (entry_rate m c)
  have h3 := funext (entry_skip m c)
  have h4 := funext (entry_low m c)
  rw [h1, h2, h3, h4]

theorem acts_eq (n : Fin 256) : vActs (Vk m c n.val) = (rd m c).acts n.val := by
  funext t k
  have e := entry_acts m c n t k
  rw [← keep m c main_v53_0 STEP_main_v53_0 n.val] at e
  rw [← e]
  unfold vActs res_main_while0b_v57
  refine Eq.trans ?_ (row_read (by decide) _ (fun k => (((![Vk m c n.val (Proc.devRef .tc main_v53_7), constantI S_ 32 0#32, constantI S_ 32 0#32] :
    Fin 3 → (⟨S_, .i32⟩ : BufTy).Contents (Elt Ideal))) k (Shape.Idx.first h_S_)).toInt) n sliceFits_S256x64x1536_S1x64x1536 (at_trip m c n _) rfl rfl t k)
  generalize Host.dynamicSlice _ _ _ _ = x
  pointwise []

theorem rows_eq (n : Fin 256) : vRows (Vk m c n.val) = (rd m c).rows n.val := by
  funext t k
  have e := entry_rows m c n t k
  rw [← keep m c main_v53_1 STEP_main_v53_1 n.val] at e
  rw [← e]
  unfold vRows res_main_while0b_v58
  refine Eq.trans ?_ (row_read (by decide) _ (fun k => (((![Vk m c n.val (Proc.devRef .tc main_v53_7), constantI S_ 32 0#32, constantI S_ 32 0#32] :
    Fin 3 → (⟨S_, .i32⟩ : BufTy).Contents (Elt Ideal))) k (Shape.Idx.first h_S_)).toInt) n sliceFits_S256x64x8192_S1x64x8192 (at_trip m c n _) rfl rfl t k)
  generalize Host.dynamicSlice _ _ _ _ = x
  pointwise []

/-- Before trip `n` the loop carries the states before chunk `n`. -/
theorem states_eq : ∀ n, n ≤ 256 → vSsd (Vk m c n) = (rd m c).ssd n ∧ vHg (Vk m c n) = (rd m c).hg n
  | 0, _ => ⟨funext fun g => funext fun n => funext fun j => entry_ssd m c g n j, funext fun h => funext fun v => funext fun k => entry_hg m c h v k⟩
  | n + 1, hn => by
    obtain ⟨i1, i2⟩ := states_eq n (by omega)
    have ea := acts_eq m c ⟨n, by omega⟩
    have er := rows_eq m c ⟨n, by omega⟩
    dsimp only at ea er
    constructor
    · funext g i j
      unfold vSsd
      rw [Vk_succ, STEP_main_v53_8]
      refine (ssd_step (Vk m c n) (masked m c n) g i ⟨j.val / 64, by omega⟩ ⟨j.val % 64, by omega⟩).trans ?_
      rw [weights_eq, ea, er, i1]
      refine congrArg ((rd m c).ssd (n + 1) g i) (Fin.ext ?_)
      show j.val / 64 * 64 + j.val % 64 = j.val
      omega
    · funext h v k
      unfold vHg
      rw [Vk_succ, STEP_main_v53_9]
      refine (hg_step (Vk m c n) (masked m c n) h v k).trans ?_
      rw [weights_eq, er, i2]
      rfl

/-! ## What the loop puts out -/

abbrev ys (k : ℕ) : FVec Ideal S256x64x1024 .f32 := Vk m c k (Proc.devRef .tc main_v53_10)
abbrev os (k : ℕ) : FVec Ideal S256x64x1024 .f32 := Vk m c k (Proc.devRef .tc main_v53_11)

theorem ys_eq : ∀ k, k ≤ 256 → ∀ n : Fin 256, n.val < k → ∀ (t : Fin 64) (q : Fin 1024), ys m c k (ix3 n t q) = (rd m c).y n.val t q
  | 0, _, n, hn, _, _ => absurd hn (Nat.not_lt_zero _)
  | k + 1, hk, n, hn, t, q => by
    rw [ys, Vk_succ, STEP_main_v53_10]
    by_cases h : n.val = k
    · subst h
      refine (ssd_out (Vk m c n.val) (masked m c n.val) n (at_trip m c n) t q).trans ?_
      rw [weights_eq, acts_eq, rows_eq, (states_eq m c n.val (by omega)).1]
      rfl
    · refine Eq.trans ?_ (ys_eq k (by omega) n (by omega) t q)
      unfold step_main_v53_10
      have e := at_trip m c ⟨k, by omega⟩
      exact row_keep _ _ _ ⟨k, by omega⟩ n (fun e => h (congrArg Fin.val e)) _ (e _) t q

theorem os_eq : ∀ k, k ≤ 256 → ∀ n : Fin 256, n.val < k → ∀ (t : Fin 64) (q : Fin 1024), os m c k (ix3 n t q) = (rd m c).o n.val t q
  | 0, _, n, hn, _, _ => absurd hn (Nat.not_lt_zero _)
  | k + 1, hk, n, hn, t, q => by
    rw [os, Vk_succ, STEP_main_v53_11]
    by_cases h : n.val = k
    · subst h
      refine (hg_out (Vk m c n.val) (masked m c n.val) n (at_trip m c n) t q).trans ?_
      rw [weights_eq, rows_eq, (states_eq m c n.val (by omega)).2]
      rfl
    · refine Eq.trans ?_ (os_eq k (by omega) n (by omega) t q)
      unfold step_main_v53_11
      have e := at_trip m c ⟨k, by omega⟩
      exact row_keep _ _ _ ⟨k, by omega⟩ n (fun e => h (congrArg Fin.val e)) _ (e _) t q

/-- The four results. -/
theorem result_y : out_main_v54 (Vk m c 256) = yArr (rd m c) := by
  unfold out_main_v54
  have h := ys_eq m c 256 le_rfl
  unfold ys at h
  revert h
  generalize Vk m c 256 (Proc.devRef .tc main_v53_10) = p
  intro h
  funext y
  idx_vars y
  clean_types
  pointwise []
  exact h ⟨y0.val / 64, by omega⟩ (by dsimp only; omega) ⟨y0.val % 64, by omega⟩ y1

theorem result_o : out_main_v55 (Vk m c 256) = oArr (rd m c) := by
  unfold out_main_v55
  have h := os_eq m c 256 le_rfl
  unfold os at h
  revert h
  generalize Vk m c 256 (Proc.devRef .tc main_v53_11) = p
  intro h
  funext y
  idx_vars y
  clean_types
  pointwise []
  exact h ⟨y0.val / 64, by omega⟩ (by dsimp only; omega) ⟨y0.val % 64, by omega⟩ y1

theorem result_s : out_main_v56 (Vk m c 256) = sArr (rd m c) := by
  unfold out_main_v56
  have h := (states_eq m c 256 le_rfl).1
  unfold vSsd at h
  revert h
  generalize Vk m c 256 (Proc.devRef .tc main_v53_8) = p
  intro h
  funext y
  idx_vars y
  clean_types
  pointwise []
  exact congrFun (congrFun (congrFun h y0) y1) y2

theorem result_g : (show FVec Ideal S8x128x128 .f32 from Vk m c 256 (Proc.devRef .tc main_v53_9)) = gArr (rd m c) := by
  have h := (states_eq m c 256 le_rfl).2
  funext y
  idx_vars y
  exact congrFun (congrFun (congrFun h y0) y1) y2

end Cert.Reference10Ideal.Scan

end
-- ==== Proof.ScanPre.lean ====
/-
  What the precondition of the even layer's scans says of their data: no step width is infinite, and the forget gates'
  lower bounds are positive and finite.
-/
module

public import proofs.«01_k».proof.Proof.ScanOut
public import proofs.«01_k».proof.Pre_regular
public import Idealize.ShloMosaic.Lib.ReduceAll
public import Idealize.ShloMosaic.Lib.Pointwise

@[expose] public section

set_option maxRecDepth 16384

noncomputable section

namespace Cert.Scan

open Idealize.ShloMosaic Cert.Pre_regular

theorem top_word : (Ideal.ofBits .f32 0x7F800000#32 : EReal) = ⊤ := by simp [Ideal.ofBits, Ideal.ieee]

theorem above (x y : EReal) : Ideal.cmp .ogt x y = 1#1 ↔ y < x := by
  rw [Ideal.cmp_ogt]
  by_cases h : y < x <;> simp [h]

theorem regular_of [Cert.Pre_regular.Facts] (a0 : FVec Ideal S16384x8192 .f32) (a1 : FVec Ideal S8x1536 .f32) (a2 : FVec Ideal S1x1536 .f32)
    (a3 : FVec Ideal S2x8x128 .f32) (a4 a5 : FVec Ideal S1x1024 .f32) (a6 : FVec Ideal S2x128x512 .f32) (a7 : FVec Ideal S8x128x128 .f32)
    (h : Cert.Pre_regular.fn (F := Ideal) a0 a1 a2 a3 a4 a5 a6 a7 = fun _ => 1#1) : Regular (data a0 a1 a2 a3 a4 a5 a6 a7) := by
  have e := congrFun h (fun k => k.elim0)
  unfold Cert.Pre_regular.fn Cert.Pre_regular.fn_part1 at e
  obtain ⟨e, e4⟩ := IntOp.andi_eq_one.1 e
  obtain ⟨e, e3⟩ := IntOp.andi_eq_one.1 e
  obtain ⟨e1, e2⟩ := IntOp.andi_eq_one.1 e
  have f1 := Host.reduce_andi_all _ _ _ _ _ e1
  have f2 := Host.reduce_andi_all _ _ _ _ _ e2
  have f3 := Host.reduce_andi_all _ _ _ _ _ e3
  have f4 := Host.reduce_andi_all _ _ _ _ _ e4
  refine ⟨fun n k => ?_, fun k => ?_, fun q => ?_, fun q => ?_⟩
  · have g := (Ideal.cmp_olt_eq_one _ _).1 (f1 (ix2 n k))
    revert g
    pointwise []
    rw [top_word]
    exact fun g => g.ne
  · have g := (Ideal.cmp_olt_eq_one _ _).1 (f2 (ix1 k))
    revert g
    pointwise []
    rw [top_word]
    exact fun g => g.ne
  · have g := (above _ _).1 (f3 (ix2 0 q))
    revert g
    pointwise []
    exact id
  · have g := (Ideal.cmp_olt_eq_one _ _).1 (f4 (ix2 0 q))
    revert g
    pointwise []
    rw [top_word]
    exact fun g => g.ne

end Cert.Scan

end
-- ==== Proof.lean ====
/-
  The proof of the certificate's claim: the generated frames, and for each launch the equation of its two programs,
  each of which ends with the same array of the arguments (the modules under Proof/ say which, and why).
-/
module

public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import Idealize.ShloMosaic.Adequacy
public import Idealize.ShloMosaic.Init
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Kernel11
public import proofs.«01_k».proof.Proof.ScanBackFrame
public import proofs.«01_k».proof.Proof.Gen.Kernel11Ideal
public import proofs.«01_k».proof.Proof.ScanBackIdealFrame
public import proofs.«01_k».proof.Proof.Gen.Reference10Ideal
public import proofs.«01_k».proof.Proof.Gen.Reference10Ideal.Run
public import proofs.«01_k».proof.Proof.Gen.Pre_regular
public import proofs.«01_k».proof.Proof.S5Value
public import proofs.«01_k».proof.Proof.S5Ref
public import proofs.«01_k».proof.Proof.FfnFinalValue
public import proofs.«01_k».proof.Proof.FfnFinalRef
public import proofs.«01_k».proof.Proof.FfnValue
public import proofs.«01_k».proof.Proof.FfnRef
public import proofs.«01_k».proof.Proof.EvenInValue
public import proofs.«01_k».proof.Proof.EvenOutValue
public import proofs.«01_k».proof.Proof.EvenOutRef
public import proofs.«01_k».proof.Proof.OddInValue
public import proofs.«01_k».proof.Proof.OddInRef
public import proofs.«01_k».proof.Proof.OddOutValue
public import proofs.«01_k».proof.Proof.OddOutRef
public import proofs.«01_k».proof.Proof.AdaValue
public import proofs.«01_k».proof.Proof.AdaRef
public import proofs.«01_k».proof.Proof.S5BackValue
public import proofs.«01_k».proof.Proof.S5BackRef
public import proofs.«01_k».proof.Proof.ScanFinal
public import proofs.«01_k».proof.Proof.ScanLoop
public import proofs.«01_k».proof.Proof.ScanPre

@[expose] public section

noncomputable section

namespace Cert.Proof

open Idealize.ShloMosaic Idealize.SL.Sem

/-- The last feed-forward block: both programs' results are the block's array of the arguments. -/
theorem last_block : Cert.algebraic_Kernel2Ideal_Reference2Ideal (hKernel2Ideal := Cert.Kernel2Ideal.Gen.facts) (hReference2Ideal := Cert.Reference2Ideal.Gen.facts) := by
  intro m g m' g' _ hargs
  refine ⟨fun c => _, (θ_run (Cert.Kernel2Ideal.defs (F := Ideal)) _ _).mono (fun r h c => ⟨(h c).1.trans (Cert.Kernel2Ideal.Ffn.final m c), (h c).2⟩)
    (Cert.Kernel2Ideal.Value.run_blocks (F := Ideal) m g), ?_⟩
  refine (θ_run (Cert.Reference2Ideal.defs (F := Ideal)) _ _).mono (fun r h c => ⟨(h c).1.trans ?_, (h c).2⟩) (Cert.Reference2Ideal.Value.run (F := Ideal) m' g')
  obtain ⟨h0, h1, h2, h3, h4, h5, h6, h7, h8⟩ := hargs c
  refine (Cert.Reference2Ideal.Ffn.result m' c).trans ?_
  rw [h0, h1, h2, h3, h4, h5, h6, h7, h8]

/-- The first layer's feed-forward block, likewise. -/
theorem first_block : Cert.algebraic_Kernel3Ideal_Reference3Ideal (hKernel3Ideal := Cert.Kernel3Ideal.Gen.facts) (hReference3Ideal := Cert.Reference3Ideal.Gen.facts) := by
  intro m g m' g' _ hargs
  refine ⟨fun c => _, (θ_run (Cert.Kernel3Ideal.defs (F := Ideal)) _ _).mono (fun r h c => ⟨(h c).1.trans (Cert.Kernel3Ideal.Ffn.final m c), (h c).2⟩)
    (Cert.Kernel3Ideal.Value.run_blocks (F := Ideal) m g), ?_⟩
  refine (θ_run (Cert.Reference3Ideal.defs (F := Ideal)) _ _).mono (fun r h c => ⟨(h c).1.trans ?_, (h c).2⟩) (Cert.Reference3Ideal.Value.run (F := Ideal) m' g')
  obtain ⟨h0, h1, h2, h3, h4, h5, h6, h7⟩ := hargs c
  refine (Cert.Reference3Ideal.Ffn.result m' c).trans ?_
  rw [h0, h1, h2, h3, h4, h5, h6, h7]

/-- The even layer's input projection, likewise. -/
theorem projection : Cert.algebraic_Kernel4Ideal_Reference4Ideal (hKernel4Ideal := Cert.Kernel4Ideal.Gen.facts) (hReference4Ideal := Cert.Reference4Ideal.Gen.facts) := by
  intro m g m' g' _ hargs
  refine ⟨fun c => _, (θ_run (Cert.Kernel4Ideal.defs (F := Ideal)) _ _).mono (fun r h c => ⟨(h c).1.trans (Cert.Kernel4Ideal.EvenIn.final m c), (h c).2⟩)
    (Cert.Kernel4Ideal.Value.run_blocks (F := Ideal) m g), ?_⟩
  refine (θ_run (Cert.Reference4Ideal.defs (F := Ideal)) _ _).mono (fun r h c => ⟨(h c).1.trans ?_, (h c).2⟩) (Cert.Reference4Ideal.EvenIn.run m' g')
  obtain ⟨h0, h1, h2, h3, h4⟩ := hargs c
  rw [h0, h1, h2, h3, h4]

/-- The S5 scan and its reference put out the same two arrays. -/
theorem state_scan : Cert.algebraic_KernelIdeal_ReferenceIdeal := by
  intro m g m' g' _ hargs
  refine ⟨fun c => _, fun c => _, (θ_run (Cert.KernelIdeal.defs (F := Ideal)) _ _).mono
    (fun r h c => ⟨(h c).1.trans (Cert.KernelIdeal.S5.final_out m c), (h c).2.1.trans (Cert.KernelIdeal.S5.final_state m c), (h c).2.2⟩)
    (Cert.KernelIdeal.Value.run_blocks (F := Ideal) m g), ?_⟩
  refine (θ_run (Cert.ReferenceIdeal.defs (F := Ideal)) _ _).mono (fun r h c => ⟨(h c).1.trans ?_, (h c).2.1.trans ?_, (h c).2.2⟩)
    (Cert.ReferenceIdeal.Value.run (F := Ideal) m' g')
  · obtain ⟨h0, h1, h2, h3, h4, h5⟩ := hargs c
    refine (Cert.ReferenceIdeal.S5.result_out m' c).trans ?_
    rw [h0, h1, h2, h3, h4, h5]
  · obtain ⟨h0, h1, h2, h3, h4, h5⟩ := hargs c
    refine (Cert.ReferenceIdeal.S5.result_state m' c).trans ?_
    rw [h0, h1, h4, h5]

/-- The even layer's output: both mixers' normalised halves through the output projection, gated into the residual. -/
theorem mixer_out : Cert.algebraic_Kernel5Ideal_Reference5Ideal (hKernel5Ideal := Cert.Kernel5Ideal.Gen.facts) (hReference5Ideal := Cert.Reference5Ideal.Gen.facts) := by
  intro m g m' g' _ hargs
  refine ⟨fun c => _, (θ_run (Cert.Kernel5Ideal.defs (F := Ideal)) _ _).mono (fun r h c => ⟨(h c).1.trans (Cert.Kernel5Ideal.EvenOut.final m c), (h c).2⟩)
    (Cert.Kernel5Ideal.Value.run_blocks (F := Ideal) m g), ?_⟩
  refine (θ_run (Cert.Reference5Ideal.defs (F := Ideal)) _ _).mono (fun r h c => ⟨(h c).1.trans ?_, (h c).2⟩) (Cert.Reference5Ideal.Value.run (F := Ideal) m' g')
  obtain ⟨h0, h1, h2, h3, h4, h5, h6, h7, h8, h9⟩ := hargs c
  refine (Cert.Reference5Ideal.EvenOut.result m' c).trans ?_
  rw [h0, h1, h2, h3, h4, h5, h6, h7, h8, h9]

/-- The odd layer's input projection, plane by plane in column-major order. -/
theorem odd_planes : Cert.algebraic_Kernel6Ideal_Reference6Ideal (hKernel6Ideal := Cert.Kernel6Ideal.Gen.facts) (hReference6Ideal := Cert.Reference6Ideal.Gen.facts) := by
  intro m g m' g' _ hargs
  refine ⟨fun c => _, (θ_run (Cert.Kernel6Ideal.defs (F := Ideal)) _ _).mono (fun r h c => ⟨(h c).1.trans (Cert.Kernel6Ideal.OddIn.final m c), (h c).2⟩)
    (Cert.Kernel6Ideal.Value.run_blocks (F := Ideal) m g), ?_⟩
  refine (θ_run (Cert.Reference6Ideal.defs (F := Ideal)) _ _).mono (fun r h c => ⟨(h c).1.trans ?_, (h c).2⟩) (Cert.Reference6Ideal.OddIn.run m' g')
  obtain ⟨h0, h1, h2, h3, h4⟩ := hargs c
  rw [h0, h1, h2, h3, h4]

/-- The odd layer's gated readout, back in row-major order and added to the residual. -/
theorem odd_readout : Cert.algebraic_Kernel7Ideal_Reference7Ideal (hKernel7Ideal := Cert.Kernel7Ideal.Gen.facts) (hReference7Ideal := Cert.Reference7Ideal.Gen.facts) := by
  intro m g m' g' _ hargs
  refine ⟨fun c => _, (θ_run (Cert.Kernel7Ideal.defs (F := Ideal)) _ _).mono (fun r h c => ⟨(h c).1.trans (Cert.Kernel7Ideal.OddOut.final m c), (h c).2⟩)
    (Cert.Kernel7Ideal.Value.run_blocks (F := Ideal) m g), ?_⟩
  refine (θ_run (Cert.Reference7Ideal.defs (F := Ideal)) _ _).mono (fun r h c => ⟨(h c).1.trans ?_, (h c).2⟩) (Cert.Reference7Ideal.Value.run (F := Ideal) m' g')
  obtain ⟨h0, h1, h2, h3, h4, h5, h6, h7⟩ := hargs c
  refine (Cert.Reference7Ideal.OddOut.result m' c).trans ?_
  rw [h0, h1, h2, h3, h4, h5, h6, h7]

/-- The modulation vectors of both layers. -/
theorem modulation : Cert.algebraic_Kernel8Ideal_Reference8Ideal (hKernel8Ideal := Cert.Kernel8Ideal.Gen.facts) (hReference8Ideal := Cert.Reference8Ideal.Gen.facts) := by
  intro m g m' g' _ hargs
  refine ⟨fun c => _, (θ_run (Cert.Kernel8Ideal.defs (F := Ideal)) _ _).mono (fun r h c => ⟨(h c).1.trans (Cert.Kernel8Ideal.Ada.final m c), (h c).2⟩)
    (Cert.Kernel8Ideal.Value.run_blocks (F := Ideal) m g), ?_⟩
  refine (θ_run (Cert.Reference8Ideal.defs (F := Ideal)) _ _).mono (fun r h c => ⟨(h c).1.trans ?_, (h c).2⟩) (Cert.Reference8Ideal.Ada.run m' g')
  obtain ⟨h0, h1, h2⟩ := hargs c
  rw [h0, h1, h2]

/-- The S5 scan from the last position to the first. -/
theorem state_scan_back : Cert.algebraic_Kernel9Ideal_Reference9Ideal := by
  intro m g m' g' _ hargs
  refine ⟨fun c => _, fun c => _, (θ_run (Cert.Kernel9Ideal.defs (F := Ideal)) _ _).mono
    (fun r h c => ⟨(h c).1.trans (Cert.Kernel9Ideal.S5Back.final_out m c), (h c).2.1.trans (Cert.Kernel9Ideal.S5Back.final_state m c), (h c).2.2⟩)
    (Cert.Kernel9Ideal.Value.run_blocks (F := Ideal) m g), ?_⟩
  refine (θ_run (Cert.Reference9Ideal.defs (F := Ideal)) _ _).mono (fun r h c => ⟨(h c).1.trans ?_, (h c).2.1.trans ?_, (h c).2.2⟩)
    (Cert.Reference9Ideal.Value.run (F := Ideal) m' g')
  · obtain ⟨h0, h1, h2, h3, h4, h5⟩ := hargs c
    refine (Cert.Reference9Ideal.S5Back.result_out m' c).trans ?_
    rw [h0, h1, h2, h3, h4, h5]
  · obtain ⟨h0, h1, h2, h3, h4, h5⟩ := hargs c
    refine (Cert.Reference9Ideal.S5Back.result_state m' c).trans ?_
    rw [h0, h1, h4, h5]

/-- The even layer's scans from the first position to the last: where no step width is infinite and the gates' lower bounds are
    positive and finite, the kernel and its reference put out the same two arrays of rows and the same two last states. -/
theorem even_scans : Cert.algebraic_Kernel10Ideal_Reference10Ideal_pre_regular (hKernel10Ideal := Cert.Kernel10Ideal.Gen.facts)
    (hReference10Ideal := Cert.Reference10Ideal.Gen.facts) (hPre_regular := Cert.Pre_regular.Gen.facts) := by
  intro m g m' g' hpre hargs
  have H : ∀ c, Cert.Scan.Regular (Cert.Kernel10Ideal.Scan.kd m c) := fun c => @Cert.Scan.regular_of Cert.Pre_regular.Gen.facts _ _ _ _ _ _ _ _ (hpre c)
  have D : ∀ c, Cert.Reference10Ideal.Scan.rd m' c = Cert.Kernel10Ideal.Scan.kd m c := fun c => by
    obtain ⟨h0, h1, h2, h3, h4, h5, h6, h7⟩ := hargs c
    unfold Cert.Reference10Ideal.Scan.rd
    rw [h0, h1, h2, h3, h4, h5, h6, h7]
  refine ⟨fun c => _, fun c => _, fun c => _, fun c => _, (θ_run (Cert.Kernel10Ideal.defs (F := Ideal)) _ _).mono
    (fun r h c => ⟨(h c).1.trans (Cert.Kernel10Ideal.Scan.final_y (H c)), (h c).2.1.trans (Cert.Kernel10Ideal.Scan.final_o (H c)),
      (h c).2.2.1.trans (Cert.Kernel10Ideal.Scan.final_s (H c)), (h c).2.2.2.1.trans (Cert.Kernel10Ideal.Scan.final_g (H c)), (h c).2.2.2.2⟩)
    (Cert.Kernel10Ideal.Value.run_blocks (F := Ideal) m g), ?_⟩
  refine (θ_run (Cert.Reference10Ideal.defs (F := Ideal)) _ _).mono
    (fun r h c => ⟨(h c).1.trans ?_, (h c).2.1.trans ?_, (h c).2.2.1.trans ?_, (h c).2.2.2.1.trans ?_, (h c).2.2.2.2⟩)
    (Cert.Reference10Ideal.Value.run (F := Ideal) m' g')
  · exact (Cert.Reference10Ideal.Scan.result_y m' c).trans (congrArg Cert.Scan.yArr (D c))
  · exact (Cert.Reference10Ideal.Scan.result_o m' c).trans (congrArg Cert.Scan.oArr (D c))
  · exact (Cert.Reference10Ideal.Scan.result_s m' c).trans (congrArg Cert.Scan.sArr (D c))
  · exact (Cert.Reference10Ideal.Scan.result_g m' c).trans (congrArg Cert.Scan.gArr (D c))

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Pre_regular.Gen.facts,
    fun m ρ _ => Cert.Kernel.Gen.frame m ρ,
    fun m ρ _ => Cert.KernelIdeal.Gen.frame m ρ,
    fun m ρ _ => (θ_run Cert.ReferenceIdeal.defs _ _).mono (fun r h => ⟨fun c => (h c).2.2, sem_eq_zero_of_no_sems (by decide) r.2⟩)
      (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, sem_eq_zero_of_no_sems (by decide) r.2⟩)
      (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2, sem_eq_zero_of_no_sems (by decide) r.2⟩)
      (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2, sem_eq_zero_of_no_sems (by decide) r.2⟩)
      (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2, sem_eq_zero_of_no_sems (by decide) r.2⟩)
      (Cert.Reference8Ideal.Value.run (F := Ideal) m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2.2, sem_eq_zero_of_no_sems (by decide) r.2⟩)
      (Cert.Reference9Ideal.Value.run (F := Ideal) m ρ),
    fun m ρ _ => Cert.Kernel10.Gen.frame m ρ,
    fun m ρ _ => Cert.Kernel10Ideal.Gen.frame m ρ,
    fun m ρ _ => Cert.Kernel10Ideal.Gen.frame m ρ,
    fun m ρ _ => (θ_run Cert.Reference10Ideal.defs _ _).mono (fun r h => ⟨fun c => (h c).2.2.2.2, sem_eq_zero_of_no_sems (by decide) r.2⟩)
      (Cert.Reference10Ideal.Value.run (F := Ideal) m ρ),
    fun m ρ _ => (θ_run Cert.Reference10Ideal.defs _ _).mono (fun r h => ⟨fun c => (h c).2.2.2.2, sem_eq_zero_of_no_sems (by decide) r.2⟩)
      (Cert.Reference10Ideal.Value.run (F := Ideal) m ρ),
    fun m ρ _ => Cert.Kernel11.Gen.frame m ρ,
    fun m ρ _ => Cert.Kernel11Ideal.Gen.frame m ρ,
    trivial, state_scan, trivial, last_block, trivial, first_block, trivial, projection,
    trivial, mixer_out, trivial, odd_planes, trivial, odd_readout, trivial, modulation, trivial, state_scan_back, trivial, even_scans, trivial⟩

end Cert.Proof

end
